-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ones [hPre_finite_ones : Cert.Pre_finite_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ones [hPre_finite_ones : Cert.Pre_finite_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Reference7 (m : (ℓ : Loc Cert.Reference7.nD Cert.Reference7.τ Cert.Reference7.sig) → Buf (Elt Bits) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Reference10 (m : (ℓ : Loc Cert.Reference10.nD Cert.Reference10.τ Cert.Reference10.sig) → Buf (Elt Bits) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference11 (m : (ℓ : Loc Cert.Reference11.nD Cert.Reference11.τ Cert.Reference11.sig) → Buf (Elt Bits) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_gains [hPre_finite_gains : Cert.Pre_finite_gains.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_gains.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_gains [hPre_finite_gains : Cert.Pre_finite_gains.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_gains.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Reference12 (m : (ℓ : Loc Cert.Reference12.nD Cert.Reference12.τ Cert.Reference12.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_ones [hKernelIdeal : Cert.KernelIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ones [hReferenceIdeal : Cert.ReferenceIdeal.Facts] [hPre_finite_ones : Cert.Pre_finite_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1)
      ∧ r.2.mem ((c.tc : Thread Cert.Reference7.nD Cert.Reference7.τ).loc Cert.Reference7.main_arg2) = m ((c.tc : Thread Cert.Reference7.nD Cert.Reference7.τ).loc Cert.Reference7.main_arg2)
      ∧ r.2.mem ((c.tc : Thread Cert.Reference7.nD Cert.Reference7.τ).loc Cert.Reference7.main_arg3) = m ((c.tc : Thread Cert.Reference7.nD Cert.Reference7.τ).loc Cert.Reference7.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0)
      ∧ r.2.mem ((c.tc : Thread Cert.Reference8.nD Cert.Reference8.τ).loc Cert.Reference8.main_arg1) = m ((c.tc : Thread Cert.Reference8.nD Cert.Reference8.τ).loc Cert.Reference8.main_arg1)
      ∧ r.2.mem ((c.tc : Thread Cert.Reference8.nD Cert.Reference8.τ).loc Cert.Reference8.main_arg2) = m ((c.tc : Thread Cert.Reference8.nD Cert.Reference8.τ).loc Cert.Reference8.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0)
      ∧ r.2.mem ((c.tc : Thread Cert.Reference9.nD Cert.Reference9.τ).loc Cert.Reference9.main_arg1) = m ((c.tc : Thread Cert.Reference9.nD Cert.Reference9.τ).loc Cert.Reference9.main_arg1)
      ∧ r.2.mem ((c.tc : Thread Cert.Reference9.nD Cert.Reference9.τ).loc Cert.Reference9.main_arg2) = m ((c.tc : Thread Cert.Reference9.nD Cert.Reference9.τ).loc Cert.Reference9.main_arg2)
      ∧ r.2.mem ((c.tc : Thread Cert.Reference9.nD Cert.Reference9.τ).loc Cert.Reference9.main_arg3) = m ((c.tc : Thread Cert.Reference9.nD Cert.Reference9.τ).loc Cert.Reference9.main_arg3)
      ∧ r.2.mem ((c.tc : Thread Cert.Reference9.nD Cert.Reference9.τ).loc Cert.Reference9.main_arg4) = m ((c.tc : Thread Cert.Reference9.nD Cert.Reference9.τ).loc Cert.Reference9.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0)
      ∧ r.2.mem ((c.tc : Thread Cert.Reference10.nD Cert.Reference10.τ).loc Cert.Reference10.main_arg1) = m ((c.tc : Thread Cert.Reference10.nD Cert.Reference10.τ).loc Cert.Reference10.main_arg1)
      ∧ r.2.mem ((c.tc : Thread Cert.Reference10.nD Cert.Reference10.τ).loc Cert.Reference10.main_arg2) = m ((c.tc : Thread Cert.Reference10.nD Cert.Reference10.τ).loc Cert.Reference10.main_arg2)
      ∧ r.2.mem ((c.tc : Thread Cert.Reference10.nD Cert.Reference10.τ).loc Cert.Reference10.main_arg3) = m ((c.tc : Thread Cert.Reference10.nD Cert.Reference10.τ).loc Cert.Reference10.main_arg3)
      ∧ r.2.mem ((c.tc : Thread Cert.Reference10.nD Cert.Reference10.τ).loc Cert.Reference10.main_arg4) = m ((c.tc : Thread Cert.Reference10.nD Cert.Reference10.τ).loc Cert.Reference10.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite_gains [hKernel12Ideal : Cert.Kernel12Ideal.Facts] [hPre_finite_gains : Cert.Pre_finite_gains.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_gains m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite_gains [hReference12Ideal : Cert.Reference12Ideal.Facts] [hPre_finite_gains : Cert.Pre_finite_gains.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_gains m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12 [hReference12 : Cert.Reference12.Facts] : Prop :=
  ∀ (m : (ℓ : Loc Cert.Reference12.nD Cert.Reference12.τ Cert.Reference12.sig) → Buf (Elt Bits) ℓ) (g : Dev Cert.Reference12.nD → PrngReg), Pre_Reference12 m →
    θ_run (Cert.Reference12.defs (F := Bits)) (onTc (τ := Cert.Reference12.τ) (Cert.Reference12.main (F := Bits))) ⟨m, fun _ => 0, g⟩ (fun r => (∀ c : Dev Cert.Reference12.nD,
      r.2.mem ((c.tc : Thread Cert.Reference12.nD Cert.Reference12.τ).loc Cert.Reference12.main_arg0) = m ((c.tc : Thread Cert.Reference12.nD Cert.Reference12.τ).loc Cert.Reference12.main_arg0)
      ∧ r.2.mem ((c.tc : Thread Cert.Reference12.nD Cert.Reference12.τ).loc Cert.Reference12.main_arg1) = m ((c.tc : Thread Cert.Reference12.nD Cert.Reference12.τ).loc Cert.Reference12.main_arg1)
      ∧ r.2.mem ((c.tc : Thread Cert.Reference12.nD Cert.Reference12.τ).loc Cert.Reference12.main_arg2) = m ((c.tc : Thread Cert.Reference12.nD Cert.Reference12.τ).loc Cert.Reference12.main_arg2)
      ∧ r.2.mem ((c.tc : Thread Cert.Reference12.nD Cert.Reference12.τ).loc Cert.Reference12.main_arg3) = m ((c.tc : Thread Cert.Reference12.nD Cert.Reference12.τ).loc Cert.Reference12.main_arg3)
      ∧ r.2.mem ((c.tc : Thread Cert.Reference12.nD Cert.Reference12.τ).loc Cert.Reference12.main_arg4) = m ((c.tc : Thread Cert.Reference12.nD Cert.Reference12.τ).loc Cert.Reference12.main_arg4))
      ∧ r.2.sem = fun _ => 0)

def preserves_Kernel_KernelIdeal : Prop :=
  True

def preserves_Reference_ReferenceIdeal : Prop :=
  True

def algebraic_KernelIdeal_ReferenceIdeal_pre_finite_ones [hKernelIdeal : Cert.KernelIdeal.Facts] [hReferenceIdeal : Cert.ReferenceIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def preserves_Reference7_Reference7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def preserves_Reference8_Reference8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def preserves_Reference9_Reference9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v18) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def preserves_Reference10_Reference10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def preserves_Reference11_Reference11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def preserves_Reference12_Reference12Ideal : Prop :=
  True

def algebraic_Kernel12Ideal_Reference12Ideal_pre_finite_gains [hKernel12Ideal : Cert.Kernel12Ideal.Facts] [hReference12Ideal : Cert.Reference12Ideal.Facts] [hPre_finite_gains : Cert.Pre_finite_gains.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_gains m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v14_0)) (v1 : (c : Dev Cert.Kernel12Ideal.nD) → Buf (Elt Ideal) ((c.tc : Thread Cert.Kernel12Ideal.nD Cert.Kernel12Ideal.τ).loc Cert.Kernel12Ideal.main_v14_1)) (v2 : (c : Dev Cert.Kernel12Ideal.nD) → Buf (Elt Ideal) ((c.tc : Thread Cert.Kernel12Ideal.nD Cert.Kernel12Ideal.τ).loc Cert.Kernel12Ideal.main_v14_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v14_0) = v0 c
          ∧ r.2.mem ((c.tc : Thread Cert.Kernel12Ideal.nD Cert.Kernel12Ideal.τ).loc Cert.Kernel12Ideal.main_v14_1) = v1 c
          ∧ r.2.mem ((c.tc : Thread Cert.Kernel12Ideal.nD Cert.Kernel12Ideal.τ).loc Cert.Kernel12Ideal.main_v14_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v119) = v0 c
          ∧ r.2.mem ((c.tc : Thread Cert.Reference12Ideal.nD Cert.Reference12Ideal.τ).loc Cert.Reference12Ideal.main_v120) = v1 c
          ∧ r.2.mem ((c.tc : Thread Cert.Reference12Ideal.nD Cert.Reference12Ideal.τ).loc Cert.Reference12Ideal.main_v121) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hKernel7 : Cert.Kernel7.Facts) (hKernel7Ideal : Cert.Kernel7Ideal.Facts) (hReference7Ideal : Cert.Reference7Ideal.Facts) (hReference7 : Cert.Reference7.Facts) (hKernel8 : Cert.Kernel8.Facts) (hKernel8Ideal : Cert.Kernel8Ideal.Facts) (hReference8Ideal : Cert.Reference8Ideal.Facts) (hReference8 : Cert.Reference8.Facts) (hKernel9 : Cert.Kernel9.Facts) (hKernel9Ideal : Cert.Kernel9Ideal.Facts) (hReference9Ideal : Cert.Reference9Ideal.Facts) (hReference9 : Cert.Reference9.Facts) (hKernel10 : Cert.Kernel10.Facts) (hKernel10Ideal : Cert.Kernel10Ideal.Facts) (hReference10Ideal : Cert.Reference10Ideal.Facts) (hReference10 : Cert.Reference10.Facts) (hKernel11 : Cert.Kernel11.Facts) (hKernel11Ideal : Cert.Kernel11Ideal.Facts) (hReference11Ideal : Cert.Reference11Ideal.Facts) (hReference11 : Cert.Reference11.Facts) (hKernel12 : Cert.Kernel12.Facts) (hKernel12Ideal : Cert.Kernel12Ideal.Facts) (hReference12Ideal : Cert.Reference12Ideal.Facts) (hReference12 : Cert.Reference12.Facts) (hPre_finite_ones : Cert.Pre_finite_ones.Facts) (hPre_finite_gains : Cert.Pre_finite_gains.Facts),
    quiescent_Kernel (hKernel := hKernel)
    ∧ quiescent_KernelIdeal (hKernelIdeal := hKernelIdeal)
    ∧ quiescent_KernelIdeal_pre_finite_ones (hKernelIdeal := hKernelIdeal) (hPre_finite_ones := hPre_finite_ones)
    ∧ quiescent_ReferenceIdeal (hReferenceIdeal := hReferenceIdeal)
    ∧ quiescent_ReferenceIdeal_pre_finite_ones (hReferenceIdeal := hReferenceIdeal) (hPre_finite_ones := hPre_finite_ones)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ quiescent_Kernel7 (hKernel7 := hKernel7)
    ∧ quiescent_Kernel7Ideal (hKernel7Ideal := hKernel7Ideal)
    ∧ quiescent_Reference7Ideal (hReference7Ideal := hReference7Ideal)
    ∧ quiescent_Reference7 (hReference7 := hReference7)
    ∧ quiescent_Kernel8 (hKernel8 := hKernel8)
    ∧ quiescent_Kernel8Ideal (hKernel8Ideal := hKernel8Ideal)
    ∧ quiescent_Reference8Ideal (hReference8Ideal := hReference8Ideal)
    ∧ quiescent_Reference8 (hReference8 := hReference8)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ quiescent_Kernel10 (hKernel10 := hKernel10)
    ∧ quiescent_Kernel10Ideal (hKernel10Ideal := hKernel10Ideal)
    ∧ quiescent_Reference10Ideal (hReference10Ideal := hReference10Ideal)
    ∧ quiescent_Reference10 (hReference10 := hReference10)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference11 (hReference11 := hReference11)
    ∧ quiescent_Kernel12 (hKernel12 := hKernel12)
    ∧ quiescent_Kernel12Ideal (hKernel12Ideal := hKernel12Ideal)
    ∧ quiescent_Kernel12Ideal_pre_finite_gains (hKernel12Ideal := hKernel12Ideal) (hPre_finite_gains := hPre_finite_gains)
    ∧ quiescent_Reference12Ideal (hReference12Ideal := hReference12Ideal)
    ∧ quiescent_Reference12Ideal_pre_finite_gains (hReference12Ideal := hReference12Ideal) (hPre_finite_gains := hPre_finite_gains)
    ∧ quiescent_Reference12 (hReference12 := hReference12)
    ∧ preserves_Kernel_KernelIdeal
    ∧ preserves_Reference_ReferenceIdeal
    ∧ algebraic_KernelIdeal_ReferenceIdeal_pre_finite_ones (hKernelIdeal := hKernelIdeal) (hReferenceIdeal := hReferenceIdeal) (hPre_finite_ones := hPre_finite_ones)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal (hKernel6Ideal := hKernel6Ideal) (hReference6Ideal := hReference6Ideal)
    ∧ preserves_Kernel7_Kernel7Ideal
    ∧ preserves_Reference7_Reference7Ideal
    ∧ algebraic_Kernel7Ideal_Reference7Ideal (hKernel7Ideal := hKernel7Ideal) (hReference7Ideal := hReference7Ideal)
    ∧ preserves_Kernel8_Kernel8Ideal
    ∧ preserves_Reference8_Reference8Ideal
    ∧ algebraic_Kernel8Ideal_Reference8Ideal (hKernel8Ideal := hKernel8Ideal) (hReference8Ideal := hReference8Ideal)
    ∧ preserves_Kernel9_Kernel9Ideal
    ∧ preserves_Reference9_Reference9Ideal
    ∧ algebraic_Kernel9Ideal_Reference9Ideal (hKernel9Ideal := hKernel9Ideal) (hReference9Ideal := hReference9Ideal)
    ∧ preserves_Kernel10_Kernel10Ideal
    ∧ preserves_Reference10_Reference10Ideal
    ∧ algebraic_Kernel10Ideal_Reference10Ideal (hKernel10Ideal := hKernel10Ideal) (hReference10Ideal := hReference10Ideal)
    ∧ preserves_Kernel11_Kernel11Ideal
    ∧ preserves_Reference11_Reference11Ideal
    ∧ algebraic_Kernel11Ideal_Reference11Ideal (hKernel11Ideal := hKernel11Ideal) (hReference11Ideal := hReference11Ideal)
    ∧ preserves_Kernel12_Kernel12Ideal
    ∧ preserves_Reference12_Reference12Ideal
    ∧ algebraic_Kernel12Ideal_Reference12Ideal_pre_finite_gains (hKernel12Ideal := hKernel12Ideal) (hReference12Ideal := hReference12Ideal) (hPre_finite_gains := hPre_finite_gains)
-- ==== Pre_finite_gains.lean ====
abbrev S24576x7168 : Shape := ⟨2, ![24576, 7168]⟩
abbrev S16384x32 : Shape := ⟨2, ![16384, 32]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S24576x7168 .bf16) (main_arg1 : FVec F S16384x32 .f32) (main_arg2 : FVec F S16384x32 .f32) (main_arg3 : FVec F S128 .f32) (main_arg4 : FVec F S128 .f32) : IVec S_ 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_ones.lean ====
abbrev S24576x2048 : Shape := ⟨2, ![24576, 2048]⟩
abbrev S24576x512 : Shape := ⟨2, ![24576, 512]⟩
abbrev S4x24x144x1024 : Shape := ⟨4, ![4, 24, 144, 1024]⟩
abbrev S4x16x144x1024 : Shape := ⟨4, ![4, 16, 144, 1024]⟩
abbrev S16384x2048 : Shape := ⟨2, ![16384, 2048]⟩
abbrev S_ : Shape := ⟨0, ![]⟩
abbrev S16384x512 : Shape := ⟨2, ![16384, 512]⟩
abbrev S4x16x1x1024 : Shape := ⟨4, ![4, 16, 1, 1024]⟩
abbrev S4x16x1024 : Shape := ⟨3, ![4, 16, 1024]⟩

class Facts : Prop where
  slices_S4x24x144x1024_S4x16x144x1024_0_0_0_0 : S4x24x144x1024.Slices ![0, 0, 0, 0] S4x16x144x1024
  slices_S24576x2048_S16384x2048_0_0 : S24576x2048.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S24576x512_S16384x512_0_0 : S24576x512.Slices ![0, 0] S16384x512
  bcast_S_S16384x512 : S_.BroadcastsInDim S16384x512 (![] : Fin 0 → Fin S16384x512.rank)
  reducesTo_S16384x512_S_d0_1 : S16384x512.ReducesTo [0, 1] S_
  slices_S4x16x144x1024_S4x16x1x1024_0_0_128_0 : S4x16x144x1024.Slices ![0, 0, 128, 0] S4x16x1x1024
  shapeCasts_S4x16x1x1024_S4x16x1024 : S4x16x1x1024.ShapeCasts S4x16x1024
  bcast_S_S4x16x1024 : S_.BroadcastsInDim S4x16x1024 (![] : Fin 0 → Fin S4x16x1024.rank)
  reducesTo_S4x16x1024_S_d0_1_2 : S4x16x1024.ReducesTo [0, 1, 2] S_

variable [Facts]

def fn_part1 {F : FTy → Type} [FloatOps F] (main_v13 : IVec S_ 1) (main_v18 : IVec S4x16x1024 1) : IVec S_ 1 :=
  let main_c_3 : IVec S_ 1 := constantI S_ 1 1#1
  let main_v19 : IVec S_ 1 := (fun x v => Host.reduce IntOp.andi x v reducesTo_S4x16x1024_S_d0_1_2 h_S_) main_v18 main_c_3
  let main_v20 : IVec S_ 1 := andi main_v13 main_v19
  main_v20

def fn {F : FTy → Type} [FloatOps F] (main_arg0 : FVec F S24576x2048 .bf16) (main_arg1 : FVec F S24576x512 .bf16) (main_arg2 : FVec F S4x24x144x1024 .bf16) : IVec S_ 1 :=
  let main_v0 : FVec F S4x16x144x1024 .bf16 := (extractStridedSlice S4x16x144x1024 ![0, 0, 0, 0] · slices_S4x24x144x1024_S4x16x144x1024_0_0_0_0) main_arg2
  let main_v1 : FVec F S16384x2048 .bf16 := (extractStridedSlice S16384x2048 ![0, 0] · slices_S24576x2048_S16384x2048_0_0) main_arg0
  let main_v2 : FVec F S16384x2048 .f32 := (extf .f32 · bitsLt_bf16_f32) main_v1
  let main_v3 : FVec F S16384x2048 .f32 := Host.absf main_v2
  let main_cst : FVec F S_ .f32 := constant S_ .f32 0x7F800000#32
  let main_v4 : FVec F S16384x2048 .f32 := broadcastInDim S16384x2048 ![] bcast_S_S16384x2048 main_cst
  let main_v5 : IVec S16384x2048 1 := cmpf .olt main_v3 main_v4
  let main_c : IVec S_ 1 := constantI S_ 1 1#1
  let main_v6 : IVec S_ 1 := (fun x v => Host.reduce IntOp.andi x v reducesTo_S16384x2048_S_d0_1 h_S_) main_v5 main_c
  let main_v7 : FVec F S16384x512 .bf16 := (extractStridedSlice S16384x512 ![0, 0] · slices_S24576x512_S16384x512_0_0) main_arg1
  let main_v8 : FVec F S16384x512 .f32 := (extf .f32 · bitsLt_bf16_f32) main_v7
  let main_v9 : FVec F S16384x512 .f32 := Host.absf main_v8
  let main_cst_0 : FVec F S_ .f32 := constant S_ .f32 0x7F800000#32
  let main_v10 : FVec F S16384x512 .f32 := broadcastInDim S16384x512 ![] bcast_S_S16384x512 main_cst_0
  let main_v11 : IVec S16384x512 1 := cmpf .olt main_v9 main_v10
  let main_c_1 : IVec S_ 1 := constantI S_ 1 1#1
  let main_v12 : IVec S_ 1 := (fun x v => Host.reduce IntOp.andi x v reducesTo_S16384x512_S_d0_1 h_S_) main_v11 main_c_1
  let main_v13 : IVec S_ 1 := andi main_v6 main_v12
  let main_v14 : FVec F S4x16x1x1024 .bf16 := (extractStridedSlice S4x16x1x1024 ![0, 0, 128, 0] · slices_S4x16x144x1024_S4x16x1x1024_0_0_128_0) main_v0
  let main_v15 : FVec F S4x16x1024 .bf16 := shapeCast S4x16x1024 main_v14 shapeCasts_S4x16x1x1024_S4x16x1024
  let main_v16 : FVec F S4x16x1024 .f32 := (extf .f32 · bitsLt_bf16_f32) main_v15
  let main_cst_2 : FVec F S_ .f32 := constant S_ .f32 0x3F800000#32
  let main_v17 : FVec F S4x16x1024 .f32 := broadcastInDim S4x16x1024 ![] bcast_S_S4x16x1024 main_cst_2
  let main_v18 : IVec S4x16x1024 1 := cmpf .oeq main_v16 main_v17
  fn_part1 (F := F) main_v13 main_v18
-- ==== Kernel.lean ====
abbrev S24576x2048 : Shape := ⟨2, ![24576, 2048]⟩
abbrev S24576x512 : Shape := ⟨2, ![24576, 512]⟩
abbrev S4x24x144x1024 : Shape := ⟨4, ![4, 24, 144, 1024]⟩
abbrev S16384x2048 : Shape := ⟨2, ![16384, 2048]⟩
abbrev S512x512 : Shape := ⟨2, ![512, 512]⟩
abbrev S16384x128 : Shape := ⟨2, ![16384, 128]⟩
abbrev S1x16x144x1024 : Shape := ⟨4, ![1, 16, 144, 1024]⟩
abbrev S4x1x512 : Shape := ⟨3, ![4, 1, 512]⟩
abbrev S4x144x512 : Shape := ⟨3, ![4, 144, 512]⟩
abbrev S2x1024x512 : Shape := ⟨3, ![2, 1024, 512]⟩
abbrev S2x1x512 : Shape := ⟨3, ![2, 1, 512]⟩
abbrev S1024x128 : Shape := ⟨2, ![1024, 128]⟩
abbrev S512x128 : Shape := ⟨2, ![512, 128]⟩
abbrev S1024x512 : Shape := ⟨2, ![1024, 512]⟩
abbrev S1x1024x512 : Shape := ⟨3, ![1, 1024, 512]⟩
abbrev S512 : Shape := ⟨1, ![512]⟩
abbrev S1x512 : Shape := ⟨2, ![1, 512]⟩
abbrev S1x1x512 : Shape := ⟨3, ![1, 1, 512]⟩
abbrev S1x1x144x1024 : Shape := ⟨4, ![1, 1, 144, 1024]⟩
abbrev S144x1024 : Shape := ⟨2, ![144, 1024]⟩
abbrev S1x144x512 : Shape := ⟨3, ![1, 144, 512]⟩
abbrev S144x512 : Shape := ⟨2, ![144, 512]⟩
abbrev S128x512 : Shape := ⟨2, ![128, 512]⟩

abbrev nBuf : Space → Nat
  | .hbm => 4
  | .vmem => 12
  | .smem => 0
  | _ => 0

abbrev bufTy : (tb : Table) → Fin (tcTables nBuf tb) → BufTy
  | .hbm, ⟨0, _⟩ => ⟨S24576x2048, .bf16⟩
  | .hbm, ⟨1, _⟩ => ⟨S24576x512, .bf16⟩
  | .hbm, ⟨2, _⟩ => ⟨S4x24x144x1024, .bf16⟩
  | .hbm, ⟨3, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S16384x128, .bf16⟩
  | .local _ .vmem, ⟨3, _⟩ => ⟨S16384x128, .bf16⟩
  | .local _ .vmem, ⟨4, _⟩ => ⟨S1x16x144x1024, .bf16⟩
  | .local _ .vmem, ⟨5, _⟩ => ⟨S1x16x144x1024, .bf16⟩
  | .local _ .vmem, ⟨6, _⟩ => ⟨S512x512, .bf16⟩
  | .local _ .vmem, ⟨7, _⟩ => ⟨S512x512, .bf16⟩
  | .local _ .vmem, ⟨8, _⟩ => ⟨S4x1x512, .f32⟩
  | .local _ .vmem, ⟨9, _⟩ => ⟨S4x144x512, .f32⟩
  | .local _ .vmem, ⟨10, _⟩ => ⟨S2x1024x512, .f32⟩
  | .local _ .vmem, ⟨11, _⟩ => ⟨S2x1x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 32], ![false, false, false]⟩

@[reducible] def k0_t1_loop : Scf.Loop 32 :=
  let c0_i32 : BitVec 32 := 0#32
  let c3_i32 : BitVec 32 := 3#32
  let v19 : BitVec 32 := Scalar.addi c0_i32 c3_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32 : BitVec 32 := 4#32
  let v621 : BitVec 32 := Scalar.muli arg11 c4_i32
  let c0_i32_509 : BitVec 32 := 0#32
  let v622 : BitVec 32 := Scalar.addi v621 c0_i32_509
  let c1024_i32 : BitVec 32 := 1024#32
  let v623 : BitVec 32 := Scalar.muli v622 c1024_i32
  v623
def k0_off1 (k0_t1 : Fin k0_t1_loop.trips) (c0_i32_509 : BitVec 32) : Fin 2 → Nat :=
  let c0_i32 : BitVec 32 := 0#32
  let c1_i32 : BitVec 32 := 1#32
  let arg11 : BitVec 32 := Scf.iv c0_i32 c1_i32 k0_t1
  let c4_i32 : BitVec 32 := 4#32
  let v621 : BitVec 32 := Scalar.muli arg11 c4_i32
  let v622 : BitVec 32 := Scalar.addi v621 c0_i32_509
  let c1024_i32 : BitVec 32 := 1024#32
  let v623 : BitVec 32 := Scalar.muli v622 c1024_i32
  let v624 : BitVec 32 := v623
  let v625 : Index := Scalar.indexCast v624
  let c0_510 : Index := 0#32
  ![v625.toNat, 0]
def k0_off2 (k0_t1 : Fin k0_t1_loop.trips) (c0_i32_509 : BitVec 32) : Fin 4 → Nat :=
  let c0_511 : Index := 0#32
  let c0_i32 : BitVec 32 := 0#32
  let c1_i32 : BitVec 32 := 1#32
  let arg11 : BitVec 32 := Scf.iv c0_i32 c1_i32 k0_t1
  let c4_i32 : BitVec 32 := 4#32
  let v621 : BitVec 32 := Scalar.muli arg11 c4_i32
  let v622 : BitVec 32 := Scalar.addi v621 c0_i32_509
  let v627 : Index := Scalar.indexCast v622
  let c0_512 : Index := 0#32
  let c0_513 : Index := 0#32
  ![0, v627.toNat, 0, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32 : BitVec 32 := 4#32
  let v621 : BitVec 32 := Scalar.muli arg11 c4_i32
  let c0_i32_509 : BitVec 32 := 0#32
  let v622 : BitVec 32 := Scalar.addi v621 c0_i32_509
  let c1_i32_601 : BitVec 32 := 1#32
  let v735 : BitVec 32 := Scalar.addi v622 c1_i32_601
  let c1024_i32_602 : BitVec 32 := 1024#32
  let v736 : BitVec 32 := Scalar.muli v735 c1024_i32_602
  v736
def k0_off3 (k0_t1 : Fin k0_t1_loop.trips) (c0_i32_509 : BitVec 32) : Fin 2 → Nat :=
  let c0_i32 : BitVec 32 := 0#32
  let c1_i32 : BitVec 32 := 1#32
  let arg11 : BitVec 32 := Scf.iv c0_i32 c1_i32 k0_t1
  let c4_i32 : BitVec 32 := 4#32
  let v621 : BitVec 32 := Scalar.muli arg11 c4_i32
  let v622 : BitVec 32 := Scalar.addi v621 c0_i32_509
  let c1_i32_601 : BitVec 32 := 1#32
  let v735 : BitVec 32 := Scalar.addi v622 c1_i32_601
  let c1024_i32_602 : BitVec 32 := 1024#32
  let v736 : BitVec 32 := Scalar.muli v735 c1024_i32_602
  let v737 : BitVec 32 := v736
  let v738 : Index := Scalar.indexCast v737
  let c0_603 : Index := 0#32
  ![v738.toNat, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_633 : BitVec 32 := 4#32
  let v775 : BitVec 32 := Scalar.muli arg11 c4_i32_633
  let c1_i32_634 : BitVec 32 := 1#32
  let v776 : BitVec 32 := Scalar.addi v775 c1_i32_634
  let c1024_i32_635 : BitVec 32 := 1024#32
  let v777 : BitVec 32 := Scalar.muli v776 c1024_i32_635
  v777
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_633 : BitVec 32 := 4#32
  let v775 : BitVec 32 := Scalar.muli arg11 c4_i32_633
  let c1_i32_634 : BitVec 32 := 1#32
  let v776 : BitVec 32 := Scalar.addi v775 c1_i32_634
  let c1_i32_727 : BitVec 32 := 1#32
  let v889 : BitVec 32 := Scalar.addi v776 c1_i32_727
  let c1024_i32_728 : BitVec 32 := 1024#32
  let v890 : BitVec 32 := Scalar.muli v889 c1024_i32_728
  v890
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_759 : BitVec 32 := 4#32
  let v929 : BitVec 32 := Scalar.muli arg11 c4_i32_759
  let c2_i32 : BitVec 32 := 2#32
  let v930 : BitVec 32 := Scalar.addi v929 c2_i32
  let c1024_i32_760 : BitVec 32 := 1024#32
  let v931 : BitVec 32 := Scalar.muli v930 c1024_i32_760
  v931
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_759 : BitVec 32 := 4#32
  let v929 : BitVec 32 := Scalar.muli arg11 c4_i32_759
  let c2_i32 : BitVec 32 := 2#32
  let v930 : BitVec 32 := Scalar.addi v929 c2_i32
  let c1_i32_852 : BitVec 32 := 1#32
  let v1043 : BitVec 32 := Scalar.addi v930 c1_i32_852
  let c1024_i32_853 : BitVec 32 := 1024#32
  let v1044 : BitVec 32 := Scalar.muli v1043 c1024_i32_853
  v1044
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_884 : BitVec 32 := 4#32
  let v1083 : BitVec 32 := Scalar.muli arg11 c4_i32_884
  let c3_i32_885 : BitVec 32 := 3#32
  let v1084 : BitVec 32 := Scalar.addi v1083 c3_i32_885
  let c1024_i32_886 : BitVec 32 := 1024#32
  let v1085 : BitVec 32 := Scalar.muli v1084 c1024_i32_886
  v1085
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_884 : BitVec 32 := 4#32
  let v1083 : BitVec 32 := Scalar.muli arg11 c4_i32_884
  let c3_i32_885 : BitVec 32 := 3#32
  let v1084 : BitVec 32 := Scalar.addi v1083 c3_i32_885
  let c1_i32_978 : BitVec 32 := 1#32
  let v1197 : BitVec 32 := Scalar.addi v1084 c1_i32_978
  let c1024_i32_979 : BitVec 32 := 1024#32
  let v1198 : BitVec 32 := Scalar.muli v1197 c1024_i32_979
  v1198
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![arg1.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference.lean ====
abbrev S24576x2048 : Shape := ⟨2, ![24576, 2048]⟩
abbrev S24576x512 : Shape := ⟨2, ![24576, 512]⟩
abbrev S4x24x144x1024 : Shape := ⟨4, ![4, 24, 144, 1024]⟩
abbrev S16384x2048 : Shape := ⟨2, ![16384, 2048]⟩
abbrev S16384x4x4x128 : Shape := ⟨4, ![16384, 4, 4, 128]⟩
abbrev S16384x512 : Shape := ⟨2, ![16384, 512]⟩
abbrev S16384x4x128 : Shape := ⟨3, ![16384, 4, 128]⟩
abbrev S4x16x128x1024 : Shape := ⟨4, ![4, 16, 128, 1024]⟩
abbrev S16x1024x4x128 : Shape := ⟨4, ![16, 1024, 4, 128]⟩
abbrev S4x16384x16384x4 : Shape := ⟨4, ![4, 16384, 16384, 4]⟩
abbrev S4x4x16384x16384 : Shape := ⟨4, ![4, 4, 16384, 16384]⟩
abbrev S_ : Shape := ⟨0, ![]⟩
abbrev S4x4x16384 : Shape := ⟨3, ![4, 4, 16384]⟩
abbrev S4x4x16384x1 : Shape := ⟨4, ![4, 4, 16384, 1]⟩
abbrev S4x128x4x16384 : Shape := ⟨4, ![4, 128, 4, 16384]⟩

abbrev nBuf : Space → Nat
  | .hbm => 37
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x512, .bf16⟩
  | .hbm, ⟨2, _⟩ => ⟨S4x24x144x1024, .bf16⟩
  | .hbm, ⟨3, _⟩ => ⟨S16384x2048, .bf16⟩
  | .hbm, ⟨4, _⟩ => ⟨S16384x2048, .f32⟩
  | .hbm, ⟨5, _⟩ => ⟨S16384x4x4x128, .f32⟩
  | .hbm, ⟨6, _⟩ => ⟨S16384x512, .bf16⟩
  | .hbm, ⟨7, _⟩ => ⟨S16384x512, .f32⟩
  | .hbm, ⟨8, _⟩ => ⟨S16384x4x128, .f32⟩
  | .hbm, ⟨9, _⟩ => ⟨S4x16x128x1024, .bf16⟩
  | .hbm, ⟨10, _⟩ => ⟨S4x16x128x1024, .f32⟩
  | .hbm, ⟨11, _⟩ => ⟨S16x1024x4x128, .f32⟩
  | .hbm, ⟨12, _⟩ => ⟨S16384x4x128, .f32⟩
  | .hbm, ⟨13, _⟩ => ⟨S4x16384x16384x4, .f32⟩
  | .hbm, ⟨14, _⟩ => ⟨S4x4x16384x16384, .f32⟩
  | .hbm, ⟨15, _⟩ => ⟨S_, .f32⟩
  | .hbm, ⟨16, _⟩ => ⟨S_, .f32⟩
  | .hbm, ⟨17, _⟩ => ⟨S4x4x16384x16384, .f32⟩
  | .hbm, ⟨18, _⟩ => ⟨S4x4x16384x16384, .f32⟩
  | .hbm, ⟨19, _⟩ => ⟨S_, .f32⟩
  | .hbm, ⟨20, _⟩ => ⟨S4x4x16384, .f32⟩
  | .hbm, ⟨21, _⟩ => ⟨S_, .f32⟩
  | .hbm, ⟨22, _⟩ => ⟨S4x4x16384, .f32⟩
  | .hbm, ⟨23, _⟩ => ⟨S4x4x16384, .f32⟩
  | .hbm, ⟨24, _⟩ => ⟨S4x4x16384x1, .f32⟩
  | .hbm, ⟨25, _⟩ => ⟨S4x4x16384x16384, .f32⟩
  | .hbm, ⟨26, _⟩ => ⟨S4x4x16384x16384, .f32⟩
  | .hbm, ⟨27, _⟩ => ⟨S4x4x16384x16384, .f32⟩
  | .hbm, ⟨28, _⟩ => ⟨S_, .f32⟩
  | .hbm, ⟨29, _⟩ => ⟨S4x4x16384, .f32⟩
  | .hbm, ⟨30, _⟩ => ⟨S4x4x16384x1, .f32⟩
  | .hbm, ⟨31, _⟩ => ⟨S4x4x16384x16384, .f32⟩
  | .hbm, ⟨32, _⟩ => ⟨S4x4x16384x16384, .f32⟩
  | .hbm, ⟨33, _⟩ => ⟨S4x128x4x16384, .f32⟩
  | .hbm, ⟨34, _⟩ => ⟨S16384x4x4x128, .f32⟩
  | .hbm, ⟨35, _⟩ => ⟨S16384x2048, .f32⟩
  | .hbm, ⟨36, _⟩ => ⟨S16384x2048, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel2.lean ====
abbrev S24576x4096 : Shape := ⟨2, ![24576, 4096]⟩
abbrev S4096x11264 : Shape := ⟨2, ![4096, 11264]⟩
abbrev S2x11008x4096 : Shape := ⟨3, ![2, 11008, 4096]⟩
abbrev S24576x11264 : Shape := ⟨2, ![24576, 11264]⟩
abbrev S11264x4096 : Shape := ⟨2, ![11264, 4096]⟩
abbrev S1024x4096 : Shape := ⟨2, ![1024, 4096]⟩
abbrev S4096x512 : Shape := ⟨2, ![4096, 512]⟩
abbrev S1x32x4096 : Shape := ⟨3, ![1, 32, 4096]⟩
abbrev S1024x512 : Shape := ⟨2, ![1024, 512]⟩
abbrev S32x4096 : Shape := ⟨2, ![32, 4096]⟩
abbrev S4096x256 : Shape := ⟨2, ![4096, 256]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S24576x11264, .bf16⟩
  | .hbm, ⟨5, _⟩ => ⟨S11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x32x4096, .f32⟩
  | .local _ .vmem, ⟨7, _⟩ => ⟨S1x32x4096, .f32⟩
  | .local _ .vmem, ⟨8, _⟩ => ⟨S1024x512, .bf16⟩
  | .local _ .vmem, ⟨9, _⟩ => ⟨S1024x512, .bf16⟩
  | .local _ .vmem, ⟨10, _⟩ => ⟨S32x4096, .bf16⟩
  | .local _ .vmem, ⟨11, _⟩ => ⟨S32x4096, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 22], ![false, false]⟩

def k0_cond1 (i : grid0.Coords) : BitVec 1 :=
  let arg1 : BitVec 32 := BitVec.ofNat 32 (i 1).val
  let c21_i32 : BitVec 32 := 21#32
  let v0 : BitVec 1 := Scalar.cmpi .slt arg1 c21_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c21_i32_0 : BitVec 32 := 21#32
  let v3 : BitVec 1 := Scalar.cmpi .eq arg1 c21_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c22_i32 : BitVec 32 := 22#32
  let v6 : BitVec 32 := Scalar.muli arg0 c22_i32
  let arg1 : BitVec 32 := BitVec.ofNat 32 (i 1).val
  let v7 : BitVec 32 := Scalar.addi v6 arg1
  let c344_i32 : BitVec 32 := 344#32
  let v8 : BitVec 1 := Scalar.cmpi .slt v7 c344_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg0 : BitVec 32 := BitVec.ofNat 32 (i 0).val
  let c22_i32 : BitVec 32 := 22#32
  let v6 : BitVec 32 := Scalar.muli arg0 c22_i32
  let arg1 : BitVec 32 := BitVec.ofNat 32 (i 1).val
  let v7 : BitVec 32 := Scalar.addi v6 arg1
  let c344_i32_3 : BitVec 32 := 344#32
  let v11 : BitVec 1 := Scalar.cmpi .sge v7 c344_i32_3
  let c352_i32 : BitVec 32 := 352#32
  let v12 : BitVec 1 := Scalar.cmpi .slt v7 c352_i32
  let v13 : BitVec 1 := Scalar.andi v11 v12
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c1_i32 : BitVec 32 := 1#32
  let c0_i32 : BitVec 32 := 0#32
  let c0_i32_0 : BitVec 32 := 0#32
  ![c1_i32.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c351_i32 : BitVec 32 := 351#32
  let v2 : BitVec 32 := Scalar.minsi v1 c351_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2.lean ====
abbrev S24576x4096 : Shape := ⟨2, ![24576, 4096]⟩
abbrev S4096x11264 : Shape := ⟨2, ![4096, 11264]⟩
abbrev S2x11008x4096 : Shape := ⟨3, ![2, 11008, 4096]⟩
abbrev S4096x11008 : Shape := ⟨2, ![4096, 11008]⟩
abbrev S24576x11008 : Shape := ⟨2, ![24576, 11008]⟩
abbrev S_ : Shape := ⟨0, ![]⟩
abbrev S24576x11264 : Shape := ⟨2, ![24576, 11264]⟩
abbrev S1x11008x4096 : Shape := ⟨3, ![1, 11008, 4096]⟩
abbrev S11008x4096 : Shape := ⟨2, ![11008, 4096]⟩
abbrev S11264x4096 : Shape := ⟨2, ![11264, 4096]⟩

abbrev nBuf : Space → Nat
  | .hbm => 32
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S24576x4096, .f32⟩
  | .hbm, ⟨5, _⟩ => ⟨S4096x11008, .bf16⟩
  | .hbm, ⟨6, _⟩ => ⟨S4096x11008, .f32⟩
  | .hbm, ⟨7, _⟩ => ⟨S24576x11008, .f32⟩
  | .hbm, ⟨8, _⟩ => ⟨S24576x4096, .f32⟩
  | .hbm, ⟨9, _⟩ => ⟨S4096x11008, .bf16⟩
  | .hbm, ⟨10, _⟩ => ⟨S4096x11008, .f32⟩
  | .hbm, ⟨11, _⟩ => ⟨S24576x11008, .f32⟩
  | .hbm, ⟨12, _⟩ => ⟨S24576x11008, .f32⟩
  | .hbm, ⟨13, _⟩ => ⟨S24576x11008, .f32⟩
  | .hbm, ⟨14, _⟩ => ⟨S_, .f32⟩
  | .hbm, ⟨15, _⟩ => ⟨S24576x11008, .f32⟩
  | .hbm, ⟨16, _⟩ => ⟨S24576x11008, .f32⟩
  | .hbm, ⟨17, _⟩ => ⟨S_, .f32⟩
  | .hbm, ⟨18, _⟩ => ⟨S24576x11008, .f32⟩
  | .hbm, ⟨19, _⟩ => ⟨S24576x11008, .f32⟩
  | .hbm, ⟨20, _⟩ => ⟨S24576x11008, .f32⟩
  | .hbm, ⟨21, _⟩ => ⟨S24576x11008, .f32⟩
  | .hbm, ⟨22, _⟩ => ⟨S24576x11008, .bf16⟩
  | .hbm, ⟨23, _⟩ => ⟨S_, .i32⟩
  | .hbm, ⟨24, _⟩ => ⟨S_, .bf16⟩
  | .hbm, ⟨25, _⟩ => ⟨S24576x11264, .bf16⟩
  | .hbm, ⟨26, _⟩ => ⟨S1x11008x4096, .f32⟩
  | .hbm, ⟨27, _⟩ => ⟨S11008x4096, .f32⟩
  | .hbm, ⟨28, _⟩ => ⟨S11008x4096, .bf16⟩
  | .hbm, ⟨29, _⟩ => ⟨S_, .i32⟩
  | .hbm, ⟨30, _⟩ => ⟨S_, .bf16⟩
  | .hbm, ⟨31, _⟩ => ⟨S11264x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_call2_v0 : Ref sig .tc := ⟨.hbm, 30, rfl⟩
abbrev main_v15 : Ref sig .tc := ⟨.hbm, 31, rfl⟩

abbrev nD : Nat := 1
abbrev τ : Topo := Topo.v7x

variable {F : FTy → Type} [FloatOps F]
-- ==== Kernel3.lean ====
abbrev S24576x11264 : Shape := ⟨2, ![24576, 11264]⟩
abbrev S11264x4096 : Shape := ⟨2, ![11264, 4096]⟩
abbrev S24576x4096 : Shape := ⟨2, ![24576, 4096]⟩
abbrev S1024x2816 : Shape := ⟨2, ![1024, 2816]⟩
abbrev S2816x1024 : Shape := ⟨2, ![2816, 1024]⟩
abbrev S1024x1024 : Shape := ⟨2, ![1024, 1024]⟩
abbrev S1024x2560 : Shape := ⟨2, ![1024, 2560]⟩
abbrev S2560x1024 : Shape := ⟨2, ![2560, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x11264, .bf16⟩
  | .hbm, ⟨1, _⟩ => ⟨S11264x4096, .bf16⟩
  | .hbm, ⟨2, _⟩ => ⟨S24576x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S24576x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3.lean ====
abbrev S24576x11264 : Shape := ⟨2, ![24576, 11264]⟩
abbrev S11264x4096 : Shape := ⟨2, ![11264, 4096]⟩
abbrev S24576x11008 : Shape := ⟨2, ![24576, 11008]⟩
abbrev S11008x4096 : Shape := ⟨2, ![11008, 4096]⟩
abbrev S24576x4096 : Shape := ⟨2, ![24576, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x11264, .bf16⟩
  | .hbm, ⟨1, _⟩ => ⟨S11264x4096, .bf16⟩
  | .hbm, ⟨2, _⟩ => ⟨S24576x11008, .bf16⟩
  | .hbm, ⟨3, _⟩ => ⟨S24576x11008, .f32⟩
  | .hbm, ⟨4, _⟩ => ⟨S11008x4096, .bf16⟩
  | .hbm, ⟨5, _⟩ => ⟨S11008x4096, .f32⟩
  | .hbm, ⟨6, _⟩ => ⟨S24576x4096, .f32⟩
  | .hbm, ⟨7, _⟩ => ⟨S24576x4096, .bf16⟩
  | _, _ => ⟨S24576x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S24576x4096 : Shape := ⟨2, ![24576, 4096]⟩
abbrev S4096x7168 : Shape := ⟨2, ![4096, 7168]⟩
abbrev S2x4096x4096 : Shape := ⟨3, ![2, 4096, 4096]⟩
abbrev S2x4096x11008 : Shape := ⟨3, ![2, 4096, 11008]⟩
abbrev S24576x7168 : Shape := ⟨2, ![24576, 7168]⟩
abbrev S4096x4096 : Shape := ⟨2, ![4096, 4096]⟩
abbrev S4096x11264 : Shape := ⟨2, ![4096, 11264]⟩
abbrev S1024x4096 : Shape := ⟨2, ![1024, 4096]⟩
abbrev S4096x1024 : Shape := ⟨2, ![4096, 1024]⟩
abbrev S1x32x4096 : Shape := ⟨3, ![1, 32, 4096]⟩
abbrev S1x32x11008 : Shape := ⟨3, ![1, 32, 11008]⟩
abbrev S1024x1024 : Shape := ⟨2, ![1024, 1024]⟩
abbrev S32x4096 : Shape := ⟨2, ![32, 4096]⟩
abbrev S32x11264 : Shape := ⟨2, ![32, 11264]⟩
abbrev S32x11008 : Shape := ⟨2, ![32, 11008]⟩
abbrev S32x256 : Shape := ⟨2, ![32, 256]⟩

abbrev nBuf : Space → Nat
  | .hbm => 9
  | .vmem => 18
  | .smem => 0
  | _ => 0

abbrev bufTy : (tb : Table) → Fin (tcTables nBuf tb) → BufTy
  | .hbm, ⟨0, _⟩ => ⟨S24576x4096, .bf16⟩
  | .hbm, ⟨1, _⟩ => ⟨S4096x7168, .bf16⟩
  | .hbm, ⟨2, _⟩ => ⟨S2x4096x4096, .f32⟩
  | .hbm, ⟨3, _⟩ => ⟨S2x4096x11008, .f32⟩
  | .hbm, ⟨4, _⟩ => ⟨S2x4096x11008, .f32⟩
  | .hbm, ⟨5, _⟩ => ⟨S24576x7168, .bf16⟩
  | .hbm, ⟨6, _⟩ => ⟨S4096x4096, .bf16⟩
  | .hbm, ⟨7, _⟩ => ⟨S4096x11264, .bf16⟩
  | .hbm, ⟨8, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x32x4096, .f32⟩
  | .local _ .vmem, ⟨5, _⟩ => ⟨S1x32x4096, .f32⟩
  | .local _ .vmem, ⟨6, _⟩ => ⟨S1x32x11008, .f32⟩
  | .local _ .vmem, ⟨7, _⟩ => ⟨S1x32x11008, .f32⟩
  | .local _ .vmem, ⟨8, _⟩ => ⟨S1x32x11008, .f32⟩
  | .local _ .vmem, ⟨9, _⟩ => ⟨S1x32x11008, .f32⟩
  | .local _ .vmem, ⟨10, _⟩ => ⟨S1024x1024, .bf16⟩
  | .local _ .vmem, ⟨11, _⟩ => ⟨S1024x1024, .bf16⟩
  | .local _ .vmem, ⟨12, _⟩ => ⟨S32x4096, .bf16⟩
  | .local _ .vmem, ⟨13, _⟩ => ⟨S32x4096, .bf16⟩
  | .local _ .vmem, ⟨14, _⟩ => ⟨S32x11264, .bf16⟩
  | .local _ .vmem, ⟨15, _⟩ => ⟨S32x11264, .bf16⟩
  | .local _ .vmem, ⟨16, _⟩ => ⟨S32x11264, .bf16⟩
  | .local _ .vmem, ⟨17, _⟩ => ⟨S32x11264, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![24, 7], ![false, false]⟩

def k0_cond1 (i : grid0.Coords) : BitVec 1 :=
  let arg0 : BitVec 32 := BitVec.ofNat 32 (i 0).val
  let c7_i32 : BitVec 32 := 7#32
  let v5 : BitVec 32 := Scalar.muli arg0 c7_i32
  let arg1 : BitVec 32 := BitVec.ofNat 32 (i 1).val
  let v6 : BitVec 32 := Scalar.addi v5 arg1
  let c128_i32 : BitVec 32 := 128#32
  let v7 : BitVec 1 := Scalar.cmpi .slt v6 c128_i32
  let v8 : BitVec 32 := Scalar.extui v7
  let c0_i32 : BitVec 32 := 0#32
  let v9 : BitVec 1 := Scalar.cmpi .ne v8 c0_i32
  v9

def k0_cond2 (i : grid0.Coords) : BitVec 1 :=
  let arg0 : BitVec 32 := BitVec.ofNat 32 (i 0).val
  let c7_i32 : BitVec 32 := 7#32
  let v5 : BitVec 32 := Scalar.muli arg0 c7_i32
  let arg1 : BitVec 32 := BitVec.ofNat 32 (i 1).val
  let v6 : BitVec 32 := Scalar.addi v5 arg1
  let c128_i32_5 : BitVec 32 := 128#32
  let v10 : BitVec 1 := Scalar.cmpi .slt v6 c128_i32_5
  let v11 : BitVec 32 := Scalar.extui v10
  let c0_i32_6 : BitVec 32 := 0#32
  let v12 : BitVec 1 := Scalar.cmpi .ne v11 c0_i32_6
  v12

def k0_cond3 (i : grid0.Coords) : BitVec 1 :=
  let arg0 : BitVec 32 := BitVec.ofNat 32 (i 0).val
  let c7_i32 : BitVec 32 := 7#32
  let v5 : BitVec 32 := Scalar.muli arg0 c7_i32
  let arg1 : BitVec 32 := BitVec.ofNat 32 (i 1).val
  let v6 : BitVec 32 := Scalar.addi v5 arg1
  let c128_i32_7 : BitVec 32 := 128#32
  let v13 : BitVec 1 := Scalar.cmpi .slt v6 c128_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x11264 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x11264 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4.lean ====
abbrev S24576x4096 : Shape := ⟨2, ![24576, 4096]⟩
abbrev S4096x7168 : Shape := ⟨2, ![4096, 7168]⟩
abbrev S2x4096x4096 : Shape := ⟨3, ![2, 4096, 4096]⟩
abbrev S2x4096x11008 : Shape := ⟨3, ![2, 4096, 11008]⟩
abbrev S24576x7168 : Shape := ⟨2, ![24576, 7168]⟩
abbrev S1x4096x4096 : Shape := ⟨3, ![1, 4096, 4096]⟩
abbrev S4096x4096 : Shape := ⟨2, ![4096, 4096]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩

abbrev nBuf : Space → Nat
  | .hbm => 24
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x7168, .bf16⟩
  | .hbm, ⟨2, _⟩ => ⟨S2x4096x4096, .f32⟩
  | .hbm, ⟨3, _⟩ => ⟨S2x4096x11008, .f32⟩
  | .hbm, ⟨4, _⟩ => ⟨S2x4096x11008, .f32⟩
  | .hbm, ⟨5, _⟩ => ⟨S24576x4096, .f32⟩
  | .hbm, ⟨6, _⟩ => ⟨S4096x7168, .f32⟩
  | .hbm, ⟨7, _⟩ => ⟨S24576x7168, .f32⟩
  | .hbm, ⟨8, _⟩ => ⟨S24576x7168, .bf16⟩
  | .hbm, ⟨9, _⟩ => ⟨S1x4096x4096, .f32⟩
  | .hbm, ⟨10, _⟩ => ⟨S4096x4096, .f32⟩
  | .hbm, ⟨11, _⟩ => ⟨S4096x4096, .bf16⟩
  | .hbm, ⟨12, _⟩ => ⟨S1x4096x11008, .f32⟩
  | .hbm, ⟨13, _⟩ => ⟨S4096x11008, .f32⟩
  | .hbm, ⟨14, _⟩ => ⟨S4096x11008, .bf16⟩
  | .hbm, ⟨15, _⟩ => ⟨S_, .i32⟩
  | .hbm, ⟨16, _⟩ => ⟨S_, .bf16⟩
  | .hbm, ⟨17, _⟩ => ⟨S4096x11264, .bf16⟩
  | .hbm, ⟨18, _⟩ => ⟨S1x4096x11008, .f32⟩
  | .hbm, ⟨19, _⟩ => ⟨S4096x11008, .f32⟩
  | .hbm, ⟨20, _⟩ => ⟨S4096x11008, .bf16⟩
  | .hbm, ⟨21, _⟩ => ⟨S_, .i32⟩
  | .hbm, ⟨22, _⟩ => ⟨S_, .bf16⟩
  | .hbm, ⟨23, _⟩ => ⟨S4096x11264, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S16384x2048 : Shape := ⟨2, ![16384, 2048]⟩
abbrev S8192x2048 : Shape := ⟨2, ![8192, 2048]⟩
abbrev S24576x2048 : Shape := ⟨2, ![24576, 2048]⟩
abbrev S4096x4096 : Shape := ⟨2, ![4096, 4096]⟩
abbrev S24576x4096 : Shape := ⟨2, ![24576, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S8192x2048, .bf16⟩
  | .hbm, ⟨2, _⟩ => ⟨S24576x2048, .bf16⟩
  | .hbm, ⟨3, _⟩ => ⟨S4096x4096, .bf16⟩
  | .hbm, ⟨4, _⟩ => ⟨S24576x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let c24_i32 : BitVec 32 := 24#32
  let v6 : BitVec 1 := Scalar.cmpi .slt arg0 c24_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5.lean ====
abbrev S16384x2048 : Shape := ⟨2, ![16384, 2048]⟩
abbrev S8192x2048 : Shape := ⟨2, ![8192, 2048]⟩
abbrev S24576x2048 : Shape := ⟨2, ![24576, 2048]⟩
abbrev S4096x4096 : Shape := ⟨2, ![4096, 4096]⟩
abbrev S24576x4096 : Shape := ⟨2, ![24576, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8192x2048, .bf16⟩
  | .hbm, ⟨2, _⟩ => ⟨S24576x2048, .bf16⟩
  | .hbm, ⟨3, _⟩ => ⟨S4096x4096, .bf16⟩
  | .hbm, ⟨4, _⟩ => ⟨S24576x2048, .bf16⟩
  | .hbm, ⟨5, _⟩ => ⟨S24576x4096, .bf16⟩
  | .hbm, ⟨6, _⟩ => ⟨S24576x4096, .f32⟩
  | .hbm, ⟨7, _⟩ => ⟨S4096x4096, .f32⟩
  | .hbm, ⟨8, _⟩ => ⟨S24576x4096, .f32⟩
  | .hbm, ⟨9, _⟩ => ⟨S24576x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S16384x4096 : Shape := ⟨2, ![16384, 4096]⟩
abbrev S8192x4096 : Shape := ⟨2, ![8192, 4096]⟩
abbrev S4096 : Shape := ⟨1, ![4096]⟩
abbrev S1x4096 : Shape := ⟨2, ![1, 4096]⟩
abbrev S24576x4096 : Shape := ⟨2, ![24576, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c63_i32 : BitVec 32 := 63#32
  let v2 : BitVec 32 := Scalar.maxsi c0_i32_1 v1
  let v3 : BitVec 32 := Scalar.minsi c63_i32 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c64_i32 : BitVec 32 := 64#32
  let v1 : BitVec 32 := Scalar.subi v0 c64_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6.lean ====
abbrev S16384x4096 : Shape := ⟨2, ![16384, 4096]⟩
abbrev S8192x4096 : Shape := ⟨2, ![8192, 4096]⟩
abbrev S4096 : Shape := ⟨1, ![4096]⟩
abbrev S24576x4096 : Shape := ⟨2, ![24576, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S4096, .f32⟩
  | .hbm, ⟨3, _⟩ => ⟨S24576x4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S24576x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S24576x4096 : Shape := ⟨2, ![24576, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S24576x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S24576x4096, .f32⟩
  | .hbm, ⟨7, _⟩ => ⟨S24576x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x4096, .f32⟩
  | .hbm, ⟨2, _⟩ => ⟨S4096, .f32⟩
  | .hbm, ⟨3, _⟩ => ⟨S4096, .f32⟩
  | .hbm, ⟨4, _⟩ => ⟨S24576x4096, .f32⟩
  | .hbm, ⟨5, _⟩ => ⟨S24576x4096, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x4096, .f32⟩
  | .hbm, ⟨17, _⟩ => ⟨S24576x4096, .f32⟩
  | .hbm, ⟨18, _⟩ => ⟨S1x4096, .f32⟩
  | .hbm, ⟨19, _⟩ => ⟨S24576x4096, .f32⟩
  | .hbm, ⟨20, _⟩ => ⟨S24576x4096, .f32⟩
  | .hbm, ⟨21, _⟩ => ⟨S24576x4096, .f32⟩
  | .hbm, ⟨22, _⟩ => ⟨S24576x4096, .f32⟩
  | .hbm, ⟨23, _⟩ => ⟨S_, .f32⟩
  | .hbm, ⟨24, _⟩ => ⟨S24576, .f32⟩
  | .hbm, ⟨25, _⟩ => ⟨S24576x1, .f32⟩
  | .hbm, ⟨26, _⟩ => ⟨S_, .f32⟩
  | .hbm, ⟨27, _⟩ => ⟨S24576x1, .f32⟩
  | .hbm, ⟨28, _⟩ => ⟨S24576x1, .f32⟩
  | .hbm, ⟨29, _⟩ => ⟨S_, .f32⟩
  | .hbm, ⟨30, _⟩ => ⟨S24576x1, .f32⟩
  | .hbm, ⟨31, _⟩ => ⟨S24576x1, .f32⟩
  | .hbm, ⟨32, _⟩ => ⟨S24576x1, .f32⟩
  | .hbm, ⟨33, _⟩ => ⟨S24576x4096, .f32⟩
  | .hbm, ⟨34, _⟩ => ⟨S24576x4096, .f32⟩
  | .hbm, ⟨35, _⟩ => ⟨S1x4096, .f32⟩
  | .hbm, ⟨36, _⟩ => ⟨S24576x4096, .f32⟩
  | .hbm, ⟨37, _⟩ => ⟨S24576x4096, .f32⟩
  | .hbm, ⟨38, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel8.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S24576x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x4096, .f32⟩
  | .hbm, ⟨2, _⟩ => ⟨S4096, .f32⟩
  | .hbm, ⟨3, _⟩ => ⟨S24576x4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S24576x4096, .f32⟩
  | .hbm, ⟨21, _⟩ => ⟨S16384x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S24576x4096 : Shape := ⟨2, ![24576, 4096]⟩
abbrev S4096x11264 : Shape := ⟨2, ![4096, 11264]⟩
abbrev S2x11008x4096 : Shape := ⟨3, ![2, 11008, 4096]⟩
abbrev S2x4096x7168 : Shape := ⟨3, ![2, 4096, 7168]⟩
abbrev S24576x11264 : Shape := ⟨2, ![24576, 11264]⟩
abbrev S11264x4096 : Shape := ⟨2, ![11264, 4096]⟩
abbrev S4096x7168 : Shape := ⟨2, ![4096, 7168]⟩
abbrev S1024x4096 : Shape := ⟨2, ![1024, 4096]⟩
abbrev S4096x512 : Shape := ⟨2, ![4096, 512]⟩
abbrev S1x32x4096 : Shape := ⟨3, ![1, 32, 4096]⟩
abbrev S1x32x7168 : Shape := ⟨3, ![1, 32, 7168]⟩
abbrev S1024x512 : Shape := ⟨2, ![1024, 512]⟩
abbrev S32x4096 : Shape := ⟨2, ![32, 4096]⟩
abbrev S32x7168 : Shape := ⟨2, ![32, 7168]⟩
abbrev S4096x256 : Shape := ⟨2, ![4096, 256]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S2x4096x7168, .f32⟩
  | .hbm, ⟨5, _⟩ => ⟨S24576x11264, .bf16⟩
  | .hbm, ⟨6, _⟩ => ⟨S11264x4096, .bf16⟩
  | .hbm, ⟨7, _⟩ => ⟨S4096x7168, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x32x4096, .f32⟩
  | .local _ .vmem, ⟨7, _⟩ => ⟨S1x32x4096, .f32⟩
  | .local _ .vmem, ⟨8, _⟩ => ⟨S1x32x7168, .f32⟩
  | .local _ .vmem, ⟨9, _⟩ => ⟨S1x32x7168, .f32⟩
  | .local _ .vmem, ⟨10, _⟩ => ⟨S1024x512, .bf16⟩
  | .local _ .vmem, ⟨11, _⟩ => ⟨S1024x512, .bf16⟩
  | .local _ .vmem, ⟨12, _⟩ => ⟨S32x4096, .bf16⟩
  | .local _ .vmem, ⟨13, _⟩ => ⟨S32x4096, .bf16⟩
  | .local _ .vmem, ⟨14, _⟩ => ⟨S32x7168, .bf16⟩
  | .local _ .vmem, ⟨15, _⟩ => ⟨S32x7168, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 22], ![false, false]⟩

def k0_cond1 (i : grid0.Coords) : BitVec 1 :=
  let arg1 : BitVec 32 := BitVec.ofNat 32 (i 1).val
  let c21_i32 : BitVec 32 := 21#32
  let v0 : BitVec 1 := Scalar.cmpi .slt arg1 c21_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c21_i32_0 : BitVec 32 := 21#32
  let v3 : BitVec 1 := Scalar.cmpi .eq arg1 c21_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c22_i32 : BitVec 32 := 22#32
  let v6 : BitVec 32 := Scalar.muli arg0 c22_i32
  let arg1 : BitVec 32 := BitVec.ofNat 32 (i 1).val
  let v7 : BitVec 32 := Scalar.addi v6 arg1
  let c344_i32 : BitVec 32 := 344#32
  let v8 : BitVec 1 := Scalar.cmpi .slt v7 c344_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg0 : BitVec 32 := BitVec.ofNat 32 (i 0).val
  let c22_i32 : BitVec 32 := 22#32
  let v6 : BitVec 32 := Scalar.muli arg0 c22_i32
  let arg1 : BitVec 32 := BitVec.ofNat 32 (i 1).val
  let v7 : BitVec 32 := Scalar.addi v6 arg1
  let c344_i32_3 : BitVec 32 := 344#32
  let v11 : BitVec 1 := Scalar.cmpi .sge v7 c344_i32_3
  let c352_i32 : BitVec 32 := 352#32
  let v12 : BitVec 1 := Scalar.cmpi .slt v7 c352_i32
  let v13 : BitVec 1 := Scalar.andi v11 v12
  let v14 : BitVec 32 := Scalar.extui v13
  let c0_i32_4 : BitVec 32 := 0#32
  let v15 : BitVec 1 := Scalar.cmpi .ne v14 c0_i32_4
  v15

def k0_cond5 (i : grid0.Coords) : BitVec 1 :=
  let arg0 : BitVec 32 := BitVec.ofNat 32 (i 0).val
  let c22_i32 : BitVec 32 := 22#32
  let v6 : BitVec 32 := Scalar.muli arg0 c22_i32
  let arg1 : BitVec 32 := BitVec.ofNat 32 (i 1).val
  let v7 : BitVec 32 := Scalar.addi v6 arg1
  let c128_i32 : BitVec 32 := 128#32
  let v16 : BitVec 1 := Scalar.cmpi .slt v7 c128_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c351_i32 : BitVec 32 := 351#32
  let v2 : BitVec 32 := Scalar.minsi v1 c351_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9.lean ====
abbrev S24576x4096 : Shape := ⟨2, ![24576, 4096]⟩
abbrev S4096x11264 : Shape := ⟨2, ![4096, 11264]⟩
abbrev S2x11008x4096 : Shape := ⟨3, ![2, 11008, 4096]⟩
abbrev S2x4096x7168 : Shape := ⟨3, ![2, 4096, 7168]⟩
abbrev S4096x11008 : Shape := ⟨2, ![4096, 11008]⟩
abbrev S24576x11008 : Shape := ⟨2, ![24576, 11008]⟩
abbrev S_ : Shape := ⟨0, ![]⟩
abbrev S24576x11264 : Shape := ⟨2, ![24576, 11264]⟩
abbrev S1x11008x4096 : Shape := ⟨3, ![1, 11008, 4096]⟩
abbrev S11008x4096 : Shape := ⟨2, ![11008, 4096]⟩
abbrev S11264x4096 : Shape := ⟨2, ![11264, 4096]⟩
abbrev S1x4096x7168 : Shape := ⟨3, ![1, 4096, 7168]⟩
abbrev S4096x7168 : Shape := ⟨2, ![4096, 7168]⟩

abbrev nBuf : Space → Nat
  | .hbm => 36
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S2x4096x7168, .f32⟩
  | .hbm, ⟨5, _⟩ => ⟨S24576x4096, .f32⟩
  | .hbm, ⟨6, _⟩ => ⟨S4096x11008, .bf16⟩
  | .hbm, ⟨7, _⟩ => ⟨S4096x11008, .f32⟩
  | .hbm, ⟨8, _⟩ => ⟨S24576x11008, .f32⟩
  | .hbm, ⟨9, _⟩ => ⟨S24576x4096, .f32⟩
  | .hbm, ⟨10, _⟩ => ⟨S4096x11008, .bf16⟩
  | .hbm, ⟨11, _⟩ => ⟨S4096x11008, .f32⟩
  | .hbm, ⟨12, _⟩ => ⟨S24576x11008, .f32⟩
  | .hbm, ⟨13, _⟩ => ⟨S24576x11008, .f32⟩
  | .hbm, ⟨14, _⟩ => ⟨S24576x11008, .f32⟩
  | .hbm, ⟨15, _⟩ => ⟨S_, .f32⟩
  | .hbm, ⟨16, _⟩ => ⟨S24576x11008, .f32⟩
  | .hbm, ⟨17, _⟩ => ⟨S24576x11008, .f32⟩
  | .hbm, ⟨18, _⟩ => ⟨S_, .f32⟩
  | .hbm, ⟨19, _⟩ => ⟨S24576x11008, .f32⟩
  | .hbm, ⟨20, _⟩ => ⟨S24576x11008, .f32⟩
  | .hbm, ⟨21, _⟩ => ⟨S24576x11008, .f32⟩
  | .hbm, ⟨22, _⟩ => ⟨S24576x11008, .f32⟩
  | .hbm, ⟨23, _⟩ => ⟨S24576x11008, .bf16⟩
  | .hbm, ⟨24, _⟩ => ⟨S_, .i32⟩
  | .hbm, ⟨25, _⟩ => ⟨S_, .bf16⟩
  | .hbm, ⟨26, _⟩ => ⟨S24576x11264, .bf16⟩
  | .hbm, ⟨27, _⟩ => ⟨S1x11008x4096, .f32⟩
  | .hbm, ⟨28, _⟩ => ⟨S11008x4096, .f32⟩
  | .hbm, ⟨29, _⟩ => ⟨S11008x4096, .bf16⟩
  | .hbm, ⟨30, _⟩ => ⟨S_, .i32⟩
  | .hbm, ⟨31, _⟩ => ⟨S_, .bf16⟩
  | .hbm, ⟨32, _⟩ => ⟨S11264x4096, .bf16⟩
  | .hbm, ⟨33, _⟩ => ⟨S1x4096x7168, .f32⟩
  | .hbm, ⟨34, _⟩ => ⟨S4096x7168, .f32⟩
  | .hbm, ⟨35, _⟩ => ⟨S4096x7168, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_call2_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel10.lean ====
abbrev S24576x4096 : Shape := ⟨2, ![24576, 4096]⟩
abbrev S16384x4096 : Shape := ⟨2, ![16384, 4096]⟩
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S24576x4096, .f32⟩
  | .hbm, ⟨8, _⟩ => ⟨S24576x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.subi v0 c0_i32_0
  let c0_i32_1 : BitVec 32 := 0#32
  let c63_i32 : BitVec 32 := 63#32
  let v2 : BitVec 32 := Scalar.maxsi c0_i32_1 v1
  let v3 : BitVec 32 := Scalar.minsi c63_i32 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c64_i32 : BitVec 32 := 64#32
  let v1 : BitVec 32 := Scalar.subi v0 c64_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10.lean ====
abbrev S24576x4096 : Shape := ⟨2, ![24576, 4096]⟩
abbrev S16384x4096 : Shape := ⟨2, ![16384, 4096]⟩
abbrev S8192x4096 : Shape := ⟨2, ![8192, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S24576x4096, .f32⟩
  | .hbm, ⟨6, _⟩ => ⟨S24576x4096, .f32⟩
  | .hbm, ⟨7, _⟩ => ⟨S24576x4096, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x4096, .f32⟩
  | .hbm, ⟨19, _⟩ => ⟨S24576x4096, .f32⟩
  | .hbm, ⟨20, _⟩ => ⟨S1x4096, .f32⟩
  | .hbm, ⟨21, _⟩ => ⟨S24576x4096, .f32⟩
  | .hbm, ⟨22, _⟩ => ⟨S24576x4096, .f32⟩
  | .hbm, ⟨23, _⟩ => ⟨S24576x4096, .f32⟩
  | .hbm, ⟨24, _⟩ => ⟨S24576x4096, .f32⟩
  | .hbm, ⟨25, _⟩ => ⟨S_, .f32⟩
  | .hbm, ⟨26, _⟩ => ⟨S24576, .f32⟩
  | .hbm, ⟨27, _⟩ => ⟨S24576x1, .f32⟩
  | .hbm, ⟨28, _⟩ => ⟨S_, .f32⟩
  | .hbm, ⟨29, _⟩ => ⟨S24576x1, .f32⟩
  | .hbm, ⟨30, _⟩ => ⟨S24576x1, .f32⟩
  | .hbm, ⟨31, _⟩ => ⟨S_, .f32⟩
  | .hbm, ⟨32, _⟩ => ⟨S24576x1, .f32⟩
  | .hbm, ⟨33, _⟩ => ⟨S24576x1, .f32⟩
  | .hbm, ⟨34, _⟩ => ⟨S24576x1, .f32⟩
  | .hbm, ⟨35, _⟩ => ⟨S24576x4096, .f32⟩
  | .hbm, ⟨36, _⟩ => ⟨S24576x4096, .f32⟩
  | .hbm, ⟨37, _⟩ => ⟨S1x4096, .f32⟩
  | .hbm, ⟨38, _⟩ => ⟨S24576x4096, .f32⟩
  | .hbm, ⟨39, _⟩ => ⟨S24576x4096, .f32⟩
  | .hbm, ⟨40, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel11.lean ====
abbrev S2x4096x7168 : Shape := ⟨3, ![2, 4096, 7168]⟩
abbrev S4096x7168 : Shape := ⟨2, ![4096, 7168]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x7168, .f32⟩
  | .hbm, ⟨1, _⟩ => ⟨S4096x7168, .bf16⟩
  | .local _ .vmem, ⟨0, _⟩ => ⟨S1x512x1024, .f32⟩
  | .local _ .vmem, ⟨1, _⟩ => ⟨S1x512x1024, .f32⟩
  | .local _ .vmem, ⟨2, _⟩ => ⟨S512x1024, .bf16⟩
  | .local _ .vmem, ⟨3, _⟩ => ⟨S512x1024, .bf16⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference11.lean ====
abbrev S2x4096x7168 : Shape := ⟨3, ![2, 4096, 7168]⟩
abbrev S1x4096x7168 : Shape := ⟨3, ![1, 4096, 7168]⟩
abbrev S4096x7168 : Shape := ⟨2, ![4096, 7168]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S1x4096x7168, .f32⟩
  | .hbm, ⟨2, _⟩ => ⟨S4096x7168, .f32⟩
  | .hbm, ⟨3, _⟩ => ⟨S4096x7168, .bf16⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel12.lean ====
abbrev S24576x7168 : Shape := ⟨2, ![24576, 7168]⟩
abbrev S16384x32 : Shape := ⟨2, ![16384, 32]⟩
abbrev S128 : Shape := ⟨1, ![128]⟩
abbrev S256x256 : Shape := ⟨2, ![256, 256]⟩
abbrev S16384x128 : Shape := ⟨2, ![16384, 128]⟩
abbrev S1x128 : Shape := ⟨2, ![1, 128]⟩
abbrev S24576x2048 : Shape := ⟨2, ![24576, 2048]⟩
abbrev S24576x512 : Shape := ⟨2, ![24576, 512]⟩
abbrev S4x24x144x1024 : Shape := ⟨4, ![4, 24, 144, 1024]⟩
abbrev S512x2048 : Shape := ⟨2, ![512, 2048]⟩
abbrev S512x512 : Shape := ⟨2, ![512, 512]⟩
abbrev S512x128 : Shape := ⟨2, ![512, 128]⟩
abbrev S4x1x144x512 : Shape := ⟨4, ![4, 1, 144, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩

abbrev nBuf : Space → Nat
  | .hbm => 23
  | .vmem => 19
  | .smem => 0
  | _ => 0

abbrev bufTy : (tb : Table) → Fin (tcTables nBuf tb) → BufTy
  | .hbm, ⟨0, _⟩ => ⟨S24576x7168, .bf16⟩
  | .hbm, ⟨1, _⟩ => ⟨S16384x32, .f32⟩
  | .hbm, ⟨2, _⟩ => ⟨S16384x32, .f32⟩
  | .hbm, ⟨3, _⟩ => ⟨S128, .f32⟩
  | .hbm, ⟨4, _⟩ => ⟨S128, .f32⟩
  | .hbm, ⟨5, _⟩ => ⟨S256x256, .bf16⟩
  | .hbm, ⟨6, _⟩ => ⟨S16384x32, .f32⟩
  | .hbm, ⟨7, _⟩ => ⟨S16384x32, .f32⟩
  | .hbm, ⟨8, _⟩ => ⟨S16384x32, .f32⟩
  | .hbm, ⟨9, _⟩ => ⟨S16384x32, .f32⟩
  | .hbm, ⟨10, _⟩ => ⟨S16384x128, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x128, .f32⟩
  | .hbm, ⟨18, _⟩ => ⟨S1x128, .f32⟩
  | .hbm, ⟨19, _⟩ => ⟨S1x128, .f32⟩
  | .hbm, ⟨20, _⟩ => ⟨S24576x2048, .bf16⟩
  | .hbm, ⟨21, _⟩ => ⟨S24576x512, .bf16⟩
  | .hbm, ⟨22, _⟩ => ⟨S4x24x144x1024, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S256x256, .bf16⟩
  | .local _ .vmem, ⟨13, _⟩ => ⟨S512x2048, .bf16⟩
  | .local _ .vmem, ⟨14, _⟩ => ⟨S512x2048, .bf16⟩
  | .local _ .vmem, ⟨15, _⟩ => ⟨S512x512, .bf16⟩
  | .local _ .vmem, ⟨16, _⟩ => ⟨S512x512, .bf16⟩
  | .local _ .vmem, ⟨17, _⟩ => ⟨S4x1x144x512, .bf16⟩
  | .local _ .vmem, ⟨18, _⟩ => ⟨S4x1x144x512, .bf16⟩
  | _, _ => ⟨S24576x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 1 := Scalar.cmpi .sge v0 c0_i32
  let c0_i32_0 : BitVec 32 := 0#32
  let v2 : BitVec 32 := Scalar.subi arg0 c0_i32_0
  let v3 : BitVec 32 := Scalar.select v1 v2 arg0
  let c512_i32_1 : BitVec 32 := 512#32
  let v4 : BitVec 32 := Scalar.muli arg0 c512_i32_1
  let c16384_i32 : BitVec 32 := 16384#32
  let v5 : BitVec 1 := Scalar.cmpi .sge v4 c16384_i32
  let c32_i32 : BitVec 32 := 32#32
  let v6 : BitVec 32 := Scalar.subi arg0 c32_i32
  let v7 : BitVec 32 := Scalar.select v5 v6 v3
  let c512_i32_2 : BitVec 32 := 512#32
  let v8 : BitVec 32 := Scalar.muli arg0 c512_i32_2
  let c20480_i32 : BitVec 32 := 20480#32
  let v9 : BitVec 1 := Scalar.cmpi .sge v8 c20480_i32
  let c40_i32 : BitVec 32 := 40#32
  let v10 : BitVec 32 := Scalar.subi arg0 c40_i32
  let v11 : BitVec 32 := Scalar.select v9 v10 v7
  let c0_i32_3 : BitVec 32 := 0#32
  let c0_i32_4 : BitVec 32 := 0#32
  ![v11.toNat, c0_i32_3.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 1 := Scalar.cmpi .sge v0 c0_i32
  let c0_i32_0 : BitVec 32 := 0#32
  let v2 : BitVec 32 := Scalar.subi arg0 c0_i32_0
  let v3 : BitVec 32 := Scalar.select v1 v2 arg0
  let c512_i32_1 : BitVec 32 := 512#32
  let v4 : BitVec 32 := Scalar.muli arg0 c512_i32_1
  let c16384_i32 : BitVec 32 := 16384#32
  let v5 : BitVec 1 := Scalar.cmpi .sge v4 c16384_i32
  let c32_i32 : BitVec 32 := 32#32
  let v6 : BitVec 32 := Scalar.subi arg0 c32_i32
  let v7 : BitVec 32 := Scalar.select v5 v6 v3
  let c512_i32_2 : BitVec 32 := 512#32
  let v8 : BitVec 32 := Scalar.muli arg0 c512_i32_2
  let c20480_i32 : BitVec 32 := 20480#32
  let v9 : BitVec 1 := Scalar.cmpi .sge v8 c20480_i32
  let c40_i32 : BitVec 32 := 40#32
  let v10 : BitVec 32 := Scalar.subi arg0 c40_i32
  let v11 : BitVec 32 := Scalar.select v9 v10 v7
  let c0_i32_3 : BitVec 32 := 0#32
  let c0_i32_4 : BitVec 32 := 0#32
  ![v11.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x144x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12.lean ====
abbrev S24576x7168 : Shape := ⟨2, ![24576, 7168]⟩
abbrev S16384x32 : Shape := ⟨2, ![16384, 32]⟩
abbrev S128 : Shape := ⟨1, ![128]⟩
abbrev S24576x2048 : Shape := ⟨2, ![24576, 2048]⟩
abbrev S24576x16x128 : Shape := ⟨3, ![24576, 16, 128]⟩
abbrev S_ : Shape := ⟨0, ![]⟩
abbrev S24576x16 : Shape := ⟨2, ![24576, 16]⟩
abbrev S24576x16x1 : Shape := ⟨3, ![24576, 16, 1]⟩
abbrev S1x1x128 : Shape := ⟨3, ![1, 1, 128]⟩
abbrev S24576x512 : Shape := ⟨2, ![24576, 512]⟩
abbrev S24576x4x128 : Shape := ⟨3, ![24576, 4, 128]⟩
abbrev S24576x4 : Shape := ⟨2, ![24576, 4]⟩
abbrev S24576x4x1 : Shape := ⟨3, ![24576, 4, 1]⟩
abbrev S4096x32 : Shape := ⟨2, ![4096, 32]⟩
abbrev S24576x32 : Shape := ⟨2, ![24576, 32]⟩
abbrev S24576x16x64 : Shape := ⟨3, ![24576, 16, 64]⟩
abbrev S24576x1x32 : Shape := ⟨3, ![24576, 1, 32]⟩
abbrev S24576x16x32 : Shape := ⟨3, ![24576, 16, 32]⟩
abbrev S24576x4x64 : Shape := ⟨3, ![24576, 4, 64]⟩
abbrev S24576x4x32 : Shape := ⟨3, ![24576, 4, 32]⟩
abbrev S24x1024x4x128 : Shape := ⟨4, ![24, 1024, 4, 128]⟩
abbrev S4x24x128x1024 : Shape := ⟨4, ![4, 24, 128, 1024]⟩
abbrev S4x24x16x1024 : Shape := ⟨4, ![4, 24, 16, 1024]⟩
abbrev S4x24x144x1024 : Shape := ⟨4, ![4, 24, 144, 1024]⟩

abbrev nBuf : Space → Nat
  | .hbm => 135
  | .vmem => 0
  | .smem => 0
  | _ => 0

abbrev hbmTy0_0 (i : Nat) : BufTy := match i % 128 with
  | 0 => ⟨S24576x7168, .bf16⟩
  | 1 => ⟨S16384x32, .f32⟩
  | 2 => ⟨S16384x32, .f32⟩
  | 3 => ⟨S128, .f32⟩
  | 4 => ⟨S128, .f32⟩
  | 5 => ⟨S24576x7168, .f32⟩
  | 6 => ⟨S24576x2048, .f32⟩
  | 7 => ⟨S24576x16x128, .f32⟩
  | 8 => ⟨S24576x16x128, .f32⟩
  | 9 => ⟨S_, .f32⟩
  | 10 => ⟨S24576x16, .f32⟩
  | 11 => ⟨S24576x16x1, .f32⟩
  | 12 => ⟨S_, .f32⟩
  | 13 => ⟨S24576x16x1, .f32⟩
  | 14 => ⟨S24576x16x1, .f32⟩
  | 15 => ⟨S_, .f32⟩
  | 16 => ⟨S24576x16x1, .f32⟩
  | 17 => ⟨S24576x16x1, .f32⟩
  | 18 => ⟨S24576x16x1, .f32⟩
  | 19 => ⟨S24576x16x128, .f32⟩
  | 20 => ⟨S24576x16x128, .f32⟩
  | 21 => ⟨S1x1x128, .f32⟩
  | 22 => ⟨S24576x16x128, .f32⟩
  | 23 => ⟨S24576x16x128, .f32⟩
  | 24 => ⟨S24576x512, .f32⟩
  | 25 => ⟨S24576x4x128, .f32⟩
  | 26 => ⟨S24576x4x128, .f32⟩
  | 27 => ⟨S_, .f32⟩
  | 28 => ⟨S24576x4, .f32⟩
  | 29 => ⟨S24576x4x1, .f32⟩
  | 30 => ⟨S_, .f32⟩
  | 31 => ⟨S24576x4x1, .f32⟩
  | 32 => ⟨S24576x4x1, .f32⟩
  | 33 => ⟨S_, .f32⟩
  | 34 => ⟨S24576x4x1, .f32⟩
  | 35 => ⟨S24576x4x1, .f32⟩
  | 36 => ⟨S24576x4x1, .f32⟩
  | 37 => ⟨S24576x4x128, .f32⟩
  | 38 => ⟨S24576x4x128, .f32⟩
  | 39 => ⟨S1x1x128, .f32⟩
  | 40 => ⟨S24576x4x128, .f32⟩
  | 41 => ⟨S24576x4x128, .f32⟩
  | 42 => ⟨S24576x512, .bf16⟩
  | 43 => ⟨S4096x32, .f32⟩
  | 44 => ⟨S4096x32, .f32⟩
  | 45 => ⟨S24576x32, .f32⟩
  | 46 => ⟨S4096x32, .f32⟩
  | 47 => ⟨S4096x32, .f32⟩
  | 48 => ⟨S24576x32, .f32⟩
  | 49 => ⟨S24576x16x64, .f32⟩
  | 50 => ⟨S24576x32, .f32⟩
  | 51 => ⟨S24576x1x32, .f32⟩
  | 52 => ⟨S24576x32, .f32⟩
  | 53 => ⟨S24576x1x32, .f32⟩
  | 54 => ⟨S24576x16x32, .f32⟩
  | 55 => ⟨S24576x16x32, .f32⟩
  | 56 => ⟨S24576x16x32, .f32⟩
  | 57 => ⟨S24576x16x32, .f32⟩
  | 58 => ⟨S24576x16x32, .f32⟩
  | 59 => ⟨S24576x16x32, .f32⟩
  | 60 => ⟨S24576x16x32, .f32⟩
  | 61 => ⟨S24576x16x32, .f32⟩
  | 62 => ⟨S24576x16x32, .f32⟩
  | 63 => ⟨S24576x16x32, .f32⟩
  | 64 => ⟨S24576x16x32, .f32⟩
  | 65 => ⟨S24576x16x32, .f32⟩
  | 66 => ⟨S24576x16x64, .f32⟩
  | 67 => ⟨S24576x16x64, .f32⟩
  | 68 => ⟨S24576x32, .f32⟩
  | 69 => ⟨S24576x1x32, .f32⟩
  | 70 => ⟨S24576x32, .f32⟩
  | 71 => ⟨S24576x1x32, .f32⟩
  | 72 => ⟨S24576x16x32, .f32⟩
  | 73 => ⟨S24576x16x32, .f32⟩
  | 74 => ⟨S24576x16x32, .f32⟩
  | 75 => ⟨S24576x16x32, .f32⟩
  | 76 => ⟨S24576x16x32, .f32⟩
  | 77 => ⟨S24576x16x32, .f32⟩
  | 78 => ⟨S24576x16x32, .f32⟩
  | 79 => ⟨S24576x16x32, .f32⟩
  | 80 => ⟨S24576x16x32, .f32⟩
  | 81 => ⟨S24576x16x32, .f32⟩
  | 82 => ⟨S24576x16x32, .f32⟩
  | 83 => ⟨S24576x16x32, .f32⟩
  | 84 => ⟨S24576x16x64, .f32⟩
  | 85 => ⟨S24576x16x128, .f32⟩
  | 86 => ⟨S24576x2048, .f32⟩
  | 87 => ⟨S_, .f32⟩
  | 88 => ⟨S24576x2048, .f32⟩
  | 89 => ⟨S24576x2048, .f32⟩
  | 90 => ⟨S24576x4x64, .f32⟩
  | 91 => ⟨S24576x32, .f32⟩
  | 92 => ⟨S24576x1x32, .f32⟩
  | 93 => ⟨S24576x32, .f32⟩
  | 94 => ⟨S24576x1x32, .f32⟩
  | 95 => ⟨S24576x4x32, .f32⟩
  | 96 => ⟨S24576x4x32, .f32⟩
  | 97 => ⟨S24576x4x32, .f32⟩
  | 98 => ⟨S24576x4x32, .f32⟩
  | 99 => ⟨S24576x4x32, .f32⟩
  | 100 => ⟨S24576x4x32, .f32⟩
  | 101 => ⟨S24576x4x32, .f32⟩
  | 102 => ⟨S24576x4x32, .f32⟩
  | 103 => ⟨S24576x4x32, .f32⟩
  | 104 => ⟨S24576x4x32, .f32⟩
  | 105 => ⟨S24576x4x32, .f32⟩
  | 106 => ⟨S24576x4x32, .f32⟩
  | 107 => ⟨S24576x4x64, .f32⟩
  | 108 => ⟨S24576x4x64, .f32⟩
  | 109 => ⟨S24576x32, .f32⟩
  | 110 => ⟨S24576x1x32, .f32⟩
  | 111 => ⟨S24576x32, .f32⟩
  | 112 => ⟨S24576x1x32, .f32⟩
  | 113 => ⟨S24576x4x32, .f32⟩
  | 114 => ⟨S24576x4x32, .f32⟩
  | 115 => ⟨S24576x4x32, .f32⟩
  | 116 => ⟨S24576x4x32, .f32⟩
  | 117 => ⟨S24576x4x32, .f32⟩
  | 118 => ⟨S24576x4x32, .f32⟩
  | 119 => ⟨S24576x4x32, .f32⟩
  | 120 => ⟨S24576x4x32, .f32⟩
  | 121 => ⟨S24576x4x32, .f32⟩
  | 122 => ⟨S24576x4x32, .f32⟩
  | 123 => ⟨S24576x4x32, .f32⟩
  | 124 => ⟨S24576x4x32, .f32⟩
  | 125 => ⟨S24576x4x64, .f32⟩
  | 126 => ⟨S24576x4x128, .f32⟩
  | 127 => ⟨S24576x512, .f32⟩
  | _ => ⟨S24576x7168, .bf16⟩

abbrev hbmTy0_1 (i : Nat) : BufTy := match i % 128 with
  | 0 => ⟨S24x1024x4x128, .bf16⟩
  | 1 => ⟨S4x24x128x1024, .bf16⟩
  | 2 => ⟨S_, .bf16⟩
  | 3 => ⟨S4x24x16x1024, .bf16⟩
  | 4 => ⟨S24576x2048, .bf16⟩
  | 5 => ⟨S24576x512, .bf16⟩
  | 6 => ⟨S4x24x144x1024, .bf16⟩
  | _ => ⟨S24576x7168, .bf16⟩

abbrev hbmTy (i : Nat) : BufTy := match i / 128 with
  | 0 => hbmTy0_0 i
  | 1 => hbmTy0_1 i
  | _ => ⟨S24576x7168, .bf16⟩

abbrev bufTy : (tb : Table) → Fin (tcTables nBuf tb) → BufTy
  | .hbm, ⟨i, _⟩ => hbmTy i
  | _, _ => ⟨S24576x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_cst_5 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_cst_6 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩

abbrev nD : Nat := 1
abbrev τ : Topo := Topo.v7x

variable {F : FTy → Type} [FloatOps F]
-- ==== Proof.BitsRun.lean ====
/-
  The attention kernel's body, run once at symbolic buffers. The counted loop goes by its generated
  invariant. From it the frame of the program as printed, the output left unnamed.
-/
module

public import proofs.«01_k».proof.Proof.Gen.Kernel.Loops
public import proofs.«01_k».proof.Proof.Gen.Kernel.Frame
public import Idealize.ShloMosaic.Lib.Exec
public import Idealize.ShloMosaic.Lib.Tactic

@[expose] public section

set_option maxRecDepth 16384

noncomputable section

namespace Cert.Proof.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held at contents `f`. -/
abbrev held (c : Dev nD) {sp : Space} {S : Shape} {e : EltTy} (M : Memref sig .tc sp S e) (f : M.view.ty.Contents (Elt F)) : sProp 𝕄 :=
  M.view.loc (c : Thread nD τ) ↦[M.view.set]{fullShare} f

set_option maxHeartbeats 4000000 in
/-- The body from its input blocks, its output block and its scratch buffers at any contents: it returns with the
    inputs as they were. Nothing is said of what it leaves elsewhere. -/
theorem body_runs (c : Dev nD) (i : grid0.Coords) (arg3 : Memref sig .tc .vmem S512x512 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S2x1024x512 .f32) (harg9 : arg9.IsWhole) (arg10 : Memref sig .tc .vmem S2x1x512 .f32) (harg10 : arg10.IsWhole)
    (X3 : arg3.view.ty.Contents (Elt F)) (X4 : arg4.view.ty.Contents (Elt F)) (X5 : arg5.view.ty.Contents (Elt F))
    (f7 : arg7.view.ty.Contents (Elt F)) (f8 : arg8.view.ty.Contents (Elt F)) (f9 : arg9.view.ty.Contents (Elt F)) (f10 : arg10.view.ty.Contents (Elt F))
    (f6 : arg6.view.ty.Contents (Elt F)) (Q : PUnit → sProp 𝕄) :
    iprop(held c arg3 X3 ∗ held c arg4 X4 ∗ held c arg5 X5 ∗ held c arg6 f6 ∗ held c arg7 f7 ∗ held c arg8 f8 ∗ held c arg9 f9 ∗ held c arg10 f10
      ∗ (iprop(held c arg3 X3 ∗ held c arg4 X4 ∗ held c arg5 X5 ∗ (∃ f, held c arg6 f)
          ∗ (∃ f, held c arg7 f) ∗ (∃ f, held c arg8 f) ∗ (∃ f, held c arg9 f) ∗ (∃ f, held c arg10 f)) -∗ Q ⟨⟩))
    ⊢ wp frame (wpE (defs₀ (F := F)) Variants.none (c : Thread nD τ) none) Set.univ
        (cc0_attention i arg3 harg3 arg4 harg4 arg5 harg5 arg6 harg6 arg7 harg7 arg8 harg8 arg9 harg9 arg10 harg10) Q := by
  simp only [cc0_attention_eq_skeleton]; unfold cc0_attention_skel
  iintro ⟨H3, H4, H5, H6, H7, H8, H9, H10, Hk⟩
  sl_exec
  sl_step
  iapply Hk
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

variable (m : (ℓ : Loc nD τ sig) → Buf (Elt F) ℓ) (ρ : Dev nD → PrngReg)

/-- The proof data: the inputs stay at their blocks; nothing is named for the output window. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => X0_1 m c t
    | ⟨2, _⟩ => X0_2 m c t
    | ⟨3, _⟩ => Dat.unnamed (cfg := cfg0) 3 t
    | ⟨_ + 4, h⟩ => absurd h (Nat.not_lt.2 (Nat.le_add_left _ _))
  Φ _ := Pipeline.ΦA spec0 c
  q _ := fullShare
  owed _ := 0

/-- The window whose contents the frame says nothing of: the output. -/
def unsaid : Fin cfg0.W → Bool := fun | ⟨3, _⟩ => true | _ => false

/-- The body table's row at a point is the body there. -/
theorem body_row (t : Fin cfg0.N) : defs₀ (F := F) .tc cfg0.body (cfg0.bodyArgs t (cfg0.slots t)) = bodyAt0 t := by
  unfold defs₀; rw [Defs.onTc_tc]

set_option maxHeartbeats 1600000 in
/-- The pipeline's demand on the body, at every point. -/
theorem body_ok (c : Dev nD) : BodyObligation (dats m 0 c) (defs₀ (F := F)) Variants.none () Set.univ unsaid := fun t => by
  rw [bigSep_W0, bigSep_W0, body_row]
  have h0 := before0_0_of m (dats m 0 c) rfl (fun _ => rfl) t
  have h1 := before0_1_of m (dats m 0 c) rfl (fun _ => rfl) t
  have h2 := before0_2_of m (dats m 0 c) rfl (fun _ => rfl) t
  change iprop(Pipeline.ΦA spec0 c ∗ (dats m 0 c).owesAt () t.castSucc
      ∗ (∃ d, owns c (win0_0.stage (cfg0.slots t 0)) fullShare ((dats m 0 c).before 0 t d))
      ∗ (∃ d, owns c (win0_1.stage (cfg0.slots t 1)) fullShare ((dats m 0 c).before 1 t d))
      ∗ (∃ d, owns c (win0_2.stage (cfg0.slots t 2)) fullShare ((dats m 0 c).before 2 t d))
      ∗ (∃ X, owns c (win0_3.stage (cfg0.slots t 3)) fullShare X))
    ⊢ wp frame (wpE (defs₀ (F := F)) Variants.none c none) Set.univ (bodyAt0 t) fun _ =>
      iprop(Pipeline.ΦA spec0 c ∗ (dats m 0 c).owesAt () t.castSucc
      ∗ owns c (win0_0.stage (cfg0.slots t 0)) fullShare (iblk m c 0 t)
      ∗ owns c (win0_1.stage (cfg0.slots t 1)) fullShare (X0_1 m c t)
      ∗ owns c (win0_2.stage (cfg0.slots t 2)) fullShare (X0_2 m c t)
      ∗ (∃ X, owns c (win0_3.stage (cfg0.slots t 3)) fullShare X))
  simp only [h0, h1, h2]
  unfold Pipeline.ΦA bodyAt0
  rw [scopedRest0_eq]
  unfold owns
  iintro ⟨⟨⟨⟨%f7, S7⟩, ⟨%f8, S8⟩, ⟨%f9, S9⟩, ⟨%f10, S10⟩⟩, HP⟩, HO, ⟨%d0, %g0, %e0, H0⟩, ⟨%d1, %g1, %e1, H1⟩, ⟨%d2, %g2, %e2, H2⟩, ⟨%X, %g3, %e3, H3⟩⟩
  iapply body_runs (F := F) c (grid0.coords t) _ _ _ _ _ _ _ _ _ _ _ _ _ _ _ _ g0 g1 g2 f7 f8 f9 f10 g3
  simp only [held, Memref.view_whole, View.set_whole]
  isplitl [H0]; · iexact H0
  isplitl [H1]; · iexact H1
  isplitl [H2]; · iexact H2
  isplitl [H3]; · iexact H3
  isplitl [S7]; · iexact S7
  isplitl [S8]; · iexact S8
  isplitl [S9]; · iexact S9
  isplitl [S10]; · iexact S10
  iintro ⟨H0, H1, H2, ⟨%g, H3⟩, S7, S8, S9, S10⟩
  isplitl [S7 S8 S9 S10 HP]
  · isplitr [HP]
    · isplitl [S7]; · iexact S7
      isplitl [S8]; · iexact S8
      isplitl [S9]; · iexact S9
      iexact S10
    · iexact HP
  isplitl [HO]; · iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  iexists _; iexists g; isplitr; swap; · iexact H3
  ipureintro; rfl

set_option backward.isDefEq.respectTransparency false in
/-- The program runs to the end from any memory, its three arguments unchanged and every counter back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget cfgs (dats m) 0 launch0 defs₀ Variants.none unsaid m ρ main
    (hbody := fun c => (body_ok m c).loose) (hshare := fun c => (dats m 0 c).share_full fun _ => rfl) (howed := fun _ _ => rfl) (V := V m)
    (hmain := hmain m Variants.none) (hA := fun _ _ => rfl) (hΦ := fun _ _ => rfl)
    (Q' := _) (hQ' := fun _ h => ⟨fun c => ⟨Pipeline.RDat.FramePost.arr_in h.1 c 0 rfl, Pipeline.RDat.FramePost.arr_in h.1 c 1 rfl,
      Pipeline.RDat.FramePost.arr_in h.1 c 2 rfl⟩, h.2⟩)

end Cert.Proof.AttnBits

end
-- ==== Proof.Chain.lean ====
/-
  The online softmax of one query head over the key blocks, as a chain of pure steps: the running maximum and the
  accumulator after each block, spelt by the kernel's own vector operations.
-/
module

public import proofs.«01_k».proof.Proof.Gen.KernelIdeal.Loops
public import Idealize.ShloMosaic.Lib.Exec
public import Idealize.ShloMosaic.Lib.Writes
public import Idealize.ShloMosaic.Lib.Pipeline.ReadBack
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- The scores of a block of keys against one head's queries. -/
def scores (kb : Vec F S1024x128 .bf16) (q : Vec F S512x128 .bf16) : Vec F S1x1024x512 .f32 := k0_pay5 kb q
/-- Their maximum over the block, per query. -/
def blockMax (kb : Vec F S1024x128 .bf16) (q : Vec F S512x128 .bf16) : Vec F S1x1x512 .f32 := k0_pay6 kb q
/-- The running maximum after a block whose maximum is `x`. -/
def maxStep (m x : Vec F S1x1x512 .f32) : Vec F S1x1x512 .f32 := k0_pay12 (k0_pay8 m x)
/-- The accumulator after a block of values `vb` whose scores are `s` with maximum `x`. -/
def accStep (vb : Vec F S1x1x144x1024 .bf16) (m x : Vec F S1x1x512 .f32) (s : Vec F S1x1024x512 .f32) (a : Vec F S1x144x512 .f32) : Vec F S1x144x512 .f32 :=
  k0_pay11 (k0_pay3 vb) (k0_pay9 m x) (k0_pay10 m x s) a

/-- The running maximum before any block: the printed minus infinity everywhere. -/
def max0 : Vec F S1x1x512 .f32 := fun _ => Scalar.ofBits .f32 0xFF800000#32
/-- The accumulator before any block: the printed zero everywhere. -/
def acc0 : Vec F S1x144x512 .f32 := fun _ => Scalar.ofBits .f32 0x00000000#32

/-- The running maximum of head `q` after `n` of the key blocks `K`. -/
def maxAfter (K : ℕ → Vec F S1024x128 .bf16) (q : Vec F S512x128 .bf16) : ℕ → Vec F S1x1x512 .f32
  | 0 => max0
  | n + 1 => maxStep (maxAfter K q n) (blockMax (K n) q)

/-- The accumulator of head `q` after `n` of the blocks. -/
def accAfter (K : ℕ → Vec F S1024x128 .bf16) (V : ℕ → Vec F S1x1x144x1024 .bf16) (q : Vec F S512x128 .bf16) : ℕ → Vec F S1x144x512 .f32
  | 0 => acc0
  | n + 1 => accStep (V n) (maxAfter K q n) (blockMax (K n) q) (scores (K n) q) (accAfter K V q n)

theorem maxAfter_succ (K : ℕ → Vec F S1024x128 .bf16) (q : Vec F S512x128 .bf16) (n : ℕ) :
    maxAfter K q (n + 1) = maxStep (maxAfter K q n) (blockMax (K n) q) := rfl

theorem accAfter_succ (K : ℕ → Vec F S1024x128 .bf16) (V : ℕ → Vec F S1x1x144x1024 .bf16) (q : Vec F S512x128 .bf16) (n : ℕ) :
    accAfter K V q (n + 1) = accStep (V n) (maxAfter K q n) (blockMax (K n) q) (scores (K n) q) (accAfter K V q n) := rfl

section Reads

variable {sig : RefSig} {κ : Kind} {sp : Space} {s : Shape} {e : EltTy} {Val : EltTy → Type}

/-- A load of the rectangle last written reads what was written. -/
theorem readAt_hit (v : View sig κ sp s e) (f : v.ty.Contents Val) (r : Rect s) (w : r.shape.Idx → Val e) (L : List (View.Piece Val s e)) :
    v.readAt Val r.toLoadRect (v.writes Val f (⟨r, w⟩ :: L)) = w := by
  funext j
  rw [View.readAt_apply]
  exact View.read_writes_cons_emb v f r w L j

/-- A load apart from the rectangle last written reads the earlier writes. -/
theorem readAt_pass (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext j
  rw [View.readAt_apply, View.readAt_apply, View.writes_cons]
  exact View.read_slice_write_of_not_mem r _ _ _ (by rw [Rect.map_emb_univ]; exact LoadRect.idx_not_mem_of_disj h j)

end Reads

end Cert.Proof.Attn

end
-- ==== Proof.IdealRun.lean ====
/-
  The attention kernel's body, run once at symbolic buffers. The counted loop goes by its generated invariant, and
  the pieces the body stores into its output block are what the run itself finds.
-/
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held at contents `f`. -/
abbrev held (c : Dev nD) {sp : Space} {S : Shape} {e : EltTy} (M : Memref sig .tc sp S e) (f : M.view.ty.Contents (Elt F)) : sProp 𝕄 :=
  M.view.loc (c : Thread nD τ) ↦[M.view.set]{fullShare} f

set_option maxHeartbeats 4000000 in
/-- The body from its three input blocks, its output block and its four scratch buffers at any contents: it returns
    with the inputs as they were and the output block written by the pieces named here. -/
@[irreducible] def bodyRun (c : Dev nD) (i : grid0.Coords) (arg3 : Memref sig .tc .vmem S512x512 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S2x1024x512 .f32) (harg9 : arg9.IsWhole) (arg10 : Memref sig .tc .vmem S2x1x512 .f32) (harg10 : arg10.IsWhole)
    (X3 : arg3.view.ty.Contents (Elt F)) (X4 : arg4.view.ty.Contents (Elt F)) (X5 : arg5.view.ty.Contents (Elt F))
    (f7 : arg7.view.ty.Contents (Elt F)) (f8 : arg8.view.ty.Contents (Elt F)) (f9 : arg9.view.ty.Contents (Elt F)) (f10 : arg10.view.ty.Contents (Elt F)) :
    { L : List (View.Piece (Elt F) S512x512 .bf16) // ∀ (f6 : arg6.view.ty.Contents (Elt F)) (Q : PUnit → sProp 𝕄),
      iprop(held c arg3 X3 ∗ held c arg4 X4 ∗ held c arg5 X5 ∗ held c arg6 f6 ∗ held c arg7 f7 ∗ held c arg8 f8 ∗ held c arg9 f9 ∗ held c arg10 f10
        ∗ (iprop(held c arg3 X3 ∗ held c arg4 X4 ∗ held c arg5 X5 ∗ held c arg6 (arg6.view.writes (Elt F) f6 L)
            ∗ (∃ f, held c arg7 f) ∗ (∃ f, held c arg8 f) ∗ (∃ f, held c arg9 f) ∗ (∃ f, held c arg10 f)) -∗ Q ⟨⟩))
      ⊢ wp frame (wpE (defs₀ (F := F)) Variants.none (c : Thread nD τ) none) Set.univ
          (cc0_attention i arg3 harg3 arg4 harg4 arg5 harg5 arg6 harg6 arg7 harg7 arg8 harg8 arg9 harg9 arg10 harg10) Q } := by
  refine ⟨?_, fun f6 Q => ?run⟩
  case run =>
    simp only [cc0_attention_eq_skeleton]; unfold cc0_attention_skel
    iintro ⟨H3, H4, H5, H6, H7, H8, H9, H10, Hk⟩
    sl_exec
    sl_step
    iapply Hk
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.Proof.Attn

end
-- ==== Proof.Trip.lean ====
/-
  One trip of the attention kernel's counted loop: four key blocks, each met by the four heads, carry the running maxima
  and accumulators four steps along the chain.
-/
module

public import proofs.«01_k».proof.Proof.Chain

public import proofs.«01_k».proof.Proof.IdealRun

@[expose] public section

set_option maxRecDepth 16384

noncomputable section

namespace Cert.Proof.Attn

open Cert.KernelIdeal Cert.KernelIdeal.Gen Cert.KernelIdeal.Gen.trip_k0_t1.sl
open Idealize.ShloMosaic Idealize.ShloMosaic.TcCoe

variable {F : FTy → Type} [FloatOps F]

/-- What the scratch buffers hold before key block `j`: every head's running maximum and accumulator, and the scores of
    the first head against block `j` with their maximum. -/
structure Carried (arg7 : Memref sig .tc .vmem S4x1x512 .f32) (arg8 : Memref sig .tc .vmem S4x144x512 .f32)
    (arg9 : Memref sig .tc .vmem S2x1024x512 .f32) (arg10 : Memref sig .tc .vmem S2x1x512 .f32)
    (f7 : arg7.view.ty.Contents (Elt F)) (f8 : arg8.view.ty.Contents (Elt F)) (f9 : arg9.view.ty.Contents (Elt F)) (f10 : arg10.view.ty.Contents (Elt F))
    (K : ℕ → Vec F S1024x128 .bf16) (V : ℕ → Vec F S1x1x144x1024 .bf16) (q0 q1 q2 q3 : Vec F S512x128 .bf16) (j : ℕ) : Prop where
  m0 : arg7.view.readAt (Elt F) (Rect.unit (s := S4x1x512) ![0, 0, 0] S1x1x512.size inb_S4x1x512_S1x1x512_0_0_0).toLoadRect f7 = maxAfter K q0 j
  m1 : arg7.view.readAt (Elt F) (Rect.unit (s := S4x1x512) ![1, 0, 0] S1x1x512.size inb_S4x1x512_S1x1x512_1_0_0).toLoadRect f7 = maxAfter K q1 j
  m2 : arg7.view.readAt (Elt F) (Rect.unit (s := S4x1x512) ![2, 0, 0] S1x1x512.size inb_S4x1x512_S1x1x512_2_0_0).toLoadRect f7 = maxAfter K q2 j
  m3 : arg7.view.readAt (Elt F) (Rect.unit (s := S4x1x512) ![3, 0, 0] S1x1x512.size inb_S4x1x512_S1x1x512_3_0_0).toLoadRect f7 = maxAfter K q3 j
  a0 : arg8.view.readAt (Elt F) (Rect.unit (s := S4x144x512) ![0, 0, 0] S1x144x512.size inb_S4x144x512_S1x144x512_0_0_0).toLoadRect f8 = accAfter K V q0 j
  a1 : arg8.view.readAt (Elt F) (Rect.unit (s := S4x144x512) ![1, 0, 0] S1x144x512.size inb_S4x144x512_S1x144x512_1_0_0).toLoadRect f8 = accAfter K V q1 j
  a2 : arg8.view.readAt (Elt F) (Rect.unit (s := S4x144x512) ![2, 0, 0] S1x144x512.size inb_S4x144x512_S1x144x512_2_0_0).toLoadRect f8 = accAfter K V q2 j
  a3 : arg8.view.readAt (Elt F) (Rect.unit (s := S4x144x512) ![3, 0, 0] S1x144x512.size inb_S4x144x512_S1x144x512_3_0_0).toLoadRect f8 = accAfter K V q3 j
  s0 : arg9.view.readAt (Elt F) (Rect.unit (s := S2x1024x512) ![0, 0, 0] S1x1024x512.size inb_S2x1024x512_S1x1024x512_0_0_0).toLoadRect f9 = scores (K j) q0
  x0 : arg10.view.readAt (Elt F) (Rect.unit (s := S2x1x512) ![0, 0, 0] S1x1x512.size inb_S2x1x512_S1x1x512_0_0_0).toLoadRect f10 = blockMax (K j) q0

variable {arg3 : Memref sig .tc .vmem S512x512 .bf16} {arg4 : Memref sig .tc .vmem S16384x128 .bf16} {arg5 : Memref sig .tc .vmem S1x16x144x1024 .bf16}
  {arg7 : Memref sig .tc .vmem S4x1x512 .f32} {arg8 : Memref sig .tc .vmem S4x144x512 .f32}
  {arg9 : Memref sig .tc .vmem S2x1024x512 .f32} {arg10 : Memref sig .tc .vmem S2x1x512 .f32}

/-- What one trip reads of its inputs: the heads' queries, its four key and value blocks, and the next key block. -/
structure TripReads (arg3 : Memref sig .tc .vmem S512x512 .bf16) (arg4 : Memref sig .tc .vmem S16384x128 .bf16) (arg5 : Memref sig .tc .vmem S1x16x144x1024 .bf16)
    (X3 : arg3.view.ty.Contents (Elt F)) (X4 : arg4.view.ty.Contents (Elt F)) (X5 : arg5.view.ty.Contents (Elt F)) (k : Fin k0_t1_loop.trips)
    (K : ℕ → Vec F S1024x128 .bf16) (V : ℕ → Vec F S1x1x144x1024 .bf16) (q0 q1 q2 q3 : Vec F S512x128 .bf16) (j : ℕ) : Prop where
  hq0 : arg3.view.readAt (Elt F) (Rect.unit (s := S512x512) ![0, 0] S512x128.size inb_S512x512_S512x128_0_0).toLoadRect X3 = q0
  hq1 : arg3.view.readAt (Elt F) (Rect.unit (s := S512x512) ![0, 128] S512x128.size inb_S512x512_S512x128_0_128).toLoadRect X3 = q1
  hq2 : arg3.view.readAt (Elt F) (Rect.unit (s := S512x512) ![0, 256] S512x128.size inb_S512x512_S512x128_0_256).toLoadRect X3 = q2
  hq3 : arg3.view.readAt (Elt F) (Rect.unit (s := S512x512) ![0, 384] S512x128.size inb_S512x512_S512x128_0_384).toLoadRect X3 = q3
  hk0 : arg4.view.readAt (Elt F) (Rect.unit (s := S16384x128) (k0_off1 k 0#32) S1024x128.size (k0_off1_inb k 0)).toLoadRect X4 = K (j + 0)
  hn0 : arg4.view.readAt (Elt F) (Rect.unit (s := S16384x128) (k0_off3 k 0#32) S1024x128.size (k0_off3_inb k 0)).toLoadRect X4 = K (j + 1)
  hv0 : arg5.view.readAt (Elt F) (Rect.unit (s := S1x16x144x1024) (k0_off2 k 0#32) S1x1x144x1024.size (k0_off2_inb k 0)).toLoadRect X5 = V (j + 0)
  hk1 : arg4.view.readAt (Elt F) (Rect.unit (s := S16384x128) (k0_off1 k 1#32) S1024x128.size (k0_off1_inb k 1)).toLoadRect X4 = K (j + 1)
  hn1 : arg4.view.readAt (Elt F) (Rect.unit (s := S16384x128) (k0_off3 k 1#32) S1024x128.size (k0_off3_inb k 1)).toLoadRect X4 = K (j + 2)
  hv1 : arg5.view.readAt (Elt F) (Rect.unit (s := S1x16x144x1024) (k0_off2 k 1#32) S1x1x144x1024.size (k0_off2_inb k 1)).toLoadRect X5 = V (j + 1)
  hk2 : arg4.view.readAt (Elt F) (Rect.unit (s := S16384x128) (k0_off1 k 2#32) S1024x128.size (k0_off1_inb k 2)).toLoadRect X4 = K (j + 2)
  hn2 : arg4.view.readAt (Elt F) (Rect.unit (s := S16384x128) (k0_off3 k 2#32) S1024x128.size (k0_off3_inb k 2)).toLoadRect X4 = K (j + 3)
  hv2 : arg5.view.readAt (Elt F) (Rect.unit (s := S1x16x144x1024) (k0_off2 k 2#32) S1x1x144x1024.size (k0_off2_inb k 2)).toLoadRect X5 = V (j + 2)
  hk3 : arg4.view.readAt (Elt F) (Rect.unit (s := S16384x128) (k0_off1 k 3#32) S1024x128.size (k0_off1_inb k 3)).toLoadRect X4 = K (j + 3)
  hn3 : arg4.view.readAt (Elt F) (Rect.unit (s := S16384x128) (k0_off3 k 3#32) S1024x128.size (k0_off3_inb k 3)).toLoadRect X4 = K (j + 4)
  hv3 : arg5.view.readAt (Elt F) (Rect.unit (s := S1x16x144x1024) (k0_off2 k 3#32) S1x1x144x1024.size (k0_off2_inb k 3)).toLoadRect X5 = V (j + 3)

variable {X3 : arg3.view.ty.Contents (Elt F)} {X4 : arg4.view.ty.Contents (Elt F)} {X5 : arg5.view.ty.Contents (Elt F)} {k : Fin k0_t1_loop.trips}
  {f7 : arg7.view.ty.Contents (Elt F)} {f8 : arg8.view.ty.Contents (Elt F)} {f9 : arg9.view.ty.Contents (Elt F)} {f10 : arg10.view.ty.Contents (Elt F)}
  {K : ℕ → Vec F S1024x128 .bf16} {V : ℕ → Vec F S1x1x144x1024 .bf16} {q0 q1 q2 q3 : Vec F S512x128 .bf16} {j : ℕ}

section Trip

variable (c : Dev nD) (i : grid0.Coords) (harg3 : arg3.IsWhole) (harg4 : arg4.IsWhole) (harg5 : arg5.IsWhole) (arg6 : Memref sig .tc .vmem S512x512 .bf16) (harg6 : arg6.IsWhole) (harg7 : arg7.IsWhole) (harg8 : arg8.IsWhole) (harg9 : arg9.IsWhole) (harg10 : arg10.IsWhole)

/-- A trip's stores of scores end with the next key block's against the first head, in the first slot. -/
theorem trip_scores (t : TripReads arg3 arg4 arg5 X3 X4 X5 k K V q0 q1 q2 q3 j) (g : arg9.view.ty.Contents (Elt F)) (L : List (View.Piece (Elt F) S2x1024x512 .f32)) :
    arg9.view.readAt (Elt F) (Rect.unit (s := S2x1024x512) ![0, 0, 0] S1x1024x512.size inb_S2x1024x512_S1x1024x512_0_0_0).toLoadRect
      (arg9.view.writes (Elt F) g ((tripL_k0_t1 (F := F) Variants.none c none i arg3 harg3 arg4 harg4 arg5 harg5 arg6 harg6 arg7 harg7 arg8 harg8 arg9 harg9 arg10 harg10 X3 X4 X5 k f7 f8 f9 f10).2.2.1 ++ L)) = scores (K (j + 4)) q0 := by
  have e : (tripL_k0_t1 (F := F) Variants.none c none i arg3 harg3 arg4 harg4 arg5 harg5 arg6 harg6 arg7 harg7 arg8 harg8 arg9 harg9 arg10 harg10 X3 X4 X5 k f7 f8 f9 f10).2.2.1 = HW_arg9_16 arg3 arg4 X3 X4 k := by unfold tripL_k0_t1 trip_k0_t1; rfl
  rw [e]; unfold HW_arg9_16; rw [List.cons_append, readAt_hit, t.hn3, t.hq0]; rfl

/-- The same for the maxima of those scores. -/
theorem trip_blockMax (t : TripReads arg3 arg4 arg5 X3 X4 X5 k K V q0 q1 q2 q3 j) (g : arg10.view.ty.Contents (Elt F)) (L : List (View.Piece (Elt F) S2x1x512 .f32)) :
    arg10.view.readAt (Elt F) (Rect.unit (s := S2x1x512) ![0, 0, 0] S1x1x512.size inb_S2x1x512_S1x1x512_0_0_0).toLoadRect
      (arg10.view.writes (Elt F) g ((tripL_k0_t1 (F := F) Variants.none c none i arg3 harg3 arg4 harg4 arg5 harg5 arg6 harg6 arg7 harg7 arg8 harg8 arg9 harg9 arg10 harg10 X3 X4 X5 k f7 f8 f9 f10).2.2.2 ++ L)) = blockMax (K (j + 4)) q0 := by
  have e : (tripL_k0_t1 (F := F) Variants.none c none i arg3 harg3 arg4 harg4 arg5 harg5 arg6 harg6 arg7 harg7 arg8 harg8 arg9 harg9 arg10 harg10 X3 X4 X5 k f7 f8 f9 f10).2.2.2 = HW_arg10_16 arg3 arg4 X3 X4 k := by unfold tripL_k0_t1 trip_k0_t1; rfl
  rw [e]; unfold HW_arg10_16; rw [List.cons_append, readAt_hit, t.hn3, t.hq0]; rfl

set_option maxHeartbeats 16000000 in
/-- A trip carries the chain four key blocks on. -/
theorem trip_carries (h : Carried arg7 arg8 arg9 arg10 f7 f8 f9 f10 K V q0 q1 q2 q3 j) (t : TripReads arg3 arg4 arg5 X3 X4 X5 k K V q0 q1 q2 q3 j) :
    Carried arg7 arg8 arg9 arg10 (arg7.view.writes (Elt F) f7 (tripL_k0_t1 (F := F) Variants.none c none i arg3 harg3 arg4 harg4 arg5 harg5 arg6 harg6 arg7 harg7 arg8 harg8 arg9 harg9 arg10 harg10 X3 X4 X5 k f7 f8 f9 f10).1) (arg8.view.writes (Elt F) f8 (tripL_k0_t1 (F := F) Variants.none c none i arg3 harg3 arg4 harg4 arg5 harg5 arg6 harg6 arg7 harg7 arg8 harg8 arg9 harg9 arg10 harg10 X3 X4 X5 k f7 f8 f9 f10).2.1)
      (arg9.view.writes (Elt F) f9 (tripL_k0_t1 (F := F) Variants.none c none i arg3 harg3 arg4 harg4 arg5 harg5 arg6 harg6 arg7 harg7 arg8 harg8 arg9 harg9 arg10 harg10 X3 X4 X5 k f7 f8 f9 f10).2.2.1) (arg10.view.writes (Elt F) f10 (tripL_k0_t1 (F := F) Variants.none c none i arg3 harg3 arg4 harg4 arg5 harg5 arg6 harg6 arg7 harg7 arg8 harg8 arg9 harg9 arg10 harg10 X3 X4 X5 k f7 f8 f9 f10).2.2.2) K V q0 q1 q2 q3 (j + 4) := by
  have e7 : (tripL_k0_t1 (F := F) Variants.none c none i arg3 harg3 arg4 harg4 arg5 harg5 arg6 harg6 arg7 harg7 arg8 harg8 arg9 harg9 arg10 harg10 X3 X4 X5 k f7 f8 f9 f10).1 = ⟨Rect.unit (s := S4x1x512) ![3, 0, 0] S1x1x512.size inb_S4x1x512_S1x1x512_3_0_0, k0_pay140 (r_39 arg3 arg4 arg7 arg10 X3 X4 k f7 f10)⟩
      :: HW_arg7_15 arg3 arg4 arg7 arg10 X3 X4 k f7 f10 := by unfold tripL_k0_t1 trip_k0_t1; rfl
  have e8 : (tripL_k0_t1 (F := F) Variants.none c none i arg3 harg3 arg4 harg4 arg5 harg5 arg6 harg6 arg7 harg7 arg8 harg8 arg9 harg9 arg10 harg10 X3 X4 X5 k f7 f8 f9 f10).2.1 = ⟨Rect.unit (s := S4x144x512) ![3, 0, 0] S1x144x512.size inb_S4x144x512_S1x144x512_3_0_0,
        k0_pay134 (r_31 arg5 X5 k) (v1212 arg3 arg4 arg7 arg10 X3 X4 k f7 f10) (v1214 arg3 arg4 arg10 X3 X4 k) (v1219 arg3 arg4 arg9 X3 X4 k)
          (v1225 arg3 arg4 arg5 arg7 arg8 arg9 arg10 X3 X4 X5 k f7 f8 f9 f10)⟩
      :: HW_arg8_15 arg3 arg4 arg5 arg7 arg8 arg9 arg10 X3 X4 X5 k f7 f8 f9 f10 := by unfold tripL_k0_t1 trip_k0_t1; rfl
  refine ⟨?_, ?_, ?_, ?_, ?_, ?_, ?_, ?_, ?s, ?x⟩
  case s => simpa only [List.append_nil] using trip_scores (f7 := f7) (f8 := f8) (f9 := f9) (f10 := f10) c i harg3 harg4 harg5 arg6 harg6 harg7 harg8 harg9 harg10 t f9 []
  case x => simpa only [List.append_nil] using trip_blockMax (f7 := f7) (f8 := f8) (f9 := f9) (f10 := f10) c i harg3 harg4 harg5 arg6 harg6 harg7 harg8 harg9 harg10 t f10 []
  all_goals
    first | rw [e7] | rw [e8]
    simp (disch := decide) only [readAt_hit, readAt_pass, View.readCov_skip, View.readCov_cons_toLoadRect,
      t.hq0, t.hq1, t.hq2, t.hq3, t.hk0, t.hk1, t.hk2, t.hk3, t.hn0, t.hn1, t.hn2, t.hn3, t.hv0, t.hv1, t.hv2, t.hv3,
      h.m0, h.m1, h.m2, h.m3, h.a0, h.a1, h.a2, h.a3, h.s0, h.x0,
      v621, v622, v642, v647, v675, v677, v682, v688, v710, v712, v717, v723, v750, v752, v757, v763, v776, v794, v796, v801, v807, v829, v831, v836,
      v842, v864, v866, v871, v877, v904, v906, v911, v917, v930, v931, v948, v950, v955, v961, v983, v985, v990, v996, v1018, v1020, v1025, v1031,
      v1058, v1060, v1065, v1071, v1084, v1102, v1104, v1109, v1115, v1137, v1139, v1144, v1150, v1172, v1174, v1179, v1185, v1212, v1214, v1219,
      v1225, r, r_1, r_10, r_11, r_12, r_13, r_14, r_15, r_16, r_17, r_18, r_19, r_2, r_20, r_21, r_22, r_23, r_24, r_25, r_26, r_27, r_28, r_29,
      r_3, r_30, r_31, r_32, r_33, r_34, r_35, r_36, r_37, r_38, r_39, r_4, r_5, r_6, r_7, r_8, r_9, HW_arg7_4, HW_arg7_5, HW_arg7_6, HW_arg7_7,
      HW_arg7_8, HW_arg7_9, HW_arg7_10, HW_arg7_11, HW_arg7_12, HW_arg7_13, HW_arg7_14, HW_arg7_15, HW_arg8_4, HW_arg8_5, HW_arg8_6, HW_arg8_7,
      HW_arg8_8, HW_arg8_9, HW_arg8_10, HW_arg8_11, HW_arg8_12, HW_arg8_13, HW_arg8_14, HW_arg8_15, HW_arg9_2, HW_arg9_3, HW_arg9_4, HW_arg9_5,
      HW_arg9_6, HW_arg9_7, HW_arg9_8, HW_arg9_9, HW_arg9_10, HW_arg9_11, HW_arg9_12, HW_arg9_13, HW_arg9_14, HW_arg9_15, HW_arg9_16, HW_arg10_2,
      HW_arg10_3, HW_arg10_4, HW_arg10_5, HW_arg10_6, HW_arg10_7, HW_arg10_8, HW_arg10_9, HW_arg10_10, HW_arg10_11, HW_arg10_12, HW_arg10_13,
      HW_arg10_14, HW_arg10_15, HW_arg10_16]
    rfl

end Trip

end Cert.Proof.Attn

end
-- ==== Proof.Blocks.lean ====
/-
  The attention kernel's body along the chain: the loop by induction over its trips, then the last four key blocks, and
  the four stores of the output block as the chain's last accumulators, each divided by its row of sums.
-/
module

public import proofs.«01_k».proof.Proof.Trip

@[expose] public section

set_option maxRecDepth 16384

noncomputable section

namespace Cert.Proof.Attn

open Cert.KernelIdeal Cert.KernelIdeal.Gen Cert.Proof.Attn.bodyRun.sl
open Idealize.ShloMosaic Idealize.ShloMosaic.TcCoe

variable {F : FTy → Type} [FloatOps F]

/-- What a head writes: its accumulator's rows divided by the row of sums, turned and rounded. -/
def headOut (a : Vec F S1x144x512 .f32) : Vec F S512x128 .bf16 := k0_pay2 a

/-- What the body reads of its inputs outside the loop. -/
structure EndReads (arg3 : Memref sig .tc .vmem S512x512 .bf16) (arg4 : Memref sig .tc .vmem S16384x128 .bf16) (arg5 : Memref sig .tc .vmem S1x16x144x1024 .bf16)
    (X3 : arg3.view.ty.Contents (Elt F)) (X4 : arg4.view.ty.Contents (Elt F)) (X5 : arg5.view.ty.Contents (Elt F))
    (K : ℕ → Vec F S1024x128 .bf16) (V : ℕ → Vec F S1x1x144x1024 .bf16) (q0 q1 q2 q3 : Vec F S512x128 .bf16) : Prop where
  hq0 : arg3.view.readAt (Elt F) (Rect.unit (s := S512x512) ![0, 0] S512x128.size inb_S512x512_S512x128_0_0).toLoadRect X3 = q0
  hq1 : arg3.view.readAt (Elt F) (Rect.unit (s := S512x512) ![0, 128] S512x128.size inb_S512x512_S512x128_0_128).toLoadRect X3 = q1
  hq2 : arg3.view.readAt (Elt F) (Rect.unit (s := S512x512) ![0, 256] S512x128.size inb_S512x512_S512x128_0_256).toLoadRect X3 = q2
  hq3 : arg3.view.readAt (Elt F) (Rect.unit (s := S512x512) ![0, 384] S512x128.size inb_S512x512_S512x128_0_384).toLoadRect X3 = q3
  hk0 : arg4.view.readAt (Elt F) (Rect.unit (s := S16384x128) ![0, 0] S1024x128.size inb_S16384x128_S1024x128_0_0).toLoadRect X4 = K 0
  hk12 : arg4.view.readAt (Elt F) (Rect.unit (s := S16384x128) ![12288, 0] S1024x128.size inb_S16384x128_S1024x128_12288_0).toLoadRect X4 = K 12
  hk13 : arg4.view.readAt (Elt F) (Rect.unit (s := S16384x128) ![13312, 0] S1024x128.size inb_S16384x128_S1024x128_13312_0).toLoadRect X4 = K 13
  hk14 : arg4.view.readAt (Elt F) (Rect.unit (s := S16384x128) ![14336, 0] S1024x128.size inb_S16384x128_S1024x128_14336_0).toLoadRect X4 = K 14
  hk15 : arg4.view.readAt (Elt F) (Rect.unit (s := S16384x128) ![15360, 0] S1024x128.size inb_S16384x128_S1024x128_15360_0).toLoadRect X4 = K 15
  hv12 : arg5.view.readAt (Elt F) (Rect.unit (s := S1x16x144x1024) ![0, 12, 0, 0] S1x1x144x1024.size inb_S1x16x144x1024_S1x1x144x1024_0_12_0_0).toLoadRect X5 = V 12
  hv13 : arg5.view.readAt (Elt F) (Rect.unit (s := S1x16x144x1024) ![0, 13, 0, 0] S1x1x144x1024.size inb_S1x16x144x1024_S1x1x144x1024_0_13_0_0).toLoadRect X5 = V 13
  hv14 : arg5.view.readAt (Elt F) (Rect.unit (s := S1x16x144x1024) ![0, 14, 0, 0] S1x1x144x1024.size inb_S1x16x144x1024_S1x1x144x1024_0_14_0_0).toLoadRect X5 = V 14
  hv15 : arg5.view.readAt (Elt F) (Rect.unit (s := S1x16x144x1024) ![0, 15, 0, 0] S1x1x144x1024.size inb_S1x16x144x1024_S1x1x144x1024_0_15_0_0).toLoadRect X5 = V 15

variable {arg3 : Memref sig .tc .vmem S512x512 .bf16} {arg4 : Memref sig .tc .vmem S16384x128 .bf16} {arg5 : Memref sig .tc .vmem S1x16x144x1024 .bf16}
  {arg7 : Memref sig .tc .vmem S4x1x512 .f32} {arg8 : Memref sig .tc .vmem S4x144x512 .f32}
  {arg9 : Memref sig .tc .vmem S2x1024x512 .f32} {arg10 : Memref sig .tc .vmem S2x1x512 .f32}
  (c : Dev nD) (i : grid0.Coords) (harg3 : arg3.IsWhole) (harg4 : arg4.IsWhole) (harg5 : arg5.IsWhole) (arg6 : Memref sig .tc .vmem S512x512 .bf16) (harg6 : arg6.IsWhole)
  (harg7 : arg7.IsWhole) (harg8 : arg8.IsWhole) (harg9 : arg9.IsWhole) (harg10 : arg10.IsWhole)
  {X3 : arg3.view.ty.Contents (Elt F)} {X4 : arg4.view.ty.Contents (Elt F)} {X5 : arg5.view.ty.Contents (Elt F)}
  {K : ℕ → Vec F S1024x128 .bf16} {V : ℕ → Vec F S1x1x144x1024 .bf16} {q0 q1 q2 q3 : Vec F S512x128 .bf16}

section Loop

variable {G7 : arg7.view.ty.Contents (Elt F)} {G8 : arg8.view.ty.Contents (Elt F)} {G9 : arg9.view.ty.Contents (Elt F)} {G10 : arg10.view.ty.Contents (Elt F)}

/-- The trips before the `n`-th carry the chain through `4 n` key blocks. -/
theorem loop_carries (h : Carried arg7 arg8 arg9 arg10 G7 G8 G9 G10 K V q0 q1 q2 q3 0)
    (t : ∀ k : Fin k0_t1_loop.trips, TripReads arg3 arg4 arg5 X3 X4 X5 k K V q0 q1 q2 q3 (4 * k.val)) : ∀ n, n ≤ k0_t1_loop.trips →
    Carried arg7 arg8 arg9 arg10 (arg7.view.writes (Elt F) G7 (pb_k0_t1 (F := F) Variants.none c none i arg3 harg3 arg4 harg4 arg5 harg5 arg6 harg6 arg7 harg7 arg8 harg8 arg9 harg9 arg10 harg10 X3 X4 X5 G7 G8 G9 G10 n).1) (arg8.view.writes (Elt F) G8 (pb_k0_t1 (F := F) Variants.none c none i arg3 harg3 arg4 harg4 arg5 harg5 arg6 harg6 arg7 harg7 arg8 harg8 arg9 harg9 arg10 harg10 X3 X4 X5 G7 G8 G9 G10 n).2.1)
      (arg9.view.writes (Elt F) G9 (pb_k0_t1 (F := F) Variants.none c none i arg3 harg3 arg4 harg4 arg5 harg5 arg6 harg6 arg7 harg7 arg8 harg8 arg9 harg9 arg10 harg10 X3 X4 X5 G7 G8 G9 G10 n).2.2.1) (arg10.view.writes (Elt F) G10 (pb_k0_t1 (F := F) Variants.none c none i arg3 harg3 arg4 harg4 arg5 harg5 arg6 harg6 arg7 harg7 arg8 harg8 arg9 harg9 arg10 harg10 X3 X4 X5 G7 G8 G9 G10 n).2.2.2) K V q0 q1 q2 q3 (4 * n)
  | 0, _ => h
  | n + 1, hn => by
      rw [pb_k0_t1_succ (F := F) Variants.none c none i arg3 harg3 arg4 harg4 arg5 harg5 arg6 harg6 arg7 harg7 arg8 harg8 arg9 harg9 arg10 harg10 X3 X4 X5 G7 G8 G9 G10 ⟨n, hn⟩]
      simp only [View.writes_append]
      exact trip_carries c i harg3 harg4 harg5 arg6 harg6 harg7 harg8 harg9 harg10 (loop_carries h t n (Nat.le_of_succ_le hn)) (t ⟨n, hn⟩)

/-- After the loop the first slot of scores reads as the next block's, whatever the buffer held before. -/
theorem loop_scores (t : ∀ k : Fin k0_t1_loop.trips, TripReads arg3 arg4 arg5 X3 X4 X5 k K V q0 q1 q2 q3 (4 * k.val)) (g : arg9.view.ty.Contents (Elt F)) :
    arg9.view.readAt (Elt F) (Rect.unit (s := S2x1024x512) ![0, 0, 0] S1x1024x512.size inb_S2x1024x512_S1x1024x512_0_0_0).toLoadRect
      (arg9.view.writes (Elt F) g (pb_k0_t1 (F := F) Variants.none c none i arg3 harg3 arg4 harg4 arg5 harg5 arg6 harg6 arg7 harg7 arg8 harg8 arg9 harg9 arg10 harg10 X3 X4 X5 G7 G8 G9 G10 3).2.2.1) = scores (K 12) q0 := by
  rw [pb_k0_t1_succ (F := F) Variants.none c none i arg3 harg3 arg4 harg4 arg5 harg5 arg6 harg6 arg7 harg7 arg8 harg8 arg9 harg9 arg10 harg10 X3 X4 X5 G7 G8 G9 G10 ⟨2, by decide⟩]
  exact trip_scores c i harg3 harg4 harg5 arg6 harg6 harg7 harg8 harg9 harg10 (t ⟨2, by decide⟩) g _

/-- The same for the maxima. -/
theorem loop_blockMax (t : ∀ k : Fin k0_t1_loop.trips, TripReads arg3 arg4 arg5 X3 X4 X5 k K V q0 q1 q2 q3 (4 * k.val)) (g : arg10.view.ty.Contents (Elt F)) :
    arg10.view.readAt (Elt F) (Rect.unit (s := S2x1x512) ![0, 0, 0] S1x1x512.size inb_S2x1x512_S1x1x512_0_0_0).toLoadRect
      (arg10.view.writes (Elt F) g (pb_k0_t1 (F := F) Variants.none c none i arg3 harg3 arg4 harg4 arg5 harg5 arg6 harg6 arg7 harg7 arg8 harg8 arg9 harg9 arg10 harg10 X3 X4 X5 G7 G8 G9 G10 3).2.2.2) = blockMax (K 12) q0 := by
  rw [pb_k0_t1_succ (F := F) Variants.none c none i arg3 harg3 arg4 harg4 arg5 harg5 arg6 harg6 arg7 harg7 arg8 harg8 arg9 harg9 arg10 harg10 X3 X4 X5 G7 G8 G9 G10 ⟨2, by decide⟩]
  exact trip_blockMax c i harg3 harg4 harg5 arg6 harg6 harg7 harg8 harg9 harg10 (t ⟨2, by decide⟩) g _

end Loop

/-- A read after writes over writes, as the reads of a body whose buffer was filled first are found. -/
theorem readCov_append {sig : RefSig} {κ : Kind} {sp : Space} {s : Shape} {e : EltTy} {Val : EltTy → Type} [∀ e, Nonempty (Val e)] (v : View sig κ sp s e)
    (A B : List (View.Piece Val s e)) (R : LoadRect s) :
    v.readCov (A ++ B) R = v.readAt Val R (v.writes Val (v.writes Val v.junk B) A) := by
  unfold View.readCov; rw [View.writes_append]

variable (f7 : arg7.view.ty.Contents (Elt F)) (f8 : arg8.view.ty.Contents (Elt F)) (f9 : arg9.view.ty.Contents (Elt F)) (f10 : arg10.view.ty.Contents (Elt F))

/-- The chain's start: the filled maxima and accumulators, and the first block's scores. -/
theorem start_carries :
    Carried arg7 arg8 arg9 arg10 (arg7.view.writes (Elt F) arg7.view.junk H7_1) (arg8.view.writes (Elt F) arg8.view.junk H8_1)
      (arg9.view.writes (Elt F) f9 [⟨Rect.unit (s := S2x1024x512) ![0, 0, 0] S1x1024x512.size inb_S2x1024x512_S1x1024x512_0_0_0,
k0_pay138 (K 0) q0⟩])
      (arg10.view.writes (Elt F) f10 [⟨Rect.unit (s := S2x1x512) ![0, 0, 0] S1x1x512.size inb_S2x1x512_S1x1x512_0_0_0,
k0_pay139 (K 0) q0⟩])
      K V q0 q1 q2 q3 0 := by
  refine ⟨?_, ?_, ?_, ?_, ?_, ?_, ?_, ?_, ?s, ?x⟩
  case s => rw [readAt_hit]; rfl
  case x => rw [readAt_hit]; rfl
  all_goals
    first | unfold H7_1 | unfold H8_1
    exact View.readCov_fill _ _ _ [] _ (by decide)

set_option maxHeartbeats 16000000 in
/-- The body's four stores: head `h`'s columns get that head's last accumulator divided by its row of sums. -/
theorem bodyRun_eq (t : ∀ k : Fin k0_t1_loop.trips, TripReads arg3 arg4 arg5 X3 X4 X5 k K V q0 q1 q2 q3 (4 * k.val))
    (e : EndReads arg3 arg4 arg5 X3 X4 X5 K V q0 q1 q2 q3) :
    (bodyRun (F := F) c i arg3 harg3 arg4 harg4 arg5 harg5 arg6 harg6 arg7 harg7 arg8 harg8 arg9 harg9 arg10 harg10 X3 X4 X5 f7 f8 f9 f10).1
      = [⟨Rect.unit (s := S512x512) ![0, 384] S512x128.size inb_S512x512_S512x128_0_384, headOut (accAfter K V q3 16)⟩,
         ⟨Rect.unit (s := S512x512) ![0, 256] S512x128.size inb_S512x512_S512x128_0_256, headOut (accAfter K V q2 16)⟩,
         ⟨Rect.unit (s := S512x512) ![0, 128] S512x128.size inb_S512x512_S512x128_0_128, headOut (accAfter K V q1 16)⟩,
         ⟨Rect.unit (s := S512x512) ![0, 0] S512x128.size inb_S512x512_S512x128_0_0, headOut (accAfter K V q0 16)⟩] := by
  have h := loop_carries c i harg3 harg4 harg5 arg6 harg6 harg7 harg8 harg9 harg10 (start_carries f9 f10 (K := K) (V := V) (q0 := q0) (q1 := q1) (q2 := q2) (q3 := q3)) t 3 (by decide)
  have hs := fun g => loop_scores c i harg3 harg4 harg5 arg6 harg6 harg7 harg8 harg9 harg10 (G7 := arg7.view.writes (Elt F) arg7.view.junk H7_1)
    (G8 := arg8.view.writes (Elt F) arg8.view.junk H8_1) (G9 := arg9.view.writes (Elt F) f9 [⟨Rect.unit (s := S2x1024x512) ![0, 0, 0] S1x1024x512.size inb_S2x1024x512_S1x1024x512_0_0_0, k0_pay138 (K 0) q0⟩])
    (G10 := arg10.view.writes (Elt F) f10 [⟨Rect.unit (s := S2x1x512) ![0, 0, 0] S1x1x512.size inb_S2x1x512_S1x1x512_0_0_0, k0_pay139 (K 0) q0⟩]) t g
  have hx := fun g => loop_blockMax c i harg3 harg4 harg5 arg6 harg6 harg7 harg8 harg9 harg10 (G7 := arg7.view.writes (Elt F) arg7.view.junk H7_1)
    (G8 := arg8.view.writes (Elt F) arg8.view.junk H8_1) (G9 := arg9.view.writes (Elt F) f9 [⟨Rect.unit (s := S2x1024x512) ![0, 0, 0] S1x1024x512.size inb_S2x1024x512_S1x1024x512_0_0_0, k0_pay138 (K 0) q0⟩])
    (G10 := arg10.view.writes (Elt F) f10 [⟨Rect.unit (s := S2x1x512) ![0, 0, 0] S1x1x512.size inb_S2x1x512_S1x1x512_0_0_0, k0_pay139 (K 0) q0⟩]) t g
  have htr : Scf.trips k0_t1_loop.lb k0_t1_loop.ub k0_t1_loop.st = 3 := by decide
  unfold bodyRun
  simp (disch := decide) only [v33, v46, htr, readCov_append, readAt_hit, readAt_pass, View.readCov_skip, View.readCov_cons_toLoadRect,
      e.hq0, e.hq1, e.hq2, e.hq3, e.hk0, e.hk12, e.hk13, e.hk14, e.hk15, e.hv12, e.hv13, e.hv14, e.hv15,
      h.m0, h.m1, h.m2, h.m3, h.a0, h.a1, h.a2, h.a3, hs, hx,
      v35, v40, v68, v70, v75, v81, v103, v105, v110, v116, v139, v141, v146, v152, v177, v179, v184, v190, v212, v214, v219, v225, v247, v249, v254,
      v260, v283, v285, v290, v296, v321, v323, v328, v334, v356, v358, v363, v369, v391, v393, v398, v404, v427, v429, v434, v440, v465, v467, v472,
      v478, v500, v502, v507, v513, v535, v537, v542, v548, v560, v562, v567, v573, v585, v594, v603, v612, r, r_1, r_2, r_3, r_4, r_5, r_6, r_7,
      r_8, r_9, r_10, r_11, r_12, r_13, r_14, r_15, r_16, r_17, r_18, r_19, r_20, r_21, r_22, r_23, r_24, r_25, r_26, r_27, r_28, r_29, r_30, r_31,
      r_32, r_33, r_34, r_35, r_36, r_37, r_38, r_39, r_40, r_41, cst_351, H7_1_1, H7_2, H7_3, H7_4, H7_5, H7_6, H7_7, H7_8, H7_9, H7_10, H7_11,
      H7_12, H7_13, H7_14, H7_15, H8_1_1, H8_2, H8_3, H8_4, H8_5, H8_6, H8_7, H8_8, H8_9, H8_10, H8_11, H8_12, H8_13, H8_14, H8_15, H8_16, H9_1,
      H9_2, H9_3, H9_4, H9_5, H9_6, H9_7, H9_8, H9_9, H9_10, H9_11, H9_12, H9_13, H9_14, H9_15, H10_1, H10_2, H10_3, H10_4, H10_5, H10_6, H10_7,
      H10_8, H10_9, H10_10, H10_11, H10_12, H10_13, H10_14, H10_15]
  rfl

end Cert.Proof.Attn

end
-- ==== Proof.IdealFrame.lean ====
/-
  The attention call on the chain: what each grid point leaves in its output block is a function of the three input
  blocks alone, and the pipeline runs with it.
-/
module

public import proofs.«01_k».proof.Proof.Blocks
public import Idealize.ShloMosaic.Lib.ValueIdxCore
public import Idealize.ShloMosaic.Lib.WritesUnit
public import Idealize.ShloMosaic.Lib.Pipeline.ValueKit.Tiles

@[expose] public section

set_option maxRecDepth 16384

noncomputable section

namespace Cert.Proof.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Key block `n`: rows `1024 n …` of the keys (the block number taken below 16, which it always is). -/
def keyBlock (x : Vec F S16384x128 .bf16) (n : ℕ) : Vec F S1024x128 .bf16 :=
  fun i => x (ix2 ⟨1024 * (n % 16) + (i 0).val, by have := (i 0).isLt; have h : S1024x128.size 0 = 1024 := rfl; omega⟩ (i 1))

/-- Value block `n`, transposed and with its row of ones as it is stored. -/
def valBlock (x : Vec F S1x16x144x1024 .bf16) (n : ℕ) : Vec F S1x1x144x1024 .bf16 :=
  fun i => x (ix4 (i 0) ⟨n % 16, Nat.mod_lt _ (by decide)⟩ (i 2) (i 3))

/-- Head `h`'s columns of a block of queries. -/
def headQ (x : Vec F S512x512 .bf16) (h : ℕ) : Vec F S512x128 .bf16 :=
  fun i => x (ix2 (i 0) ⟨128 * (h % 4) + (i 1).val, by have := (i 1).isLt; have h : S512x128.size 1 = 128 := rfl; omega⟩)

/-- What a grid point leaves in its output block: each head's columns from that head's chain over the sixteen blocks. -/
def outBlock (x3 : Vec F S512x512 .bf16) (x4 : Vec F S16384x128 .bf16) (x5 : Vec F S1x16x144x1024 .bf16) : Vec F S512x512 .bf16 :=
  fun y => headOut (accAfter (keyBlock x4) (valBlock x5) (headQ x3 ((y 1).val / 128)) 16) (ix2 (y 0) ⟨(y 1).val % 128, Nat.mod_lt _ (by decide)⟩)

section Reads

/-- A load at literal offsets, of contents told as a function of the index. -/
theorem readAt_unit {sig : RefSig} {κ : Kind} {sp : Space} {s : Shape} {e : EltTy} {Val : EltTy → Type} (v : View sig κ sp s e) {f : v.ty.Contents Val}
    {x : s.Idx → Val e} (h : v.read Val f = x) {off off' size : Fin s.rank → ℕ} (inb : ∀ a, off a + size a ≤ s.size a) (ho : off = off')
    {g : (Rect.unit off size inb).shape.Idx → Val e} (p : (Rect.unit off size inb).shape.Idx → s.Idx) (hp : ∀ i a, (p i a).val = off' a + (i a).val)
    (hg : ∀ i, g i = x (p i)) : v.readAt Val (Rect.unit off size inb).toLoadRect f = g := by
  subst ho
  funext i
  rw [View.readAt_apply, h, hg]
  congr 1
  funext a
  refine Fin.ext ?_
  rw [hp]
  show off a + 1 * (i a).val = _
  rw [Nat.one_mul]

variable {arg3 : Memref sig .tc .vmem S512x512 .bf16} {arg4 : Memref sig .tc .vmem S16384x128 .bf16} {arg5 : Memref sig .tc .vmem S1x16x144x1024 .bf16}
  {X3 : arg3.view.ty.Contents (Elt F)} {X4 : arg4.view.ty.Contents (Elt F)} {X5 : arg5.view.ty.Contents (Elt F)}
  {x3 : Vec F S512x512 .bf16} {x4 : Vec F S16384x128 .bf16} {x5 : Vec F S1x16x144x1024 .bf16}

theorem read_headQ (h3 : arg3.view.read (Elt F) X3 = x3) (n : ℕ) (hn : n < 4) {off : Fin S512x512.rank → ℕ} (inb : ∀ a, off a + S512x128.size a ≤ S512x512.size a)
    (ho : off = ![0, 128 * n]) : arg3.view.readAt (Elt F) (Rect.unit (s := S512x512) off S512x128.size inb).toLoadRect X3 = headQ x3 n :=
  readAt_unit arg3.view h3 inb ho _ (fun i a => by
    match a with
    | 0 => exact (Nat.zero_add _).symm
    | 1 => show 128 * (n % 4) + (i 1).val = 128 * n + (i 1).val; rw [Nat.mod_eq_of_lt hn]) fun i => rfl

theorem read_keyBlock (h4 : arg4.view.read (Elt F) X4 = x4) (n : ℕ) (hn : n < 16) {off : Fin S16384x128.rank → ℕ} (inb : ∀ a, off a + S1024x128.size a ≤ S16384x128.size a)
    (ho : off = ![1024 * n, 0]) : arg4.view.readAt (Elt F) (Rect.unit (s := S16384x128) off S1024x128.size inb).toLoadRect X4 = keyBlock x4 n :=
  readAt_unit arg4.view h4 inb ho _ (fun i a => by
    match a with
    | 0 => show 1024 * (n % 16) + (i 0).val = 1024 * n + (i 0).val; rw [Nat.mod_eq_of_lt hn]
    | 1 => exact (Nat.zero_add _).symm) fun i => rfl

theorem read_valBlock (h5 : arg5.view.read (Elt F) X5 = x5) (n : ℕ) (hn : n < 16) {off : Fin S1x16x144x1024.rank → ℕ} (inb : ∀ a, off a + S1x1x144x1024.size a ≤ S1x16x144x1024.size a)
    (ho : off = ![0, n, 0, 0]) : arg5.view.readAt (Elt F) (Rect.unit (s := S1x16x144x1024) off S1x1x144x1024.size inb).toLoadRect X5 = valBlock x5 n :=
  readAt_unit arg5.view h5 inb ho _ (fun i a => by
    match a with
    | 0 => exact (Nat.zero_add _).symm
    | 1 => show n % 16 = n + (i 1).val; rw [Nat.mod_eq_of_lt hn, show (i 1).val = 0 from Nat.lt_one_iff.mp (i 1).isLt]; rfl
    | 2 => exact (Nat.zero_add _).symm
    | 3 => exact (Nat.zero_add _).symm) fun i => rfl

/-- What a trip reads is the blocks it should. -/
theorem tripReads (h3 : arg3.view.read (Elt F) X3 = x3) (h4 : arg4.view.read (Elt F) X4 = x4) (h5 : arg5.view.read (Elt F) X5 = x5) (k : Fin k0_t1_loop.trips) :
    TripReads arg3 arg4 arg5 X3 X4 X5 k (keyBlock x4) (valBlock x5) (headQ x3 0) (headQ x3 1) (headQ x3 2) (headQ x3 3) (4 * k.val) := by
  have hk : k.val < 3 := k.isLt
  have e1 : ∀ r : Fin 4, k0_off1 k (BitVec.ofNat 32 r.val) = ![1024 * (4 * k.val + r.val), 0] := fun r => by
    rw [k0_off1_eq]; congr 1; omega
  have e3 : ∀ r : Fin 4, k0_off3 k (BitVec.ofNat 32 r.val) = ![1024 * (4 * k.val + (r.val + 1)), 0] := fun r => by
    rw [k0_off3_eq]; congr 1; omega
  have e2 : ∀ r : Fin 4, k0_off2 k (BitVec.ofNat 32 r.val) = ![0, 4 * k.val + r.val, 0, 0] := k0_off2_eq k
  exact ⟨read_headQ h3 0 (by decide) _ rfl,
    read_headQ h3 1 (by decide) _ rfl,
    read_headQ h3 2 (by decide) _ rfl,
    read_headQ h3 3 (by decide) _ rfl,
    read_keyBlock h4 _ (by omega) _ (e1 0),
    read_keyBlock h4 _ (by omega) _ (e3 0),
    read_valBlock h5 _ (by omega) _ (e2 0),
    read_keyBlock h4 _ (by omega) _ (e1 1),
    read_keyBlock h4 _ (by omega) _ (e3 1),
    read_valBlock h5 _ (by omega) _ (e2 1),
    read_keyBlock h4 _ (by omega) _ (e1 2),
    read_keyBlock h4 _ (by omega) _ (e3 2),
    read_valBlock h5 _ (by omega) _ (e2 2),
    read_keyBlock h4 _ (by omega) _ (e1 3),
    read_keyBlock h4 _ (by omega) _ (e3 3),
    read_valBlock h5 _ (by omega) _ (e2 3)⟩

/-- So is what the body reads outside the loop. -/
theorem endReads (h3 : arg3.view.read (Elt F) X3 = x3) (h4 : arg4.view.read (Elt F) X4 = x4) (h5 : arg5.view.read (Elt F) X5 = x5) :
    EndReads arg3 arg4 arg5 X3 X4 X5 (keyBlock x4) (valBlock x5) (headQ x3 0) (headQ x3 1) (headQ x3 2) (headQ x3 3) := by
  exact ⟨read_headQ h3 0 (by decide) _ rfl,
    read_headQ h3 1 (by decide) _ rfl,
    read_headQ h3 2 (by decide) _ rfl,
    read_headQ h3 3 (by decide) _ rfl,
    read_keyBlock h4 0 (by decide) _ rfl,
    read_keyBlock h4 12 (by decide) _ rfl,
    read_keyBlock h4 13 (by decide) _ rfl,
    read_keyBlock h4 14 (by decide) _ rfl,
    read_keyBlock h4 15 (by decide) _ rfl,
    read_valBlock h5 12 (by decide) _ rfl,
    read_valBlock h5 13 (by decide) _ rfl,
    read_valBlock h5 14 (by decide) _ rfl,
    read_valBlock h5 15 (by decide) _ rfl⟩

/-- Four stores of 128 columns each make the whole block. -/
theorem read_columns {arg6 : Memref sig .tc .vmem S512x512 .bf16} (f : arg6.view.ty.Contents (Elt F)) (w : ℕ → Vec F S512x128 .bf16) :
    arg6.view.read (Elt F) (arg6.view.writes (Elt F) f
      [⟨Rect.unit (s := S512x512) ![0, 384] S512x128.size inb_S512x512_S512x128_0_384, w 3⟩,
       ⟨Rect.unit (s := S512x512) ![0, 256] S512x128.size inb_S512x512_S512x128_0_256, w 2⟩,
       ⟨Rect.unit (s := S512x512) ![0, 128] S512x128.size inb_S512x512_S512x128_0_128, w 1⟩,
       ⟨Rect.unit (s := S512x512) ![0, 0] S512x128.size inb_S512x512_S512x128_0_0, w 0⟩])
      = fun y => w ((y 1).val / 128) (ix2 (y 0) ⟨(y 1).val % 128, Nat.mod_lt _ (by decide)⟩) := by
  funext y
  have hy : (y 1).val < 512 := (y 1).isLt
  have miss : ∀ (n : ℕ) (w' : Vec F S512x128 .bf16) (inb : ∀ a, (![0, 128 * n] : Fin S512x512.rank → ℕ) a + S512x128.size a ≤ S512x512.size a) (L : List (View.Piece (Elt F) S512x512 .bf16)),
      (y 1).val / 128 ≠ n → arg6.view.read (Elt F) (arg6.view.writes (Elt F) f (⟨Rect.unit (s := S512x512) ![0, 128 * n] S512x128.size inb, w'⟩ :: L)) y
        = arg6.view.read (Elt F) (arg6.view.writes (Elt F) f L) y := fun n w' inb L h =>
    View.read_writes_cons_unit_of_not_mem _ _ _ _ _ _ rfl 1 (by
      show (y 1).val < 128 * n ∨ 128 * n + 128 ≤ (y 1).val
      omega)
  have hit : ∀ (n : ℕ) (inb : ∀ a, (![0, 128 * n] : Fin S512x512.rank → ℕ) a + S512x128.size a ≤ S512x512.size a) (L : List (View.Piece (Elt F) S512x512 .bf16)),
      (y 1).val / 128 = n → arg6.view.read (Elt F) (arg6.view.writes (Elt F) f (⟨Rect.unit (s := S512x512) ![0, 128 * n] S512x128.size inb, w n⟩ :: L)) y
        = w ((y 1).val / 128) (ix2 (y 0) ⟨(y 1).val % 128, Nat.mod_lt _ (by decide)⟩) := fun n inb L h => by
    rw [h]
    exact View.read_writes_cons_unit_of_mem _ _ _ _ _ _ _ rfl fun a => by
      match a with
      | 0 => exact (Nat.zero_add _).symm
      | 1 => show (y 1).val = 128 * n + (y 1).val % 128; omega
  by_cases h3 : (y 1).val / 128 = 3
  · exact hit 3 _ _ h3
  refine (miss 3 _ _ _ h3).trans ?_
  by_cases h2 : (y 1).val / 128 = 2
  · exact hit 2 _ _ h2
  refine (miss 2 _ _ _ h2).trans ?_
  by_cases h1 : (y 1).val / 128 = 1
  · exact hit 1 _ _ h1
  refine (miss 1 _ _ _ h1).trans ?_
  exact hit 0 _ _ (by omega)

/-- The body's stores leave `outBlock` of the input blocks in the output block. -/
theorem body_writes (c : Dev nD) (i : grid0.Coords) (harg3 : arg3.IsWhole) (harg4 : arg4.IsWhole) (harg5 : arg5.IsWhole) (arg6 : Memref sig .tc .vmem S512x512 .bf16) (harg6 : arg6.IsWhole)
    {arg7 : Memref sig .tc .vmem S4x1x512 .f32} {arg8 : Memref sig .tc .vmem S4x144x512 .f32} {arg9 : Memref sig .tc .vmem S2x1024x512 .f32} {arg10 : Memref sig .tc .vmem S2x1x512 .f32}
    (harg7 : arg7.IsWhole) (harg8 : arg8.IsWhole) (harg9 : arg9.IsWhole) (harg10 : arg10.IsWhole)
    (h3 : arg3.view.read (Elt F) X3 = x3) (h4 : arg4.view.read (Elt F) X4 = x4) (h5 : arg5.view.read (Elt F) X5 = x5)
    (f7 : arg7.view.ty.Contents (Elt F)) (f8 : arg8.view.ty.Contents (Elt F)) (f9 : arg9.view.ty.Contents (Elt F)) (f10 : arg10.view.ty.Contents (Elt F)) (f6 : arg6.view.ty.Contents (Elt F)) :
    arg6.view.read (Elt F) (arg6.view.writes (Elt F) f6 (bodyRun (F := F) c i arg3 harg3 arg4 harg4 arg5 harg5 arg6 harg6 arg7 harg7 arg8 harg8 arg9 harg9 arg10 harg10 X3 X4 X5 f7 f8 f9 f10).1)
      = outBlock x3 x4 x5 := by
  rw [bodyRun_eq c i harg3 harg4 harg5 arg6 harg6 harg7 harg8 harg9 harg10 f7 f8 f9 f10 (tripReads h3 h4 h5) (endReads h3 h4 h5)]
  exact read_columns f6 fun n => headOut (accAfter (keyBlock x4) (valBlock x5) (headQ x3 n) 16)

end Reads

variable (m : (ℓ : Loc nD τ sig) → Buf (Elt F) ℓ) (ρ : Dev nD → PrngReg)

/-- The proof data: the inputs stay at their blocks, the output block ends at `outBlock` of them. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => X0_1 m c t
    | ⟨2, _⟩ => X0_2 m c t
    | ⟨3, _⟩ => outBlock (iblk m c 0 t) (X0_1 m c t) (X0_2 m c t)
    | ⟨_ + 4, h⟩ => absurd h (Nat.not_lt.2 (Nat.le_add_left _ _))
  Φ _ := Pipeline.ΦA spec0 c
  q _ := fullShare
  owed _ := 0

/-- The body table's row at a point is the body there. -/
theorem body_row (t : Fin cfg0.N) : defs₀ (F := F) .tc cfg0.body (cfg0.bodyArgs t (cfg0.slots t)) = bodyAt0 t := by
  unfold defs₀; rw [Defs.onTc_tc]

set_option maxHeartbeats 1600000 in
/-- The pipeline's demand on the body, at every point. -/
theorem body_ok (c : Dev nD) : BodyObligation (dats m 0 c) (defs₀ (F := F)) Variants.none () Set.univ := fun t => by
  rw [bigSep_W0, bigSep_W0, body_row]
  have h0 := before0_0_of m (dats m 0 c) rfl (fun _ => rfl) t
  have h1 := before0_1_of m (dats m 0 c) rfl (fun _ => rfl) t
  have h2 := before0_2_of m (dats m 0 c) rfl (fun _ => rfl) t
  change iprop(Pipeline.ΦA spec0 c ∗ (dats m 0 c).owesAt () t.castSucc
      ∗ (∃ d, owns c (win0_0.stage (cfg0.slots t 0)) fullShare ((dats m 0 c).before 0 t d))
      ∗ (∃ d, owns c (win0_1.stage (cfg0.slots t 1)) fullShare ((dats m 0 c).before 1 t d))
      ∗ (∃ d, owns c (win0_2.stage (cfg0.slots t 2)) fullShare ((dats m 0 c).before 2 t d))
      ∗ (∃ d, owns c (win0_3.stage (cfg0.slots t 3)) fullShare ((dats m 0 c).before 3 t d)))
    ⊢ wp frame (wpE (defs₀ (F := F)) Variants.none c none) Set.univ (bodyAt0 t) fun _ =>
      iprop(Pipeline.ΦA spec0 c ∗ (dats m 0 c).owesAt () t.castSucc
      ∗ owns c (win0_0.stage (cfg0.slots t 0)) fullShare (iblk m c 0 t)
      ∗ owns c (win0_1.stage (cfg0.slots t 1)) fullShare (X0_1 m c t)
      ∗ owns c (win0_2.stage (cfg0.slots t 2)) fullShare (X0_2 m c t)
      ∗ owns c (win0_3.stage (cfg0.slots t 3)) fullShare (outBlock (iblk m c 0 t) (X0_1 m c t) (X0_2 m c t)))
  simp only [h0, h1, h2]
  unfold Pipeline.ΦA bodyAt0
  rw [scopedRest0_eq]
  unfold owns
  iintro ⟨⟨⟨⟨%f7, S7⟩, ⟨%f8, S8⟩, ⟨%f9, S9⟩, ⟨%f10, S10⟩⟩, HP⟩, HO, ⟨%d0, %g0, %e0, H0⟩, ⟨%d1, %g1, %e1, H1⟩, ⟨%d2, %g2, %e2, H2⟩, ⟨%d3, %g3, %e3, H3⟩⟩
  iapply (bodyRun (F := F) c (grid0.coords t) _ _ _ _ _ _ _ _ _ _ _ _ _ _ _ _ g0 g1 g2 f7 f8 f9 f10).2 g3
  simp only [held, Memref.view_whole, View.set_whole]
  isplitl [H0]; · iexact H0
  isplitl [H1]; · iexact H1
  isplitl [H2]; · iexact H2
  isplitl [H3]; · iexact H3
  isplitl [S7]; · iexact S7
  isplitl [S8]; · iexact S8
  isplitl [S9]; · iexact S9
  isplitl [S10]; · iexact S10
  iintro ⟨H0, H1, H2, H3, S7, S8, S9, S10⟩
  isplitl [S7 S8 S9 S10 HP]
  · isplitr [HP]
    · isplitl [S7]; · iexact S7
      isplitl [S8]; · iexact S8
      isplitl [S9]; · iexact S9
      iexact S10
    · iexact HP
  isplitl [HO]; · iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  iexists _; isplitr; swap; · iexact H3
  ipureintro
  exact body_writes (arg7 := Memref.whole cc0_scratch0) (arg8 := Memref.whole cc0_scratch1) (arg9 := Memref.whole cc0_scratch2) (arg10 := Memref.whole cc0_scratch3)
    c _ _ _ _ _ _ _ _ _ _ e0 e1 e2 f7 f8 f9 f10 g3

set_option backward.isDefEq.respectTransparency false in
/-- The program runs to the end with every array at the contents the proof data name. -/
theorem runs : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => (body_ok m c).loose) (hshare := fun c => (dats m 0 c).share_full fun _ => rfl) (howed := fun _ _ => rfl) (V := V m)
    (hmain := hmain m Variants.none) (hA := fun _ _ => rfl) (hΦ := fun _ _ => rfl)
    (Q' := _) (hQ' := fun _ h => h)

end Cert.Proof.Attn

end
-- ==== Proof.Softmax.lean ====
/-
  The softmax over the reals, and its running form over the extended reals: how the maximum subtracted from the scores
  drops out of the quotient, and what powers of two have to do with exponentials.
-/
module

public import Idealize.ShloMosaic.PureOps.Ideal
public import Idealize.ShloMosaic.PureOps.Ideal.Laws

@[expose] public section

namespace Cert.Proof.Softmax

open Idealize.ShloMosaic
open scoped BigOperators

/-- The largest of finitely many reals, folded from minus infinity, is a real. -/
theorem fold_max_real {n : ℕ} (hn : 0 < n) (f : Fin n → ℝ) :
    ∃ b : ℝ, Finset.univ.fold max (⊥ : EReal) (fun k => ((f k : ℝ) : EReal)) = b := by
  have h1 : Finset.univ.fold max (⊥ : EReal) (fun k => ((f k : ℝ) : EReal)) < ⊤ := by
    rw [Finset.fold_max_lt]
    exact ⟨bot_lt_top, fun k _ => EReal.coe_lt_top _⟩
  have h2 : ⊥ < Finset.univ.fold max (⊥ : EReal) (fun k => ((f k : ℝ) : EReal)) := by
    rw [Finset.lt_fold_max]
    exact Or.inr ⟨⟨0, hn⟩, Finset.mem_univ _, EReal.bot_lt_coe _⟩
  exact ⟨_, (EReal.coe_toReal h1.ne h2.ne').symm⟩

/-- A sum of reals, summed as extended reals. -/
theorem coe_sum {ι : Type*} (s : Finset ι) (f : ι → ℝ) : ∑ k ∈ s, ((f k : ℝ) : EReal) = ((∑ k ∈ s, f k : ℝ) : EReal) :=
  (map_sum (⟨⟨Real.toEReal, EReal.coe_zero⟩, EReal.coe_add⟩ : ℝ →+ EReal) f s).symm

/-- A nonnegative real distributes over a sum of extended reals. -/
theorem sum_mul_coe {ι : Type*} (t : Finset ι) (f : ι → EReal) {c : ℝ} (hc : 0 ≤ c) :
    (∑ k ∈ t, f k) * (c : EReal) = ∑ k ∈ t, f k * (c : EReal) :=
  map_sum (⟨⟨fun x : EReal => x * (c : EReal), zero_mul _⟩, fun _ _ =>
    EReal.right_distrib_of_nonneg_of_ne_top (EReal.coe_nonneg.mpr hc) (EReal.coe_ne_top c) _ _⟩ : EReal →+ EReal) f t

/-- A block's weighted sum against a real maximum has real weights. -/
theorem weighted {n : ℕ} (v : Fin n → EReal) (s : Fin n → ℝ) (M : ℝ) :
    ∑ k, v k * Ideal.exp2 (((s k : ℝ) : EReal) - (M : EReal)) = ∑ k, v k * (((2 : ℝ) ^ (s k - M) : ℝ) : EReal) := by
  refine Finset.sum_congr rfl fun k _ => ?_
  rw [← EReal.coe_sub, Ideal.exp2_coe]
  rfl

/-- The weighted sum over the first blocks, each weight taken against `M`. -/
noncomputable def partialSum {n : ℕ} (v : ℕ → Fin n → EReal) (s : ℕ → Fin n → ℝ) (N : ℕ) (M : ℝ) : EReal :=
  ∑ j ∈ Finset.range N, ∑ k, v j k * (((2 : ℝ) ^ (s j k - M) : ℝ) : EReal)

/-- Rescaling a partial sum to another maximum and adding the next block gives the next partial sum. -/
theorem partialSum_step {n : ℕ} (v : ℕ → Fin n → EReal) (s : ℕ → Fin n → ℝ) (N : ℕ) (M M' : ℝ) :
    partialSum v s N M * (((2 : ℝ) ^ (M - M') : ℝ) : EReal) + ∑ k, v N k * (((2 : ℝ) ^ (s N k - M') : ℝ) : EReal)
      = partialSum v s (N + 1) M' := by
  have hc : (0 : ℝ) ≤ (2 : ℝ) ^ (M - M') := (Real.rpow_pos_of_pos (by norm_num) _).le
  unfold partialSum
  rw [Finset.sum_range_succ, sum_mul_coe _ _ hc]
  refine congrArg (· + _) (Finset.sum_congr rfl fun j _ => ?_)
  rw [sum_mul_coe _ _ hc]
  refine Finset.sum_congr rfl fun k _ => ?_
  rw [mul_assoc, ← EReal.coe_mul, ← Real.rpow_add (by norm_num)]
  congr 3
  ring

/-- The quotient of the weighted sum by the sum of the weights, powers of two against one number `M`, is the mean under the
    exponentials of the scores times the logarithm of two, against any other number `m`. The values may be infinite. -/
theorem quotient_eq {ι : Type*} [Fintype ι] [Nonempty ι] (v : ι → EReal) (s : ι → ℝ) (M m : ℝ) :
    Ideal.div (∑ k, v k * (((2 : ℝ) ^ (s k - M) : ℝ) : EReal)) ((∑ k, (2 : ℝ) ^ (s k - M) : ℝ) : EReal)
      = ∑ k, v k * ((Real.exp (s k * Real.log 2 - m) / ∑ j, Real.exp (s j * Real.log 2 - m) : ℝ) : EReal) := by
  have hpos : 0 < ∑ k, (2 : ℝ) ^ (s k - M) :=
    Finset.sum_pos (fun j _ => Real.rpow_pos_of_pos (by norm_num) _) Finset.univ_nonempty
  have e : ∀ k, (2 : ℝ) ^ (s k - M) = Real.exp (s k * Real.log 2 - m) * Real.exp (m - M * Real.log 2) := fun k => by
    rw [Real.rpow_def_of_pos (by norm_num), ← Real.exp_add]
    congr 1
    ring
  rw [Ideal.div_coe hpos.ne', sum_mul_coe _ _ (one_div_nonneg.mpr hpos.le)]
  refine Finset.sum_congr rfl fun k _ => ?_
  rw [mul_assoc, ← EReal.coe_mul, mul_one_div]
  simp only [e, ← Finset.sum_mul]
  rw [mul_div_mul_right _ _ (Real.exp_pos _).ne']

/-- A sum over rows cut into blocks of equal length. -/
theorem sum_blocks {M : Type*} [AddCommMonoid M] (a b : ℕ) (f : ℕ → M) :
    ∑ x : Fin (a * b), f x = ∑ j ∈ Finset.range a, ∑ k : Fin b, f (b * j + k) := by
  rw [← (finProdFinEquiv (m := a) (n := b)).sum_comp, Fintype.sum_prod_type, Finset.sum_range]
  refine Finset.sum_congr rfl fun j _ => Finset.sum_congr rfl fun k _ => ?_
  rw [finProdFinEquiv_apply_val, Nat.add_comm]

end Cert.Proof.Softmax

end
-- ==== Proof.Coords.lean ====
/-
  The chain of one head read at its coordinates over the extended reals, and its value on real scores: after all the blocks
  the accumulator over its row of weights is the weighted mean of the values.
-/
module

public import proofs.«01_k».proof.Proof.Blocks
public import proofs.«01_k».proof.Proof.Softmax
public import Idealize.ShloMosaic.Lib.Pointwise

@[expose] public section

namespace Cert.Proof.Attn

open Idealize.ShloMosaic Cert.KernelIdeal Cert.KernelIdeal.Gen Cert.Proof.Softmax
open scoped BigOperators

/-- A score is the inner product of its key and its query. -/
theorem scores_at (kb : Vec Ideal S1024x128 .bf16) (q : Vec Ideal S512x128 .bf16) (k : Fin 1024) (i : Fin 512) :
    scores kb q (ix3 0 k i) = ∑ x : Fin 128, kb (ix2 k x) * q (ix2 i x) := by
  pointwise [scores, k0_pay5, k0_pay4]

/-- The printed minus infinity. -/
theorem minus_infinity : Ideal.ofBits .f32 0xFF800000#32 = (⊥ : EReal) := by
  simp [Ideal.ofBits, Ideal.ieee]

/-- A block's maximum is the fold of its scores. -/
theorem blockMax_at (kb : Vec Ideal S1024x128 .bf16) (q : Vec Ideal S512x128 .bf16) (i : Fin 512) :
    blockMax kb q (ix3 0 0 i) = Finset.univ.fold max (⊥ : EReal) (fun k => scores kb q (ix3 0 k i)) := by
  simp only [scores_at]
  pointwise [blockMax, k0_pay6, k0_pay4]
  rw [minus_infinity]

/-- The running maximum takes the larger. -/
theorem maxStep_at (m x : Vec Ideal S1x1x512 .f32) (i : Fin 512) :
    maxStep m x (ix3 0 0 i) = max (m (ix3 0 0 i)) (x (ix3 0 0 i)) := by
  pointwise [maxStep, k0_pay12, k0_pay8, k0_pay7]

/-- The accumulator is rescaled to the new maximum and the block's weighted values are added. -/
theorem accStep_at (vb : Vec Ideal S1x1x144x1024 .bf16) (m x : Vec Ideal S1x1x512 .f32)
    (s : Vec Ideal S1x1024x512 .f32) (a : Vec Ideal S1x144x512 .f32) (d : Fin 144) (i : Fin 512) :
    accStep vb m x s a (ix3 0 d i)
      = a (ix3 0 d i) * Ideal.exp2 (m (ix3 0 0 i) - maxStep m x (ix3 0 0 i))
        + ∑ k : Fin 1024, vb (ix4 0 0 d k) * Ideal.exp2 (s (ix3 0 k i) - maxStep m x (ix3 0 0 i)) := by
  rw [maxStep_at]
  pointwise [accStep, k0_pay11, k0_pay3, k0_pay9, k0_pay10, k0_pay8, k0_pay7]
  rfl

/-- A head's output is the accumulator over its row of weights. -/
theorem headOut_at (a : Vec Ideal S1x144x512 .f32) (i : Fin 512) (d : Fin 128) :
    headOut a (ix2 i d) = Ideal.div (a (ix3 0 ⟨d, by omega⟩ i)) (a (ix3 0 128 i)) := by
  pointwise [headOut, k0_pay2]

section Real

variable {K : ℕ → Vec Ideal S1024x128 .bf16} {V : ℕ → Vec Ideal S1x1x144x1024 .bf16} {q : Vec Ideal S512x128 .bf16} {i : Fin 512}
variable {s : ℕ → Fin 1024 → ℝ}

/-- On real scores the running maximum is real from the first block on. -/
theorem maxAfter_real (hs : ∀ n k, scores (K n) q (ix3 0 k i) = ((s n k : ℝ) : EReal)) (n : ℕ) :
    ∃ M : ℝ, maxAfter K q (n + 1) (ix3 0 0 i) = (M : EReal) := by
  have hb : ∀ n, ∃ b : ℝ, blockMax (K n) q (ix3 0 0 i) = (b : EReal) := fun n => by
    rw [blockMax_at]
    simp only [hs]
    exact fold_max_real (by decide) _
  induction n with
  | zero =>
    obtain ⟨b, hb⟩ := hb 0
    refine ⟨b, ?_⟩
    rw [maxAfter_succ, maxStep_at, hb]
    change max (Ideal.ofBits .f32 0xFF800000#32) _ = _
    rw [minus_infinity]
    exact max_eq_right bot_le
  | succ n ih =>
    obtain ⟨M, hM⟩ := ih
    obtain ⟨b, hb⟩ := hb (n + 1)
    exact ⟨max M b, by rw [maxAfter_succ, maxStep_at, hM, hb]; exact (EReal.coe_strictMono.monotone.map_max).symm⟩

/-- On real scores the accumulator is the partial weighted sum against the running maximum. -/
theorem accAfter_real (hs : ∀ n k, scores (K n) q (ix3 0 k i) = ((s n k : ℝ) : EReal))
    {M : ℕ → ℝ} (hM : ∀ n, maxAfter K q (n + 1) (ix3 0 0 i) = ((M n : ℝ) : EReal))
    {d : Fin 144} {v : ℕ → Fin 1024 → EReal} (hv : ∀ n k, V n (ix4 0 0 d k) = v n k) (n : ℕ) :
    accAfter K V q (n + 1) (ix3 0 d i) = partialSum v s (n + 1) (M n) := by
  induction n with
  | zero =>
    rw [accAfter_succ, accStep_at, ← maxAfter_succ, hM]
    simp only [hs, hv]
    rw [weighted]
    change Ideal.ofBits .f32 0#32 * Ideal.exp2 (Ideal.ofBits .f32 0xFF800000#32 - _) + _ = _
    rw [minus_infinity, EReal.bot_sub, Ideal.ofBits_zero_f32, zero_mul, zero_add]
    simp [partialSum]
  | succ n ih =>
    rw [accAfter_succ, accStep_at, ← maxAfter_succ, hM, hM, ih]
    simp only [hs, hv]
    rw [weighted, ← EReal.coe_sub, Ideal.exp2_coe, ← partialSum_step v s (n + 1) (M n) (M (n + 1))]
    rfl

/-- A head's output on real scores, of value blocks that carry their row of ones: the mean of the values under the
    exponentials of the scores times the logarithm of two, whatever number `m` is taken off them. -/
theorem headOut_real (hs : ∀ n k, scores (K n) q (ix3 0 k i) = ((s n k : ℝ) : EReal))
    {d : Fin 128} {v : ℕ → Fin 1024 → EReal} (hv : ∀ n k, V n (ix4 0 0 ⟨d, by omega⟩ k) = v n k)
    (h1 : ∀ n k, V n (ix4 0 0 128 k) = (1 : EReal)) (m : ℝ)
    (sf : ℕ → ℝ) (vf : ℕ → EReal) (hsf : ∀ n k, n < 16 → s n k = sf (1024 * n + k)) (hvf : ∀ n k, n < 16 → v n k = vf (1024 * n + k)) :
    headOut (accAfter K V q 16) (ix2 i d)
      = ∑ x : Fin 16384, vf x * ((Real.exp (sf x * Real.log 2 - m) / ∑ y : Fin 16384, Real.exp (sf y * Real.log 2 - m) : ℝ) : EReal) := by
  choose M hM using maxAfter_real (K := K) (q := q) (i := i) hs
  rw [headOut_at, accAfter_real hs hM hv 15, accAfter_real (d := 128) (v := fun _ _ => 1) hs hM h1 15,
    ← quotient_eq (fun x : Fin 16384 => vf x) (fun x => sf x) (M 15) m]
  have e1 : partialSum v s (15 + 1) (M 15) = ∑ x : Fin 16384, vf x * (((2 : ℝ) ^ (sf x - M 15) : ℝ) : EReal) := by
    refine Eq.trans ?_ (sum_blocks 16 1024 fun x => vf x * (((2 : ℝ) ^ (sf x - M 15) : ℝ) : EReal)).symm
    exact Finset.sum_congr rfl fun j hj => Finset.sum_congr rfl fun k _ => by
      rw [hsf j k (Finset.mem_range.mp hj), hvf j k (Finset.mem_range.mp hj)]
  have e2 : partialSum (fun _ _ => 1) s (15 + 1) (M 15) = ((∑ x : Fin 16384, (2 : ℝ) ^ (sf x - M 15) : ℝ) : EReal) := by
    rw [← coe_sum]
    refine Eq.trans ?_ (sum_blocks 16 1024 fun x => (((2 : ℝ) ^ (sf x - M 15) : ℝ) : EReal)).symm
    exact Finset.sum_congr rfl fun j hj => Finset.sum_congr rfl fun k _ => by
      rw [hsf j k (Finset.mem_range.mp hj), one_mul]
  rw [e1, e2]

end Real

end Cert.Proof.Attn

end
-- ==== Proof.RefRead.lean ====
/-
  The reference read at one element of its result over the extended reals: on real scores the mean of the values under the
  exponentials of the scores times the logarithm of two.
-/
module

public import proofs.«01_k».proof.Proof.Gen.ReferenceIdeal.Read
public import proofs.«01_k».proof.Proof.Softmax
public import Idealize.ShloMosaic.Lib.Pointwise

@[expose] public section

namespace Cert.Proof.AttnRef

open Idealize.ShloMosaic Cert.ReferenceIdeal Cert.ReferenceIdeal.Read Cert.Proof.Softmax
open scoped BigOperators

/-- The query row `r` holds, at column `c`. -/
noncomputable def qAt (x0 : Vec Ideal S24576x2048 .bf16) (r c : ℕ) : EReal :=
  x0 (ix2 ⟨r % 24576, Nat.mod_lt _ (by decide)⟩ ⟨c % 2048, Nat.mod_lt _ (by decide)⟩)
/-- The key row `r` holds, at column `c`. -/
noncomputable def kAt (x1 : Vec Ideal S24576x512 .bf16) (r c : ℕ) : EReal :=
  x1 (ix2 ⟨r % 24576, Nat.mod_lt _ (by decide)⟩ ⟨c % 512, Nat.mod_lt _ (by decide)⟩)
/-- The entry `d` of token `r`'s value, of key head `h`. -/
noncomputable def vAt (x2 : Vec Ideal S4x24x144x1024 .bf16) (h r d : ℕ) : EReal :=
  x2 (ix4 ⟨h % 4, Nat.mod_lt _ (by decide)⟩ ⟨r / 1024 % 24, Nat.mod_lt _ (by decide)⟩ ⟨d % 144, Nat.mod_lt _ (by decide)⟩ ⟨r % 1024, Nat.mod_lt _ (by decide)⟩)

/-- The real score of key `x` for query row `r` of head `h`. -/
noncomputable def score (x0 : Vec Ideal S24576x2048 .bf16) (x1 : Vec Ideal S24576x512 .bf16) (r h x : ℕ) : ℝ :=
  ∑ k : Fin 128, (kAt x1 x (128 * (h / 4) + k)).toReal * (qAt x0 r (128 * h + k)).toReal

/-- What the entries must be for the claim: real numbers in the queries and keys, and one along the row of ones. -/
structure Finite (x0 : Vec Ideal S24576x2048 .bf16) (x1 : Vec Ideal S24576x512 .bf16) (x2 : Vec Ideal S4x24x144x1024 .bf16) : Prop where
  q : ∀ r c, r < 16384 → qAt x0 r c = ((qAt x0 r c).toReal : EReal)
  k : ∀ r c, r < 16384 → kAt x1 r c = ((kAt x1 r c).toReal : EReal)
  one : ∀ h r, r < 16384 → vAt x2 h r 128 = 1

variable {x0 : Vec Ideal S24576x2048 .bf16} {x1 : Vec Ideal S24576x512 .bf16} {x2 : Vec Ideal S4x24x144x1024 .bf16}

/-- The inner product of a key and a query, of real entries. -/
theorem inner_real (H : Finite x0 x1 x2) (r h x : ℕ) (hr : r < 16384) (hx : x < 16384) :
    ∑ k : Fin 128, kAt x1 x (128 * (h / 4) + k) * qAt x0 r (128 * h + k) = ((score x0 x1 r h x : ℝ) : EReal) := by
  unfold score
  rw [← coe_sum]
  refine Finset.sum_congr rfl fun k _ => ?_
  rw [H.q _ _ hr, H.k _ _ hx, ← EReal.coe_mul, EReal.toReal_coe, EReal.toReal_coe]

/-- The printed two. -/
theorem two_bits : Ideal.ofBits .f32 0x40000000#32 = ((2 : ℝ) : EReal) := by
  simp [Ideal.ofBits, Ideal.ieee]
  rw [← EReal.coe_mul]
  norm_num

/-- The printed minus infinity. -/
theorem minus_infinity : Ideal.ofBits .f32 0xFF800000#32 = (⊥ : EReal) := by
  simp [Ideal.ofBits, Ideal.ieee]

/-- The scaled score, at its coordinates. -/
theorem v14_at (H : Finite x0 x1 x2) (kv g : Fin 4) (r x : Fin 16384) :
    val_main_v14 (F := Ideal) x0 x1 (ix4 kv g r x) = ((score x0 x1 r (4 * kv + g) x * Real.log 2 : ℝ) : EReal) := by
  rw [val_main_v14_apply, val_main_v13_apply, val_main_v12_apply, val_main_cst_apply, val_main_v11_apply, val_main_v10_apply]
  have e : ∀ k : Fin 128, val_main_v5 (F := Ideal) x1 (lidx_main_v10 (idx_main_v11 (ix4 kv g r x)) k)
      * val_main_v2 (F := Ideal) x0 (ridx_main_v10 (idx_main_v11 (ix4 kv g r x)) k)
      = kAt x1 x (128 * ((4 * kv + g : ℕ) / 4) + k) * qAt x0 r (128 * (4 * kv + g : ℕ) + k) := fun k => by
    rw [val_main_v5_apply, val_main_v4_apply, val_main_v3_apply, val_main_v2_apply, val_main_v1_apply, val_main_v0_apply]
    refine congrArg₂ (· * ·) ?_ ?_
    · refine congrArg x1 (funext fun a => Fin.ext ?_)
      match a with
      | ⟨0, _⟩ =>
        show ((x.val * 4 + kv.val) * 128 + k.val) / 512 = x.val % 24576
        omega
      | ⟨1, _⟩ =>
        show ((x.val * 4 + kv.val) * 128 + k.val) % 512 = (128 * ((4 * kv.val + g.val) / 4) + k.val) % 512
        omega
    · refine congrArg x0 (funext fun a => Fin.ext ?_)
      match a with
      | ⟨0, _⟩ =>
        show (((r.val * 4 + kv.val) * 4 + g.val) * 128 + k.val) / 2048 = r.val % 24576
        omega
      | ⟨1, _⟩ =>
        show (((r.val * 4 + kv.val) * 4 + g.val) * 128 + k.val) % 2048 = (128 * (4 * kv.val + g.val) + k.val) % 2048
        omega
  rw [Finset.sum_congr rfl fun k _ => e k, inner_real H _ _ _ r.isLt x.isLt]
  change _ * Ideal.log (Ideal.ofBits .f32 0x40000000#32) = _
  rw [two_bits, Ideal.log_coe, if_neg (by norm_num), ← EReal.coe_mul]

/-- What the softmax takes off a row of scores is a real number. -/
theorem v17_real (H : Finite x0 x1 x2) (kv g : Fin 4) (r : Fin 16384) :
    ∃ m : ℝ, val_main_v17 (F := Ideal) x0 x1 (ix3 kv g r) = (m : EReal) := by
  have e : val_main_v15 (F := Ideal) x0 x1 (ix3 kv g r)
      = Finset.univ.fold max (⊥ : EReal) (fun x : Fin 16384 => ((score x0 x1 r (4 * kv + g) x * Real.log 2 : ℝ) : EReal)) := by
    simp only [← v14_at H]
    unfold val_main_v15
    generalize val_main_v14 (F := Ideal) x0 x1 = y
    pointwise [val_main_cst_0]
    rw [minus_infinity]
  obtain ⟨m, hm⟩ := fold_max_real (n := 16384) (by decide) (fun x => score x0 x1 r (4 * kv + g) x * Real.log 2)
  refine ⟨m, ?_⟩
  rw [val_main_v17_apply, e, hm, val_main_v16_apply, val_main_cst_1_apply]
  change max (Ideal.ofBits .f32 0xFF800000#32) _ = _
  rw [minus_infinity]
  exact max_eq_right bot_le

/-- A weight, at its coordinates. -/
theorem v25_at (H : Finite x0 x1 x2) (kv g : Fin 4) (r : Fin 16384) :
    ∃ m : ℝ, ∀ x : Fin 16384, val_main_v25 (F := Ideal) x0 x1 (ix4 kv g r x)
      = ((Real.exp (score x0 x1 r (4 * kv + g) x * Real.log 2 - m) / ∑ y : Fin 16384, Real.exp (score x0 x1 r (4 * kv + g) y * Real.log 2 - m) : ℝ) : EReal) := by
  obtain ⟨m, hm⟩ := v17_real H kv g r
  have e : ∀ x : Fin 16384, val_main_v21 (F := Ideal) x0 x1 (ix4 kv g r x)
      = ((Real.exp (score x0 x1 r (4 * kv + g) x * Real.log 2 - m) : ℝ) : EReal) := fun x => by
    rw [val_main_v21_apply, val_main_v20_apply, v14_at H, val_main_v19_apply, val_main_v18_apply,
      show idx_main_v18 (idx_main_v19 (ix4 kv g r x)) = ix3 kv g r from funext fun a => match a with
        | ⟨0, _⟩ => rfl | ⟨1, _⟩ => rfl | ⟨2, _⟩ => rfl, hm]
    rw [Ideal.hostUnary_exp_def]
    change Ideal.exp (((_ : ℝ) : EReal) - ((m : ℝ) : EReal)) = _
    rw [← EReal.coe_sub, Ideal.exp_coe]
  refine ⟨m, fun x => ?_⟩
  have hpos : 0 < ∑ y : Fin 16384, Real.exp (score x0 x1 r (4 * kv + g) y * Real.log 2 - m) :=
    haveI : Nonempty (Fin 16384) := ⟨⟨0, by decide⟩⟩
    Finset.sum_pos (fun j _ => Real.exp_pos _) Finset.univ_nonempty
  rw [val_main_v25_apply, e, val_main_v24_apply, val_main_v23_apply, val_main_v22_apply]
  have e2 : ∀ k : Fin 16384, val_main_v21 (F := Ideal) x0 x1 (idx_main_v22 (idx_main_v23 (idx_main_v24 (ix4 kv g r x))) k)
      = ((Real.exp (score x0 x1 r (4 * kv + g) k * Real.log 2 - m) : ℝ) : EReal) := fun k => by
    rw [← e k]
    refine congrArg (val_main_v21 (F := Ideal) x0 x1) (funext fun a => match a with
      | ⟨0, _⟩ => rfl | ⟨1, _⟩ => rfl | ⟨2, _⟩ => rfl | ⟨3, _⟩ => rfl)
  rw [Finset.sum_congr rfl fun k _ => e2 k, coe_sum, val_main_cst_2_apply]
  change Ideal.div _ (Ideal.ofBits .f32 0#32 + _) = _
  rw [Ideal.ofBits_zero_f32, zero_add, Ideal.div_coe hpos.ne', ← EReal.coe_mul, mul_one_div]

/-- The block a row of a flattened value array lies in. -/
theorem row_of (x a b : ℕ) (ha : a < 4) (hb : b < 128) (hx : x < 16384) : ((x * 4 + a) * 128 + b) / 524288 = x / 1024 % 24 := by omega

/-- Its place in the block. -/
theorem col_of (x a b : ℕ) (ha : a < 4) (hb : b < 128) : ((x * 4 + a) * 128 + b) / 512 % 1024 = x % 1024 := by omega

/-- The reference's result, at its coordinates. -/
theorem result_at (H : Finite x0 x1 x2) (r : Fin 16384) (c : Fin 2048) :
    ∃ m : ℝ, val_main_v29 (F := Ideal) x0 x1 x2 (ix2 r c)
      = ∑ x : Fin 16384, vAt x2 (c / 512) x (c % 128) * ((Real.exp (score x0 x1 r (c / 128) x * Real.log 2 - m)
          / ∑ y : Fin 16384, Real.exp (score x0 x1 r (c / 128) y * Real.log 2 - m) : ℝ) : EReal) := by
  have hc := c.isLt
  obtain ⟨m, hm⟩ := v25_at H ⟨c / 512, by omega⟩ ⟨c / 128 % 4, by omega⟩ r
  refine ⟨m, ?_⟩
  rw [val_main_v29_apply, val_main_v28_apply, val_main_v27_apply]
  change val_main_v26 (F := Ideal) x0 x1 x2 _ = _
  rw [val_main_v26_apply]
  refine Finset.sum_congr rfl fun x _ => ?_
  have hx := x.isLt
  have hr := r.isLt
  have e1 : val_main_v9 (F := Ideal) x2 (lidx_main_v26 (idx_main_v27 (idx_main_v28 (ix2 r c))) x) = vAt x2 (c / 512) x (c % 128) := by
    rw [val_main_v9_apply, val_main_v8_apply, val_main_v7_apply, val_main_v6_apply]
    refine congrArg x2 (funext fun a => Fin.ext ?_)
    match a with
    | ⟨0, _⟩ =>
      show ((x.val * 4 + (r.val * 2048 + c.val) / 512 % 4) * 128 + (r.val * 2048 + c.val) % 128) / 128 % 4 = c.val / 512 % 4
      omega
    | ⟨1, _⟩ =>
      show ((x.val * 4 + (r.val * 2048 + c.val) / 512 % 4) * 128 + (r.val * 2048 + c.val) % 128) / 524288 = x.val / 1024 % 24
      exact row_of x.val _ _ (Nat.mod_lt _ (by decide)) (Nat.mod_lt _ (by decide)) hx
    | ⟨2, _⟩ =>
      show ((x.val * 4 + (r.val * 2048 + c.val) / 512 % 4) * 128 + (r.val * 2048 + c.val) % 128) % 128 = c.val % 128 % 144
      omega
    | ⟨3, _⟩ =>
      show ((x.val * 4 + (r.val * 2048 + c.val) / 512 % 4) * 128 + (r.val * 2048 + c.val) % 128) / 512 % 1024 = x.val % 1024
      exact col_of x.val _ _ (Nat.mod_lt _ (by decide)) (Nat.mod_lt _ (by decide))
  have e2 : ridx_main_v26 (idx_main_v27 (idx_main_v28 (ix2 r c))) x = ix4 ⟨c / 512, by omega⟩ ⟨c / 128 % 4, by omega⟩ r x :=
    funext fun a => Fin.ext (by
      match a with
      | ⟨0, _⟩ => show (r.val * 2048 + c.val) / 512 % 4 = c.val / 512; omega
      | ⟨1, _⟩ => show (r.val * 2048 + c.val) / 128 % 4 = c.val / 128 % 4; omega
      | ⟨2, _⟩ => show (r.val * 2048 + c.val) / 2048 = r.val; omega
      | ⟨3, _⟩ => rfl)
  rw [e1, e2, hm]
  dsimp only
  rw [show 4 * (c.val / 512) + c.val / 128 % 4 = c.val / 128 by omega]

end Cert.Proof.AttnRef

end
-- ==== Proof.OutArray.lean ====
/-
  What the attention call's result array holds after the run, over the extended reals and on the inputs the claim is about:
  the reference's result on the same arrays.
-/
module

public import proofs.«01_k».proof.Proof.IdealFrame
public import proofs.«01_k».proof.Proof.Coords
public import proofs.«01_k».proof.Proof.RefRead
public import Idealize.ShloMosaic.Lib.Pipeline.ValueKit.Geometry

@[expose] public section

namespace Cert.Proof.Attn

open Idealize.ShloMosaic Idealize.ShloMosaic.TcCoe Cert.KernelIdeal Cert.KernelIdeal.Gen Cert.Proof.Softmax
open Idealize.ShloMosaic.Pipeline (Dat)
open scoped BigOperators

variable (m : (ℓ : Loc nD τ sig) → Buf (Elt Ideal) ℓ) (c : Dev nD)

theorem idx0 : ∀ t : Fin cfg0.N, win0_0.index t = ![(grid0.coords t 2).val, (grid0.coords t 1).val] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 1).val, 0, 0, 0] :=
  (by decide +kernel : ∀ t : Fin grid0.N, _)
theorem idx3 : ∀ t : Fin cfg0.N, win0_3.index t = ![(grid0.coords t 2).val, (grid0.coords t 1).val] :=
  (by decide +kernel : ∀ t : Fin grid0.N, _)

/-- A point's query block, at its coordinates. -/
theorem query_block (t : Fin cfg0.N) (a b : Fin 512) :
    iblk m c 0 t (ix2 a b) = AttnRef.qAt (m ((c : Thread nD τ).loc main_arg0)) (512 * (grid0.coords t 2).val + a) (512 * (grid0.coords t 1).val + b) := by
  have h2 : (grid0.coords t 2).val < 32 := (grid0.coords t 2).isLt
  have h1 : (grid0.coords t 1).val < 4 := (grid0.coords t 1).isLt
  refine congrArg (m ((c : Thread nD τ).loc main_arg0)) (funext fun e => Fin.ext ?_)
  match e with
  | ⟨0, _⟩ =>
    blk_simp [idx0]
    change (grid0.coords t 2).val * 512 + a.val = (512 * (grid0.coords t 2).val + a.val) % 24576
    omega
  | ⟨1, _⟩ =>
    blk_simp [idx0]
    change (grid0.coords t 1).val * 512 + b.val = (512 * (grid0.coords t 1).val + b.val) % 2048
    omega

/-- A point's keys, at their coordinates. -/
theorem key_block (t : Fin cfg0.N) (a : Fin 16384) (b : Fin 128) :
    X0_1 m c t (ix2 a b) = AttnRef.kAt (m ((c : Thread nD τ).loc main_arg1)) a (128 * (grid0.coords t 1).val + b) := by
  have h1 : (grid0.coords t 1).val < 4 := (grid0.coords t 1).isLt
  unfold X0_1 Pipeline.Window.fill
  rw [dif_pos (moved0_1 t _)]
  refine congrArg (m ((c : Thread nD τ).loc main_arg1)) (funext fun e => Fin.ext ?_)
  match e with
  | ⟨0, _⟩ =>
    blk_simp [idx1]
    change a.val = a.val % 24576
    omega
  | ⟨1, _⟩ =>
    blk_simp [idx1]
    change (grid0.coords t 1).val * 128 + b.val = (128 * (grid0.coords t 1).val + b.val) % 512
    omega

/-- A point's value blocks, at their coordinates. -/
theorem value_block (t : Fin cfg0.N) (n : Fin 16) (d : Fin 144) (k : Fin 1024) :
    X0_2 m c t (ix4 0 n d k) = AttnRef.vAt (m ((c : Thread nD τ).loc main_arg2)) (grid0.coords t 1).val (1024 * n + k) d := by
  have h1 : (grid0.coords t 1).val < 4 := (grid0.coords t 1).isLt
  unfold X0_2 Pipeline.Window.fill
  rw [dif_pos (moved0_2 t _)]
  refine congrArg (m ((c : Thread nD τ).loc main_arg2)) (funext fun e => Fin.ext ?_)
  match e with
  | ⟨0, _⟩ =>
    blk_simp [idx2]
    change (grid0.coords t 1).val + 0 = (grid0.coords t 1).val % 4
    omega
  | ⟨1, _⟩ =>
    blk_simp [idx2]
    change n.val = (1024 * n.val + k.val) / 1024 % 24
    omega
  | ⟨2, _⟩ =>
    blk_simp [idx2]
    change d.val = d.val % 144
    omega
  | ⟨3, _⟩ =>
    blk_simp [idx2]
    change k.val = (1024 * n.val + k.val) % 1024
    omega

variable {m c}

/-- What a point leaves in its output block, at its coordinates: the reference's result there. -/
theorem out_block (H : AttnRef.Finite (m ((c : Thread nD τ).loc main_arg0)) (m ((c : Thread nD τ).loc main_arg1)) (m ((c : Thread nD τ).loc main_arg2)))
    (t : Fin cfg0.N) (a b : Fin 512) (r : Fin 16384) (l : Fin 2048) (hr : r.val = 512 * (grid0.coords t 2).val + a.val)
    (hl : l.val = 512 * (grid0.coords t 1).val + b.val) :
    outBlock (iblk m c 0 t) (X0_1 m c t) (X0_2 m c t) (ix2 a b) = Cert.ReferenceIdeal.Read.val_main_v29 (F := Ideal)
      (m ((c : Thread nD τ).loc main_arg0)) (m ((c : Thread nD τ).loc main_arg1)) (m ((c : Thread nD τ).loc main_arg2)) (ix2 r l) := by
  obtain ⟨mx, hmx⟩ := AttnRef.result_at H r l
  have h1 : (grid0.coords t 1).val < 4 := (grid0.coords t 1).isLt
  have hb := b.isLt
  rw [hmx]
  unfold outBlock
  refine headOut_real (i := a) (d := ⟨b.val % 128, Nat.mod_lt _ (by decide)⟩)
    (s := fun n k => AttnRef.score (m ((c : Thread nD τ).loc main_arg0)) (m ((c : Thread nD τ).loc main_arg1)) r (l / 128) (1024 * (n % 16) + k))
    (v := fun n k => AttnRef.vAt (m ((c : Thread nD τ).loc main_arg2)) (l / 512) (1024 * (n % 16) + k) (l % 128))
    (fun n k => ?_) (fun n k => ?_) (fun n k => ?_) mx
    (fun x => AttnRef.score (m ((c : Thread nD τ).loc main_arg0)) (m ((c : Thread nD τ).loc main_arg1)) r (l / 128) x)
    (fun x => AttnRef.vAt (m ((c : Thread nD τ).loc main_arg2)) (l / 512) x (l % 128))
    (fun n k hn => ?_) (fun n k hn => ?_)
  · rw [← AttnRef.inner_real H r (l / 128) (1024 * (n % 16) + k) r.isLt (by have := k.isLt; omega), scores_at]
    refine Finset.sum_congr rfl fun x _ => ?_
    have hx := x.isLt
    refine congrArg₂ (· * ·) ?_ ?_
    · refine (key_block m c t ⟨1024 * (n % 16) + k.val, by omega⟩ x).trans ?_
      exact congrArg (AttnRef.kAt _ _) (by omega)
    · refine (query_block m c t a ⟨128 * (b.val / 128 % 4) + x.val, by omega⟩).trans ?_
      exact congrArg₂ (AttnRef.qAt _) hr.symm (by dsimp only; omega)
  · refine (value_block m c t ⟨n % 16, Nat.mod_lt _ (by decide)⟩ ⟨b.val % 128, by omega⟩ k).trans ?_
    dsimp only
    rw [show l.val / 512 = (grid0.coords t 1).val by omega, show l.val % 128 = b.val % 128 by omega]
  · refine (value_block m c t ⟨n % 16, Nat.mod_lt _ (by decide)⟩ 128 k).trans ?_
    exact H.one _ _ (by dsimp only; omega)
  · rw [Nat.mod_eq_of_lt hn]
  · rw [Nat.mod_eq_of_lt hn]

/-- The call's result array is the reference's result. -/
theorem result_array (H : AttnRef.Finite (m ((c : Thread nD τ).loc main_arg0)) (m ((c : Thread nD τ).loc main_arg1)) (m ((c : Thread nD τ).loc main_arg2))) :
    (dats m 0 c).arrAt 3 cfg0.N = Cert.ReferenceIdeal.Read.val_main_v29 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 : (grid0.coords t 1).val < 4 := (grid0.coords t 1).isLt
  have h2 : (grid0.coords t 2).val < 32 := (grid0.coords t 2).isLt
  have e : ((win0_3.blk t).view.emb y : S16384x2048.Idx)
      = ix2 ⟨512 * (grid0.coords t 2).val + (y 0).val, by have h : (y 0).val < 512 := (y 0).isLt; omega⟩
          ⟨512 * (grid0.coords t 1).val + (y 1).val, by have h : (y 1).val < 512 := (y 1).isLt; omega⟩ := by
    refine funext fun e => Fin.ext ?_
    match e with
    | ⟨0, _⟩ =>
      blk_simp [idx3]
      change (grid0.coords t 2).val * 512 + (y 0).val = 512 * (grid0.coords t 2).val + (y 0).val
      omega
    | ⟨1, _⟩ =>
      blk_simp [idx3]
      change (grid0.coords t 1).val * 512 + (y 1).val = 512 * (grid0.coords t 1).val + (y 1).val
      omega
  refine Eq.trans ?_ (congrArg (Cert.ReferenceIdeal.Read.val_main_v29 (F := Ideal)
      (m ((c : Thread nD τ).loc main_arg0)) (m ((c : Thread nD τ).loc main_arg1)) (m ((c : Thread nD τ).loc main_arg2))) e.symm)
  refine Eq.trans ?_ (out_block H t (y 0) (y 1) _ _ rfl rfl)
  exact congrArg (outBlock (iblk m c 0 t) (X0_1 m c t) (X0_2 m c t)) (eq_ix2 y)

end Cert.Proof.Attn

end
-- ==== Proof.Precond.lean ====
/-
  What the claim's precondition says of the arguments: every query and key entry the call works on is a real
  number, and the row that sums the weights holds ones.
-/
module

public import proofs.«01_k».proof.Proof.Gen.Pre_finite_ones
public import proofs.«01_k».proof.Proof.RefRead
public import Idealize.ShloMosaic.Lib.ReduceAll

@[expose] public section

namespace Cert.Proof.AttnRef

open Idealize.ShloMosaic Cert.Pre_finite_ones

/-- One conjunct of a conjunction of single bits, and the other. -/
theorem andi_one {a b : IVec S_ 1} (h : andi a b = fun _ => 1#1) : a = (fun _ => 1#1) ∧ b = fun _ => 1#1 := by
  have e : ∀ x y : BitVec 1, IntOp.andi x y = 1#1 → x = 1#1 ∧ y = 1#1 := by decide
  exact ⟨funext fun j => (e _ _ (congrFun h j)).1, funext fun j => (e _ _ (congrFun h j)).2⟩

/-- A number whose magnitude compares below infinity is real. -/
theorem real_of_lt (x : EReal) (h : max x (-x) < ⊤) : x = (x.toReal : EReal) := by
  refine (EReal.coe_toReal (fun e => ?_) (fun e => ?_)).symm
  · rw [e] at h
    exact absurd h (by simp)
  · rw [e] at h
    exact absurd h (by simp)

/-- The printed plus infinity. -/
theorem plus_infinity : Ideal.ofBits .f32 0x7F800000#32 = (⊤ : EReal) := by
  simp [Ideal.ofBits, Ideal.ieee]

/-- The bit of a comparison below infinity. -/
theorem of_bit_lt (x : EReal) (h : FloatOps.cmpf (F := Ideal) (φ := .f32) .olt (FloatOps.hostAbsf (F := Ideal) (φ := .f32) x) (Ideal.ofBits .f32 0x7F800000#32) = 1#1) :
    x = (x.toReal : EReal) := by
  rw [plus_infinity] at h
  change BitVec.ofBool (decide (max x (-x) < ⊤)) = 1#1 at h
  refine real_of_lt x ?_
  by_contra hn
  rw [decide_eq_false hn] at h
  exact absurd h (by decide)

/-- The bit of a comparison with one. -/
theorem of_bit_eq (x : EReal) (h : FloatOps.cmpf (F := Ideal) (φ := .f32) .oeq x (Ideal.ofBits .f32 0x3F800000#32) = 1#1) : x = 1 := by
  rw [Ideal.ofBits_one_f32] at h
  change BitVec.ofBool (decide (x = 1)) = 1#1 at h
  by_contra hn
  rw [decide_eq_false hn] at h
  exact absurd h (by decide)

/-- The precondition's content. -/
theorem finite_of (x0 : Vec Ideal S24576x2048 .bf16) (x1 : Vec Ideal S24576x512 .bf16) (x2 : Vec Ideal S4x24x144x1024 .bf16)
    (h : Cert.Pre_finite_ones.fn (F := Ideal) x0 x1 x2 = fun _ => 1#1) : Finite x0 x1 x2 := by
  unfold Cert.Pre_finite_ones.fn Cert.Pre_finite_ones.fn_part1 at h
  dsimp only at h
  obtain ⟨h, h3⟩ := andi_one h
  obtain ⟨h1, h2⟩ := andi_one h
  haveI : Subsingleton S_.Idx := ⟨fun a b => funext fun k => k.elim0⟩
  have g1 := fun i => of_bit_lt _ (Host.reduce_andi_all _ _ _ _ (Shape.Idx.first Cert.Pre_finite_ones.Gen.facts.h_S_) (congrFun h1 _) i)
  have g2 := fun i => of_bit_lt _ (Host.reduce_andi_all _ _ _ _ (Shape.Idx.first Cert.Pre_finite_ones.Gen.facts.h_S_) (congrFun h2 _) i)
  have g3 := fun i => of_bit_eq _ (Host.reduce_andi_all _ _ _ _ (Shape.Idx.first Cert.Pre_finite_ones.Gen.facts.h_S_) (congrFun h3 _) i)
  clear h h1 h2 h3
  refine ⟨fun r c hr => ?_, fun r c hr => ?_, fun a r hr => ?_⟩
  · have g := g1 (ix2 ⟨r, hr⟩ ⟨c % 2048, Nat.mod_lt _ (by decide)⟩)
    pointwise at g
    have e : (⟨r, by omega⟩ : Fin 24576) = ⟨r % 24576, Nat.mod_lt _ (by decide)⟩ := Fin.ext (by dsimp only; omega)
    rw [e] at g
    exact g
  · have g := g2 (ix2 ⟨r, hr⟩ ⟨c % 512, Nat.mod_lt _ (by decide)⟩)
    pointwise at g
    have e : (⟨r, by omega⟩ : Fin 24576) = ⟨r % 24576, Nat.mod_lt _ (by decide)⟩ := Fin.ext (by dsimp only; omega)
    rw [e] at g
    exact g
  · have g := g3 (ix3 ⟨a % 4, Nat.mod_lt _ (by decide)⟩ ⟨r / 1024, by omega⟩ ⟨r % 1024, Nat.mod_lt _ (by decide)⟩)
    pointwise at g
    have e : (⟨r / 1024, by omega⟩ : Fin 24) = ⟨r / 1024 % 24, Nat.mod_lt _ (by decide)⟩ := Fin.ext (by dsimp only; omega)
    rw [e] at g
    exact g

end Cert.Proof.AttnRef

end
-- ==== Proof.AttnClaims.lean ====
/-
  The claims about the attention call, each as the statement of the certificate has it.
-/
module

public import proofs.«01_k».proof.Defs
public import proofs.«01_k».proof.Proof.BitsRun
public import proofs.«01_k».proof.Proof.OutArray
public import proofs.«01_k».proof.Proof.Precond
public import proofs.«01_k».proof.Proof.Gen.Reference.Run
public import proofs.«01_k».proof.Proof.Gen.ReferenceIdeal.Run
public import proofs.«01_k».proof.Proof.Gen.ReferenceIdeal.Read

@[expose] public section

namespace Cert.Proof.AttnClaims

open Idealize.ShloMosaic Idealize.ShloMosaic.TcCoe Idealize.SL.Sem

/-- The kernel over bit patterns leaves its arguments and every counter as it found them. -/
theorem frame_kernel : Cert.quiescent_Kernel := fun m ρ _ => AttnBits.quiescent m ρ

/-- The kernel over the extended reals does too. -/
theorem frame_kernelIdeal : Cert.quiescent_KernelIdeal := fun m ρ _ =>
  (θ_run Cert.KernelIdeal.defs _ _).mono (fun _ h => ⟨fun c => ⟨Pipeline.FramePost.in_eq h.1 c 0 rfl, Pipeline.FramePost.in_eq h.1 c 1 rfl,
    Pipeline.FramePost.in_eq h.1 c 2 rfl⟩, h.2⟩) (Attn.runs m ρ)

/-- The reference over bit patterns: its arguments as they were; it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference over the extended reals likewise. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the call and the reference end with the same array, on arguments that agree and meet the
    precondition. -/
theorem algebraic : Cert.algebraic_KernelIdeal_ReferenceIdeal_pre_finite_ones := by
  intro m ρ m' ρ' hpre hagree
  refine ⟨fun c => Cert.ReferenceIdeal.Read.val_main_v29 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(Pipeline.FramePost.out_eq h.1 c 3).trans
      (Attn.result_array (AttnRef.finite_of _ _ _ (hpre c))), Pipeline.FramePost.in_eq h.1 c 0 rfl, Pipeline.FramePost.in_eq h.1 c 1 rfl,
      Pipeline.FramePost.in_eq h.1 c 2 rfl⟩) (Attn.runs m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v29_eq, (hagree c).1, (hagree c).2.1, (hagree c).2.2]

end Cert.Proof.AttnClaims

end
-- ==== Proof.GateRun.lean ====
/-
  The gate and up projections' body, run at symbolic buffers: what it leaves in its tile of activations and in its
  block of the riding cast, path by path.
-/
module

public import proofs.«01_k».proof.Proof.Gen.Kernel2Ideal.Frame
public import Idealize.ShloMosaic.Lib.Exec
public import Idealize.ShloMosaic.Lib.Tactic
public import Idealize.ShloMosaic.Lib.ValueIdxCore
public import Idealize.ShloMosaic.Lib.WritesUnit

@[expose] public section

set_option maxRecDepth 16384

noncomputable section

namespace Cert.Proof.Gate

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held at contents `f`. -/
abbrev held (c : Dev nD) {sp : Space} {S : Shape} {e : EltTy} (M : Memref sig .tc sp S e) (f : M.view.ty.Contents (Elt F)) : sProp 𝕄 :=
  M.view.loc (c : Thread nD τ) ↦[M.view.set]{fullShare} f

/-- A whole tile of activations: `silu (x · gate) * (x · up)`, rounded. -/
def fullTile (x2 : Vec F S1024x4096 .bf16) (x3 x4 : Vec F S4096x512 .bf16) : Vec F S1024x512 .bf16 :=
  truncf .bf16 (mulf (mulf (matmul dot_S1024x4096_S4096x512_S1024x512_1_0_0_1_n_n none x2 x3 (constant S1024x512 .f32 0x00000000#32))
      (logistic (matmul dot_S1024x4096_S4096x512_S1024x512_1_0_0_1_n_n none x2 x3 (constant S1024x512 .f32 0x00000000#32))))
    (matmul dot_S1024x4096_S4096x512_S1024x512_1_0_0_1_n_n none x2 x4 (constant S1024x512 .f32 0x00000000#32))) bitsLt_bf16_f32

/-- The first 256 columns of a block of weights. -/
def leftCols (x : Vec F S4096x512 .bf16) : Vec F S4096x256 .bf16 :=
  fun i => x (ix2 (i 0) ⟨(i 1).val, by have := (i 1).isLt; have h : S4096x256.size 1 = 256 := rfl; omega⟩)

/-- The live half of the last tile of activations. -/
def halfTile (x2 : Vec F S1024x4096 .bf16) (x3 x4 : Vec F S4096x256 .bf16) : Vec F S1024x256 .bf16 :=
  truncf .bf16 (mulf (mulf (matmul dot_S1024x4096_S4096x256_S1024x256_1_0_0_1_n_n none x2 x3 (constant S1024x256 .f32 0x00000000#32))
      (logistic (matmul dot_S1024x4096_S4096x256_S1024x256_1_0_0_1_n_n none x2 x3 (constant S1024x256 .f32 0x00000000#32))))
    (matmul dot_S1024x4096_S4096x256_S1024x256_1_0_0_1_n_n none x2 x4 (constant S1024x256 .f32 0x00000000#32))) bitsLt_bf16_f32

/-- The last tile of activations: its live half, then zeros. -/
def lastTile (x2 : Vec F S1024x4096 .bf16) (x3 x4 : Vec F S4096x512 .bf16) : Vec F S1024x512 .bf16 :=
  fun y => if h : (y 1).val < 256 then halfTile x2 (leftCols x3) (leftCols x4) (ix2 (y 0) ⟨(y 1).val, h⟩) else Scalar.ofBits .bf16 0x0000#16

/-- The tile of activations a grid point stores. -/
def actTile (i : grid0.Coords) (x2 : Vec F S1024x4096 .bf16) (x3 x4 : Vec F S4096x512 .bf16) : Vec F S1024x512 .bf16 :=
  if k0_cond1 i = 1#1 then fullTile x2 x3 x4 else lastTile x2 x3 x4

/-- A block of the cast: the weight's rows, rounded. -/
def castRows (x5 : Vec F S1x32x4096 .f32) : Vec F S32x4096 .bf16 :=
  truncf .bf16 (shapeCast S32x4096 x5 shapeCasts_S1x32x4096_S32x4096) bitsLt_bf16_f32

/-- What a grid point leaves in the block of the cast, which held `z`. -/
def castTile (i : grid0.Coords) (x5 : Vec F S1x32x4096 .f32) (z : Vec F S32x4096 .bf16) : Vec F S32x4096 .bf16 :=
  if k0_cond3 i = 1#1 then castRows x5 else if k0_cond4 i = 1#1 then broadcast S32x4096 (Scalar.ofBits .bf16 0x0000#16) else z

section Reads

/-- A load at literal offsets, of contents told as a function of the index. -/
theorem readAt_unit {sig : RefSig} {κ : Kind} {sp : Space} {s : Shape} {e : EltTy} {Val : EltTy → Type} (v : View sig κ sp s e) {f : v.ty.Contents Val}
    {x : s.Idx → Val e} (h : v.read Val f = x) {off off' size : Fin s.rank → ℕ} (inb : ∀ a, off a + size a ≤ s.size a) (ho : off = off')
    {g : (Rect.unit off size inb).shape.Idx → Val e} (p : (Rect.unit off size inb).shape.Idx → s.Idx) (hp : ∀ i a, (p i a).val = off' a + (i a).val)
    (hg : ∀ i, g i = x (p i)) : v.readAt Val (Rect.unit off size inb).toLoadRect f = g := by
  subst ho
  funext i
  rw [View.readAt_apply, h, hg]
  congr 1
  funext a
  refine Fin.ext ?_
  rw [hp]
  show off a + 1 * (i a).val = _
  rw [Nat.one_mul]

theorem read_whole2 {arg2 : Memref sig .tc .vmem S1024x4096 .bf16} (X : arg2.view.ty.Contents (Elt F)) :
    arg2.view.readAt (Elt F) (Rect.unit (s := S1024x4096) ![0, 0] S1024x4096.size inb_S1024x4096_S1024x4096_0_0).toLoadRect X = arg2.view.read (Elt F) X :=
  readAt_unit arg2.view rfl _ rfl (fun i => i) (fun i a => match a with | 0 => (Nat.zero_add _).symm | 1 => (Nat.zero_add _).symm) fun _ => rfl

theorem read_whole3 {arg3 : Memref sig .tc .vmem S4096x512 .bf16} (X : arg3.view.ty.Contents (Elt F)) :
    arg3.view.readAt (Elt F) (Rect.unit (s := S4096x512) ![0, 0] S4096x512.size inb_S4096x512_S4096x512_0_0).toLoadRect X = arg3.view.read (Elt F) X :=
  readAt_unit arg3.view rfl _ rfl (fun i => i) (fun i a => match a with | 0 => (Nat.zero_add _).symm | 1 => (Nat.zero_add _).symm) fun _ => rfl

theorem read_left3 {arg3 : Memref sig .tc .vmem S4096x512 .bf16} (X : arg3.view.ty.Contents (Elt F)) :
    arg3.view.readAt (Elt F) (Rect.unit (s := S4096x512) ![0, 0] S4096x256.size inb_S4096x512_S4096x256_0_0).toLoadRect X = leftCols (arg3.view.read (Elt F) X) :=
  readAt_unit arg3.view rfl _ rfl _ (fun i a => match a with | 0 => (Nat.zero_add _).symm | 1 => (Nat.zero_add _).symm) fun _ => rfl

theorem read_whole5 {arg5 : Memref sig .tc .vmem S1x32x4096 .f32} (X : arg5.view.ty.Contents (Elt F)) :
    arg5.view.readAt (Elt F) (Rect.unit (s := S1x32x4096) ![0, 0, 0] S1x32x4096.size inb_S1x32x4096_S1x32x4096_0_0_0).toLoadRect X = arg5.view.read (Elt F) X :=
  readAt_unit arg5.view rfl _ rfl (fun i => i) (fun i a => match a with | 0 => (Nat.zero_add _).symm | 1 => (Nat.zero_add _).symm | 2 => (Nat.zero_add _).symm) fun _ => rfl

/-- One store over the whole tile of activations. -/
theorem writes_whole6 {arg6 : Memref sig .tc .vmem S1024x512 .bf16} (f : arg6.view.ty.Contents (Elt F)) (w : Vec F S1024x512 .bf16) :
    arg6.view.read (Elt F) (arg6.view.writes (Elt F) f [⟨Rect.unit (s := S1024x512) ![0, 0] S1024x512.size inb_S1024x512_S1024x512_0_0, w⟩]) = w :=
  funext fun y => View.read_writes_cons_unit_of_mem _ _ _ _ _ y y rfl fun a => match a with | 0 => (Nat.zero_add _).symm | 1 => (Nat.zero_add _).symm

/-- One store over the whole block of the cast. -/
theorem writes_whole7 {arg7 : Memref sig .tc .vmem S32x4096 .bf16} (f : arg7.view.ty.Contents (Elt F)) (w : Vec F S32x4096 .bf16) :
    arg7.view.read (Elt F) (arg7.view.writes (Elt F) f [⟨Rect.unit (s := S32x4096) ![0, 0] S32x4096.size inb_S32x4096_S32x4096_0_0, w⟩]) = w :=
  funext fun y => View.read_writes_cons_unit_of_mem _ _ _ _ _ y y rfl fun a => match a with | 0 => (Nat.zero_add _).symm | 1 => (Nat.zero_add _).symm

/-- The last tile's two stores, each of 256 columns. -/
theorem writes_halves6 {arg6 : Memref sig .tc .vmem S1024x512 .bf16} (f : arg6.view.ty.Contents (Elt F)) (w z : Vec F S1024x256 .bf16) :
    arg6.view.read (Elt F) (arg6.view.writes (Elt F) f
      [⟨Rect.unit (s := S1024x512) ![0, 256] S1024x256.size inb_S1024x512_S1024x256_0_256, z⟩,
       ⟨Rect.unit (s := S1024x512) ![0, 0] S1024x256.size inb_S1024x512_S1024x256_0_0, w⟩])
      = fun y => if h : (y 1).val < 256 then w (ix2 (y 0) ⟨(y 1).val, h⟩)
          else z (ix2 (y 0) ⟨(y 1).val - 256, by have := (y 1).isLt; have h : S1024x512.size 1 = 512 := rfl; omega⟩) := by
  funext y
  by_cases h : (y 1).val < 256
  · rw [dif_pos h]
    refine (View.read_writes_cons_unit_of_not_mem _ _ _ _ _ _ rfl 1 (.inl h)).trans ?_
    exact View.read_writes_cons_unit_of_mem _ _ _ _ _ _ _ rfl fun a => match a with | 0 => (Nat.zero_add _).symm | 1 => (Nat.zero_add _).symm
  · rw [dif_neg h]
    exact View.read_writes_cons_unit_of_mem _ _ _ _ _ _ _ rfl fun a => by
      match a with
      | 0 => exact (Nat.zero_add _).symm
      | 1 => show (y 1).val = 256 + ((y 1).val - 256); omega

end Reads

set_option maxHeartbeats 4000000 in
/-- The body from its six blocks at any contents, on each path its conditions leave open. -/
theorem body_runs (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x32x4096 .f32) (harg5 : arg5.IsWhole) (arg6 : Memref sig .tc .vmem S1024x512 .bf16) (harg6 : arg6.IsWhole) (arg7 : Memref sig .tc .vmem S32x4096 .bf16) (harg7 : arg7.IsWhole)
    (c12 : (k0_cond1 i = 1#1 ∧ ¬ k0_cond2 i = 1#1) ∨ (¬ k0_cond1 i = 1#1 ∧ k0_cond2 i = 1#1))
    (c34 : (k0_cond3 i = 1#1 ∧ ¬ k0_cond4 i = 1#1) ∨ (¬ k0_cond3 i = 1#1 ∧ k0_cond4 i = 1#1) ∨ (¬ k0_cond3 i = 1#1 ∧ ¬ k0_cond4 i = 1#1))
    (X2 : arg2.view.ty.Contents (Elt F)) (X3 : arg3.view.ty.Contents (Elt F)) (X4 : arg4.view.ty.Contents (Elt F)) (X5 : arg5.view.ty.Contents (Elt F))
    (f6 : arg6.view.ty.Contents (Elt F)) (f7 : arg7.view.ty.Contents (Elt F)) (Q : PUnit → sProp 𝕄) :
    iprop(held c arg2 X2 ∗ held c arg3 X3 ∗ held c arg4 X4 ∗ held c arg5 X5 ∗ held c arg6 f6 ∗ held c arg7 f7
      ∗ (iprop(held c arg2 X2 ∗ held c arg3 X3 ∗ held c arg4 X4 ∗ held c arg5 X5
          ∗ (∃ f, ⌜arg6.view.read (Elt F) f = actTile i (arg2.view.read (Elt F) X2) (arg3.view.read (Elt F) X3) (arg4.view.read (Elt F) X4)⌝ ∗ held c arg6 f)
          ∗ (∃ f, ⌜arg7.view.read (Elt F) f = castTile i (arg5.view.read (Elt F) X5) (arg7.view.read (Elt F) f7)⌝ ∗ held c arg7 f)) -∗ Q ⟨⟩))
    ⊢ wp frame (wpE (defs₀ (F := F)) Variants.none (c : Thread nD τ) none) Set.univ
        (cc0_gate_up i arg2 harg2 arg3 harg3 arg4 harg4 arg5 harg5 arg6 harg6 arg7 harg7) Q := by
  unfold cc0_gate_up
  rcases c12 with ⟨c1, c2⟩ | ⟨c1, c2⟩ <;> rcases c34 with ⟨c3, c4⟩ | ⟨c3, c4⟩ | ⟨c3, c4⟩
  all_goals
    iintro ⟨H2, H3, H4, H5, H6, H7, Hk⟩
    sl_exec (disch := first | sl_exact c1 | sl_exact c2 | sl_exact c3 | sl_exact c4)
    sl_step
    iapply Hk
    isplitl [H2]; · iexact H2
    isplitl [H3]; · iexact H3
    isplitl [H4]; · iexact H4
    isplitl [H5]; · iexact H5
    isplitl [H6]
    · iexists _; isplitr; swap; · iexact H6
      ipureintro
      first
        | rw [actTile, if_pos c1, ← read_whole2, ← read_whole3 X3, ← read_whole3 X4]
          exact writes_whole6 _ _
        | rw [actTile, if_neg c1]; unfold lastTile; rw [← read_whole2, ← read_left3 X3, ← read_left3 X4]
          exact writes_halves6 _ _ _
    iexists _; isplitr; swap; · iexact H7
    ipureintro
    first
      | rw [castTile, if_pos c3, ← read_whole5]
        exact writes_whole7 _ _
      | rw [castTile, if_neg c3, if_pos c4]
        exact writes_whole7 _ _
      | rw [castTile, if_neg c3, if_neg c4]

end Cert.Proof.Gate

end
-- ==== Proof.GateFrame.lean ====
/-
  The gate and up projections' call: what each grid point leaves in its tile of activations and in the block of the
  riding cast, and the pipeline's run with it. Past the cast's last block nothing is stored there, and the buffer
  goes on holding that block's zeros to the end.
-/
module

public import proofs.«01_k».proof.Proof.GateRun
public import Idealize.ShloMosaic.Lib.Pipeline.TableIdle
public import Idealize.ShloMosaic.Lib.Pipeline.ValueKit.Geometry

@[expose] public section

set_option maxRecDepth 16384

noncomputable section

namespace Cert.Proof.Gate

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Exactly one of the two tiles of activations is stored at each point. -/
theorem cond12 : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1) := by decide +kernel

/-- The cast's rows, or its zeros, or nothing, is stored at each point. -/
theorem cond34 : ∀ t : Fin grid0.N, (k0_cond3 (grid0.coords t) = 1#1 ∧ ¬ k0_cond4 (grid0.coords t) = 1#1)
    ∨ (¬ k0_cond3 (grid0.coords t) = 1#1 ∧ k0_cond4 (grid0.coords t) = 1#1)
    ∨ (¬ k0_cond3 (grid0.coords t) = 1#1 ∧ ¬ k0_cond4 (grid0.coords t) = 1#1) := by decide +kernel

/-- The cast's rows are stored at the first 344 points. -/
theorem cond3_iff : ∀ t : Fin grid0.N, k0_cond3 (grid0.coords t) = 1#1 ↔ t.val < 344 := by decide +kernel

/-- The cast's zeros are stored at the next eight. -/
theorem cond4_iff : ∀ t : Fin grid0.N, k0_cond4 (grid0.coords t) = 1#1 ↔ 344 ≤ t.val ∧ t.val < 352 := by decide +kernel

/-- A whole tile of activations is stored but in the last column of tiles. -/
theorem cond1_iff : ∀ t : Fin grid0.N, k0_cond1 (grid0.coords t) = 1#1 ↔ t.val % 22 < 21 := by decide +kernel

theorem idle4 : ∀ t : Fin grid0.N, idle0 4 (grid0.coords t) = false := by decide +kernel

theorem idle5 : ∀ t : Fin grid0.N, idle0 5 (grid0.coords t) = decide (352 ≤ t.val) := by decide +kernel

/-- The cast's block is written back at its first 351 points and at the end. -/
theorem flush5 : ∀ t : Fin grid0.N, win0_5.flush t = (decide (t.val < 351) || decide (t.val = 527)) := by
  intro t; rw [Pipeline.Window.flush_eq_flushF]; revert t; decide +kernel

/-- A block of zeros of the cast. -/
def zeroTile : Vec F S32x4096 .bf16 := broadcast S32x4096 (Scalar.ofBits .bf16 0x0000#16)

variable (m : (ℓ : Loc nD τ sig) → Buf (Elt F) ℓ) (ρ : Dev nD → PrngReg)

/-- The proof data: the inputs stay at their blocks, the outputs end at their tiles. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => actTile (grid0.coords t) (iblk m c 0 t) (iblk m c 1 t) (iblk m c 2 t)
    | ⟨5, _⟩ => castTile (grid0.coords t) (iblk m c 3 t) zeroTile
    | ⟨_ + 6, h⟩ => absurd h (Nat.not_lt.2 (Nat.le_add_left _ _))
  Φ _ := Pipeline.ΦA spec0 c
  q _ := fullShare
  owed _ := 0

theorem castTile_late (t : Fin grid0.N) (h : 344 ≤ t.val) (x : Vec F S1x32x4096 .f32) : castTile (grid0.coords t) x zeroTile = zeroTile := by
  rw [castTile, if_neg (by rw [cond3_iff]; omega)]
  exact ite_self _

/-- Past the cast's last block its buffer holds zeros. -/
theorem before5 (c : Dev nD) (d : Vec F S32x4096 .bf16) : ∀ (n : ℕ) (t : Fin cfg0.N), t.val = 352 + n → (dats m 0 c).before 5 t d = zeroTile
  | 0, t, h => by
    rw [(dats m 0 c).before_of_pos 5 t (by omega) rfl d]
    rw [if_neg (by rw [show (cfg0.win 5).flush _ = _ from flush5 _]; simp only [Bool.or_eq_true, decide_eq_true_eq]; omega)]
    unfold Dat.left
    rw [show cfg0.idle 5 _ = false from (idle5 _).trans (decide_eq_false (by simp only; omega))]
    exact castTile_late _ (by simp only; omega) _
  | n + 1, t, h => by
    have ht : t.val < 528 := t.isLt
    rw [(dats m 0 c).before_of_pos 5 t (by omega) rfl d]
    rw [if_neg (by rw [show (cfg0.win 5).flush _ = _ from flush5 _]; simp only [Bool.or_eq_true, decide_eq_true_eq]; omega)]
    unfold Dat.left
    rw [show cfg0.idle 5 _ = true from (idle5 _).trans (decide_eq_true (by simp only; omega))]
    exact before5 c d n _ (by simp only; omega)

/-- What the body leaves in the cast's block, from what it finds there. -/
theorem castTile_before (c : Dev nD) (t : Fin cfg0.N) (d : Vec F S32x4096 .bf16) (x : Vec F S1x32x4096 .f32) :
    castTile (grid0.coords t) x ((dats m 0 c).before 5 t d) = castTile (grid0.coords t) x zeroTile := by
  by_cases h : t.val < 352
  · unfold castTile
    by_cases h3 : k0_cond3 (grid0.coords t) = 1#1
    · rw [if_pos h3, if_pos h3]
    · have h4 : k0_cond4 (grid0.coords t) = 1#1 := (cond4_iff t).2 ⟨by rw [cond3_iff] at h3; omega, h⟩
      rw [if_pos h4, if_pos h4]
  · rw [before5 m c d (t.val - 352) t (by omega)]

/-- At an idle point it is what it found. -/
theorem castTile_idle (t : Fin cfg0.N) (h : 352 ≤ t.val) (x : Vec F S1x32x4096 .f32) (z : Vec F S32x4096 .bf16) : castTile (grid0.coords t) x z = z := by
  rw [castTile, if_neg (by rw [cond3_iff]; omega), if_neg (by rw [cond4_iff]; omega)]

/-- The body table's row at a point is the body there. -/
theorem body_row (t : Fin cfg0.N) : defs₀ (F := F) .tc cfg0.body (cfg0.bodyArgs t (cfg0.slots t)) = bodyAt0 t := by
  unfold defs₀; rw [Defs.onTc_tc]

/-- The demand on the cast's block after the body, met by the contents `castTile` names. -/
theorem leave5 (c : Dev nD) (t : Fin cfg0.N) (d : Vec F S32x4096 .bf16) :
    (owns (c : Thread nD τ) (win0_5.stage (cfg0.slots t 5)) fullShare (castTile (grid0.coords t) (iblk m c 3 t) ((dats m 0 c).before 5 t d)) : sProp 𝕄)
    ⊢ (match cfg0.idle 5 (cfg0.grid.coords t) with
      | true => match (cfg0.win 5).flush t with
        | false => iprop(∃ d, owns c ((cfg0.win 5).stage (cfg0.slots t 5)) fullShare ((dats m 0 c).before 5 t d))
        | true => owns c ((cfg0.win 5).stage (cfg0.slots t 5)) fullShare ((dats m 0 c).after 5 t)
      | false => owns c ((cfg0.win 5).stage (cfg0.slots t 5)) fullShare ((dats m 0 c).after 5 t)) := by
  have e : (dats m 0 c).after 5 t = castTile (grid0.coords t) (iblk m c 3 t) ((dats m 0 c).before 5 t d) := (castTile_before m c t d _).symm
  by_cases h : 352 ≤ t.val
  · rw [show cfg0.idle 5 _ = true from (idle5 _).trans (decide_eq_true h)]
    dsimp only
    cases (cfg0.win 5).flush t
    · dsimp only
      iintro H
      iexists d
      rw [castTile_idle t h]
      iexact H
    · dsimp only
      rw [e]
  · rw [show cfg0.idle 5 _ = false from (idle5 _).trans (decide_eq_false h)]
    dsimp only
    rw [e]

set_option maxHeartbeats 1600000 in
/-- The pipeline's demand on the body, at every point. -/
theorem body_ok (c : Dev nD) : BodyObligation (dats m 0 c) (defs₀ (F := F)) Variants.none () Set.univ := fun t => by
  rw [bigSep_W0, bigSep_W0, body_row]
  have h0 := before0_0_of m (dats m 0 c) rfl (fun _ => rfl) t
  have h1 := before0_1_of m (dats m 0 c) rfl (fun _ => rfl) t
  have h2 := before0_2_of m (dats m 0 c) rfl (fun _ => rfl) t
  have h3 := before0_3_of m (dats m 0 c) rfl (fun _ => rfl) t
  rw [show cfg0.idle 4 (cfg0.grid.coords t) = false from idle4 t]
  change iprop(Pipeline.ΦA spec0 c ∗ (dats m 0 c).owesAt () t.castSucc
      ∗ (∃ d, owns c (win0_0.stage (cfg0.slots t 0)) fullShare ((dats m 0 c).before 0 t d))
      ∗ (∃ d, owns c (win0_1.stage (cfg0.slots t 1)) fullShare ((dats m 0 c).before 1 t d))
      ∗ (∃ d, owns c (win0_2.stage (cfg0.slots t 2)) fullShare ((dats m 0 c).before 2 t d))
      ∗ (∃ d, owns c (win0_3.stage (cfg0.slots t 3)) fullShare ((dats m 0 c).before 3 t d))
      ∗ (∃ d, owns c (win0_4.stage (cfg0.slots t 4)) fullShare ((dats m 0 c).before 4 t d))
      ∗ (∃ d, owns c (win0_5.stage (cfg0.slots t 5)) fullShare ((dats m 0 c).before 5 t d)))
    ⊢ wp frame (wpE (defs₀ (F := F)) Variants.none c none) Set.univ (bodyAt0 t) fun _ =>
      iprop(Pipeline.ΦA spec0 c ∗ (dats m 0 c).owesAt () t.castSucc
      ∗ owns c (win0_0.stage (cfg0.slots t 0)) fullShare (iblk m c 0 t)
      ∗ owns c (win0_1.stage (cfg0.slots t 1)) fullShare (iblk m c 1 t)
      ∗ owns c (win0_2.stage (cfg0.slots t 2)) fullShare (iblk m c 2 t)
      ∗ owns c (win0_3.stage (cfg0.slots t 3)) fullShare (iblk m c 3 t)
      ∗ owns c (win0_4.stage (cfg0.slots t 4)) fullShare (actTile (grid0.coords t) (iblk m c 0 t) (iblk m c 1 t) (iblk m c 2 t))
      ∗ _)
  simp only [h0, h1, h2, h3]
  unfold bodyAt0
  iintro ⟨HΦ, HO, ⟨%d0, H0⟩, ⟨%d1, H1⟩, ⟨%d2, H2⟩, ⟨%d3, H3⟩, ⟨%d4, H4⟩, ⟨%d5, H5⟩⟩
  ihave K := leave5 m c t d5
  unfold owns
  icases H0 with ⟨%g0, %e0, H0⟩
  icases H1 with ⟨%g1, %e1, H1⟩
  icases H2 with ⟨%g2, %e2, H2⟩
  icases H3 with ⟨%g3, %e3, H3⟩
  icases H4 with ⟨%g4, %e4, H4⟩
  icases H5 with ⟨%g5, %e5, H5⟩
  iapply body_runs (F := F) c (grid0.coords t) _ _ _ _ _ _ _ _ _ _ _ _ (cond12 t) (cond34 t) g0 g1 g2 g3 g4 g5
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%w4, %u4, H4⟩, ⟨%w5, %u5, H5⟩⟩
  isplitl [HΦ]; · iexact HΦ
  isplitl [HO]; · iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists w4; isplitr
    · ipureintro; rw [u4, e0, e1, e2]
    iexact H4
  iapply K
  iexists w5; isplitr
  · ipureintro; rw [u5, e3, e5]
  iexact H5

set_option backward.isDefEq.respectTransparency false in
/-- The program runs to the end with every array at the contents the proof data name. -/
theorem runs : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => (body_ok m c).loose) (hshare := fun c => (dats m 0 c).share_full fun _ => rfl) (howed := fun _ _ => rfl) (V := V m)
    (hmain := hmain m Variants.none) (hA := fun _ _ => rfl) (hΦ := fun _ _ => rfl)
    (Q' := _) (hQ' := fun _ h => h)

/-- The frame: the arguments unchanged and the machine quiet. -/
theorem frame_runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨Pipeline.FramePost.in_eq h.1 c 0 rfl, Pipeline.FramePost.in_eq h.1 c 1 rfl,
    Pipeline.FramePost.in_eq h.1 c 2 rfl, Pipeline.FramePost.in_eq h.1 c 3 rfl⟩, h.2⟩) (runs m ρ)

end Cert.Proof.Gate

end
-- ==== Proof.GateRef.lean ====
/-
  The reference of the gate and up projections read at one element of each result over the extended reals.
-/
module

public import proofs.«01_k».proof.Proof.Gen.Reference2Ideal.Read
public import Idealize.ShloMosaic.Lib.Pointwise
public import Idealize.ShloMosaic.Lib.KernelVsHost

@[expose] public section

namespace Cert.Proof.Gate

open Idealize.ShloMosaic Cert.Reference2Ideal Cert.Reference2Ideal.Read
open scoped BigOperators

/-- The gated product of two entries. -/
noncomputable def gated (g u : EReal) : EReal := g * Ideal.logistic g * u

/-- The printed one. -/
theorem one_bits : Ideal.ofBits .f32 0x3F800000#32 = (1 : EReal) := by
  simp [Ideal.ofBits, Ideal.ieee]
  rw [← EReal.coe_mul]
  norm_num

/-- The reference's activation, at its coordinates: the gated product of two inner products, zero past the live columns. -/
theorem act_at (x0 : Vec Ideal S24576x4096 .bf16) (x1 x2 : Vec Ideal S4096x11264 .bf16) (r : Fin 24576) (l : Fin 11264) :
    val_main_v11 (F := Ideal) x0 x1 x2 (ix2 r l) = if l.val < 11008 then
      gated (∑ k : Fin 4096, x0 (ix2 r k) * x1 (ix2 k l)) (∑ k : Fin 4096, x0 (ix2 r k) * x2 (ix2 k l)) else 0 := by
  unfold val_main_v11
  by_cases h : l.val < 11008
  · rw [if_pos h]
    refine (pad_apply_of_inside _ _ _ _ _ _ _ _ (ix2 r ⟨l.val, h⟩) fun a => by
      match a with
      | ⟨0, _⟩ => show r.val = 0 + r.val * (0 + 1); omega
      | ⟨1, _⟩ => show l.val = 0 + l.val * (0 + 1); omega).trans ?_
    rw [val_main_v10_apply, val_main_v9_apply, val_main_v8_apply, val_main_call0_v5_apply, val_main_call0_v4_apply, val_main_call0_cst_0_apply,
      val_main_call0_v3_apply, val_main_call0_v2_apply, val_main_call0_cst_apply, val_main_call0_v1_apply, val_main_call0_v0_apply,
      val_main_v3_apply, val_main_v7_apply]
    change _ * Ideal.div (Ideal.ofBits .f32 0x3F800000#32) (Ideal.ofBits .f32 0x3F800000#32 + Ideal.exp (-_)) * _ = _
    rw [one_bits]
    refine congrArg₂ gated (Finset.sum_congr rfl fun k _ => ?_) (Finset.sum_congr rfl fun k _ => ?_)
    · rw [val_main_v0_apply, val_main_v2_apply, val_main_v1_apply]
      refine congrArg₂ (· * ·) (congrArg x0 ?_) (congrArg x1 ?_) <;> exact funext fun a => match a with | ⟨0, _⟩ => rfl | ⟨1, _⟩ => rfl
    · rw [val_main_v4_apply, val_main_v6_apply, val_main_v5_apply]
      refine congrArg₂ (· * ·) (congrArg x0 ?_) (congrArg x2 ?_) <;> exact funext fun a => match a with | ⟨0, _⟩ => rfl | ⟨1, _⟩ => rfl
  · rw [if_neg h]
    refine (pad_apply_of_not_inside _ _ _ _ _ _ _ _ 1 (fun H => h ?_)).trans ?_
    · have := H.2.2
      change (l.val - 0) / (0 + 1) < 11008 at this
      omega
    · rw [val_main_call1_v0_apply, val_main_c_apply]
      change (((0#32 : BitVec 32).toInt : ℝ) : EReal) = 0
      simp

/-- The reference's cast weight, at its coordinates: the second layer's rows, then zeros. -/
theorem cast_at (x3 : Vec Ideal S2x11008x4096 .f32) (r : Fin 11264) (l : Fin 4096) :
    val_main_v15 (F := Ideal) x3 (ix2 r l) = if h : r.val < 11008 then x3 (ix3 1 ⟨r.val, h⟩ l) else (0 : EReal) := by
  unfold val_main_v15
  by_cases h : r.val < 11008
  · rw [dif_pos h]
    refine (pad_apply_of_inside _ _ _ _ _ _ _ _ (ix2 ⟨r.val, h⟩ l) fun a => by
      match a with
      | ⟨0, _⟩ => show r.val = 0 + r.val * (0 + 1); omega
      | ⟨1, _⟩ => show l.val = 0 + l.val * (0 + 1); omega).trans ?_
    rw [val_main_v14_apply, val_main_v13_apply, val_main_v12_apply]
    have hl := l.isLt
    refine congrArg x3 (funext fun a => Fin.ext ?_)
    match a with
    | ⟨0, _⟩ => rfl
    | ⟨1, _⟩ => show (r.val * 4096 + l.val) / 4096 % 11008 = r.val; omega
    | ⟨2, _⟩ => show (r.val * 4096 + l.val) % 4096 = l.val; omega
  · rw [dif_neg h]
    refine (pad_apply_of_not_inside _ _ _ _ _ _ _ _ 0 (fun H => h ?_)).trans ?_
    · have := H.2.2
      change (r.val - 0) / (0 + 1) < 11008 at this
      omega
    · rw [val_main_call2_v0_apply, val_main_c_0_apply]
      change (((0#32 : BitVec 32).toInt : ℝ) : EReal) = 0
      simp

end Cert.Proof.Gate

end
-- ==== Proof.GateValue.lean ====
/-
  What the gate and up projections' call leaves in its two result arrays over the extended reals: the reference's
  results on the same arrays.
-/
module

public import proofs.«01_k».proof.Proof.GateFrame
public import proofs.«01_k».proof.Proof.GateRef
public import Idealize.ShloMosaic.Lib.Pointwise

@[expose] public section

namespace Cert.Proof.Gate

open Idealize.ShloMosaic Idealize.ShloMosaic.TcCoe Cert.Kernel2Ideal Cert.Kernel2Ideal.Gen
open Idealize.ShloMosaic.Pipeline (Dat)
open scoped BigOperators

/-- A whole tile of activations, at its coordinates. -/
theorem fullTile_at (x2 : Vec Ideal S1024x4096 .bf16) (x3 x4 : Vec Ideal S4096x512 .bf16) (a : Fin 1024) (b : Fin 512) :
    fullTile x2 x3 x4 (ix2 a b) = gated (∑ k : Fin 4096, x2 (ix2 a k) * x3 (ix2 k b)) (∑ k : Fin 4096, x2 (ix2 a k) * x4 (ix2 k b)) := by
  pointwise [fullTile, gated]

/-- The live half of the last tile, at its coordinates. -/
theorem halfTile_at (x2 : Vec Ideal S1024x4096 .bf16) (x3 x4 : Vec Ideal S4096x256 .bf16) (a : Fin 1024) (b : Fin 256) :
    halfTile x2 x3 x4 (ix2 a b) = gated (∑ k : Fin 4096, x2 (ix2 a k) * x3 (ix2 k b)) (∑ k : Fin 4096, x2 (ix2 a k) * x4 (ix2 k b)) := by
  pointwise [halfTile, gated]

/-- The cast's rows, at their coordinates. -/
theorem castRows_at (x5 : Vec Ideal S1x32x4096 .f32) (a : Fin 32) (b : Fin 4096) : castRows x5 (ix2 a b) = x5 (ix3 0 a b) := by
  pointwise [castRows]

theorem zero_bf16 : (Scalar.ofBits .bf16 0x0000#16 : Ideal .bf16) = (0 : EReal) := by
  change Ideal.ofBits .bf16 0x0000#16 = _
  simp [Ideal.ofBits, Ideal.ieee]

theorem zeroTile_at (y : S32x4096.Idx) : zeroTile (F := Ideal) y = (0 : EReal) := zero_bf16

variable (m : (ℓ : Loc nD τ sig) → Buf (Elt Ideal) ℓ) (c : Dev nD)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![1, min t.val 343, 0] := (by decide +kernel : ∀ t : Fin grid0.N, _)
theorem idx4 : ∀ t : Fin cfg0.N, win0_4.index t = ![(grid0.coords t 0).val, (grid0.coords t 1).val] := (by decide +kernel : ∀ t : Fin grid0.N, _)
theorem idx5 : ∀ t : Fin cfg0.N, win0_5.index t = ![min t.val 351, 0] := (by decide +kernel : ∀ t : Fin grid0.N, _)

/-- A whole tile is stored where the tile's column is before the last. -/
theorem cond1_col : ∀ t : Fin cfg0.N, k0_cond1 (grid0.coords t) = 1#1 ↔ (grid0.coords t 1).val < 21 := (by decide +kernel : ∀ t : Fin grid0.N, _)

/-- A point's rows of activations in, at their coordinates. -/
theorem rows_block (t : Fin cfg0.N) (a : Fin 1024) (b : Fin 4096) (r : Fin 24576) (hr : r.val = 1024 * (grid0.coords t 0).val + a.val) :
    iblk m c 0 t (ix2 a b) = m ((c : Thread nD τ).loc main_arg0) (ix2 r b) := by
  refine congrArg (m ((c : Thread nD τ).loc main_arg0)) (funext fun e => Fin.ext ?_)
  match e with
  | ⟨0, _⟩ =>
    blk_simp [idx0]
    change (grid0.coords t 0).val * 1024 + a.val = r.val
    omega
  | ⟨1, _⟩ =>
    blk_simp [idx0]

/-- A point's columns of gate weights, at their coordinates. -/
theorem gate_block (t : Fin cfg0.N) (a : Fin 4096) (b : Fin 512) (l : Fin 11264) (hl : l.val = 512 * (grid0.coords t 1).val + b.val) :
    iblk m c 1 t (ix2 a b) = m ((c : Thread nD τ).loc main_arg1) (ix2 a l) := by
  refine congrArg (m ((c : Thread nD τ).loc main_arg1)) (funext fun e => Fin.ext ?_)
  match e with
  | ⟨0, _⟩ =>
    blk_simp [idx1]
  | ⟨1, _⟩ =>
    blk_simp [idx1]
    change (grid0.coords t 1).val * 512 + b.val = l.val
    omega

/-- A point's columns of up weights, at their coordinates. -/
theorem up_block (t : Fin cfg0.N) (a : Fin 4096) (b : Fin 512) (l : Fin 11264) (hl : l.val = 512 * (grid0.coords t 1).val + b.val) :
    iblk m c 2 t (ix2 a b) = m ((c : Thread nD τ).loc main_arg2) (ix2 a l) := by
  refine congrArg (m ((c : Thread nD τ).loc main_arg2)) (funext fun e => Fin.ext ?_)
  match e with
  | ⟨0, _⟩ =>
    blk_simp [idx2]
  | ⟨1, _⟩ =>
    blk_simp [idx2]
    change (grid0.coords t 1).val * 512 + b.val = l.val
    omega

/-- A point's rows of the weight that is cast, at their coordinates. -/
theorem down_block (t : Fin cfg0.N) (a : Fin 32) (b : Fin 4096) (r : Fin 11008) (hr : r.val = 32 * min t.val 343 + a.val) :
    iblk m c 3 t (ix3 0 a b) = m ((c : Thread nD τ).loc main_arg3) (ix3 1 r b) := by
  refine congrArg (m ((c : Thread nD τ).loc main_arg3)) (funext fun e => Fin.ext ?_)
  match e with
  | ⟨0, _⟩ =>
    blk_simp [idx3]
    rfl
  | ⟨1, _⟩ =>
    blk_simp [idx3]
    change min t.val 343 * 32 + a.val = r.val
    omega
  | ⟨2, _⟩ =>
    blk_simp [idx3]

/-- A point's tile of activations, at its coordinates: the reference's there. -/
theorem act_tile (t : Fin cfg0.N) (a : Fin 1024) (b : Fin 512) (r : Fin 24576) (l : Fin 11264)
    (hr : r.val = 1024 * (grid0.coords t 0).val + a.val) (hl : l.val = 512 * (grid0.coords t 1).val + b.val) :
    actTile (grid0.coords t) (iblk m c 0 t) (iblk m c 1 t) (iblk m c 2 t) (ix2 a b)
      = Cert.Reference2Ideal.Read.val_main_v11 (F := Ideal) (m ((c : Thread nD τ).loc main_arg0)) (m ((c : Thread nD τ).loc main_arg1))
          (m ((c : Thread nD τ).loc main_arg2)) (ix2 r l) := by
  have h1 : (grid0.coords t 1).val < 22 := (grid0.coords t 1).isLt
  have hb := b.isLt
  refine Eq.trans ?_ (act_at _ _ _ r l).symm
  have e1 := fun k : Fin 4096 =>
    congrArg₂ (fun x y : EReal => x * y) (rows_block m c t a k r hr) (gate_block m c t k b l hl)
  have e2 := fun k : Fin 4096 =>
    congrArg₂ (fun x y : EReal => x * y) (rows_block m c t a k r hr) (up_block m c t k b l hl)
  unfold actTile
  by_cases h : (grid0.coords t 1).val < 21
  · rw [if_pos ((cond1_col t).2 h), if_pos (by omega)]
    refine (fullTile_at _ _ _ a b).trans ?_
    exact congrArg₂ gated (Finset.sum_congr rfl fun k _ => e1 k) (Finset.sum_congr rfl fun k _ => e2 k)
  · rw [if_neg (fun h' => h ((cond1_col t).1 h'))]
    unfold lastTile
    by_cases hb2 : b.val < 256
    · refine (dif_pos hb2).trans ?_
      rw [if_pos (by omega)]
      refine (halfTile_at _ _ _ a ⟨b.val, hb2⟩).trans ?_
      exact congrArg₂ gated (Finset.sum_congr rfl fun k _ => e1 k) (Finset.sum_congr rfl fun k _ => e2 k)
    · refine (dif_neg hb2).trans ?_
      rw [if_neg (by omega)]
      exact zero_bf16

/-- A point's block of the cast, at its coordinates: the reference's there. -/
theorem cast_tile (t : Fin cfg0.N) (a : Fin 32) (b : Fin 4096) (r : Fin 11264) (hr : r.val = 32 * min t.val 351 + a.val) :
    castTile (grid0.coords t) (iblk m c 3 t) zeroTile (ix2 a b)
      = Cert.Reference2Ideal.Read.val_main_v15 (F := Ideal) (m ((c : Thread nD τ).loc main_arg3)) (ix2 r b) := by
  have ha := a.isLt
  refine Eq.trans ?_ (cast_at _ r b).symm
  by_cases h : t.val < 344
  · rw [castTile, if_pos ((cond3_iff t).2 h), dif_pos (by omega)]
    refine (castRows_at _ a b).trans ?_
    exact down_block m c t a b _ (by simp only; omega)
  · rw [castTile_late t (by omega), dif_neg (by omega)]
    exact zeroTile_at _

/-- The call's array of activations is the reference's. -/
theorem act_array : (dats m 0 c).arrAt 4 cfg0.N = Cert.Reference2Ideal.Read.val_main_v11 (F := Ideal)
      (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have h0 : (grid0.coords t 0).val < 24 := (grid0.coords t 0).isLt
  have h1 : (grid0.coords t 1).val < 22 := (grid0.coords t 1).isLt
  have e : ((win0_4.blk t).view.emb y : S24576x11264.Idx)
      = ix2 ⟨1024 * (grid0.coords t 0).val + (y 0).val, by have h : (y 0).val < 1024 := (y 0).isLt; omega⟩
          ⟨512 * (grid0.coords t 1).val + (y 1).val, by have h : (y 1).val < 512 := (y 1).isLt; omega⟩ := by
    refine funext fun e => Fin.ext ?_
    match e with
    | ⟨0, _⟩ =>
      blk_simp [idx4]
      change (grid0.coords t 0).val * 1024 + (y 0).val = 1024 * (grid0.coords t 0).val + (y 0).val
      omega
    | ⟨1, _⟩ =>
      blk_simp [idx4]
      change (grid0.coords t 1).val * 512 + (y 1).val = 512 * (grid0.coords t 1).val + (y 1).val
      omega
  refine Eq.trans ?_ (congrArg (Cert.Reference2Ideal.Read.val_main_v11 (F := Ideal)
      (m ((c : Thread nD τ).loc main_arg0)) (m ((c : Thread nD τ).loc main_arg1)) (m ((c : Thread nD τ).loc main_arg2))) e.symm)
  refine Eq.trans ?_ (act_tile m c t (y 0) (y 1) _ _ rfl rfl)
  exact congrArg (actTile (grid0.coords t) (iblk m c 0 t) (iblk m c 1 t) (iblk m c 2 t)) (eq_ix2 y)

/-- The call's cast weight is the reference's. -/
theorem cast_array : (dats m 0 c).arrAt 5 cfg0.N = Cert.Reference2Ideal.Read.val_main_v15 (F := Ideal) (m ((c : Thread nD τ).loc main_arg3)) := by
  refine (dats m 0 c).arrAt_eq_of_covers 5 _ (by decide +kernel) fun t hf y => ?_
  blk_simp
  have e : ((win0_5.blk t).view.emb y : S11264x4096.Idx)
      = ix2 ⟨32 * min t.val 351 + (y 0).val, by have h : (y 0).val < 32 := (y 0).isLt; omega⟩ (y 1) := by
    refine funext fun e => Fin.ext ?_
    match e with
    | ⟨0, _⟩ =>
      blk_simp [idx5]
      change min t.val 351 * 32 + (y 0).val = 32 * min t.val 351 + (y 0).val
      omega
    | ⟨1, _⟩ =>
      blk_simp [idx5]
      rfl
  refine Eq.trans ?_ (congrArg (Cert.Reference2Ideal.Read.val_main_v15 (F := Ideal) (m ((c : Thread nD τ).loc main_arg3))) e.symm)
  refine Eq.trans ?_ (cast_tile m c t (y 0) (y 1) _ rfl)
  exact congrArg (castTile (grid0.coords t) (iblk m c 3 t) zeroTile) (eq_ix2 y)

end Cert.Proof.Gate

end
-- ==== Proof.GateClaims.lean ====
/-
  The claims about the gate and up projections' call, each as the statement of the certificate has it.
-/
module

public import proofs.«01_k».proof.Defs
public import proofs.«01_k».proof.Proof.GateFrameBits
public import proofs.«01_k».proof.Proof.GateValue
public import proofs.«01_k».proof.Proof.Gen.Reference2.Run
public import proofs.«01_k».proof.Proof.Gen.Reference2Ideal.Run

@[expose] public section

namespace Cert.Proof.GateClaims

open Idealize.ShloMosaic Idealize.ShloMosaic.TcCoe Idealize.SL.Sem

/-- The call over bit patterns leaves its arguments and every counter as it found them. -/
theorem frame_kernel : Cert.quiescent_Kernel2 := fun m ρ _ => GateBits.frame_runs (F := Bits) m ρ

/-- The call over the extended reals does too. -/
theorem frame_kernelIdeal : Cert.quiescent_Kernel2Ideal := fun m ρ _ => Gate.frame_runs (F := Ideal) m ρ

/-- The reference over bit patterns: its arguments as they were; it declares no semaphore. -/
theorem frame_reference : Cert.quiescent_Reference2 := fun m ρ _ =>
  (θ_run Cert.Reference2.defs _ _).mono (fun r h => ⟨fun c => (h c).2.2, sem_eq_zero_of_no_sems (by decide) r.2⟩)
    (Cert.Reference2.Value.run (F := Bits) m ρ)

/-- The reference over the extended reals likewise. -/
theorem frame_referenceIdeal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Over the extended reals the call and the reference end with the same two arrays, on arguments that agree. -/
theorem algebraic : Cert.algebraic_Kernel2Ideal_Reference2Ideal := by
  intro m ρ m' ρ' _ hagree
  refine ⟨fun c => Cert.Reference2Ideal.Read.val_main_v11 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)),
    fun c => Cert.Reference2Ideal.Read.val_main_v15 (F := Ideal) (m ((c.tc : Thread Cert.Kernel2Ideal.nD Cert.Kernel2Ideal.τ).loc Cert.Kernel2Ideal.main_arg3)), ?_, ?_⟩
  · exact (θ_run Cert.Kernel2Ideal.defs _ _).mono (fun _ h c => ⟨(Pipeline.FramePost.out_eq h.1 c 4).trans (Gate.act_array m c),
      (Pipeline.FramePost.out_eq h.1 c 5).trans (Gate.cast_array m c), Pipeline.FramePost.in_eq h.1 c 0 rfl, Pipeline.FramePost.in_eq h.1 c 1 rfl,
      Pipeline.FramePost.in_eq h.1 c 2 rfl, Pipeline.FramePost.in_eq h.1 c 3 rfl⟩) (Gate.runs (F := Ideal) m ρ)
  · refine (θ_run Cert.Reference2Ideal.defs _ _).mono (fun _ h c => ⟨(h c).1.trans ?_, (h c).2.1.trans ?_, (h c).2.2⟩) (Cert.Reference2Ideal.Value.run (F := Ideal) m' ρ')
    · rw [Cert.Reference2Ideal.Read.val_main_v11_eq, (hagree c).1, (hagree c).2.1, (hagree c).2.2.1]
    · rw [Cert.Reference2Ideal.Read.val_main_v15_eq, (hagree c).2.2.2]

end Cert.Proof.GateClaims

end
-- ==== Proof.DownCases.lean ====
/-
  The down projection's body, case by case: what its runs leave in the carried scratch and in the result's block.
-/
module

public import proofs.«01_k».proof.Proof.Gen.Kernel3Ideal.Frame
public import Idealize.ShloMosaic.Lib.Pipeline.Value

@[expose] public section

set_option maxRecDepth 16384

noncomputable section

namespace Cert.Proof.Down

open Cert.Kernel3Ideal Cert.Kernel3Ideal.Gen
open Idealize.ShloMosaic Idealize.ShloMosaic.TcCoe Idealize.ShloMosaic.Tactic
open Idealize.SL.Sem
open Idealize.ShloMosaic.Pipeline (Dat)

variable {F : FTy → Type} [FloatOps F]

theorem origin : (![0, 0] : Fin 2 → ℕ) = fun _ => 0 := by decide

/-- The product of two whole blocks. -/
def product (x0 : Vec F S1024x2816 .bf16) (x1 : Vec F S2816x1024 .bf16) : Vec F S1024x1024 .f32 :=
  matmul dot_S1024x2816_S2816x1024_S1024x1024_1_0_0_1_n_n none x0 x1 (constant S1024x1024 .f32 0x00000000#32)

/-- The product of the live parts of the last two blocks. -/
def lastProduct (x0 : Vec F S1024x2816 .bf16) (x1 : Vec F S2816x1024 .bf16) : Vec F S1024x1024 .f32 :=
  matmul dot_S1024x2560_S2560x1024_S1024x1024_1_0_0_1_n_n none
    (extractStridedSlice S1024x2560 ![0, 0] x0 ⟨rfl, inb_S1024x2816_S1024x2560_0_0⟩)
    (extractStridedSlice S2560x1024 ![0, 0] x1 ⟨rfl, inb_S2816x1024_S2560x1024_0_0⟩) (constant S1024x1024 .f32 0x00000000#32)

/-- The first of four points leaves its product in the scratch. -/
theorem first_case (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x0 : Vec F S1024x2816 .bf16) (x1 : Vec F S2816x1024 .bf16) :
    sout0_A_0 c i a3 h3 a4 h4 a5 h5 a6 h6 hc0 hc1 hc2 x0 x1 = product x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1024x2816) origin, View.ld_unit_zero (S := S2816x1024) origin, shapeCast_self]
  unfold k0_pay1 product
  simp only [shapeCast_self]

/-- The two in between add theirs. -/
theorem middle_case (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : ¬cond0_2 i)
    (x0 : Vec F S1024x2816 .bf16) (x1 : Vec F S2816x1024 .bf16) (xs : Vec F S1024x1024 .f32) :
    sout0_B_0 c i a3 h3 a4 h4 a5 h5 a6 h6 hc0 hc1 hc2 x0 x1 xs = addf xs (product x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  simp only [View.readAt_eq_ld, h3.read_unread, h4.read_unread, h6.read_unread, View.ld_unit_zero (S := S1024x2816) origin, View.ld_unit_zero (S := S2816x1024) origin,
    View.ld_unit_zero (S := S1024x1024) origin, shapeCast_self]
  unfold k0_pay2 product
  simp only [shapeCast_self]

/-- The last adds the live part's and rounds the sum into the result's block. -/
theorem last_case (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x0 : Vec F S1024x2816 .bf16) (x1 : Vec F S2816x1024 .bf16) (xs : Vec F S1024x1024 .f32) :
    out0_C_2 c i a3 h3 a4 h4 a5 h5 a6 h6 hc0 hc1 hc2 x0 x1 xs = truncf .bf16 (addf xs (lastProduct x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin]
  simp only [View.readAt_eq_ld, h3.read_unread, h4.read_unread, h6.read_unread, View.ld_unit_zero (S := S1024x1024) origin, shapeCast_self]
  unfold k0_pay3 lastProduct
  simp only [View.ld_unit]

variable (m : (ℓ : Loc nD τ sig) → Buf (Elt F) ℓ) (c : Dev nD)

/-- The product at a point. -/
def part (n : ℕ) (h : n < cfg0.N) : Vec F S1024x1024 .f32 := product (iblk m c 0 ⟨n, h⟩) (iblk m c 1 ⟨n, h⟩)

/-- What the fourth of four points leaves in the result's block: the three products and the last one's live part, added in order. -/
theorem block_after (t : Fin cfg0.N) (h : t.val % 4 = 3) :
    (outsAt0 m c t.val t.isLt).1 = truncf .bf16 (addf (addf (addf (part m c (t.val - 1 - 1 - 1) (by omega)) (part m c (t.val - 1 - 1) (by omega)))
      (part m c (t.val - 1) (by omega))) (lastProduct (iblk m c 0 t) (iblk m c 1 t))) bitsLt_bf16_f32 := by
  have ht := t.isLt
  rw [outsAt0_C m c t (by omega) (by omega) h]
  dsimp only
  rw [last_case]
  rw [outsAt0_B m c ⟨t.val - 1, by omega⟩ (by simp only; omega) (by simp only; omega) (by simp only; omega)]
  dsimp only
  rw [middle_case]
  rw [outsAt0_B m c ⟨t.val - 1 - 1, by omega⟩ (by simp only; omega) (by simp only; omega) (by simp only; omega)]
  dsimp only
  rw [middle_case]
  rw [outsAt0_A m c ⟨t.val - 1 - 1 - 1, by omega⟩ (by simp only; omega) (by simp only; omega) (by simp only; omega)]
  dsimp only
  rw [first_case]
  rfl

end Cert.Proof.Down

end
-- ==== Proof.DownValue.lean ====
/-
  What the down projection's call leaves in its result array over the extended reals: the reference's product.
-/
module

public import proofs.«01_k».proof.Proof.DownCases
public import proofs.«01_k».proof.Proof.Gen.Reference3Ideal.Read
public import Idealize.ShloMosaic.Lib.Pointwise
public import Idealize.ShloMosaic.Lib.Pipeline.ValueKit.Geometry

@[expose] public section

namespace Cert.Proof.Down

open Idealize.ShloMosaic Idealize.ShloMosaic.TcCoe Cert.Kernel3Ideal Cert.Kernel3Ideal.Gen
open Idealize.ShloMosaic.Pipeline (Dat)
open scoped BigOperators

/-- A product of two whole blocks, at its coordinates. -/
theorem product_at (x0 : Vec Ideal S1024x2816 .bf16) (x1 : Vec Ideal S2816x1024 .bf16) (a b : Fin 1024) :
    product x0 x1 (ix2 a b) = ∑ k : Fin 2816, x0 (ix2 a k) * x1 (ix2 k b) := by
  pointwise [product]

/-- The product of the live parts, at its coordinates. -/
theorem lastProduct_at (x0 : Vec Ideal S1024x2816 .bf16) (x1 : Vec Ideal S2816x1024 .bf16) (a b : Fin 1024) :
    lastProduct x0 x1 (ix2 a b) = ∑ k : Fin 2560, x0 (ix2 a ⟨k.val, by omega⟩) * x1 (ix2 ⟨k.val, by omega⟩ b) := by
  pointwise [lastProduct]

/-- A sum over the live columns, cut where the blocks are. -/
theorem sum_cut (f : Fin 11008 → EReal) : ((∑ k : Fin 2816, f ⟨k.val, by omega⟩) + (∑ k : Fin 2816, f ⟨2816 + k.val, by omega⟩)
      + (∑ k : Fin 2816, f ⟨5632 + k.val, by omega⟩)) + (∑ k : Fin 2560, f ⟨8448 + k.val, by omega⟩) = ∑ k, f k := by
  rw [show (∑ k, f k) = _ from Fin.sum_univ_add (a := 8448) (b := 2560) f]
  rw [Fin.sum_univ_add (a := 5632) (b := 2816), Fin.sum_univ_add (a := 2816) (b := 2816)]
  rfl

variable (m : (ℓ : Loc nD τ sig) → Buf (Elt Ideal) ℓ) (c : Dev nD)

theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4] := (by decide +kernel : ∀ t : Fin grid0.N, _)
theorem idx2 : ∀ t : Fin cfg0.N, win0_2.index t = ![t.val / 16, t.val / 4 % 4] := (by decide +kernel : ∀ t : Fin grid0.N, _)

/-- A point's block of activations, at its coordinates. -/
theorem act_block (t : Fin cfg0.N) (a : Fin 1024) (k : Fin 2816) (r : Fin 24576) (l : Fin 11264) (hr : r.val = 1024 * (t.val / 16) + a.val)
    (hl : l.val = 2816 * (t.val % 4) + k.val) : iblk m c 0 t (ix2 a k) = m ((c : Thread nD τ).loc main_arg0) (ix2 r l) := by
  refine congrArg (m ((c : Thread nD τ).loc main_arg0)) (funext fun e => Fin.ext ?_)
  match e with
  | ⟨0, _⟩ =>
    blk_simp [idx0]
    change t.val / 16 * 1024 + a.val = r.val
    omega
  | ⟨1, _⟩ =>
    blk_simp [idx0]
    change t.val % 4 * 2816 + k.val = l.val
    omega

/-- A point's block of weights, at its coordinates. -/
theorem weight_block (t : Fin cfg0.N) (k : Fin 2816) (b : Fin 1024) (l : Fin 11264) (q : Fin 4096) (hl : l.val = 2816 * (t.val % 4) + k.val)
    (hq : q.val = 1024 * (t.val / 4 % 4) + b.val) : iblk m c 1 t (ix2 k b) = m ((c : Thread nD τ).loc main_arg1) (ix2 l q) := by
  refine congrArg (m ((c : Thread nD τ).loc main_arg1)) (funext fun e => Fin.ext ?_)
  match e with
  | ⟨0, _⟩ =>
    blk_simp [idx1]
    change t.val % 4 * 2816 + k.val = l.val
    omega
  | ⟨1, _⟩ =>
    blk_simp [idx1]
    change t.val / 4 % 4 * 1024 + b.val = q.val
    omega

/-- The reference's product, at its coordinates: the inner product over the live columns. -/
theorem ref_at (x0 : Vec Ideal S24576x11264 .bf16) (x1 : Vec Ideal S11264x4096 .bf16) (r : Fin 24576) (q : Fin 4096) :
    Cert.Reference3Ideal.Read.val_main_v5 (F := Ideal) x0 x1 (ix2 r q)
      = ∑ k : Fin 11008, x0 (ix2 r ⟨k.val, by omega⟩) * x1 (ix2 ⟨k.val, by omega⟩ q) := by
  rw [Cert.Reference3Ideal.Read.val_main_v5_apply, Cert.Reference3Ideal.Read.val_main_v4_apply]
  refine Finset.sum_congr rfl fun k _ => ?_
  rw [Cert.Reference3Ideal.Read.val_main_v1_apply, Cert.Reference3Ideal.Read.val_main_v0_apply, Cert.Reference3Ideal.Read.val_main_v3_apply,
    Cert.Reference3Ideal.Read.val_main_v2_apply]
  refine congrArg₂ (fun x y : EReal => x * y) (congrArg x0 ?_) (congrArg x1 ?_) <;> exact funext fun a => match a with | ⟨0, _⟩ => rfl | ⟨1, _⟩ => rfl

/-- The fourth point of a block leaves the reference's entries there. -/
theorem out_tile (t : Fin cfg0.N) (h : t.val % 4 = 3) (a b : Fin 1024) (r : Fin 24576) (q : Fin 4096) (hr : r.val = 1024 * (t.val / 16) + a.val)
    (hq : q.val = 1024 * (t.val / 4 % 4) + b.val) :
    (outsAt0 m c t.val t.isLt).1 (ix2 a b) = Cert.Reference3Ideal.Read.val_main_v5 (F := Ideal) (m ((c : Thread nD τ).loc main_arg0))
      (m ((c : Thread nD τ).loc main_arg1)) (ix2 r q) := by
  have ht : t.val < 384 := t.isLt
  rw [ref_at, block_after m c t h]
  refine Eq.trans (congrArg₂ (fun x y : EReal => x + y) (congrArg₂ (fun x y : EReal => x + y) (congrArg₂ (fun x y : EReal => x + y)
    (product_at _ _ a b) (product_at _ _ a b)) (product_at _ _ a b)) (lastProduct_at _ _ a b)) ?_
  refine Eq.trans ?_ (sum_cut _)
  refine congrArg₂ (fun x y : EReal => x + y) (congrArg₂ (fun x y : EReal => x + y) (congrArg₂ (fun x y : EReal => x + y) ?_ ?_) ?_) ?_
  all_goals
    refine Finset.sum_congr rfl fun k _ => ?_
    have hk := k.isLt
    refine congrArg₂ (fun x y : EReal => x * y) (act_block m c _ a _ r _ ?_ ?_) (weight_block m c _ _ b _ q ?_ ?_) <;> (try simp only) <;> omega

/-- The call's array is the reference's. -/
theorem out_array : (dats m 0 c).arrAt 2 cfg0.N = Cert.Reference3Ideal.Read.val_main_v5 (F := Ideal) (m ((c : Thread nD τ).loc main_arg0))
      (m ((c : Thread nD τ).loc main_arg1)) := by
  refine (dats m 0 c).arrAt_eq_of_covers 2 _ (by decide +kernel) fun t hf y => ?_
  have h3 : t.val % 4 = 3 := (flush0_2 t).mp hf
  have ht : t.val < 384 := t.isLt
  blk_simp
  have e : ((win0_2.blk t).view.emb y : S24576x4096.Idx)
      = ix2 ⟨1024 * (t.val / 16) + (y 0).val, by have h : (y 0).val < 1024 := (y 0).isLt; omega⟩
          ⟨1024 * (t.val / 4 % 4) + (y 1).val, by have h : (y 1).val < 1024 := (y 1).isLt; omega⟩ := by
    refine funext fun e => Fin.ext ?_
    match e with
    | ⟨0, _⟩ =>
      blk_simp [idx2]
      change t.val / 16 * 1024 + (y 0).val = 1024 * (t.val / 16) + (y 0).val
      omega
    | ⟨1, _⟩ =>
      blk_simp [idx2]
      change t.val / 4 % 4 * 1024 + (y 1).val = 1024 * (t.val / 4 % 4) + (y 1).val
      omega
  refine Eq.trans ?_ (congrArg (Cert.Reference3Ideal.Read.val_main_v5 (F := Ideal) (m ((c : Thread nD τ).loc main_arg0))
      (m ((c : Thread nD τ).loc main_arg1))) e.symm)
  refine Eq.trans ?_ (out_tile m c t h3 (y 0) (y 1) _ _ rfl rfl)
  exact congrArg (outsAt0 m c t.val t.isLt).1 (eq_ix2 y)

end Cert.Proof.Down

end
-- ==== Proof.DownClaims.lean ====
/-
  The claims about the down projection's call, each as the statement of the certificate has it.
-/
module

public import proofs.«01_k».proof.Defs
public import proofs.«01_k».proof.Proof.DownValue
public import proofs.«01_k».proof.Proof.Gen.Kernel3.Frame
public import proofs.«01_k».proof.Proof.Gen.Reference3.Run
public import proofs.«01_k».proof.Proof.Gen.Reference3Ideal.Run

@[expose] public section

namespace Cert.Proof.DownClaims

open Idealize.ShloMosaic Idealize.ShloMosaic.TcCoe Idealize.SL.Sem

/-- The call over bit patterns leaves its arguments and every counter as it found them. -/
theorem frame_kernel : Cert.quiescent_Kernel3 := fun m ρ _ => Cert.Kernel3.Gen.frame (F := Bits) m ρ

/-- The call over the extended reals does too. -/
theorem frame_kernelIdeal : Cert.quiescent_Kernel3Ideal := fun m ρ _ => Cert.Kernel3Ideal.Gen.frame (F := Ideal) m ρ

/-- The reference over bit patterns: its arguments as they were; it declares no semaphore. -/
theorem frame_reference : Cert.quiescent_Reference3 := fun m ρ _ =>
  (θ_run Cert.Reference3.defs _ _).mono (fun r h => ⟨fun c => (h c).2, sem_eq_zero_of_no_sems (by decide) r.2⟩)
    (Cert.Reference3.Value.run (F := Bits) m ρ)

/-- The reference over the extended reals likewise. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the call and the reference end with the same array, on arguments that agree. -/
theorem algebraic : Cert.algebraic_Kernel3Ideal_Reference3Ideal := by
  intro m ρ m' ρ' _ hagree
  refine ⟨fun c => Cert.Reference3Ideal.Read.val_main_v5 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun _ h c => ⟨(Pipeline.FramePost.out_eq h c 2).trans (Down.out_array m c),
      Pipeline.FramePost.in_eq h c 0 rfl, Pipeline.FramePost.in_eq h c 1 rfl⟩) (Cert.Kernel3Ideal.Gen.run_main (F := Ideal) m ρ)
  · refine (θ_run Cert.Reference3Ideal.defs _ _).mono (fun _ h c => ⟨(h c).1.trans ?_, (h c).2⟩) (Cert.Reference3Ideal.Value.run (F := Ideal) m' ρ')
    rw [Cert.Reference3Ideal.Read.val_main_v5_eq, (hagree c).1, (hagree c).2]

end Cert.Proof.DownClaims

end
-- ==== Proof.ProjRun.lean ====
/-
  The input projection's body, run at symbolic buffers: what it leaves in its tile of the product and in its blocks of
  the three riding casts.
-/
module

public import proofs.«01_k».proof.Proof.Gen.Kernel4Ideal.Frame
public import Idealize.ShloMosaic.Lib.Exec
public import Idealize.ShloMosaic.Lib.Tactic
public import Idealize.ShloMosaic.Lib.ValueIdxCore
public import Idealize.ShloMosaic.Lib.WritesUnit

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held at contents `f`. -/
abbrev held (c : Dev nD) {sp : Space} {S : Shape} {e : EltTy} (M : Memref sig .tc sp S e) (f : M.view.ty.Contents (Elt F)) : sProp 𝕄 :=
  M.view.loc (c : Thread nD τ) ↦[M.view.set]{fullShare} f

/-- A tile of the product, rounded. -/
def mulTile (x2 : Vec F S1024x4096 .bf16) (x3 : Vec F S4096x1024 .bf16) : Vec F S1024x1024 .bf16 :=
  truncf .bf16 (matmul dot_S1024x4096_S4096x1024_S1024x1024_1_0_0_1_n_n none x2 x3 (constant S1024x1024 .f32 0x00000000#32)) bitsLt_bf16_f32

/-- A block of the first cast: the weight's rows, rounded. -/
def outRows (x4 : Vec F S1x32x4096 .f32) : Vec F S32x4096 .bf16 :=
  truncf .bf16 (shapeCast S32x4096 x4 shapeCasts_S1x32x4096_S32x4096) bitsLt_bf16_f32

/-- The live columns of a block of the other two casts: the weight's rows, rounded. -/
def liveRows (x : Vec F S1x32x11008 .f32) : Vec F S32x11008 .bf16 :=
  truncf .bf16 (shapeCast S32x11008 x shapeCasts_S1x32x11008_S32x11008) bitsLt_bf16_f32

/-- A block of the other two casts: its live columns, then zeros. -/
def wideRows (x : Vec F S1x32x11008 .f32) : Vec F S32x11264 .bf16 :=
  fun y => if h : (y 1).val < 11008 then liveRows x (ix2 (y 0) ⟨(y 1).val, h⟩) else Scalar.ofBits .bf16 0x0000#16

/-- What a grid point leaves in the block of the first cast, which held `z`. -/
def outTile (i : grid0.Coords) (x4 : Vec F S1x32x4096 .f32) (z : Vec F S32x4096 .bf16) : Vec F S32x4096 .bf16 :=
  if k0_cond1 i = 1#1 then outRows x4 else z

/-- What a grid point leaves in a block of the other two casts, which held `z`. -/
def wideTile (i : grid0.Coords) (x : Vec F S1x32x11008 .f32) (z : Vec F S32x11264 .bf16) : Vec F S32x11264 .bf16 :=
  if k0_cond1 i = 1#1 then wideRows x else z

section Reads

/-- A load at literal offsets, of contents told as a function of the index. -/
theorem readAt_unit {sig : RefSig} {κ : Kind} {sp : Space} {s : Shape} {e : EltTy} {Val : EltTy → Type} (v : View sig κ sp s e) {f : v.ty.Contents Val}
    {x : s.Idx → Val e} (h : v.read Val f = x) {off off' size : Fin s.rank → ℕ} (inb : ∀ a, off a + size a ≤ s.size a) (ho : off = off')
    {g : (Rect.unit off size inb).shape.Idx → Val e} (p : (Rect.unit off size inb).shape.Idx → s.Idx) (hp : ∀ i a, (p i a).val = off' a + (i a).val)
    (hg : ∀ i, g i = x (p i)) : v.readAt Val (Rect.unit off size inb).toLoadRect f = g := by
  subst ho
  funext i
  rw [View.readAt_apply, h, hg]
  congr 1
  funext a
  refine Fin.ext ?_
  rw [hp]
  show off a + 1 * (i a).val = _
  rw [Nat.one_mul]

theorem read_whole2 {arg2 : Memref sig .tc .vmem S1024x4096 .bf16} (X : arg2.view.ty.Contents (Elt F)) :
    arg2.view.readAt (Elt F) (Rect.unit (s := S1024x4096) ![0, 0] S1024x4096.size inb_S1024x4096_S1024x4096_0_0).toLoadRect X = arg2.view.read (Elt F) X :=
  readAt_unit arg2.view rfl _ rfl (fun i => i) (fun i a => match a with | 0 => (Nat.zero_add _).symm | 1 => (Nat.zero_add _).symm) fun _ => rfl

theorem read_whole3 {arg3 : Memref sig .tc .vmem S4096x1024 .bf16} (X : arg3.view.ty.Contents (Elt F)) :
    arg3.view.readAt (Elt F) (Rect.unit (s := S4096x1024) ![0, 0] S4096x1024.size inb_S4096x1024_S4096x1024_0_0).toLoadRect X = arg3.view.read (Elt F) X :=
  readAt_unit arg3.view rfl _ rfl (fun i => i) (fun i a => match a with | 0 => (Nat.zero_add _).symm | 1 => (Nat.zero_add _).symm) fun _ => rfl

theorem read_whole4 {arg4 : Memref sig .tc .vmem S1x32x4096 .f32} (X : arg4.view.ty.Contents (Elt F)) :
    arg4.view.readAt (Elt F) (Rect.unit (s := S1x32x4096) ![0, 0, 0] S1x32x4096.size inb_S1x32x4096_S1x32x4096_0_0_0).toLoadRect X = arg4.view.read (Elt F) X :=
  readAt_unit arg4.view rfl _ rfl (fun i => i) (fun i a => match a with | 0 => (Nat.zero_add _).symm | 1 => (Nat.zero_add _).symm | 2 => (Nat.zero_add _).symm) fun _ => rfl

theorem read_whole5 {arg5 : Memref sig .tc .vmem S1x32x11008 .f32} (X : arg5.view.ty.Contents (Elt F)) :
    arg5.view.readAt (Elt F) (Rect.unit (s := S1x32x11008) ![0, 0, 0] S1x32x11008.size inb_S1x32x11008_S1x32x11008_0_0_0).toLoadRect X = arg5.view.read (Elt F) X :=
  readAt_unit arg5.view rfl _ rfl (fun i => i) (fun i a => match a with | 0 => (Nat.zero_add _).symm | 1 => (Nat.zero_add _).symm | 2 => (Nat.zero_add _).symm) fun _ => rfl

/-- One store over the whole tile of the product. -/
theorem writes_whole7 {arg7 : Memref sig .tc .vmem S1024x1024 .bf16} (f : arg7.view.ty.Contents (Elt F)) (w : Vec F S1024x1024 .bf16) :
    arg7.view.read (Elt F) (arg7.view.writes (Elt F) f [⟨Rect.unit (s := S1024x1024) ![0, 0] S1024x1024.size inb_S1024x1024_S1024x1024_0_0, w⟩]) = w :=
  funext fun y => View.read_writes_cons_unit_of_mem _ _ _ _ _ y y rfl fun a => match a with | 0 => (Nat.zero_add _).symm | 1 => (Nat.zero_add _).symm

/-- One store over the whole block of the first cast. -/
theorem writes_whole8 {arg8 : Memref sig .tc .vmem S32x4096 .bf16} (f : arg8.view.ty.Contents (Elt F)) (w : Vec F S32x4096 .bf16) :
    arg8.view.read (Elt F) (arg8.view.writes (Elt F) f [⟨Rect.unit (s := S32x4096) ![0, 0] S32x4096.size inb_S32x4096_S32x4096_0_0, w⟩]) = w :=
  funext fun y => View.read_writes_cons_unit_of_mem _ _ _ _ _ y y rfl fun a => match a with | 0 => (Nat.zero_add _).symm | 1 => (Nat.zero_add _).symm

/-- The two stores of the other casts: the live columns, then the last 256. -/
theorem writes_parts9 {arg9 : Memref sig .tc .vmem S32x11264 .bf16} (f : arg9.view.ty.Contents (Elt F)) (w : Vec F S32x11008 .bf16) (z : Vec F S32x256 .bf16) :
    arg9.view.read (Elt F) (arg9.view.writes (Elt F) f
      [⟨Rect.unit (s := S32x11264) ![0, 11008] S32x256.size inb_S32x11264_S32x256_0_11008, z⟩,
       ⟨Rect.unit (s := S32x11264) ![0, 0] S32x11008.size inb_S32x11264_S32x11008_0_0, w⟩])
      = fun y => if h : (y 1).val < 11008 then w (ix2 (y 0) ⟨(y 1).val, h⟩)
          else z (ix2 (y 0) ⟨(y 1).val - 11008, by have := (y 1).isLt; have h : S32x11264.size 1 = 11264 := rfl; omega⟩) := by
  funext y
  by_cases h : (y 1).val < 11008
  · rw [dif_pos h]
    refine (View.read_writes_cons_unit_of_not_mem _ _ _ _ _ _ rfl 1 (.inl h)).trans ?_
    exact View.read_writes_cons_unit_of_mem _ _ _ _ _ _ _ rfl fun a => match a with | 0 => (Nat.zero_add _).symm | 1 => (Nat.zero_add _).symm
  · rw [dif_neg h]
    exact View.read_writes_cons_unit_of_mem _ _ _ _ _ _ _ rfl fun a => by
      match a with
      | 0 => exact (Nat.zero_add _).symm
      | 1 => show (y 1).val = 11008 + ((y 1).val - 11008); omega

end Reads

set_option maxHeartbeats 4000000 in
/-- The body from its nine blocks at any contents, on each path its conditions leave open. -/
theorem body_runs (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x32x4096 .f32) (harg4 : arg4.IsWhole) (arg5 : Memref sig .tc .vmem S1x32x11008 .f32) (harg5 : arg5.IsWhole) (arg6 : Memref sig .tc .vmem S1x32x11008 .f32) (harg6 : arg6.IsWhole) (arg7 : Memref sig .tc .vmem S1024x1024 .bf16) (harg7 : arg7.IsWhole) (arg8 : Memref sig .tc .vmem S32x4096 .bf16) (harg8 : arg8.IsWhole) (arg9 : Memref sig .tc .vmem S32x11264 .bf16) (harg9 : arg9.IsWhole) (arg10 : Memref sig .tc .vmem S32x11264 .bf16) (harg10 : arg10.IsWhole)
    (cs : (k0_cond1 i = 1#1 ∧ k0_cond2 i = 1#1 ∧ k0_cond3 i = 1#1) ∨ (¬ k0_cond1 i = 1#1 ∧ ¬ k0_cond2 i = 1#1 ∧ ¬ k0_cond3 i = 1#1))
    (X2 : arg2.view.ty.Contents (Elt F)) (X3 : arg3.view.ty.Contents (Elt F)) (X4 : arg4.view.ty.Contents (Elt F)) (X5 : arg5.view.ty.Contents (Elt F))
    (X6 : arg6.view.ty.Contents (Elt F)) (f7 : arg7.view.ty.Contents (Elt F)) (f8 : arg8.view.ty.Contents (Elt F)) (f9 : arg9.view.ty.Contents (Elt F))
    (f10 : arg10.view.ty.Contents (Elt F)) (Q : PUnit → sProp 𝕄) :
    iprop(held c arg2 X2 ∗ held c arg3 X3 ∗ held c arg4 X4 ∗ held c arg5 X5 ∗ held c arg6 X6 ∗ held c arg7 f7 ∗ held c arg8 f8 ∗ held c arg9 f9
      ∗ held c arg10 f10
      ∗ (iprop(held c arg2 X2 ∗ held c arg3 X3 ∗ held c arg4 X4 ∗ held c arg5 X5 ∗ held c arg6 X6
          ∗ (∃ f, ⌜arg7.view.read (Elt F) f = mulTile (arg2.view.read (Elt F) X2) (arg3.view.read (Elt F) X3)⌝ ∗ held c arg7 f)
          ∗ (∃ f, ⌜arg8.view.read (Elt F) f = outTile i (arg4.view.read (Elt F) X4) (arg8.view.read (Elt F) f8)⌝ ∗ held c arg8 f)
          ∗ (∃ f, ⌜arg9.view.read (Elt F) f = wideTile i (arg5.view.read (Elt F) X5) (arg9.view.read (Elt F) f9)⌝ ∗ held c arg9 f)
          ∗ (∃ f, ⌜arg10.view.read (Elt F) f = wideTile i (arg6.view.read (Elt F) X6) (arg10.view.read (Elt F) f10)⌝ ∗ held c arg10 f)) -∗ Q ⟨⟩))
    ⊢ wp frame (wpE (defs₀ (F := F)) Variants.none (c : Thread nD τ) none) Set.univ
        (cc0_matmul_full_k i arg2 harg2 arg3 harg3 arg4 harg4 arg5 harg5 arg6 harg6 arg7 harg7 arg8 harg8 arg9 harg9 arg10 harg10) Q := by
  unfold cc0_matmul_full_k
  rcases cs with ⟨c1, c2, c3⟩ | ⟨c1, c2, c3⟩
  all_goals
    iintro ⟨H2, H3, H4, H5, H6, H7, H8, H9, H10, Hk⟩
    sl_exec (disch := first | sl_exact c1 | sl_exact c2 | sl_exact c3)
    sl_step
    iapply Hk
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      unfold mulTile
      rw [← read_whole2, ← read_whole3 X3]
      exact writes_whole7 _ _
    isplitl [H8]
    · iexists _; isplitr; swap; · iexact H8
      ipureintro
      first
        | rw [outTile, if_pos c1, ← read_whole4]
          exact writes_whole8 _ _
        | rw [outTile, if_neg c1]
    isplitl [H9]
    · iexists _; isplitr; swap; · iexact H9
      ipureintro
      first
        | rw [wideTile, if_pos c1]; unfold wideRows; rw [← read_whole5]
          exact writes_parts9 _ _ _
        | rw [wideTile, if_neg c1]
    iexists _; isplitr; swap; · iexact H10
    ipureintro
    first
      | rw [wideTile, if_pos c1]; unfold wideRows; rw [← read_whole5]
        exact writes_parts9 _ _ _
      | rw [wideTile, if_neg c1]

end Cert.Proof.Proj

end
-- ==== Proof.ProjFrame.lean ====
/-
  The input projection's call: what each grid point leaves in its tile of the product and in the blocks of the riding
  casts, and the pipeline's run with it. Past the casts' last blocks nothing is stored there, and the buffers go on
  holding those blocks to the end.
-/
module

public import proofs.«01_k».proof.Proof.ProjRun
public import Idealize.ShloMosaic.Lib.Pipeline.TableIdle
public import Idealize.ShloMosaic.Lib.Pipeline.ValueKit.Geometry

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three casts store at the same points. -/
theorem conds : ∀ t : Fin grid0.N, (k0_cond1 (grid0.coords t) = 1#1 ∧ k0_cond2 (grid0.coords t) = 1#1 ∧ k0_cond3 (grid0.coords t) = 1#1)
    ∨ (¬ k0_cond1 (grid0.coords t) = 1#1 ∧ ¬ k0_cond2 (grid0.coords t) = 1#1 ∧ ¬ k0_cond3 (grid0.coords t) = 1#1) := by decide +kernel

/-- They are the first 128. -/
theorem cond1_iff : ∀ t : Fin grid0.N, k0_cond1 (grid0.coords t) = 1#1 ↔ t.val < 128 := by decide +kernel

theorem idle5 : ∀ t : Fin grid0.N, idle0 5 (grid0.coords t) = false := by decide +kernel

theorem idle6 : ∀ t : Fin grid0.N, idle0 6 (grid0.coords t) = decide (128 ≤ t.val) := by decide +kernel

theorem idle7 : ∀ t : Fin grid0.N, idle0 7 (grid0.coords t) = decide (128 ≤ t.val) := by decide +kernel

theorem idle8 : ∀ t : Fin grid0.N, idle0 8 (grid0.coords t) = decide (128 ≤ t.val) := by decide +kernel

/-- A cast's block is written back at its first 127 points and at the end. -/
theorem flush6 : ∀ t : Fin grid0.N, win0_6.flush t = (decide (t.val < 127) || decide (t.val = 167)) := by
  intro t; rw [Pipeline.Window.flush_eq_flushF]; revert t; decide +kernel

/-- A cast's block is written back at its first 127 points and at the end. -/
theorem flush7 : ∀ t : Fin grid0.N, win0_7.flush t = (decide (t.val < 127) || decide (t.val = 167)) := by
  intro t; rw [Pipeline.Window.flush_eq_flushF]; revert t; decide +kernel

/-- A cast's block is written back at its first 127 points and at the end. -/
theorem flush8 : ∀ t : Fin grid0.N, win0_8.flush t = (decide (t.val < 127) || decide (t.val = 167)) := by
  intro t; rw [Pipeline.Window.flush_eq_flushF]; revert t; decide +kernel

/-- The last point up to `t` at which the casts store. -/
def castPoint (t : Fin cfg0.N) : Fin cfg0.N := ⟨min t.val 127, Nat.lt_of_le_of_lt (Nat.min_le_left _ _) t.isLt⟩

theorem castPoint_early (t : Fin cfg0.N) (h : t.val < 128) : castPoint t = t := Fin.ext (by change min t.val 127 = t.val; omega)

theorem castPoint_late (t t' : Fin cfg0.N) (h : 127 ≤ t.val) (h' : 127 ≤ t'.val) : castPoint t = castPoint t' :=
  Fin.ext (by change min t.val 127 = min t'.val 127; omega)

variable (m : (ℓ : Loc nD τ sig) → Buf (Elt F) ℓ) (ρ : Dev nD → PrngReg)

/-- The proof data: the inputs stay at their blocks, the outputs end at their tiles. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mulTile (iblk m c 0 t) (iblk m c 1 t)
    | ⟨6, _⟩ => outRows (iblk m c 2 (castPoint t))
    | ⟨7, _⟩ => wideRows (iblk m c 3 (castPoint t))
    | ⟨8, _⟩ => wideRows (iblk m c 4 (castPoint t))
    | ⟨_ + 9, h⟩ => absurd h (Nat.not_lt.2 (Nat.le_add_left _ _))
  Φ _ := Pipeline.ΦA spec0 c
  q _ := fullShare
  owed _ := 0

/-- The body table's row at a point is the body there. -/
theorem body_row (t : Fin cfg0.N) : defs₀ (F := F) .tc cfg0.body (cfg0.bodyArgs t (cfg0.slots t)) = bodyAt0 t := by
  unfold defs₀; rw [Defs.onTc_tc]

/-- Past the casts' last points the buffer of window 6 holds the last block. -/
theorem before6 (c : Dev nD) (d : Vec F S32x4096 .bf16) : ∀ (n : ℕ) (t : Fin cfg0.N), t.val = 128 + n → (dats m 0 c).before 6 t d = outRows (iblk m c 2 (castPoint t))
  | 0, t, h => by
    rw [(dats m 0 c).before_of_pos 6 t (by omega) rfl d]
    rw [if_neg (by rw [show (cfg0.win 6).flush _ = _ from flush6 _]; simp only [Bool.or_eq_true, decide_eq_true_eq]; omega)]
    unfold Dat.left
    rw [show cfg0.idle 6 _ = false from (idle6 _).trans (decide_eq_false (by simp only; omega))]
    exact congrArg (fun s => outRows (iblk m c 2 s)) (castPoint_late _ _ (by simp only; omega) (by omega))
  | n + 1, t, h => by
    have ht : t.val < 168 := t.isLt
    rw [(dats m 0 c).before_of_pos 6 t (by omega) rfl d]
    rw [if_neg (by rw [show (cfg0.win 6).flush _ = _ from flush6 _]; simp only [Bool.or_eq_true, decide_eq_true_eq]; omega)]
    unfold Dat.left
    rw [show cfg0.idle 6 _ = true from (idle6 _).trans (decide_eq_true (by simp only; omega))]
    refine (before6 c d n _ (by simp only; omega)).trans ?_
    exact congrArg (fun s => outRows (iblk m c 2 s)) (castPoint_late _ _ (by simp only; omega) (by omega))

/-- What the body leaves in that block, from what it finds there, is what the proof data name. -/
theorem after6 (c : Dev nD) (t : Fin cfg0.N) (d : Vec F S32x4096 .bf16) :
    (dats m 0 c).after 6 t = outTile (grid0.coords t) (iblk m c 2 t) ((dats m 0 c).before 6 t d) := by
  change outRows (iblk m c 2 (castPoint t)) = _
  unfold outTile
  by_cases h : t.val < 128
  · rw [if_pos ((cond1_iff t).2 h), castPoint_early t h]
  · rw [if_neg (fun h' => h ((cond1_iff t).1 h')), before6 m c d (t.val - 128) t (by omega)]

/-- The demand on that block after the body, met by those contents. -/
theorem leave6 (c : Dev nD) (t : Fin cfg0.N) (d : Vec F S32x4096 .bf16) :
    (owns (c : Thread nD τ) (win0_6.stage (cfg0.slots t 6)) fullShare (outTile (grid0.coords t) (iblk m c 2 t) ((dats m 0 c).before 6 t d)) : sProp 𝕄)
    ⊢ (match cfg0.idle 6 (cfg0.grid.coords t) with
      | true => match (cfg0.win 6).flush t with
        | false => iprop(∃ d, owns c ((cfg0.win 6).stage (cfg0.slots t 6)) fullShare ((dats m 0 c).before 6 t d))
        | true => owns c ((cfg0.win 6).stage (cfg0.slots t 6)) fullShare ((dats m 0 c).after 6 t)
      | false => owns c ((cfg0.win 6).stage (cfg0.slots t 6)) fullShare ((dats m 0 c).after 6 t)) := by
  have e := after6 m c t d
  by_cases h : 128 ≤ t.val
  · rw [show cfg0.idle 6 _ = true from (idle6 _).trans (decide_eq_true h)]
    dsimp only
    cases (cfg0.win 6).flush t
    · dsimp only
      iintro H
      iexists d
      rw [outTile, if_neg (fun h' => by have := (cond1_iff t).1 h'; omega)]
      iexact H
    · dsimp only
      rw [e]
  · rw [show cfg0.idle 6 _ = false from (idle6 _).trans (decide_eq_false h)]
    dsimp only
    rw [e]

/-- Past the casts' last points the buffer of window 7 holds the last block. -/
theorem before7 (c : Dev nD) (d : Vec F S32x11264 .bf16) : ∀ (n : ℕ) (t : Fin cfg0.N), t.val = 128 + n → (dats m 0 c).before 7 t d = wideRows (iblk m c 3 (castPoint t))
  | 0, t, h => by
    rw [(dats m 0 c).before_of_pos 7 t (by omega) rfl d]
    rw [if_neg (by rw [show (cfg0.win 7).flush _ = _ from flush7 _]; simp only [Bool.or_eq_true, decide_eq_true_eq]; omega)]
    unfold Dat.left
    rw [show cfg0.idle 7 _ = false from (idle7 _).trans (decide_eq_false (by simp only; omega))]
    exact congrArg (fun s => wideRows (iblk m c 3 s)) (castPoint_late _ _ (by simp only; omega) (by omega))
  | n + 1, t, h => by
    have ht : t.val < 168 := t.isLt
    rw [(dats m 0 c).before_of_pos 7 t (by omega) rfl d]
    rw [if_neg (by rw [show (cfg0.win 7).flush _ = _ from flush7 _]; simp only [Bool.or_eq_true, decide_eq_true_eq]; omega)]
    unfold Dat.left
    rw [show cfg0.idle 7 _ = true from (idle7 _).trans (decide_eq_true (by simp only; omega))]
    refine (before7 c d n _ (by simp only; omega)).trans ?_
    exact congrArg (fun s => wideRows (iblk m c 3 s)) (castPoint_late _ _ (by simp only; omega) (by omega))

/-- What the body leaves in that block, from what it finds there, is what the proof data name. -/
theorem after7 (c : Dev nD) (t : Fin cfg0.N) (d : Vec F S32x11264 .bf16) :
    (dats m 0 c).after 7 t = wideTile (grid0.coords t) (iblk m c 3 t) ((dats m 0 c).before 7 t d) := by
  change wideRows (iblk m c 3 (castPoint t)) = _
  unfold wideTile
  by_cases h : t.val < 128
  · rw [if_pos ((cond1_iff t).2 h), castPoint_early t h]
  · rw [if_neg (fun h' => h ((cond1_iff t).1 h')), before7 m c d (t.val - 128) t (by omega)]

/-- The demand on that block after the body, met by those contents. -/
theorem leave7 (c : Dev nD) (t : Fin cfg0.N) (d : Vec F S32x11264 .bf16) :
    (owns (c : Thread nD τ) (win0_7.stage (cfg0.slots t 7)) fullShare (wideTile (grid0.coords t) (iblk m c 3 t) ((dats m 0 c).before 7 t d)) : sProp 𝕄)
    ⊢ (match cfg0.idle 7 (cfg0.grid.coords t) with
      | true => match (cfg0.win 7).flush t with
        | false => iprop(∃ d, owns c ((cfg0.win 7).stage (cfg0.slots t 7)) fullShare ((dats m 0 c).before 7 t d))
        | true => owns c ((cfg0.win 7).stage (cfg0.slots t 7)) fullShare ((dats m 0 c).after 7 t)
      | false => owns c ((cfg0.win 7).stage (cfg0.slots t 7)) fullShare ((dats m 0 c).after 7 t)) := by
  have e := after7 m c t d
  by_cases h : 128 ≤ t.val
  · rw [show cfg0.idle 7 _ = true from (idle7 _).trans (decide_eq_true h)]
    dsimp only
    cases (cfg0.win 7).flush t
    · dsimp only
      iintro H
      iexists d
      rw [wideTile, if_neg (fun h' => by have := (cond1_iff t).1 h'; omega)]
      iexact H
    · dsimp only
      rw [e]
  · rw [show cfg0.idle 7 _ = false from (idle7 _).trans (decide_eq_false h)]
    dsimp only
    rw [e]

/-- Past the casts' last points the buffer of window 8 holds the last block. -/
theorem before8 (c : Dev nD) (d : Vec F S32x11264 .bf16) : ∀ (n : ℕ) (t : Fin cfg0.N), t.val = 128 + n → (dats m 0 c).before 8 t d = wideRows (iblk m c 4 (castPoint t))
  | 0, t, h => by
    rw [(dats m 0 c).before_of_pos 8 t (by omega) rfl d]
    rw [if_neg (by rw [show (cfg0.win 8).flush _ = _ from flush8 _]; simp only [Bool.or_eq_true, decide_eq_true_eq]; omega)]
    unfold Dat.left
    rw [show cfg0.idle 8 _ = false from (idle8 _).trans (decide_eq_false (by simp only; omega))]
    exact congrArg (fun s => wideRows (iblk m c 4 s)) (castPoint_late _ _ (by simp only; omega) (by omega))
  | n + 1, t, h => by
    have ht : t.val < 168 := t.isLt
    rw [(dats m 0 c).before_of_pos 8 t (by omega) rfl d]
    rw [if_neg (by rw [show (cfg0.win 8).flush _ = _ from flush8 _]; simp only [Bool.or_eq_true, decide_eq_true_eq]; omega)]
    unfold Dat.left
    rw [show cfg0.idle 8 _ = true from (idle8 _).trans (decide_eq_true (by simp only; omega))]
    refine (before8 c d n _ (by simp only; omega)).trans ?_
    exact congrArg (fun s => wideRows (iblk m c 4 s)) (castPoint_late _ _ (by simp only; omega) (by omega))

/-- What the body leaves in that block, from what it finds there, is what the proof data name. -/
theorem after8 (c : Dev nD) (t : Fin cfg0.N) (d : Vec F S32x11264 .bf16) :
    (dats m 0 c).after 8 t = wideTile (grid0.coords t) (iblk m c 4 t) ((dats m 0 c).before 8 t d) := by
  change wideRows (iblk m c 4 (castPoint t)) = _
  unfold wideTile
  by_cases h : t.val < 128
  · rw [if_pos ((cond1_iff t).2 h), castPoint_early t h]
  · rw [if_neg (fun h' => h ((cond1_iff t).1 h')), before8 m c d (t.val - 128) t (by omega)]

/-- The demand on that block after the body, met by those contents. -/
theorem leave8 (c : Dev nD) (t : Fin cfg0.N) (d : Vec F S32x11264 .bf16) :
    (owns (c : Thread nD τ) (win0_8.stage (cfg0.slots t 8)) fullShare (wideTile (grid0.coords t) (iblk m c 4 t) ((dats m 0 c).before 8 t d)) : sProp 𝕄)
    ⊢ (match cfg0.idle 8 (cfg0.grid.coords t) with
      | true => match (cfg0.win 8).flush t with
        | false => iprop(∃ d, owns c ((cfg0.win 8).stage (cfg0.slots t 8)) fullShare ((dats m 0 c).before 8 t d))
        | true => owns c ((cfg0.win 8).stage (cfg0.slots t 8)) fullShare ((dats m 0 c).after 8 t)
      | false => owns c ((cfg0.win 8).stage (cfg0.slots t 8)) fullShare ((dats m 0 c).after 8 t)) := by
  have e := after8 m c t d
  by_cases h : 128 ≤ t.val
  · rw [show cfg0.idle 8 _ = true from (idle8 _).trans (decide_eq_true h)]
    dsimp only
    cases (cfg0.win 8).flush t
    · dsimp only
      iintro H
      iexists d
      rw [wideTile, if_neg (fun h' => by have := (cond1_iff t).1 h'; omega)]
      iexact H
    · dsimp only
      rw [e]
  · rw [show cfg0.idle 8 _ = false from (idle8 _).trans (decide_eq_false h)]
    dsimp only
    rw [e]

set_option maxHeartbeats 1600000 in
/-- The pipeline's demand on the body, at every point. -/
theorem body_ok (c : Dev nD) : BodyObligation (dats m 0 c) (defs₀ (F := F)) Variants.none () Set.univ := fun t => by
  rw [bigSep_W0, bigSep_W0, body_row]
  have h0 := before0_0_of m (dats m 0 c) rfl (fun _ => rfl) t
  have h1 := before0_1_of m (dats m 0 c) rfl (fun _ => rfl) t
  have h2 := before0_2_of m (dats m 0 c) rfl (fun _ => rfl) t
  have h3 := before0_3_of m (dats m 0 c) rfl (fun _ => rfl) t
  have h4 := before0_4_of m (dats m 0 c) rfl (fun _ => rfl) t
  rw [show cfg0.idle 5 (cfg0.grid.coords t) = false from idle5 t]
  change iprop(Pipeline.ΦA spec0 c ∗ (dats m 0 c).owesAt () t.castSucc
      ∗ (∃ d, owns c (win0_0.stage (cfg0.slots t 0)) fullShare ((dats m 0 c).before 0 t d))
      ∗ (∃ d, owns c (win0_1.stage (cfg0.slots t 1)) fullShare ((dats m 0 c).before 1 t d))
      ∗ (∃ d, owns c (win0_2.stage (cfg0.slots t 2)) fullShare ((dats m 0 c).before 2 t d))
      ∗ (∃ d, owns c (win0_3.stage (cfg0.slots t 3)) fullShare ((dats m 0 c).before 3 t d))
      ∗ (∃ d, owns c (win0_4.stage (cfg0.slots t 4)) fullShare ((dats m 0 c).before 4 t d))
      ∗ (∃ d, owns c (win0_5.stage (cfg0.slots t 5)) fullShare ((dats m 0 c).before 5 t d))
      ∗ (∃ d, owns c (win0_6.stage (cfg0.slots t 6)) fullShare ((dats m 0 c).before 6 t d))
      ∗ (∃ d, owns c (win0_7.stage (cfg0.slots t 7)) fullShare ((dats m 0 c).before 7 t d))
      ∗ (∃ d, owns c (win0_8.stage (cfg0.slots t 8)) fullShare ((dats m 0 c).before 8 t d)))
    ⊢ wp frame (wpE (defs₀ (F := F)) Variants.none c none) Set.univ (bodyAt0 t) fun _ =>
      iprop(Pipeline.ΦA spec0 c ∗ (dats m 0 c).owesAt () t.castSucc
      ∗ owns c (win0_0.stage (cfg0.slots t 0)) fullShare (iblk m c 0 t)
      ∗ owns c (win0_1.stage (cfg0.slots t 1)) fullShare (iblk m c 1 t)
      ∗ owns c (win0_2.stage (cfg0.slots t 2)) fullShare (iblk m c 2 t)
      ∗ owns c (win0_3.stage (cfg0.slots t 3)) fullShare (iblk m c 3 t)
      ∗ owns c (win0_4.stage (cfg0.slots t 4)) fullShare (iblk m c 4 t)
      ∗ owns c (win0_5.stage (cfg0.slots t 5)) fullShare (mulTile (iblk m c 0 t) (iblk m c 1 t))
      ∗ _ ∗ _ ∗ _)
  simp only [h0, h1, h2, h3, h4]
  unfold bodyAt0
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave K6 := leave6 m c t d6
  ihave K7 := leave7 m c t d7
  ihave K8 := leave8 m c t d8
  unfold owns
  icases H0 with ⟨%g0, %e0, H0⟩
  icases H1 with ⟨%g1, %e1, H1⟩
  icases H2 with ⟨%g2, %e2, H2⟩
  icases H3 with ⟨%g3, %e3, H3⟩
  icases H4 with ⟨%g4, %e4, H4⟩
  icases H5 with ⟨%g5, %e5, H5⟩
  icases H6 with ⟨%g6, %e6, H6⟩
  icases H7 with ⟨%g7, %e7, H7⟩
  icases H8 with ⟨%g8, %e8, H8⟩
  iapply body_runs (F := F) c (grid0.coords t) _ _ _ _ _ _ _ _ _ _ _ _ _ _ _ _ _ _ (conds t) g0 g1 g2 g3 g4 g5 g6 g7 g8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, ⟨%w5, %u5, H5⟩, ⟨%w6, %u6, H6⟩, ⟨%w7, %u7, H7⟩, ⟨%w8, %u8, H8⟩⟩
  isplitl [HΦ]; · iexact HΦ
  isplitl [HO]; · iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists g4; isplitr; · ipureintro; exact e4
    iexact H4
  isplitl [H5]
  · iexists w5; isplitr
    · ipureintro; rw [u5, e0, e1]
    iexact H5
  isplitl [K6 H6]
  · iapply K6
    iexists w6; isplitr
    · ipureintro; rw [u6, e2, e6]
    iexact H6
  isplitl [K7 H7]
  · iapply K7
    iexists w7; isplitr
    · ipureintro; rw [u7, e3, e7]
    iexact H7
  iapply K8
  iexists w8; isplitr
  · ipureintro; rw [u8, e4, e8]
  iexact H8

set_option backward.isDefEq.respectTransparency false in
/-- The program runs to the end with every array at the contents the proof data name. -/
theorem runs : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => (body_ok m c).loose) (hshare := fun c => (dats m 0 c).share_full fun _ => rfl) (howed := fun _ _ => rfl) (V := V m)
    (hmain := hmain m Variants.none) (hA := fun _ _ => rfl) (hΦ := fun _ _ => rfl)
    (Q' := _) (hQ' := fun _ h => h)

/-- The frame: the arguments unchanged and the machine quiet. -/
theorem frame_runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨Pipeline.FramePost.in_eq h.1 c 0 rfl, Pipeline.FramePost.in_eq h.1 c 1 rfl, Pipeline.FramePost.in_eq h.1 c 2 rfl, Pipeline.FramePost.in_eq h.1 c 3 rfl, Pipeline.FramePost.in_eq h.1 c 4 rfl⟩, h.2⟩) (runs m ρ)

end Cert.Proof.Proj

end
-- ==== Proof.ProjValue.lean ====
/-
  What the input projection's call leaves in its four result arrays over the extended reals: the reference's results on
  the same arrays.
-/
module

public import proofs.«01_k».proof.Proof.ProjFrame
public import proofs.«01_k».proof.Proof.Gen.Reference4Ideal.Read
public import Idealize.ShloMosaic.Lib.Pointwise
public import Idealize.ShloMosaic.Lib.KernelVsHost

@[expose] public section

namespace Cert.Proof.Proj

open Idealize.ShloMosaic Idealize.ShloMosaic.TcCoe Cert.Kernel4Ideal Cert.Kernel4Ideal.Gen
open Idealize.ShloMosaic.Pipeline (Dat)
open scoped BigOperators

/-- A tile of the product, at its coordinates. -/
theorem mulTile_at (x2 : Vec Ideal S1024x4096 .bf16) (x3 : Vec Ideal S4096x1024 .bf16) (a b : Fin 1024) :
    mulTile x2 x3 (ix2 a b) = ∑ k : Fin 4096, x2 (ix2 a k) * x3 (ix2 k b) := by
  pointwise [mulTile]

/-- The first cast's rows, at their coordinates. -/
theorem outRows_at (x : Vec Ideal S1x32x4096 .f32) (a : Fin 32) (b : Fin 4096) : outRows x (ix2 a b) = x (ix3 0 a b) := by
  pointwise [outRows]

/-- The other casts' live columns, at their coordinates. -/
theorem liveRows_at (x : Vec Ideal S1x32x11008 .f32) (a : Fin 32) (b : Fin 11008) : liveRows x (ix2 a b) = x (ix3 0 a b) := by
  pointwise [liveRows]

theorem zero_bf16 : (Scalar.ofBits .bf16 0x0000#16 : Ideal .bf16) = (0 : EReal) := by
  change Ideal.ofBits .bf16 0x0000#16 = _
  simp [Ideal.ofBits, Ideal.ieee]

/-- The other casts' rows, at their coordinates: the weight's, then zeros. -/
theorem wideRows_at (x : Vec Ideal S1x32x11008 .f32) (a : Fin 32) (b : Fin 11264) :
    wideRows x (ix2 a b) = if h : b.val < 11008 then x (ix3 0 a ⟨b.val, h⟩) else (0 : EReal) := by
  unfold wideRows
  by_cases h : b.val < 11008
  · rw [dif_pos h]
    exact (dif_pos h).trans (liveRows_at x a ⟨b.val, h⟩)
  · rw [dif_neg h]
    exact (dif_neg h).trans zero_bf16

/-- The reference's product, at its coordinates. -/
theorem mul_at (x0 : Vec Ideal S24576x4096 .bf16) (x1 : Vec Ideal S4096x7168 .bf16) (r : Fin 24576) (q : Fin 7168) :
    Cert.Reference4Ideal.Read.val_main_v3 (F := Ideal) x0 x1 (ix2 r q) = ∑ k : Fin 4096, x0 (ix2 r k) * x1 (ix2 k q) := by
  rw [Cert.Reference4Ideal.Read.val_main_v3_apply, Cert.Reference4Ideal.Read.val_main_v2_apply]
  refine Finset.sum_congr rfl fun k _ => ?_
  rw [Cert.Reference4Ideal.Read.val_main_v0_apply, Cert.Reference4Ideal.Read.val_main_v1_apply]
  refine congrArg₂ (fun x y : EReal => x * y) (congrArg x0 ?_) (congrArg x1 ?_) <;> exact funext fun a => match a with | ⟨0, _⟩ => rfl | ⟨1, _⟩ => rfl

/-- The reference's first cast, at its coordinates: the second layer's rows. -/
theorem out_at (x : Vec Ideal S2x4096x4096 .f32) (r l : Fin 4096) :
    Cert.Reference4Ideal.Read.val_main_v6 (F := Ideal) x (ix2 r l) = x (ix3 1 r l) := by
  have hr := r.isLt
  have hl := l.isLt
  rw [Cert.Reference4Ideal.Read.val_main_v6_apply, Cert.Reference4Ideal.Read.val_main_v5_apply, Cert.Reference4Ideal.Read.val_main_v4_apply]
  refine congrArg x (funext fun a => Fin.ext ?_)
  match a with
  | ⟨0, _⟩ => rfl
  | ⟨1, _⟩ => show (r.val * 4096 + l.val) / 4096 % 4096 = r.val; omega
  | ⟨2, _⟩ => show (r.val * 4096 + l.val) % 4096 = l.val; omega

/-- The reference's second cast, at its coordinates: the second layer's rows, then zeros. -/
theorem gate_at (x : Vec Ideal S2x4096x11008 .f32) (r : Fin 4096) (l : Fin 11264) :
    Cert.Reference4Ideal.Read.val_main_v10 (F := Ideal) x (ix2 r l) = if h : l.val < 11008 then x (ix3 1 r ⟨l.val, h⟩) else (0 : EReal) := by
  have hr := r.isLt
  unfold Cert.Reference4Ideal.Read.val_main_v10
  by_cases h : l.val < 11008
  · rw [dif_pos h]
    refine (pad_apply_of_inside _ _ _ _ _ _ _ _ (ix2 r ⟨l.val, h⟩) fun a => by
      match a with
      | ⟨0, _⟩ => show r.val = 0 + r.val * (0 + 1); omega
      | ⟨1, _⟩ => show l.val = 0 + l.val * (0 + 1); omega).trans ?_
    rw [Cert.Reference4Ideal.Read.val_main_v9_apply, Cert.Reference4Ideal.Read.val_main_v8_apply, Cert.Reference4Ideal.Read.val_main_v7_apply]
    refine congrArg x (funext fun a => Fin.ext ?_)
    match a with
    | ⟨0, _⟩ => rfl
    | ⟨1, _⟩ => show (r.val * 11008 + l.val) / 11008 % 4096 = r.val; omega
    | ⟨2, _⟩ => show (r.val * 11008 + l.val) % 11008 = l.val; omega
  · rw [dif_neg h]
    refine (pad_apply_of_not_inside _ _ _ _ _ _ _ _ 1 (fun H => h ?_)).trans ?_
    · have := H.2.2
      change (l.val - 0) / (0 + 1) < 11008 at this
      omega
    · rw [Cert.Reference4Ideal.Read.val_main_call0_v0_apply, Cert.Reference4Ideal.Read.val_main_c_apply]
      change (((0#32 : BitVec 32).toInt : ℝ) : EReal) = 0
      simp

/-- The reference's third cast, at its coordinates: the second layer's rows, then zeros. -/
theorem up_at (x : Vec Ideal S2x4096x11008 .f32) (r : Fin 4096) (l : Fin 11264) :
    Cert.Reference4Ideal.Read.val_main_v14 (F := Ideal) x (ix2 r l) = if h : l.val < 11008 then x (ix3 1 r ⟨l.val, h⟩) else (0 : EReal) := by
  have hr := r.isLt
  unfold Cert.Reference4Ideal.Read.val_main_v14
  by_cases h : l.val < 11008
  · rw [dif_pos h]
    refine (pad_apply_of_inside _ _ _ _ _ _ _ _ (ix2 r ⟨l.val, h⟩) fun a => by
      match a with
      | ⟨0, _⟩ => show r.val = 0 + r.val * (0 + 1); omega
      | ⟨1, _⟩ => show l.val = 0 + l.val * (0 + 1); omega).trans ?_
    rw [Cert.Reference4Ideal.Read.val_main_v13_apply, Cert.Reference4Ideal.Read.val_main_v12_apply, Cert.Reference4Ideal.Read.val_main_v11_apply]
    refine congrArg x (funext fun a => Fin.ext ?_)
    match a with
    | ⟨0, _⟩ => rfl
    | ⟨1, _⟩ => show (r.val * 11008 + l.val) / 11008 % 4096 = r.val; omega
    | ⟨2, _⟩ => show (r.val * 11008 + l.val) % 11008 = l.val; omega
  · rw [dif_neg h]
    refine (pad_apply_of_not_inside _ _ _ _ _ _ _ _ 1 (fun H => h ?_)).trans ?_
    · have := H.2.2
      change (l.val - 0) / (0 + 1) < 11008 at this
      omega
    · rw [Cert.Reference4Ideal.Read.val_main_call1_v0_apply, Cert.Reference4Ideal.Read.val_main_c_0_apply]
      change (((0#32 : BitVec 32).toInt : ℝ) : EReal) = 0
      simp

variable (m : (ℓ : Loc nD τ sig) → Buf (Elt Ideal) ℓ) (c : Dev nD)

theorem idx0 : ∀ t : Fin cfg0.N, win0_0.index t = ![t.val / 7, 0] := (by decide +kernel : ∀ t : Fin grid0.N, _)
theorem idx1 : ∀ t : Fin cfg0.N, win0_1.index t = ![0, t.val % 7] := (by decide +kernel : ∀ t : Fin grid0.N, _)
theorem idx2 : ∀ t : Fin cfg0.N, win0_2.index t = ![1, min t.val 127, 0] := (by decide +kernel : ∀ t : Fin grid0.N, _)
theorem idx3 : ∀ t : Fin cfg0.N, win0_3.index t = ![1, min t.val 127, 0] := (by decide +kernel : ∀ t : Fin grid0.N, _)
theorem idx4 : ∀ t : Fin cfg0.N, win0_4.index t = ![1, min t.val 127, 0] := (by decide +kernel : ∀ t : Fin grid0.N, _)
theorem idx5 : ∀ t : Fin cfg0.N, win0_5.index t = ![t.val / 7, t.val % 7] := (by decide +kernel : ∀ t : Fin grid0.N, _)
theorem idx6 : ∀ t : Fin cfg0.N, win0_6.index t = ![min t.val 127, 0] := (by decide +kernel : ∀ t : Fin grid0.N, _)
theorem idx7 : ∀ t : Fin cfg0.N, win0_7.index t = ![min t.val 127, 0] := (by decide +kernel : ∀ t : Fin grid0.N, _)
theorem idx8 : ∀ t : Fin cfg0.N, win0_8.index t = ![min t.val 127, 0] := (by decide +kernel : ∀ t : Fin grid0.N, _)

/-- A point's rows of activations, at their coordinates. -/
theorem rows_block (t : Fin cfg0.N) (a : Fin 1024) (k : Fin 4096) (r : Fin 24576) (hr : r.val = 1024 * (t.val / 7) + a.val) :
    iblk m c 0 t (ix2 a k) = m ((c : Thread nD τ).loc main_arg0) (ix2 r k) := by
  refine congrArg (m ((c : Thread nD τ).loc main_arg0)) (funext fun e => Fin.ext ?_)
  match e with
  | ⟨0, _⟩ =>
    blk_simp [idx0]
    change t.val / 7 * 1024 + a.val = r.val
    omega
  | ⟨1, _⟩ =>
    blk_simp [idx0]

/-- A point's columns of weights, at their coordinates. -/
theorem cols_block (t : Fin cfg0.N) (k : Fin 4096) (b : Fin 1024) (q : Fin 7168) (hq : q.val = 1024 * (t.val % 7) + b.val) :
    iblk m c 1 t (ix2 k b) = m ((c : Thread nD τ).loc main_arg1) (ix2 k q) := by
  refine congrArg (m ((c : Thread nD τ).loc main_arg1)) (funext fun e => Fin.ext ?_)
  match e with
  | ⟨0, _⟩ =>
    blk_simp [idx1]
  | ⟨1, _⟩ =>
    blk_simp [idx1]
    change t.val % 7 * 1024 + b.val = q.val
    omega

/-- A point's rows of a weight that is cast, at their coordinates. -/
theorem out_block (t : Fin cfg0.N) (a : Fin 32) (b : Fin 4096) (r : Fin 4096) (hr : r.val = 32 * min t.val 127 + a.val) :
    iblk m c 2 t (ix3 0 a b) = m ((c : Thread nD τ).loc main_arg2) (ix3 1 r b) := by
  refine congrArg (m ((c : Thread nD τ).loc main_arg2)) (funext fun e => Fin.ext ?_)
  match e with
  | ⟨0, _⟩ =>
    blk_simp [idx2]
    rfl
  | ⟨1, _⟩ =>
    blk_simp [idx2]
    change min t.val 127 * 32 + a.val = r.val
    omega
  | ⟨2, _⟩ =>
    blk_simp [idx2]

/-- A point's rows of a weight that is cast, at their coordinates. -/
theorem gate_block (t : Fin cfg0.N) (a : Fin 32) (b : Fin 11008) (r : Fin 4096) (hr : r.val = 32 * min t.val 127 + a.val) :
    iblk m c 3 t (ix3 0 a b) = m ((c : Thread nD τ).loc main_arg3) (ix3 1 r b) := by
  refine congrArg (m ((c : Thread nD τ).loc main_arg3)) (funext fun e => Fin.ext ?_)
  match e with
  | ⟨0, _⟩ =>
    blk_simp [idx3]
    rfl
  | ⟨1, _⟩ =>
    blk_simp [idx3]
    change min t.val 127 * 32 + a.val = r.val
    omega
  | ⟨2, _⟩ =>
    blk_simp [idx3]

/-- A point's rows of a weight that is cast, at their coordinates. -/
theorem up_block (t : Fin cfg0.N) (a : Fin 32) (b : Fin 11008) (r : Fin 4096) (hr : r.val = 32 * min t.val 127 + a.val) :
    iblk m c 4 t (ix3 0 a b) = m ((c : Thread nD τ).loc main_arg4) (ix3 1 r b) := by
  refine congrArg (m ((c : Thread nD τ).loc main_arg4)) (funext fun e => Fin.ext ?_)
  match e with
  | ⟨0, _⟩ =>
    blk_simp [idx4]
    rfl
  | ⟨1, _⟩ =>
    blk_simp [idx4]
    change min t.val 127 * 32 + a.val = r.val
    omega
  | ⟨2, _⟩ =>
    blk_simp [idx4]

/-- The call's product is the reference's. -/
theorem mul_array : (dats m 0 c).arrAt 5 cfg0.N = Cert.Reference4Ideal.Read.val_main_v3 (F := Ideal) (m ((c : Thread nD τ).loc main_arg0)) (m ((c : Thread nD τ).loc main_arg1)) := by
  refine (dats m 0 c).arrAt_eq_of_covers 5 _ (by decide +kernel) fun t hf y => ?_
  have ht : t.val < 168 := t.isLt
  blk_simp
  have e : ((win0_5.blk t).view.emb y : S24576x7168.Idx)
      = ix2 ⟨1024 * (t.val / 7) + (y 0).val, by have h : (y 0).val < 1024 := (y 0).isLt; omega⟩
          ⟨1024 * (t.val % 7) + (y 1).val, by have h : (y 1).val < 1024 := (y 1).isLt; omega⟩ := by
    refine funext fun e => Fin.ext ?_
    match e with
    | ⟨0, _⟩ =>
      blk_simp [idx5]
      change t.val / 7 * 1024 + (y 0).val = 1024 * (t.val / 7) + (y 0).val
      omega
    | ⟨1, _⟩ =>
      blk_simp [idx5]
      change t.val % 7 * 1024 + (y 1).val = 1024 * (t.val % 7) + (y 1).val
      omega
  refine Eq.trans ?_ (congrArg (Cert.Reference4Ideal.Read.val_main_v3 (F := Ideal) (m ((c : Thread nD τ).loc main_arg0)) (m ((c : Thread nD τ).loc main_arg1))) e.symm)
  refine Eq.trans (congrArg (mulTile (iblk m c 0 t) (iblk m c 1 t)) (eq_ix2 y)) ?_
  refine (mulTile_at _ _ (y 0) (y 1)).trans (Eq.trans (Finset.sum_congr rfl fun k _ => ?_) (mul_at _ _ _ _).symm)
  exact congrArg₂ (fun x y : EReal => x * y) (rows_block m c t (y 0) k _ rfl) (cols_block m c t k (y 1) _ rfl)

/-- The call's array of window 6 is the reference's cast of the weight. -/
theorem out_array : (dats m 0 c).arrAt 6 cfg0.N = Cert.Reference4Ideal.Read.val_main_v6 (F := Ideal) (m ((c : Thread nD τ).loc main_arg2)) := by
  refine (dats m 0 c).arrAt_eq_of_covers 6 _ (by decide +kernel) fun t hf y => ?_
  blk_simp
  have e : ((win0_6.blk t).view.emb y : S4096x4096.Idx)
      = ix2 ⟨32 * min t.val 127 + (y 0).val, by have h : (y 0).val < 32 := (y 0).isLt; omega⟩ (y 1) := by
    refine funext fun e => Fin.ext ?_
    match e with
    | ⟨0, _⟩ =>
      blk_simp [idx6]
      change min t.val 127 * 32 + (y 0).val = 32 * min t.val 127 + (y 0).val
      omega
    | ⟨1, _⟩ =>
      blk_simp [idx6]
      rfl
  refine Eq.trans ?_ (congrArg (Cert.Reference4Ideal.Read.val_main_v6 (F := Ideal) (m ((c : Thread nD τ).loc main_arg2))) e.symm)
  refine Eq.trans (congrArg (outRows (iblk m c 2 (castPoint t))) (eq_ix2 y)) ?_
  refine (outRows_at _ (y 0) (y 1)).trans (Eq.trans ?_ (out_at _ _ _).symm)
  exact out_block m c (castPoint t) (y 0) (y 1) _ (by change 32 * min t.val 127 + (y 0).val = 32 * min (min t.val 127) 127 + (y 0).val; omega)

/-- The call's array of window 7 is the reference's cast of the weight. -/
theorem gate_array : (dats m 0 c).arrAt 7 cfg0.N = Cert.Reference4Ideal.Read.val_main_v10 (F := Ideal) (m ((c : Thread nD τ).loc main_arg3)) := by
  refine (dats m 0 c).arrAt_eq_of_covers 7 _ (by decide +kernel) fun t hf y => ?_
  blk_simp
  have e : ((win0_7.blk t).view.emb y : S4096x11264.Idx)
      = ix2 ⟨32 * min t.val 127 + (y 0).val, by have h : (y 0).val < 32 := (y 0).isLt; omega⟩ (y 1) := by
    refine funext fun e => Fin.ext ?_
    match e with
    | ⟨0, _⟩ =>
      blk_simp [idx7]
      change min t.val 127 * 32 + (y 0).val = 32 * min t.val 127 + (y 0).val
      omega
    | ⟨1, _⟩ =>
      blk_simp [idx7]
      rfl
  refine Eq.trans ?_ (congrArg (Cert.Reference4Ideal.Read.val_main_v10 (F := Ideal) (m ((c : Thread nD τ).loc main_arg3))) e.symm)
  refine Eq.trans (congrArg (wideRows (iblk m c 3 (castPoint t))) (eq_ix2 y)) ?_
  refine (wideRows_at _ (y 0) (y 1)).trans (Eq.trans ?_ (gate_at _ _ _).symm)
  by_cases h : (y 1).val < 11008
  · rw [dif_pos h, dif_pos h]
    refine gate_block m c (castPoint t) (y 0) ⟨(y 1).val, h⟩ _ ?_
    change 32 * min t.val 127 + (y 0).val = 32 * min (min t.val 127) 127 + (y 0).val
    omega
  · rw [dif_neg h, dif_neg h]

/-- The call's array of window 8 is the reference's cast of the weight. -/
theorem up_array : (dats m 0 c).arrAt 8 cfg0.N = Cert.Reference4Ideal.Read.val_main_v14 (F := Ideal) (m ((c : Thread nD τ).loc main_arg4)) := by
  refine (dats m 0 c).arrAt_eq_of_covers 8 _ (by decide +kernel) fun t hf y => ?_
  blk_simp
  have e : ((win0_8.blk t).view.emb y : S4096x11264.Idx)
      = ix2 ⟨32 * min t.val 127 + (y 0).val, by have h : (y 0).val < 32 := (y 0).isLt; omega⟩ (y 1) := by
    refine funext fun e => Fin.ext ?_
    match e with
    | ⟨0, _⟩ =>
      blk_simp [idx8]
      change min t.val 127 * 32 + (y 0).val = 32 * min t.val 127 + (y 0).val
      omega
    | ⟨1, _⟩ =>
      blk_simp [idx8]
      rfl
  refine Eq.trans ?_ (congrArg (Cert.Reference4Ideal.Read.val_main_v14 (F := Ideal) (m ((c : Thread nD τ).loc main_arg4))) e.symm)
  refine Eq.trans (congrArg (wideRows (iblk m c 4 (castPoint t))) (eq_ix2 y)) ?_
  refine (wideRows_at _ (y 0) (y 1)).trans (Eq.trans ?_ (up_at _ _ _).symm)
  by_cases h : (y 1).val < 11008
  · rw [dif_pos h, dif_pos h]
    refine up_block m c (castPoint t) (y 0) ⟨(y 1).val, h⟩ _ ?_
    change 32 * min t.val 127 + (y 0).val = 32 * min (min t.val 127) 127 + (y 0).val
    omega
  · rw [dif_neg h, dif_neg h]

end Cert.Proof.Proj

end
-- ==== Proof.ProjClaims.lean ====
/-
  The claims about the input projection's call, each as the statement of the certificate has it.
-/
module

public import proofs.«01_k».proof.Defs
public import proofs.«01_k».proof.Proof.ProjFrameBits
public import proofs.«01_k».proof.Proof.ProjValue
public import proofs.«01_k».proof.Proof.Gen.Reference4.Run
public import proofs.«01_k».proof.Proof.Gen.Reference4Ideal.Run

@[expose] public section

namespace Cert.Proof.ProjClaims

open Idealize.ShloMosaic Idealize.ShloMosaic.TcCoe Idealize.SL.Sem

/-- The call over bit patterns leaves its arguments and every counter as it found them. -/
theorem frame_kernel : Cert.quiescent_Kernel4 := fun m ρ _ => ProjBits.frame_runs (F := Bits) m ρ

/-- The call over the extended reals does too. -/
theorem frame_kernelIdeal : Cert.quiescent_Kernel4Ideal := fun m ρ _ => Proj.frame_runs (F := Ideal) m ρ

/-- The reference over bit patterns: its arguments as they were; it declares no semaphore. -/
theorem frame_reference : Cert.quiescent_Reference4 := fun m ρ _ =>
  (θ_run Cert.Reference4.defs _ _).mono (fun r h => ⟨fun c => (h c).2.2.2.2, sem_eq_zero_of_no_sems (by decide) r.2⟩)
    (Cert.Reference4.Value.run (F := Bits) m ρ)

/-- The reference over the extended reals likewise. -/
theorem frame_referenceIdeal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Over the extended reals the call and the reference end with the same four arrays, on arguments that agree. -/
theorem algebraic : Cert.algebraic_Kernel4Ideal_Reference4Ideal := by
  intro m ρ m' ρ' _ hagree
  refine ⟨fun c => Cert.Reference4Ideal.Read.val_main_v3 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.Reference4Ideal.Read.val_main_v6 (F := Ideal) (m ((c.tc : Thread Cert.Kernel4Ideal.nD Cert.Kernel4Ideal.τ).loc Cert.Kernel4Ideal.main_arg2)),
    fun c => Cert.Reference4Ideal.Read.val_main_v10 (F := Ideal) (m ((c.tc : Thread Cert.Kernel4Ideal.nD Cert.Kernel4Ideal.τ).loc Cert.Kernel4Ideal.main_arg3)),
    fun c => Cert.Reference4Ideal.Read.val_main_v14 (F := Ideal) (m ((c.tc : Thread Cert.Kernel4Ideal.nD Cert.Kernel4Ideal.τ).loc Cert.Kernel4Ideal.main_arg4)), ?_, ?_⟩
  · exact (θ_run Cert.Kernel4Ideal.defs _ _).mono (fun _ h c => ⟨(Pipeline.FramePost.out_eq h.1 c 5).trans (Proj.mul_array m c),
      (Pipeline.FramePost.out_eq h.1 c 6).trans (Proj.out_array m c), (Pipeline.FramePost.out_eq h.1 c 7).trans (Proj.gate_array m c),
      (Pipeline.FramePost.out_eq h.1 c 8).trans (Proj.up_array m c), Pipeline.FramePost.in_eq h.1 c 0 rfl, Pipeline.FramePost.in_eq h.1 c 1 rfl,
      Pipeline.FramePost.in_eq h.1 c 2 rfl, Pipeline.FramePost.in_eq h.1 c 3 rfl, Pipeline.FramePost.in_eq h.1 c 4 rfl⟩) (Proj.runs (F := Ideal) m ρ)
  · refine (θ_run Cert.Reference4Ideal.defs _ _).mono (fun _ h c => ⟨(h c).1.trans ?_, (h c).2.1.trans ?_, (h c).2.2.1.trans ?_, (h c).2.2.2.1.trans ?_, (h c).2.2.2.2⟩)
      (Cert.Reference4Ideal.Value.run (F := Ideal) m' ρ')
    · rw [Cert.Reference4Ideal.Read.val_main_v3_eq, (hagree c).1, (hagree c).2.1]
    · rw [Cert.Reference4Ideal.Read.val_main_v6_eq, (hagree c).2.2.1]
    · rw [Cert.Reference4Ideal.Read.val_main_v10_eq, (hagree c).2.2.2.1]
    · rw [Cert.Reference4Ideal.Read.val_main_v14_eq, (hagree c).2.2.2.2]

end Cert.Proof.ProjClaims

end
-- ==== Proof.MixCases.lean ====
/-
  The output projection's body, case by case: what its runs leave in the result's block.
-/
module

public import proofs.«01_k».proof.Proof.Gen.Kernel5Ideal.Frame
public import Idealize.ShloMosaic.Lib.Pipeline.Value

@[expose] public section

set_option maxRecDepth 16384

noncomputable section

namespace Cert.Proof.Mix

open Cert.Kernel5Ideal Cert.Kernel5Ideal.Gen
open Idealize.ShloMosaic Idealize.ShloMosaic.TcCoe Idealize.ShloMosaic.Tactic
open Idealize.SL.Sem
open Idealize.ShloMosaic.Pipeline (Dat)

variable {F : FTy → Type} [FloatOps F]

theorem origin : (![0, 0] : Fin 2 → ℕ) = fun _ => 0 := by decide

/-- The rounded sum of the products of two blocks of rows, each with its half of the weights. -/
def tile (x0 : Vec F S1024x2048 .bf16) (w0 : Vec F S2048x1024 .bf16) (x1 : Vec F S1024x2048 .bf16) (w1 : Vec F S2048x1024 .bf16) :
    Vec F S1024x1024 .bf16 :=
  truncf .bf16 (addf (matmul dot_S1024x2048_S2048x1024_S1024x1024_1_0_0_1_n_n none x0 w0 (constant S1024x1024 .f32 0x00000000#32))
    (matmul dot_S1024x2048_S2048x1024_S1024x1024_1_0_0_1_n_n none x1 w1 (constant S1024x1024 .f32 0x00000000#32))) bitsLt_bf16_f32

/-- A point of the first rows reads its left block from the first array. -/
theorem first_case (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S1024x2048 .bf16) (h4 : a4.IsWhole)
    (a5 : Memref sig .tc .vmem S2048x1024 .bf16) (h5 : a5.IsWhole) (a6 : Memref sig .tc .vmem S2048x1024 .bf16) (h6 : a6.IsWhole)
    (a7 : Memref sig .tc .vmem S1024x1024 .bf16) (h7 : a7.IsWhole) (hc0 : cond0_0 i) (hc1 : ¬cond0_1 i)
    (x0 x1 x2 : Vec F S1024x2048 .bf16) (x3 x4 : Vec F S2048x1024 .bf16) :
    out0_A_5 c i a2 h2 a3 h3 a4 h4 a5 h5 a6 h6 a7 h7 hc0 hc1 x0 x1 x2 x3 x4 = tile x0 x3 x2 x4 := by
  unfold out0_A_5
  rw [View.read_writes_eq_canon _ _ _ (cover0_A_5 c i a2 h2 a3 h3 a4 h4 a5 h5 a6 h6 a7 h7 hc0 hc1 x0 x1 x2 x3 x4)]
  unfold kernelRun0_A
  dsimp only
  sl_unfold_words
  rw [View.canon_unit_zero origin]
  simp only [View.readAt_eq_ld, h2.read_unread, h4.read_unread, h5.read_unread, h6.read_unread, View.ld_unit_zero (S := S1024x2048) origin,
    View.ld_unit_zero (S := S2048x1024) origin, shapeCast_self]
  unfold k0_pay1 tile
  (try simp only [shapeCast_self])

/-- A point of the last rows reads it from the second. -/
theorem second_case (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S1024x2048 .bf16) (h4 : a4.IsWhole)
    (a5 : Memref sig .tc .vmem S2048x1024 .bf16) (h5 : a5.IsWhole) (a6 : Memref sig .tc .vmem S2048x1024 .bf16) (h6 : a6.IsWhole)
    (a7 : Memref sig .tc .vmem S1024x1024 .bf16) (h7 : a7.IsWhole) (hc0 : ¬cond0_0 i) (hc1 : cond0_1 i)
    (x0 x1 x2 : Vec F S1024x2048 .bf16) (x3 x4 : Vec F S2048x1024 .bf16) :
    out0_B_5 c i a2 h2 a3 h3 a4 h4 a5 h5 a6 h6 a7 h7 hc0 hc1 x0 x1 x2 x3 x4 = tile x1 x3 x2 x4 := by
  unfold out0_B_5
  rw [View.read_writes_eq_canon _ _ _ (cover0_B_5 c i a2 h2 a3 h3 a4 h4 a5 h5 a6 h6 a7 h7 hc0 hc1 x0 x1 x2 x3 x4)]
  unfold kernelRun0_B
  dsimp only
  sl_unfold_words
  rw [View.canon_unit_zero origin]
  simp only [View.readAt_eq_ld, h3.read_unread, h4.read_unread, h5.read_unread, h6.read_unread, View.ld_unit_zero (S := S1024x2048) origin,
    View.ld_unit_zero (S := S2048x1024) origin, shapeCast_self]
  unfold k0_pay2 tile
  (try simp only [shapeCast_self])

variable (m : (ℓ : Loc nD τ sig) → Buf (Elt F) ℓ) (c : Dev nD)

theorem block_first (t : Fin cfg0.N) (h : t.val < 64) :
    outsAt0 m c t.val t.isLt = tile (iblk m c 0 t) (iblk m c 3 t) (iblk m c 2 t) (iblk m c 4 t) := by
  rw [outsAt0_A m c t h (by omega), first_case]

theorem block_second (t : Fin cfg0.N) (h : ¬t.val < 64) :
    outsAt0 m c t.val t.isLt = tile (iblk m c 1 t) (iblk m c 3 t) (iblk m c 2 t) (iblk m c 4 t) := by
  rw [outsAt0_B m c t h (by omega), second_case]

end Cert.Proof.Mix

end
-- ==== Proof.MixValue.lean ====
/-
  What the output projection's call leaves in its result array over the extended reals: the reference's product.
-/
module

public import proofs.«01_k».proof.Proof.MixCases
public import proofs.«01_k».proof.Proof.Gen.Reference5Ideal.Read
public import Idealize.ShloMosaic.Lib.Pointwise
public import Idealize.ShloMosaic.Lib.Pipeline.ValueKit.Geometry

@[expose] public section

namespace Cert.Proof.Mix

open Idealize.ShloMosaic Idealize.ShloMosaic.TcCoe Cert.Kernel5Ideal Cert.Kernel5Ideal.Gen
open Idealize.ShloMosaic.Pipeline (Dat)
open scoped BigOperators

/-- A tile, at its coordinates. -/
theorem tile_at (x0 : Vec Ideal S1024x2048 .bf16) (w0 : Vec Ideal S2048x1024 .bf16) (x1 : Vec Ideal S1024x2048 .bf16) (w1 : Vec Ideal S2048x1024 .bf16)
    (a b : Fin 1024) :
    tile x0 w0 x1 w1 (ix2 a b) = (∑ k : Fin 2048, x0 (ix2 a k) * w0 (ix2 k b)) + ∑ k : Fin 2048, x1 (ix2 a k) * w1 (ix2 k b) := by
  pointwise [tile]

variable (m : (ℓ : Loc nD τ sig) → Buf (Elt Ideal) ℓ) (c : Dev nD)

theorem idx0 : ∀ t : Fin cfg0.N, win0_0.index t = ![min (t.val / 4) 15, 0] := (by decide +kernel : ∀ t : Fin grid0.N, _)
theorem idx1 : ∀ t : Fin cfg0.N, win0_1.index t = ![t.val / 4 - 16, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![1, t.val % 4] := (by decide +kernel : ∀ t : Fin grid0.N, _)
theorem idx5 : ∀ t : Fin cfg0.N, win0_5.index t = ![t.val / 4, t.val % 4] := (by decide +kernel : ∀ t : Fin grid0.N, _)

/-- A point's rows of the first array, at their coordinates. -/
theorem prompt_block (t : Fin cfg0.N) (h : t.val < 64) (a : Fin 1024) (k : Fin 2048) (r : Fin 16384) (hr : r.val = 1024 * (t.val / 4) + a.val) :
    iblk m c 0 t (ix2 a k) = m ((c : Thread nD τ).loc main_arg0) (ix2 r k) := by
  refine congrArg (m ((c : Thread nD τ).loc main_arg0)) (funext fun e => Fin.ext ?_)
  match e with
  | ⟨0, _⟩ =>
    blk_simp [idx0]
    change min (t.val / 4) 15 * 1024 + a.val = r.val
    omega
  | ⟨1, _⟩ =>
    blk_simp [idx0]

/-- A point's rows of the second array, at their coordinates. -/
theorem sample_block (t : Fin cfg0.N) (a : Fin 1024) (k : Fin 2048) (r : Fin 8192) (hr : r.val = 1024 * (t.val / 4 - 16) + a.val) :
    iblk m c 1 t (ix2 a k) = m ((c : Thread nD τ).loc main_arg1) (ix2 r k) := by
  refine congrArg (m ((c : Thread nD τ).loc main_arg1)) (funext fun e => Fin.ext ?_)
  match e with
  | ⟨0, _⟩ =>
    blk_simp [idx1]
    change (t.val / 4 - 16) * 1024 + a.val = r.val
    omega
  | ⟨1, _⟩ =>
    blk_simp [idx1]

/-- A point's rows of the third array, at their coordinates. -/
theorem conv_block (t : Fin cfg0.N) (a : Fin 1024) (k : Fin 2048) (r : Fin 24576) (hr : r.val = 1024 * (t.val / 4) + a.val) :
    iblk m c 2 t (ix2 a k) = m ((c : Thread nD τ).loc main_arg2) (ix2 r k) := by
  refine congrArg (m ((c : Thread nD τ).loc main_arg2)) (funext fun e => Fin.ext ?_)
  match e with
  | ⟨0, _⟩ =>
    blk_simp [idx2]
    change t.val / 4 * 1024 + a.val = r.val
    omega
  | ⟨1, _⟩ =>
    blk_simp [idx2]

/-- A point's block of the upper half of the weights, at its coordinates. -/
theorem upper_block (t : Fin cfg0.N) (k : Fin 2048) (b : Fin 1024) (l q : Fin 4096) (hl : l.val = k.val) (hq : q.val = 1024 * (t.val % 4) + b.val) :
    iblk m c 3 t (ix2 k b) = m ((c : Thread nD τ).loc main_arg3) (ix2 l q) := by
  refine congrArg (m ((c : Thread nD τ).loc main_arg3)) (funext fun e => Fin.ext ?_)
  match e with
  | ⟨0, _⟩ =>
    blk_simp [idx3]
    exact hl.symm
  | ⟨1, _⟩ =>
    blk_simp [idx3]
    change t.val % 4 * 1024 + b.val = q.val
    omega

/-- A point's block of the lower half of the weights, at its coordinates. -/
theorem lower_block (t : Fin cfg0.N) (k : Fin 2048) (b : Fin 1024) (l q : Fin 4096) (hl : l.val = 2048 + k.val) (hq : q.val = 1024 * (t.val % 4) + b.val) :
    iblk m c 4 t (ix2 k b) = m ((c : Thread nD τ).loc main_arg3) (ix2 l q) := by
  refine congrArg (m ((c : Thread nD τ).loc main_arg3)) (funext fun e => Fin.ext ?_)
  match e with
  | ⟨0, _⟩ =>
    blk_simp [idx4]
    change 1 * 2048 + k.val = l.val
    omega
  | ⟨1, _⟩ =>
    blk_simp [idx4]
    change t.val % 4 * 1024 + b.val = q.val
    omega

/-- The joined rows: the first array's, then the second's. -/
theorem rows_first (x0 : Vec Ideal S16384x2048 .bf16) (x1 : Vec Ideal S8192x2048 .bf16) (r : Fin 24576) (k : Fin 2048) (h : r.val < 16384) :
    Cert.Reference5Ideal.Read.val_main_v0 (F := Ideal) x0 x1 (ix2 r k) = x0 (ix2 ⟨r.val, h⟩ k) := by
  unfold Cert.Reference5Ideal.Read.val_main_v0
  exact concatenate_pair_apply_left (t := Cert.Reference5Ideal.S24576x2048) (s₁ := Cert.Reference5Ideal.S16384x2048) (s₂ := Cert.Reference5Ideal.S8192x2048) 0 x0 x1 _ _ rfl _ fun b => match b with | ⟨0, _⟩ => rfl | ⟨1, _⟩ => rfl

theorem rows_second (x0 : Vec Ideal S16384x2048 .bf16) (x1 : Vec Ideal S8192x2048 .bf16) (r : Fin 24576) (k : Fin 2048) (h : ¬r.val < 16384) :
    Cert.Reference5Ideal.Read.val_main_v0 (F := Ideal) x0 x1 (ix2 r k) = x1 (ix2 ⟨r.val - 16384, by omega⟩ k) := by
  unfold Cert.Reference5Ideal.Read.val_main_v0
  refine concatenate_pair_apply_right (t := Cert.Reference5Ideal.S24576x2048) (s₁ := Cert.Reference5Ideal.S16384x2048) (s₂ := Cert.Reference5Ideal.S8192x2048) 0 x0 x1 _ _ rfl rfl _ (fun b hb => ?_) ?_
  · match b with
    | ⟨0, _⟩ => exact absurd rfl hb
    | ⟨1, _⟩ => rfl
  · change r.val - 16384 + 16384 = r.val
    omega

/-- The joined columns: the joined rows', then the third array's. -/
theorem cols_first (x0 : Vec Ideal S16384x2048 .bf16) (x1 : Vec Ideal S8192x2048 .bf16) (x2 : Vec Ideal S24576x2048 .bf16) (r : Fin 24576) (l : Fin 4096)
    (k : Fin 2048) (h : l.val = k.val) :
    Cert.Reference5Ideal.Read.val_main_v1 (F := Ideal) x0 x1 x2 (ix2 r l) = Cert.Reference5Ideal.Read.val_main_v0 (F := Ideal) x0 x1 (ix2 r k) := by
  unfold Cert.Reference5Ideal.Read.val_main_v1
  exact concatenate_pair_apply_left (t := Cert.Reference5Ideal.S24576x4096) (s₁ := Cert.Reference5Ideal.S24576x2048) (s₂ := Cert.Reference5Ideal.S24576x2048) 1 _ x2 _ _ rfl _ fun b => match b with | ⟨0, _⟩ => rfl | ⟨1, _⟩ => h.symm

theorem cols_second (x0 : Vec Ideal S16384x2048 .bf16) (x1 : Vec Ideal S8192x2048 .bf16) (x2 : Vec Ideal S24576x2048 .bf16) (r : Fin 24576) (l : Fin 4096)
    (k : Fin 2048) (h : l.val = 2048 + k.val) :
    Cert.Reference5Ideal.Read.val_main_v1 (F := Ideal) x0 x1 x2 (ix2 r l) = x2 (ix2 r k) := by
  unfold Cert.Reference5Ideal.Read.val_main_v1
  refine concatenate_pair_apply_right (t := Cert.Reference5Ideal.S24576x4096) (s₁ := Cert.Reference5Ideal.S24576x2048) (s₂ := Cert.Reference5Ideal.S24576x2048) 1 _ x2 _ _ rfl rfl _ (fun b hb => ?_) ?_
  · match b with
    | ⟨0, _⟩ => rfl
    | ⟨1, _⟩ => exact absurd rfl hb
  · change k.val + 2048 = l.val
    omega

/-- The reference's product, at its coordinates: the inner product over the joined columns. -/
theorem ref_at (x0 : Vec Ideal S16384x2048 .bf16) (x1 : Vec Ideal S8192x2048 .bf16) (x2 : Vec Ideal S24576x2048 .bf16) (x3 : Vec Ideal S4096x4096 .bf16)
    (r : Fin 24576) (q : Fin 4096) :
    Cert.Reference5Ideal.Read.val_main_v5 (F := Ideal) x0 x1 x2 x3 (ix2 r q)
      = (∑ k : Fin 2048, Cert.Reference5Ideal.Read.val_main_v0 (F := Ideal) x0 x1 (ix2 r k) * x3 (ix2 ⟨k.val, by omega⟩ q))
        + ∑ k : Fin 2048, x2 (ix2 r k) * x3 (ix2 ⟨2048 + k.val, by omega⟩ q) := by
  rw [Cert.Reference5Ideal.Read.val_main_v5_apply, Cert.Reference5Ideal.Read.val_main_v4_apply]
  refine Eq.trans (Fin.sum_univ_add (a := 2048) (b := 2048) _) ?_
  refine congrArg₂ (fun x y : EReal => x + y) (Finset.sum_congr rfl fun k _ => ?_) (Finset.sum_congr rfl fun k _ => ?_)
  · rw [Cert.Reference5Ideal.Read.val_main_v2_apply, Cert.Reference5Ideal.Read.val_main_v3_apply]
    refine congrArg₂ (fun x y : EReal => x * y) (Eq.trans (congrArg (Cert.Reference5Ideal.Read.val_main_v1 (F := Ideal) x0 x1 x2) ?_) (cols_first x0 x1 x2 r ⟨k.val, by omega⟩ k rfl)) (congrArg x3 ?_)
      <;> exact funext fun a => match a with | ⟨0, _⟩ => rfl | ⟨1, _⟩ => rfl
  · rw [Cert.Reference5Ideal.Read.val_main_v2_apply, Cert.Reference5Ideal.Read.val_main_v3_apply]
    refine congrArg₂ (fun x y : EReal => x * y) (Eq.trans (congrArg (Cert.Reference5Ideal.Read.val_main_v1 (F := Ideal) x0 x1 x2) ?_) (cols_second x0 x1 x2 r ⟨2048 + k.val, by omega⟩ k rfl)) (congrArg x3 ?_)
      <;> exact funext fun a => match a with | ⟨0, _⟩ => rfl | ⟨1, _⟩ => rfl

/-- A point leaves the reference's entries in its block. -/
theorem out_tile (t : Fin cfg0.N) (a b : Fin 1024) (r : Fin 24576) (q : Fin 4096) (hr : r.val = 1024 * (t.val / 4) + a.val)
    (hq : q.val = 1024 * (t.val % 4) + b.val) :
    outsAt0 m c t.val t.isLt (ix2 a b) = Cert.Reference5Ideal.Read.val_main_v5 (F := Ideal) (m ((c : Thread nD τ).loc main_arg0))
      (m ((c : Thread nD τ).loc main_arg1)) (m ((c : Thread nD τ).loc main_arg2)) (m ((c : Thread nD τ).loc main_arg3)) (ix2 r q) := by
  have ht : t.val < 96 := t.isLt
  have ha := a.isLt
  rw [ref_at]
  by_cases h : t.val < 64
  · rw [block_first m c t h]
    refine (tile_at _ _ _ _ a b).trans ?_
    refine congrArg₂ (fun x y : EReal => x + y) (Finset.sum_congr rfl fun k _ => ?_) (Finset.sum_congr rfl fun k _ => ?_)
    · rw [rows_first _ _ r k (by omega)]
      exact congrArg₂ (fun x y : EReal => x * y) (prompt_block m c t h a k _ hr) (upper_block m c t k b _ q rfl hq)
    · exact congrArg₂ (fun x y : EReal => x * y) (conv_block m c t a k r hr) (lower_block m c t k b _ q rfl hq)
  · rw [block_second m c t h]
    refine (tile_at _ _ _ _ a b).trans ?_
    refine congrArg₂ (fun x y : EReal => x + y) (Finset.sum_congr rfl fun k _ => ?_) (Finset.sum_congr rfl fun k _ => ?_)
    · rw [rows_second _ _ r k (by omega)]
      exact congrArg₂ (fun x y : EReal => x * y) (sample_block m c t a k _ (by simp only; omega)) (upper_block m c t k b _ q rfl hq)
    · exact congrArg₂ (fun x y : EReal => x * y) (conv_block m c t a k r hr) (lower_block m c t k b _ q rfl hq)

/-- The call's array is the reference's. -/
theorem out_array : (dats m 0 c).arrAt 5 cfg0.N = Cert.Reference5Ideal.Read.val_main_v5 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 96 := t.isLt
  blk_simp
  have e : ((win0_5.blk t).view.emb y : S24576x4096.Idx)
      = ix2 ⟨1024 * (t.val / 4) + (y 0).val, by have h : (y 0).val < 1024 := (y 0).isLt; omega⟩
          ⟨1024 * (t.val % 4) + (y 1).val, by have h : (y 1).val < 1024 := (y 1).isLt; omega⟩ := by
    refine funext fun e => Fin.ext ?_
    match e with
    | ⟨0, _⟩ =>
      blk_simp [idx5]
      change t.val / 4 * 1024 + (y 0).val = 1024 * (t.val / 4) + (y 0).val
      omega
    | ⟨1, _⟩ =>
      blk_simp [idx5]
      change t.val % 4 * 1024 + (y 1).val = 1024 * (t.val % 4) + (y 1).val
      omega
  refine Eq.trans ?_ (congrArg (Cert.Reference5Ideal.Read.val_main_v5 (F := Ideal) (m ((c : Thread nD τ).loc main_arg0))
      (m ((c : Thread nD τ).loc main_arg1)) (m ((c : Thread nD τ).loc main_arg2)) (m ((c : Thread nD τ).loc main_arg3))) e.symm)
  refine Eq.trans ?_ (out_tile m c t (y 0) (y 1) _ _ rfl rfl)
  exact congrArg (outsAt0 m c t.val t.isLt) (eq_ix2 y)

end Cert.Proof.Mix

end
-- ==== Proof.MixClaims.lean ====
/-
  The claims about the output projection's call, each as the statement of the certificate has it.
-/
module

public import proofs.«01_k».proof.Defs
public import proofs.«01_k».proof.Proof.MixValue
public import proofs.«01_k».proof.Proof.Gen.Kernel5.Frame
public import proofs.«01_k».proof.Proof.Gen.Reference5.Run
public import proofs.«01_k».proof.Proof.Gen.Reference5Ideal.Run

@[expose] public section

namespace Cert.Proof.MixClaims

open Idealize.ShloMosaic Idealize.ShloMosaic.TcCoe Idealize.SL.Sem

/-- The call over bit patterns leaves its arguments and every counter as it found them. -/
theorem frame_kernel : Cert.quiescent_Kernel5 := fun m ρ _ => Cert.Kernel5.Gen.frame (F := Bits) m ρ

/-- The call over the extended reals does too. -/
theorem frame_kernelIdeal : Cert.quiescent_Kernel5Ideal := fun m ρ _ => Cert.Kernel5Ideal.Gen.frame (F := Ideal) m ρ

/-- The reference over bit patterns: its arguments as they were; it declares no semaphore. -/
theorem frame_reference : Cert.quiescent_Reference5 := fun m ρ _ =>
  (θ_run Cert.Reference5.defs _ _).mono (fun r h => ⟨fun c => (h c).2, sem_eq_zero_of_no_sems (by decide) r.2⟩)
    (Cert.Reference5.Value.run (F := Bits) m ρ)

/-- The reference over the extended reals likewise. -/
theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals the call and the reference end with the same array, on arguments that agree. -/
theorem algebraic : Cert.algebraic_Kernel5Ideal_Reference5Ideal := by
  intro m ρ m' ρ' _ hagree
  refine ⟨fun c => Cert.Reference5Ideal.Read.val_main_v5 (F := Ideal) (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · exact (θ_run Cert.Kernel5Ideal.defs _ _).mono (fun _ h c => ⟨(Pipeline.FramePost.out_eq h c 5).trans (Mix.out_array m c),
      Pipeline.FramePost.in_eq h c 0 rfl, Pipeline.FramePost.in_eq h c 1 rfl, Pipeline.FramePost.in_eq h c 2 rfl,
      Pipeline.FramePost.in_eq h c 3 rfl⟩) (Cert.Kernel5Ideal.Gen.run_main (F := Ideal) m ρ)
  · refine (θ_run Cert.Reference5Ideal.defs _ _).mono (fun _ h c => ⟨(h c).1.trans ?_, (h c).2⟩) (Cert.Reference5Ideal.Value.run (F := Ideal) m' ρ')
    rw [Cert.Reference5Ideal.Read.val_main_v5_eq, (hagree c).1, (hagree c).2.1, (hagree c).2.2.1, (hagree c).2.2.2]

end Cert.Proof.MixClaims

end
-- ==== Proof.Rms.lean ====
/-
  The root-mean-square normalisation of one row over the extended reals, with the width and the small number that the calls
  and the references print.
-/
module

public import Idealize.ShloMosaic.PureOps.Ideal
public import Idealize.ShloMosaic.PureOps.Ideal.Laws

@[expose] public section

namespace Cert.Proof.Rms

open Idealize.ShloMosaic
open scoped BigOperators

/-- A row's entry over the root of the mean of the row's squares. -/
noncomputable def rms (f : Fin 4096 → EReal) (b : Fin 4096) : EReal :=
  f b * Ideal.rsqrt (Ideal.div (∑ k, f k * f k) (Ideal.ofBits .f32 0x45800000#32) + Ideal.ofBits .f32 0x358637BD#32)

/-- The sum of a row and the scaled normalisation of another. -/
noncomputable def resRow (f x g : Fin 4096 → EReal) (b : Fin 4096) : EReal := x b + rms f b * g b

end Cert.Proof.Rms

end
-- ==== Proof.NormValue.lean ====
/-
  What the first normalisation's call leaves in its result array over the extended reals: the reference's array. Its rows come from
  two arrays, the prompt's for the first 64 points and the sample's for the rest.
-/
module

public import proofs.«01_k».proof.Proof.Rms
public import proofs.«01_k».proof.Proof.Gen.Kernel6Ideal.Frame
public import proofs.«01_k».proof.Proof.Gen.Reference6Ideal.Read
public import Idealize.ShloMosaic.Lib.Pointwise
public import Idealize.ShloMosaic.Lib.Pipeline.Value
public import Idealize.ShloMosaic.Lib.Pipeline.ValueKit.Geometry

@[expose] public section

set_option maxRecDepth 16384

namespace Cert.Proof.Norm

open Idealize.ShloMosaic Idealize.ShloMosaic.TcCoe Cert.Kernel6Ideal Cert.Kernel6Ideal.Gen Cert.Proof.Rms
open Idealize.ShloMosaic.Pipeline (Dat)
open scoped BigOperators

theorem origin : (![0, 0] : Fin 2 → ℕ) = fun _ => 0 := by decide

/-- Where the sample's rows begin the body takes the second array's block, before that the first's. -/
theorem first_rows : ∀ t : Fin grid0.N, t.val < 64 → Scalar.cmpi .sge (Scalar.addi 0#32 (BitVec.ofNat 32 ((grid0.coords t) 0).val)) 64#32 = 0#1 := by
  decide +kernel

theorem second_rows : ∀ t : Fin grid0.N, ¬t.val < 64 → Scalar.cmpi .sge (Scalar.addi 0#32 (BitVec.ofNat 32 ((grid0.coords t) 0).val)) 64#32 = 1#1 := by
  decide +kernel

/-- A prompt point's block, at its coordinates. -/
theorem first_at (t : Fin grid0.N) (h : t.val < 64) (x0 x1 : Vec Ideal S256x4096 .f32) (x2 : Vec Ideal S1x4096 .f32) (a : Fin 256) (b : Fin 4096) :
    out0_3 (grid0.coords t) x0 x1 x2 (ix2 a b) = rms (fun k => x0 (ix2 a k)) b * x2 (ix2 0 b) := by
  unfold out0_3
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = z := fun y z => by
    rw [first_rows t h]
    rfl
  unfold k0_pay1
  simp only [e]
  pointwise [rms]

/-- A sample point's block, at its coordinates. -/
theorem second_at (t : Fin grid0.N) (h : ¬t.val < 64) (x0 x1 : Vec Ideal S256x4096 .f32) (x2 : Vec Ideal S1x4096 .f32) (a : Fin 256) (b : Fin 4096) :
    out0_3 (grid0.coords t) x0 x1 x2 (ix2 a b) = rms (fun k => x1 (ix2 a k)) b * x2 (ix2 0 b) := by
  unfold out0_3
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = y := fun y z => by
    rw [second_rows t h]
    rfl
  unfold k0_pay1
  simp only [e]
  pointwise [rms]

section Reference

open Cert.Reference6Ideal.Read

variable (x0 : Vec Ideal S16384x4096 .f32) (x1 : Vec Ideal S8192x4096 .f32) (x2 : Vec Ideal S4096 .f32)

/-- The two arrays under one another: the first's rows. -/
theorem rows_first (r : Fin 24576) (k : Fin 4096) (h : r.val < 16384) : val_main_v0 (F := Ideal) x0 x1 (ix2 r k) = x0 (ix2 ⟨r.val, h⟩ k) := by
  unfold val_main_v0
  exact concatenate_pair_apply_left (t := Cert.Reference6Ideal.S24576x4096) (s₁ := Cert.Reference6Ideal.S16384x4096) (s₂ := Cert.Reference6Ideal.S8192x4096) 0 x0 x1 _ _ rfl _ fun b => match b with | ⟨0, _⟩ => rfl | ⟨1, _⟩ => rfl

/-- And the second's. -/
theorem rows_second (r : Fin 24576) (k : Fin 4096) (h : ¬r.val < 16384) :
    val_main_v0 (F := Ideal) x0 x1 (ix2 r k) = x1 (ix2 ⟨r.val - 16384, by omega⟩ k) := by
  unfold val_main_v0
  refine concatenate_pair_apply_right (t := Cert.Reference6Ideal.S24576x4096) (s₁ := Cert.Reference6Ideal.S16384x4096) (s₂ := Cert.Reference6Ideal.S8192x4096) 0 x0 x1 _ _ rfl rfl _ (fun b hb => ?_) ?_
  · match b with
    | ⟨0, _⟩ => exact absurd rfl hb
    | ⟨1, _⟩ => rfl
  · change r.val - 16384 + 16384 = r.val
    omega

/-- The reference's array, at its coordinates. -/
theorem ref_at (r : Fin 24576) (b : Fin 4096) :
    val_main_v14 (F := Ideal) x0 x1 x2 (ix2 r b) = rms (fun k => val_main_v0 (F := Ideal) x0 x1 (ix2 r k)) b * x2 (ix1 b) := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply]
  have e : ∀ k : Fin 4096, val_main_v1 (F := Ideal) x0 x1 (idx_main_v2 (idx_main_v3 (idx_main_v9 (ix2 r b))) k)
      = val_main_v0 (F := Ideal) x0 x1 (ix2 r k) * val_main_v0 (F := Ideal) x0 x1 (ix2 r k) := fun k => by
    rw [val_main_v1_apply, show idx_main_v2 (idx_main_v3 (idx_main_v9 (ix2 r b))) k = ix2 r k from
      funext fun a => match a with | ⟨0, _⟩ => rfl | ⟨1, _⟩ => rfl]
    rfl
  rw [Finset.sum_congr rfl fun k _ => e k]
  generalize val_main_v0 (F := Ideal) x0 x1 = f
  change f (ix2 r b) * Ideal.rsqrt (Ideal.div (Ideal.ofBits .f32 0#32 + _) (Ideal.ofBits .f32 0x45800000#32) + Ideal.ofBits .f32 0x358637BD#32) * x2 _ = _
  rw [Ideal.ofBits_zero_f32, zero_add]
  refine congrArg (fun y : EReal => rms (fun k => f (ix2 r k)) b * y) (congrArg x2 ?_)
  exact funext fun a => match a with | ⟨0, _⟩ => rfl

end Reference

variable (m : (ℓ : Loc nD τ sig) → Buf (Elt Ideal) ℓ) (c : Dev nD)

theorem idx0 : ∀ t : Fin cfg0.N, win0_0.index t = ![min t.val 63, 0] := (by decide +kernel : ∀ t : Fin grid0.N, _)
theorem idx1 : ∀ t : Fin cfg0.N, win0_1.index t = ![t.val - 64, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- A prompt point's rows, at their coordinates. -/
theorem prompt_block (t : Fin cfg0.N) (h : t.val < 64) (a : Fin 256) (k : Fin 4096) (r : Fin 16384) (hr : r.val = 256 * t.val + a.val) :
    iblk m c 0 t (ix2 a k) = m ((c : Thread nD τ).loc main_arg0) (ix2 r k) := by
  refine Eq.trans ?_ (congrFun (V_main_arg0 m c) (ix2 r k))
  refine congrArg (V m c main_arg0) (funext fun e => Fin.ext ?_)
  match e with
  | ⟨0, _⟩ =>
    blk_simp [idx0]
    change min t.val 63 * 256 + a.val = r.val
    omega
  | ⟨1, _⟩ =>
    blk_simp [idx0]

/-- A sample point's rows, at their coordinates. -/
theorem sample_block (t : Fin cfg0.N) (h : ¬t.val < 64) (a : Fin 256) (k : Fin 4096) (r : Fin 8192) (hr : r.val + 16384 = 256 * t.val + a.val) :
    iblk m c 1 t (ix2 a k) = m ((c : Thread nD τ).loc main_arg1) (ix2 r k) := by
  refine Eq.trans ?_ (congrFun (V_main_arg1 m c) (ix2 r k))
  refine congrArg (V m c main_arg1) (funext fun e => Fin.ext ?_)
  match e with
  | ⟨0, _⟩ =>
    blk_simp [idx1]
    change (t.val - 64) * 256 + a.val = r.val
    omega
  | ⟨1, _⟩ =>
    blk_simp [idx1]

/-- A list of numbers laid out as one row, at its coordinates. -/
theorem row_at (g : Vec Ideal S4096 .f32) (k : Fin 4096) : shapeCast S1x4096 g shapeCasts_S4096_S1x4096 (ix2 0 k) = g (ix1 k) := by
  pointwise

/-- The gain's row. -/
theorem V_row : V m c main_v0 = shapeCast S1x4096 (m ((c : Thread nD τ).loc main_arg2)) shapeCasts_S4096_S1x4096 := by
  unfold_abbrev_sides
  after_results
  rfl

/-- Every point's block of the gain. -/
theorem gain_block (t : Fin cfg0.N) (k : Fin 4096) : iblk m c 2 t (ix2 0 k) = m ((c : Thread nD τ).loc main_arg2) (ix1 k) := by
  refine Eq.trans ?_ ((congrFun (V_row m c) (ix2 0 k)).trans (row_at _ k))
  refine congrArg (V m c main_v0) (funext fun e => Fin.ext ?_)
  match e with
  | ⟨0, _⟩ =>
    blk_simp [idx2]
  | ⟨1, _⟩ =>
    blk_simp [idx2]

/-- A point leaves the reference's elements in its block. -/
theorem out_tile (t : Fin cfg0.N) (a : Fin 256) (b : Fin 4096) (r : Fin 24576) (hr : r.val = 256 * t.val + a.val) :
    (dats m 0 c).after 3 t (ix2 a b) = Cert.Reference6Ideal.Read.val_main_v14 (F := Ideal) (m ((c : Thread nD τ).loc main_arg0))
      (m ((c : Thread nD τ).loc main_arg1)) (m ((c : Thread nD τ).loc main_arg2)) (ix2 r b) := by
  rw [after0_3]
  refine Eq.trans ?_ (ref_at _ _ _ r b).symm
  by_cases h : t.val < 64
  · refine (first_at t h _ _ _ a b).trans ?_
    rw [show (fun k : Fin 4096 => iblk m c 0 t (ix2 a k)) = _ from funext fun k => prompt_block m c t h a k ⟨r.val, by omega⟩ hr,
      show (fun k : Fin 4096 => Cert.Reference6Ideal.Read.val_main_v0 (F := Ideal) (m ((c : Thread nD τ).loc main_arg0)) (m ((c : Thread nD τ).loc main_arg1))
        (ix2 r k)) = _ from funext fun k => rows_first _ _ r k (by omega)]
    exact congrArg _ (gain_block m c t b)
  · refine (second_at t h _ _ _ a b).trans ?_
    rw [show (fun k : Fin 4096 => iblk m c 1 t (ix2 a k)) = _ from
        funext fun k => sample_block m c t h a k ⟨r.val - 16384, by omega⟩ (by change r.val - 16384 + 16384 = _; omega),
      show (fun k : Fin 4096 => Cert.Reference6Ideal.Read.val_main_v0 (F := Ideal) (m ((c : Thread nD τ).loc main_arg0)) (m ((c : Thread nD τ).loc main_arg1))
        (ix2 r k)) = _ from funext fun k => rows_second _ _ r k (by omega)]
    exact congrArg _ (gain_block m c t b)

/-- The call's array is the reference's. -/
theorem out_array : (dats m 0 c).arrAt 3 cfg0.N = Cert.Reference6Ideal.Read.val_main_v14 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  have ht : t.val < 96 := t.isLt
  blk_simp
  have e : ((win0_3.blk t).view.emb y : S24576x4096.Idx)
      = ix2 ⟨256 * t.val + (y 0).val, by have h : (y 0).val < 256 := (y 0).isLt; omega⟩ (y 1) := by
    refine funext fun e => Fin.ext ?_
    match e with
    | ⟨0, _⟩ =>
      blk_simp [idx3]
      change t.val * 256 + (y 0).val = 256 * t.val + (y 0).val
      omega
    | ⟨1, _⟩ =>
      blk_simp [idx3]
      rfl
  refine Eq.trans ?_ (congrArg (Cert.Reference6Ideal.Read.val_main_v14 (F := Ideal) (m ((c : Thread nD τ).loc main_arg0))
      (m ((c : Thread nD τ).loc main_arg1)) (m ((c : Thread nD τ).loc main_arg2))) e.symm)
  refine Eq.trans ?_ (out_tile m c t (y 0) (y 1) _ rfl)
  exact congrArg ((dats m 0 c).after 3 t) (eq_ix2 y)

end Cert.Proof.Norm

end
-- ==== Proof.NormClaims.lean ====
/-
  The claims about the first normalisation's call, each as the statement of the certificate has it.
-/
module

public import proofs.«01_k».proof.Defs
public import proofs.«01_k».proof.Proof.NormValue
public import proofs.«01_k».proof.Proof.Gen.Kernel6.Frame
public import proofs.«01_k».proof.Proof.Gen.Reference6.Run
public import proofs.«01_k».proof.Proof.Gen.Reference6Ideal.Run

@[expose] public section

namespace Cert.Proof.NormClaims

open Idealize.ShloMosaic Idealize.ShloMosaic.TcCoe Idealize.SL.Sem

/-- The call over bit patterns leaves its arguments and every counter as it found them. -/
theorem frame_kernel : Cert.quiescent_Kernel6 := fun m ρ _ => Cert.Kernel6.Gen.frame (F := Bits) m ρ

/-- The call over the extended reals does too. -/
theorem frame_kernelIdeal : Cert.quiescent_Kernel6Ideal := fun m ρ _ => Cert.Kernel6Ideal.Gen.frame (F := Ideal) m ρ

/-- The reference over bit patterns: its arguments as they were; it declares no semaphore. -/
theorem frame_reference : Cert.quiescent_Reference6 := fun m ρ _ =>
  (θ_run Cert.Reference6.defs _ _).mono (fun r h => ⟨fun c => (h c).2, sem_eq_zero_of_no_sems (by decide) r.2⟩)
    (Cert.Reference6.Value.run (F := Bits) m ρ)

/-- The reference over the extended reals likewise. -/
theorem frame_referenceIdeal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals the call and the reference end with the same array, on arguments that agree. -/
theorem algebraic : Cert.algebraic_Kernel6Ideal_Reference6Ideal := by
  intro m ρ m' ρ' _ hagree
  refine ⟨fun c => Cert.Reference6Ideal.Read.val_main_v14 (F := Ideal) (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2)), ?_, ?_⟩
  · exact (θ_run Cert.Kernel6Ideal.defs _ _).mono (fun _ h c => ⟨(Pipeline.FramePost.out_eq h c 3).trans (Norm.out_array m c),
      (Pipeline.FramePost.in_eq h c 0 rfl).trans (Cert.Kernel6Ideal.Gen.V_main_arg0 m c),
      (Pipeline.FramePost.in_eq h c 1 rfl).trans (Cert.Kernel6Ideal.Gen.V_main_arg1 m c),
      ((h c).2 Cert.Kernel6Ideal.main_arg2 (Pipeline.mem_restRefs_of Cert.Kernel6Ideal.main_arg2 (by decide) (by decide))).trans (Cert.Kernel6Ideal.Gen.V_main_arg2 m c)⟩) (Cert.Kernel6Ideal.Gen.run_main (F := Ideal) m ρ)
  · refine (θ_run Cert.Reference6Ideal.defs _ _).mono (fun _ h c => ⟨(h c).1.trans ?_, (h c).2⟩) (Cert.Reference6Ideal.Value.run (F := Ideal) m' ρ')
    rw [Cert.Reference6Ideal.Read.val_main_v14_eq, (hagree c).1, (hagree c).2.1, (hagree c).2.2]

end Cert.Proof.NormClaims

end
-- ==== Proof.ResValue.lean ====
/-
  What the residual call leaves in its two result arrays over the extended reals: the reference's sum, and its normalisation.
-/
module

public import proofs.«01_k».proof.Proof.Rms
public import proofs.«01_k».proof.Proof.Gen.Kernel7Ideal.Frame
public import proofs.«01_k».proof.Proof.Gen.Reference7Ideal.Read
public import Idealize.ShloMosaic.Lib.Pointwise
public import Idealize.ShloMosaic.Lib.Pipeline.Value
public import Idealize.ShloMosaic.Lib.Pipeline.ValueKit.Geometry

@[expose] public section

set_option maxRecDepth 16384

namespace Cert.Proof.Res

open Idealize.ShloMosaic Idealize.ShloMosaic.TcCoe Cert.Kernel7Ideal Cert.Kernel7Ideal.Gen Cert.Proof.Rms
open Idealize.ShloMosaic.Pipeline (Dat)
open scoped BigOperators

theorem origin : (![0, 0] : Fin 2 → ℕ) = fun _ => 0 := by decide

/-- The block of sums, at its coordinates. -/
theorem sum_at (x0 : Vec Ideal S256x4096 .bf16) (x1 : Vec Ideal S256x4096 .f32) (x2 x3 : Vec Ideal S1x4096 .f32) (a : Fin 256) (b : Fin 4096) :
    out0_4 x0 x1 x2 x3 (ix2 a b) = resRow (fun k => x0 (ix2 a k)) (fun k => x1 (ix2 a k)) (fun k => x2 (ix2 0 k)) b := by
  unfold out0_4
  rw [View.canon_unit_zero origin]
  simp only [View.ld_unit_zero (S := S256x4096) origin, View.ld_unit_zero (S := S1x4096) origin]
  pointwise [k0_pay1, resRow, rms]

/-- The block of their normalisations, at its coordinates. -/
theorem next_at (x0 : Vec Ideal S256x4096 .bf16) (x1 : Vec Ideal S256x4096 .f32) (x2 x3 : Vec Ideal S1x4096 .f32) (a : Fin 256) (b : Fin 4096) :
    out0_5 x0 x1 x2 x3 (ix2 a b)
      = rms (resRow (fun k => x0 (ix2 a k)) (fun k => x1 (ix2 a k)) (fun k => x2 (ix2 0 k))) b * x3 (ix2 0 b) := by
  unfold out0_5
  rw [View.canon_unit_zero origin]
  simp only [View.ld_unit_zero (S := S256x4096) origin, View.ld_unit_zero (S := S1x4096) origin]
  pointwise [k0_pay2, k0_pay1, resRow, rms]

section Reference

open Cert.Reference7Ideal.Read

variable (x0 : Vec Ideal S24576x4096 .bf16) (x1 : Vec Ideal S24576x4096 .f32) (x2 x3 : Vec Ideal S4096 .f32)

/-- The reference's normalisation of its first argument, at its coordinates. -/
theorem ref_rms (r : Fin 24576) (b : Fin 4096) : val_main_v10 (F := Ideal) x0 (ix2 r b) = rms (fun k => x0 (ix2 r k)) b := by
  rw [val_main_v10_apply, val_main_v9_apply, val_main_v8_apply, val_main_v7_apply, val_main_v6_apply, val_main_v5_apply, val_main_v4_apply,
    val_main_v3_apply, val_main_v2_apply]
  have e : ∀ k : Fin 4096, val_main_v1 (F := Ideal) x0 (idx_main_v2 (idx_main_v3 (idx_main_v9 (ix2 r b))) k) = x0 (ix2 r k) * x0 (ix2 r k) := fun k => by
    rw [val_main_v1_apply, val_main_v0_apply, show idx_main_v2 (idx_main_v3 (idx_main_v9 (ix2 r b))) k = ix2 r k from
      funext fun a => match a with | ⟨0, _⟩ => rfl | ⟨1, _⟩ => rfl]
    rfl
  rw [Finset.sum_congr rfl fun k _ => e k]
  change x0 (ix2 r b) * Ideal.rsqrt (Ideal.div (Ideal.ofBits .f32 0#32 + _) (Ideal.ofBits .f32 0x45800000#32) + Ideal.ofBits .f32 0x358637BD#32) = _
  rw [Ideal.ofBits_zero_f32, zero_add]
  rfl

/-- The reference's sum, at its coordinates. -/
theorem ref_sum (r : Fin 24576) (b : Fin 4096) :
    val_main_v14 (F := Ideal) x0 x1 x2 (ix2 r b) = resRow (fun k => x0 (ix2 r k)) (fun k => x1 (ix2 r k)) (fun k => x2 (ix1 k)) b := by
  rw [val_main_v14_apply, val_main_v13_apply, ref_rms, val_main_v12_apply, val_main_v11_apply]
  refine congrArg (fun y : EReal => x1 (ix2 r b) + rms (fun k => x0 (ix2 r k)) b * y) (congrArg x2 ?_)
  exact funext fun a => match a with | ⟨0, _⟩ => rfl

/-- The normalisation of that sum, at its coordinates. -/
theorem ref_next (r : Fin 24576) (b : Fin 4096) :
    val_main_v28 (F := Ideal) x0 x1 x2 x3 (ix2 r b)
      = rms (resRow (fun k => x0 (ix2 r k)) (fun k => x1 (ix2 r k)) (fun k => x2 (ix1 k))) b * x3 (ix1 b) := by
  rw [val_main_v28_apply, val_main_v27_apply, val_main_v24_apply, val_main_v23_apply, val_main_v22_apply, val_main_v21_apply, val_main_v20_apply,
    val_main_v19_apply, val_main_v18_apply, val_main_v17_apply, val_main_v16_apply, val_main_v26_apply, val_main_v25_apply]
  have e : ∀ k : Fin 4096, val_main_v15 (F := Ideal) x0 x1 x2 (idx_main_v16 (idx_main_v17 (idx_main_v23 (ix2 r b))) k)
      = resRow (fun k => x0 (ix2 r k)) (fun k => x1 (ix2 r k)) (fun k => x2 (ix1 k)) k * resRow (fun k => x0 (ix2 r k)) (fun k => x1 (ix2 r k)) (fun k => x2 (ix1 k)) k := fun k => by
    rw [val_main_v15_apply, show idx_main_v16 (idx_main_v17 (idx_main_v23 (ix2 r b))) k = ix2 r k from
      funext fun a => match a with | ⟨0, _⟩ => rfl | ⟨1, _⟩ => rfl, ref_sum]
    rfl
  rw [Finset.sum_congr rfl fun k _ => e k, ref_sum]
  change resRow _ _ _ b * Ideal.rsqrt (Ideal.div (Ideal.ofBits .f32 0#32 + _) (Ideal.ofBits .f32 0x45800000#32) + Ideal.ofBits .f32 0x358637BD#32) * x3 _ = _
  rw [Ideal.ofBits_zero_f32, zero_add]
  refine congrArg (fun y : EReal => rms (resRow (fun k => x0 (ix2 r k)) (fun k => x1 (ix2 r k)) (fun k => x2 (ix1 k))) b * y) (congrArg x3 ?_)
  exact funext fun a => match a with | ⟨0, _⟩ => rfl

end Reference

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- A point's rows of the branch, at their coordinates. -/
theorem branch_block (t : Fin cfg0.N) (a : Fin 256) (k : Fin 4096) (r : Fin 24576) (hr : r.val = 256 * t.val + a.val) :
    iblk m c 0 t (ix2 a k) = m ((c : Thread nD τ).loc main_arg0) (ix2 r k) := by
  refine Eq.trans ?_ (congrFun (V_main_arg0 m c) (ix2 r k))
  refine congrArg (V m c main_arg0) (funext fun e => Fin.ext ?_)
  match e with
  | ⟨0, _⟩ =>
    blk_simp [idx0]
    change t.val * 256 + a.val = r.val
    omega
  | ⟨1, _⟩ =>
    blk_simp [idx0]

/-- A point's rows of the stream, at their coordinates. -/
theorem stream_block (t : Fin cfg0.N) (a : Fin 256) (k : Fin 4096) (r : Fin 24576) (hr : r.val = 256 * t.val + a.val) :
    iblk m c 1 t (ix2 a k) = m ((c : Thread nD τ).loc main_arg1) (ix2 r k) := by
  refine Eq.trans ?_ (congrFun (V_main_arg1 m c) (ix2 r k))
  refine congrArg (V m c main_arg1) (funext fun e => Fin.ext ?_)
  match e with
  | ⟨0, _⟩ =>
    blk_simp [idx1]
    change t.val * 256 + a.val = r.val
    omega
  | ⟨1, _⟩ =>
    blk_simp [idx1]

/-- A list of numbers laid out as one row, at its coordinates. -/
theorem row_at (g : Vec Ideal S4096 .f32) (k : Fin 4096) : shapeCast S1x4096 g shapeCasts_S4096_S1x4096 (ix2 0 k) = g (ix1 k) := by
  pointwise

/-- The first gain's row. -/
theorem V_row2 : V m c main_v0 = shapeCast S1x4096 (m ((c : Thread nD τ).loc main_arg2)) shapeCasts_S4096_S1x4096 := by
  unfold_abbrev_sides
  after_results
  rfl

/-- The second gain's row. -/
theorem V_row3 : V m c main_v1 = shapeCast S1x4096 (m ((c : Thread nD τ).loc main_arg3)) shapeCasts_S4096_S1x4096 := by
  unfold_abbrev_sides
  after_results
  rfl

/-- Every point's block of the first gain. -/
theorem post_block (t : Fin cfg0.N) (k : Fin 4096) : iblk m c 2 t (ix2 0 k) = m ((c : Thread nD τ).loc main_arg2) (ix1 k) := by
  refine Eq.trans ?_ ((congrFun (V_row2 m c) (ix2 0 k)).trans (row_at _ k))
  refine congrArg (V m c main_v0) (funext fun e => Fin.ext ?_)
  match e with
  | ⟨0, _⟩ =>
    blk_simp [idx2]
  | ⟨1, _⟩ =>
    blk_simp [idx2]

/-- Every point's block of the second. -/
theorem next_block (t : Fin cfg0.N) (k : Fin 4096) : iblk m c 3 t (ix2 0 k) = m ((c : Thread nD τ).loc main_arg3) (ix1 k) := by
  refine Eq.trans ?_ ((congrFun (V_row3 m c) (ix2 0 k)).trans (row_at _ k))
  refine congrArg (V m c main_v1) (funext fun e => Fin.ext ?_)
  match e with
  | ⟨0, _⟩ =>
    blk_simp [idx3]
  | ⟨1, _⟩ =>
    blk_simp [idx3]

/-- A point leaves the reference's sums in its block. -/
theorem sum_tile (t : Fin cfg0.N) (a : Fin 256) (b : Fin 4096) (r : Fin 24576) (hr : r.val = 256 * t.val + a.val) :
    (dats m 0 c).after 4 t (ix2 a b) = Cert.Reference7Ideal.Read.val_main_v14 (F := Ideal) (m ((c : Thread nD τ).loc main_arg0))
      (m ((c : Thread nD τ).loc main_arg1)) (m ((c : Thread nD τ).loc main_arg2)) (ix2 r b) := by
  rw [after0_4]
  refine (sum_at _ _ _ _ a b).trans (Eq.trans ?_ (ref_sum _ _ _ r b).symm)
  rw [show (fun k : Fin 4096 => iblk m c 0 t (ix2 a k)) = _ from funext fun k => branch_block m c t a k r hr,
    show (fun k : Fin 4096 => iblk m c 1 t (ix2 a k)) = _ from funext fun k => stream_block m c t a k r hr,
    show (fun k : Fin 4096 => iblk m c 2 t (ix2 0 k)) = _ from funext fun k => post_block m c t k]

/-- And their normalisations. -/
theorem next_tile (t : Fin cfg0.N) (a : Fin 256) (b : Fin 4096) (r : Fin 24576) (hr : r.val = 256 * t.val + a.val) :
    (dats m 0 c).after 5 t (ix2 a b) = Cert.Reference7Ideal.Read.val_main_v28 (F := Ideal) (m ((c : Thread nD τ).loc main_arg0))
      (m ((c : Thread nD τ).loc main_arg1)) (m ((c : Thread nD τ).loc main_arg2)) (m ((c : Thread nD τ).loc main_arg3)) (ix2 r b) := by
  rw [after0_5]
  refine (next_at _ _ _ _ a b).trans (Eq.trans ?_ (ref_next _ _ _ _ r b).symm)
  rw [show (fun k : Fin 4096 => iblk m c 0 t (ix2 a k)) = _ from funext fun k => branch_block m c t a k r hr,
    show (fun k : Fin 4096 => iblk m c 1 t (ix2 a k)) = _ from funext fun k => stream_block m c t a k r hr,
    show (fun k : Fin 4096 => iblk m c 2 t (ix2 0 k)) = _ from funext fun k => post_block m c t k]
  exact congrArg _ (next_block m c t b)

/-- The call's array of sums is the reference's. -/
theorem sum_array : (dats m 0 c).arrAt 4 cfg0.N = Cert.Reference7Ideal.Read.val_main_v14 (F := Ideal) (m ((c : Thread nD τ).loc main_arg0))
      (m ((c : Thread nD τ).loc main_arg1)) (m ((c : Thread nD τ).loc main_arg2)) := by
  refine (dats m 0 c).arrAt_eq_of_covers 4 _ (by decide +kernel) fun t hf y => ?_
  have ht : t.val < 96 := t.isLt
  blk_simp
  have e : ((win0_4.blk t).view.emb y : S24576x4096.Idx)
      = ix2 ⟨256 * t.val + (y 0).val, by have h : (y 0).val < 256 := (y 0).isLt; omega⟩ (y 1) := by
    refine funext fun e => Fin.ext ?_
    match e with
    | ⟨0, _⟩ =>
      blk_simp [idx4]
      change t.val * 256 + (y 0).val = 256 * t.val + (y 0).val
      omega
    | ⟨1, _⟩ =>
      blk_simp [idx4]
      rfl
  refine Eq.trans ?_ (congrArg (Cert.Reference7Ideal.Read.val_main_v14 (F := Ideal) (m ((c : Thread nD τ).loc main_arg0))
      (m ((c : Thread nD τ).loc main_arg1)) (m ((c : Thread nD τ).loc main_arg2))) e.symm)
  refine Eq.trans ?_ (sum_tile m c t (y 0) (y 1) _ rfl)
  exact congrArg ((dats m 0 c).after 4 t) (eq_ix2 y)

/-- The call's array of normalisations is the reference's. -/
theorem next_array : (dats m 0 c).arrAt 5 cfg0.N = Cert.Reference7Ideal.Read.val_main_v28 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 96 := t.isLt
  blk_simp
  have e : ((win0_5.blk t).view.emb y : S24576x4096.Idx)
      = ix2 ⟨256 * t.val + (y 0).val, by have h : (y 0).val < 256 := (y 0).isLt; omega⟩ (y 1) := by
    refine funext fun e => Fin.ext ?_
    match e with
    | ⟨0, _⟩ =>
      blk_simp [idx5]
      change t.val * 256 + (y 0).val = 256 * t.val + (y 0).val
      omega
    | ⟨1, _⟩ =>
      blk_simp [idx5]
      rfl
  refine Eq.trans ?_ (congrArg (Cert.Reference7Ideal.Read.val_main_v28 (F := Ideal) (m ((c : Thread nD τ).loc main_arg0))
      (m ((c : Thread nD τ).loc main_arg1)) (m ((c : Thread nD τ).loc main_arg2)) (m ((c : Thread nD τ).loc main_arg3))) e.symm)
  refine Eq.trans ?_ (next_tile m c t (y 0) (y 1) _ rfl)
  exact congrArg ((dats m 0 c).after 5 t) (eq_ix2 y)

end Cert.Proof.Res

end
-- ==== Proof.ResClaims.lean ====
/-
  The claims about the residual call, each as the statement of the certificate has it.
-/
module

public import proofs.«01_k».proof.Defs
public import proofs.«01_k».proof.Proof.ResValue
public import proofs.«01_k».proof.Proof.Gen.Kernel7.Frame
public import proofs.«01_k».proof.Proof.Gen.Reference7.Run
public import proofs.«01_k».proof.Proof.Gen.Reference7Ideal.Run

@[expose] public section

namespace Cert.Proof.ResClaims

open Idealize.ShloMosaic Idealize.ShloMosaic.TcCoe Idealize.SL.Sem

/-- The call over bit patterns leaves its arguments and every counter as it found them. -/
theorem frame_kernel : Cert.quiescent_Kernel7 := fun m ρ _ => Cert.Kernel7.Gen.frame (F := Bits) m ρ

/-- The call over the extended reals does too. -/
theorem frame_kernelIdeal : Cert.quiescent_Kernel7Ideal := fun m ρ _ => Cert.Kernel7Ideal.Gen.frame (F := Ideal) m ρ

/-- The reference over bit patterns: its arguments as they were; it declares no semaphore. -/
theorem frame_reference : Cert.quiescent_Reference7 := fun m ρ _ =>
  (θ_run Cert.Reference7.defs _ _).mono (fun r h => ⟨fun c => (h c).2.2, sem_eq_zero_of_no_sems (by decide) r.2⟩)
    (Cert.Reference7.Value.run (F := Bits) m ρ)

/-- The reference over the extended reals likewise. -/
theorem frame_referenceIdeal : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Over the extended reals the call and the reference end with the same arrays, on arguments that agree. -/
theorem algebraic : Cert.algebraic_Kernel7Ideal_Reference7Ideal := by
  intro m ρ m' ρ' _ hagree
  refine ⟨fun c => Cert.Reference7Ideal.Read.val_main_v14 (F := Ideal) (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2)), fun c => Cert.Reference7Ideal.Read.val_main_v28 (F := Ideal) (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono (fun _ h c => ⟨(Pipeline.FramePost.out_eq h c 4).trans (Res.sum_array m c), (Pipeline.FramePost.out_eq h c 5).trans (Res.next_array m c),
      (Pipeline.FramePost.in_eq h c 0 rfl).trans (Cert.Kernel7Ideal.Gen.V_main_arg0 m c),
      (Pipeline.FramePost.in_eq h c 1 rfl).trans (Cert.Kernel7Ideal.Gen.V_main_arg1 m c),
      ((h c).2 Cert.Kernel7Ideal.main_arg2 (Pipeline.mem_restRefs_of Cert.Kernel7Ideal.main_arg2 (by decide) (by decide))).trans (Cert.Kernel7Ideal.Gen.V_main_arg2 m c),
      ((h c).2 Cert.Kernel7Ideal.main_arg3 (Pipeline.mem_restRefs_of Cert.Kernel7Ideal.main_arg3 (by decide) (by decide))).trans (Cert.Kernel7Ideal.Gen.V_main_arg3 m c)⟩) (Cert.Kernel7Ideal.Gen.run_main (F := Ideal) m ρ)
  · refine (θ_run Cert.Reference7Ideal.defs _ _).mono (fun _ h c => ⟨(h c).1.trans ?_, (h c).2.1.trans ?_, (h c).2.2⟩) (Cert.Reference7Ideal.Value.run (F := Ideal) m' ρ')
    · rw [Cert.Reference7Ideal.Read.val_main_v14_eq, (hagree c).1, (hagree c).2.1, (hagree c).2.2.1]
    · rw [Cert.Reference7Ideal.Read.val_main_v28_eq, (hagree c).1, (hagree c).2.1, (hagree c).2.2.1, (hagree c).2.2.2]

end Cert.Proof.ResClaims

end
-- ==== Proof.LastValue.lean ====
/-
  What the last residual call leaves in its result array over the extended reals: the prompt's rows of the reference's sum.
-/
module

public import proofs.«01_k».proof.Proof.Rms
public import proofs.«01_k».proof.Proof.Gen.Kernel8Ideal.Frame
public import proofs.«01_k».proof.Proof.Gen.Reference8Ideal.Read
public import Idealize.ShloMosaic.Lib.Pointwise
public import Idealize.ShloMosaic.Lib.Pipeline.Value
public import Idealize.ShloMosaic.Lib.Pipeline.ValueKit.Geometry

@[expose] public section

set_option maxRecDepth 16384

namespace Cert.Proof.Last

open Idealize.ShloMosaic Idealize.ShloMosaic.TcCoe Cert.Kernel8Ideal Cert.Kernel8Ideal.Gen Cert.Proof.Rms
open Idealize.ShloMosaic.Pipeline (Dat)
open scoped BigOperators

theorem origin : (![0, 0] : Fin 2 → ℕ) = fun _ => 0 := by decide

/-- The block of sums, at its coordinates. -/
theorem sum_at (x0 : Vec Ideal S256x4096 .bf16) (x1 : Vec Ideal S256x4096 .f32) (x2 : Vec Ideal S1x4096 .f32) (a : Fin 256) (b : Fin 4096) :
    out0_3 x0 x1 x2 (ix2 a b) = resRow (fun k => x0 (ix2 a k)) (fun k => x1 (ix2 a k)) (fun k => x2 (ix2 0 k)) b := by
  unfold out0_3
  rw [View.canon_unit_zero origin]
  simp only [View.ld_unit_zero (S := S256x4096) origin, View.ld_unit_zero (S := S1x4096) origin]
  pointwise [k0_pay1, resRow, rms]

section Reference

open Cert.Reference8Ideal.Read

variable (x0 : Vec Ideal S24576x4096 .bf16) (x1 : Vec Ideal S24576x4096 .f32) (x2 : Vec Ideal S4096 .f32)

/-- The reference's normalisation of its first argument, at its coordinates. -/
theorem ref_rms (r : Fin 24576) (b : Fin 4096) : val_main_v10 (F := Ideal) x0 (ix2 r b) = rms (fun k => x0 (ix2 r k)) b := by
  rw [val_main_v10_apply, val_main_v9_apply, val_main_v8_apply, val_main_v7_apply, val_main_v6_apply, val_main_v5_apply, val_main_v4_apply,
    val_main_v3_apply, val_main_v2_apply]
  have e : ∀ k : Fin 4096, val_main_v1 (F := Ideal) x0 (idx_main_v2 (idx_main_v3 (idx_main_v9 (ix2 r b))) k) = x0 (ix2 r k) * x0 (ix2 r k) := fun k => by
    rw [val_main_v1_apply, val_main_v0_apply, show idx_main_v2 (idx_main_v3 (idx_main_v9 (ix2 r b))) k = ix2 r k from
      funext fun a => match a with | ⟨0, _⟩ => rfl | ⟨1, _⟩ => rfl]
    rfl
  rw [Finset.sum_congr rfl fun k _ => e k]
  change x0 (ix2 r b) * Ideal.rsqrt (Ideal.div (Ideal.ofBits .f32 0#32 + _) (Ideal.ofBits .f32 0x45800000#32) + Ideal.ofBits .f32 0x358637BD#32) = _
  rw [Ideal.ofBits_zero_f32, zero_add]
  rfl

/-- The reference's sum, at its coordinates. -/
theorem ref_sum (r : Fin 24576) (b : Fin 4096) :
    val_main_v14 (F := Ideal) x0 x1 x2 (ix2 r b) = resRow (fun k => x0 (ix2 r k)) (fun k => x1 (ix2 r k)) (fun k => x2 (ix1 k)) b := by
  rw [val_main_v14_apply, val_main_v13_apply, ref_rms, val_main_v12_apply, val_main_v11_apply]
  refine congrArg (fun y : EReal => x1 (ix2 r b) + rms (fun k => x0 (ix2 r k)) b * y) (congrArg x2 ?_)
  exact funext fun a => match a with | ⟨0, _⟩ => rfl

/-- The prompt's rows of that sum, at their coordinates. -/
theorem ref_prompt (r : Fin 16384) (b : Fin 4096) :
    val_main_v15 (F := Ideal) x0 x1 x2 (ix2 r b)
      = resRow (fun k => x0 (ix2 ⟨r.val, by omega⟩ k)) (fun k => x1 (ix2 ⟨r.val, by omega⟩ k)) (fun k => x2 (ix1 k)) b := by
  rw [val_main_v15_apply]
  refine Eq.trans (congrArg (val_main_v14 (F := Ideal) x0 x1 x2) ?_) (ref_sum x0 x1 x2 ⟨r.val, by omega⟩ b)
  refine funext fun a => Fin.ext ?_
  match a with
  | ⟨0, _⟩ => first | rfl | exact Nat.zero_add _
  | ⟨1, _⟩ => first | rfl | exact Nat.zero_add _

end Reference

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- A point's rows of the branch, at their coordinates. -/
theorem branch_block (t : Fin cfg0.N) (a : Fin 256) (k : Fin 4096) (r : Fin 24576) (hr : r.val = 256 * t.val + a.val) :
    iblk m c 0 t (ix2 a k) = m ((c : Thread nD τ).loc main_arg0) (ix2 r k) := by
  refine Eq.trans ?_ (congrFun (V_main_arg0 m c) (ix2 r k))
  refine congrArg (V m c main_arg0) (funext fun e => Fin.ext ?_)
  match e with
  | ⟨0, _⟩ =>
    blk_simp [idx0]
    change t.val * 256 + a.val = r.val
    omega
  | ⟨1, _⟩ =>
    blk_simp [idx0]

/-- A point's rows of the stream, at their coordinates. -/
theorem stream_block (t : Fin cfg0.N) (a : Fin 256) (k : Fin 4096) (r : Fin 24576) (hr : r.val = 256 * t.val + a.val) :
    iblk m c 1 t (ix2 a k) = m ((c : Thread nD τ).loc main_arg1) (ix2 r k) := by
  refine Eq.trans ?_ (congrFun (V_main_arg1 m c) (ix2 r k))
  refine congrArg (V m c main_arg1) (funext fun e => Fin.ext ?_)
  match e with
  | ⟨0, _⟩ =>
    blk_simp [idx1]
    change t.val * 256 + a.val = r.val
    omega
  | ⟨1, _⟩ =>
    blk_simp [idx1]

/-- A list of numbers laid out as one row, at its coordinates. -/
theorem row_at (g : Vec Ideal S4096 .f32) (k : Fin 4096) : shapeCast S1x4096 g shapeCasts_S4096_S1x4096 (ix2 0 k) = g (ix1 k) := by
  pointwise

/-- The gain's row. -/
theorem V_row2 : V m c main_v0 = shapeCast S1x4096 (m ((c : Thread nD τ).loc main_arg2)) shapeCasts_S4096_S1x4096 := by
  unfold_abbrev_sides
  after_results
  rfl

/-- Every point's block of the gain. -/
theorem post_block (t : Fin cfg0.N) (k : Fin 4096) : iblk m c 2 t (ix2 0 k) = m ((c : Thread nD τ).loc main_arg2) (ix1 k) := by
  refine Eq.trans ?_ ((congrFun (V_row2 m c) (ix2 0 k)).trans (row_at _ k))
  refine congrArg (V m c main_v0) (funext fun e => Fin.ext ?_)
  match e with
  | ⟨0, _⟩ =>
    blk_simp [idx2]
  | ⟨1, _⟩ =>
    blk_simp [idx2]

/-- A point leaves the reference's sums in its block. -/
theorem sum_tile (t : Fin cfg0.N) (a : Fin 256) (b : Fin 4096) (r : Fin 16384) (hr : r.val = 256 * t.val + a.val) :
    (dats m 0 c).after 3 t (ix2 a b) = Cert.Reference8Ideal.Read.val_main_v15 (F := Ideal) (m ((c : Thread nD τ).loc main_arg0))
      (m ((c : Thread nD τ).loc main_arg1)) (m ((c : Thread nD τ).loc main_arg2)) (ix2 r b) := by
  rw [after0_3]
  refine (sum_at _ _ _ a b).trans (Eq.trans ?_ (ref_prompt _ _ _ r b).symm)
  rw [show (fun k : Fin 4096 => iblk m c 0 t (ix2 a k)) = _ from funext fun k => branch_block m c t a k ⟨r.val, by omega⟩ hr,
    show (fun k : Fin 4096 => iblk m c 1 t (ix2 a k)) = _ from funext fun k => stream_block m c t a k ⟨r.val, by omega⟩ hr,
    show (fun k : Fin 4096 => iblk m c 2 t (ix2 0 k)) = _ from funext fun k => post_block m c t k]

/-- The call's array of sums is the reference's. -/
theorem sum_array : (dats m 0 c).arrAt 3 cfg0.N = Cert.Reference8Ideal.Read.val_main_v15 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  have ht : t.val < 64 := t.isLt
  blk_simp
  have e : ((win0_3.blk t).view.emb y : S16384x4096.Idx)
      = ix2 ⟨256 * t.val + (y 0).val, by have h : (y 0).val < 256 := (y 0).isLt; omega⟩ (y 1) := by
    refine funext fun e => Fin.ext ?_
    match e with
    | ⟨0, _⟩ =>
      blk_simp [idx3]
      change t.val * 256 + (y 0).val = 256 * t.val + (y 0).val
      omega
    | ⟨1, _⟩ =>
      blk_simp [idx3]
      rfl
  refine Eq.trans ?_ (congrArg (Cert.Reference8Ideal.Read.val_main_v15 (F := Ideal) (m ((c : Thread nD τ).loc main_arg0))
      (m ((c : Thread nD τ).loc main_arg1)) (m ((c : Thread nD τ).loc main_arg2))) e.symm)
  refine Eq.trans ?_ (sum_tile m c t (y 0) (y 1) _ rfl)
  exact congrArg ((dats m 0 c).after 3 t) (eq_ix2 y)

end Cert.Proof.Last

end
-- ==== Proof.LastClaims.lean ====
/-
  The claims about the last residual call, each as the statement of the certificate has it.
-/
module

public import proofs.«01_k».proof.Defs
public import proofs.«01_k».proof.Proof.LastValue
public import proofs.«01_k».proof.Proof.Gen.Kernel8.Frame
public import proofs.«01_k».proof.Proof.Gen.Reference8.Run
public import proofs.«01_k».proof.Proof.Gen.Reference8Ideal.Run

@[expose] public section

namespace Cert.Proof.LastClaims

open Idealize.ShloMosaic Idealize.ShloMosaic.TcCoe Idealize.SL.Sem

/-- The call over bit patterns leaves its arguments and every counter as it found them. -/
theorem frame_kernel : Cert.quiescent_Kernel8 := fun m ρ _ => Cert.Kernel8.Gen.frame (F := Bits) m ρ

/-- The call over the extended reals does too. -/
theorem frame_kernelIdeal : Cert.quiescent_Kernel8Ideal := fun m ρ _ => Cert.Kernel8Ideal.Gen.frame (F := Ideal) m ρ

/-- The reference over bit patterns: its arguments as they were; it declares no semaphore. -/
theorem frame_reference : Cert.quiescent_Reference8 := fun m ρ _ =>
  (θ_run Cert.Reference8.defs _ _).mono (fun r h => ⟨fun c => (h c).2, sem_eq_zero_of_no_sems (by decide) r.2⟩)
    (Cert.Reference8.Value.run (F := Bits) m ρ)

/-- The reference over the extended reals likewise. -/
theorem frame_referenceIdeal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Over the extended reals the call and the reference end with the same array, on arguments that agree. -/
theorem algebraic : Cert.algebraic_Kernel8Ideal_Reference8Ideal := by
  intro m ρ m' ρ' _ hagree
  refine ⟨fun c => Cert.Reference8Ideal.Read.val_main_v15 (F := Ideal) (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2)), ?_, ?_⟩
  · exact (θ_run Cert.Kernel8Ideal.defs _ _).mono (fun _ h c => ⟨(Pipeline.FramePost.out_eq h c 3).trans (Last.sum_array m c),
      (Pipeline.FramePost.in_eq h c 0 rfl).trans (Cert.Kernel8Ideal.Gen.V_main_arg0 m c),
      (Pipeline.FramePost.in_eq h c 1 rfl).trans (Cert.Kernel8Ideal.Gen.V_main_arg1 m c),
      ((h c).2 Cert.Kernel8Ideal.main_arg2 (Pipeline.mem_restRefs_of Cert.Kernel8Ideal.main_arg2 (by decide) (by decide))).trans (Cert.Kernel8Ideal.Gen.V_main_arg2 m c)⟩) (Cert.Kernel8Ideal.Gen.run_main (F := Ideal) m ρ)
  · refine (θ_run Cert.Reference8Ideal.defs _ _).mono (fun _ h c => ⟨(h c).1.trans ?_, (h c).2⟩) (Cert.Reference8Ideal.Value.run (F := Ideal) m' ρ')
    rw [Cert.Reference8Ideal.Read.val_main_v15_eq, (hagree c).1, (hagree c).2.1, (hagree c).2.2]

end Cert.Proof.LastClaims

end
-- ==== Proof.GateTwoRun.lean ====
/-
  The first layer's gate and up projections' body, run at symbolic buffers: what it leaves in its tile of activations and
  in its blocks of the two riding casts, path by path.
-/
module

public import proofs.«01_k».proof.Proof.Gen.Kernel9Ideal.Frame
public import Idealize.ShloMosaic.Lib.Exec
public import Idealize.ShloMosaic.Lib.Tactic
public import Idealize.ShloMosaic.Lib.ValueIdxCore
public import Idealize.ShloMosaic.Lib.WritesUnit

@[expose] public section

set_option maxRecDepth 16384

noncomputable section

namespace Cert.Proof.GateTwo

open Cert.Kernel9Ideal Cert.Kernel9Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held at contents `f`. -/
abbrev held (c : Dev nD) {sp : Space} {S : Shape} {e : EltTy} (M : Memref sig .tc sp S e) (f : M.view.ty.Contents (Elt F)) : sProp 𝕄 :=
  M.view.loc (c : Thread nD τ) ↦[M.view.set]{fullShare} f

/-- A whole tile of activations: `silu (x · gate) * (x · up)`, rounded. -/
def fullTile (x2 : Vec F S1024x4096 .bf16) (x3 x4 : Vec F S4096x512 .bf16) : Vec F S1024x512 .bf16 :=
  truncf .bf16 (mulf (mulf (matmul dot_S1024x4096_S4096x512_S1024x512_1_0_0_1_n_n none x2 x3 (constant S1024x512 .f32 0x00000000#32))
      (logistic (matmul dot_S1024x4096_S4096x512_S1024x512_1_0_0_1_n_n none x2 x3 (constant S1024x512 .f32 0x00000000#32))))
    (matmul dot_S1024x4096_S4096x512_S1024x512_1_0_0_1_n_n none x2 x4 (constant S1024x512 .f32 0x00000000#32))) bitsLt_bf16_f32

/-- The first 256 columns of a block of weights. -/
def leftCols (x : Vec F S4096x512 .bf16) : Vec F S4096x256 .bf16 :=
  fun i => x (ix2 (i 0) ⟨(i 1).val, by have := (i 1).isLt; have h : S4096x256.size 1 = 256 := rfl; omega⟩)

/-- The live half of the last tile of activations. -/
def halfTile (x2 : Vec F S1024x4096 .bf16) (x3 x4 : Vec F S4096x256 .bf16) : Vec F S1024x256 .bf16 :=
  truncf .bf16 (mulf (mulf (matmul dot_S1024x4096_S4096x256_S1024x256_1_0_0_1_n_n none x2 x3 (constant S1024x256 .f32 0x00000000#32))
      (logistic (matmul dot_S1024x4096_S4096x256_S1024x256_1_0_0_1_n_n none x2 x3 (constant S1024x256 .f32 0x00000000#32))))
    (matmul dot_S1024x4096_S4096x256_S1024x256_1_0_0_1_n_n none x2 x4 (constant S1024x256 .f32 0x00000000#32))) bitsLt_bf16_f32

/-- The last tile of activations: its live half, then zeros. -/
def lastTile (x2 : Vec F S1024x4096 .bf16) (x3 x4 : Vec F S4096x512 .bf16) : Vec F S1024x512 .bf16 :=
  fun y => if h : (y 1).val < 256 then halfTile x2 (leftCols x3) (leftCols x4) (ix2 (y 0) ⟨(y 1).val, h⟩) else Scalar.ofBits .bf16 0x0000#16

/-- The tile of activations a grid point stores. -/
def actTile (i : grid0.Coords) (x2 : Vec F S1024x4096 .bf16) (x3 x4 : Vec F S4096x512 .bf16) : Vec F S1024x512 .bf16 :=
  if k0_cond1 i = 1#1 then fullTile x2 x3 x4 else lastTile x2 x3 x4

/-- A block of the first cast: the weight's rows, rounded. -/
def castRows (x5 : Vec F S1x32x4096 .f32) : Vec F S32x4096 .bf16 :=
  truncf .bf16 (shapeCast S32x4096 x5 shapeCasts_S1x32x4096_S32x4096) bitsLt_bf16_f32

/-- What a grid point leaves in the block of the first cast, which held `z`. -/
def castTile (i : grid0.Coords) (x5 : Vec F S1x32x4096 .f32) (z : Vec F S32x4096 .bf16) : Vec F S32x4096 .bf16 :=
  if k0_cond3 i = 1#1 then castRows x5 else if k0_cond4 i = 1#1 then broadcast S32x4096 (Scalar.ofBits .bf16 0x0000#16) else z

/-- A block of the second cast: the weight's rows, rounded. -/
def projRows (x6 : Vec F S1x32x7168 .f32) : Vec F S32x7168 .bf16 :=
  truncf .bf16 (shapeCast S32x7168 x6 shapeCasts_S1x32x7168_S32x7168) bitsLt_bf16_f32

/-- What a grid point leaves in the block of the second cast, which held `z`. -/
def projTile (i : grid0.Coords) (x6 : Vec F S1x32x7168 .f32) (z : Vec F S32x7168 .bf16) : Vec F S32x7168 .bf16 :=
  if k0_cond5 i = 1#1 then projRows x6 else z

section Reads

/-- A load at literal offsets, of contents told as a function of the index. -/
theorem readAt_unit {sig : RefSig} {κ : Kind} {sp : Space} {s : Shape} {e : EltTy} {Val : EltTy → Type} (v : View sig κ sp s e) {f : v.ty.Contents Val}
    {x : s.Idx → Val e} (h : v.read Val f = x) {off off' size : Fin s.rank → ℕ} (inb : ∀ a, off a + size a ≤ s.size a) (ho : off = off')
    {g : (Rect.unit off size inb).shape.Idx → Val e} (p : (Rect.unit off size inb).shape.Idx → s.Idx) (hp : ∀ i a, (p i a).val = off' a + (i a).val)
    (hg : ∀ i, g i = x (p i)) : v.readAt Val (Rect.unit off size inb).toLoadRect f = g := by
  subst ho
  funext i
  rw [View.readAt_apply, h, hg]
  congr 1
  funext a
  refine Fin.ext ?_
  rw [hp]
  show off a + 1 * (i a).val = _
  rw [Nat.one_mul]

theorem read_whole2 {arg2 : Memref sig .tc .vmem S1024x4096 .bf16} (X : arg2.view.ty.Contents (Elt F)) :
    arg2.view.readAt (Elt F) (Rect.unit (s := S1024x4096) ![0, 0] S1024x4096.size inb_S1024x4096_S1024x4096_0_0).toLoadRect X = arg2.view.read (Elt F) X :=
  readAt_unit arg2.view rfl _ rfl (fun i => i) (fun i a => match a with | 0 => (Nat.zero_add _).symm | 1 => (Nat.zero_add _).symm) fun _ => rfl

theorem read_whole3 {arg3 : Memref sig .tc .vmem S4096x512 .bf16} (X : arg3.view.ty.Contents (Elt F)) :
    arg3.view.readAt (Elt F) (Rect.unit (s := S4096x512) ![0, 0] S4096x512.size inb_S4096x512_S4096x512_0_0).toLoadRect X = arg3.view.read (Elt F) X :=
  readAt_unit arg3.view rfl _ rfl (fun i => i) (fun i a => match a with | 0 => (Nat.zero_add _).symm | 1 => (Nat.zero_add _).symm) fun _ => rfl

theorem read_left3 {arg3 : Memref sig .tc .vmem S4096x512 .bf16} (X : arg3.view.ty.Contents (Elt F)) :
    arg3.view.readAt (Elt F) (Rect.unit (s := S4096x512) ![0, 0] S4096x256.size inb_S4096x512_S4096x256_0_0).toLoadRect X = leftCols (arg3.view.read (Elt F) X) :=
  readAt_unit arg3.view rfl _ rfl _ (fun i a => match a with | 0 => (Nat.zero_add _).symm | 1 => (Nat.zero_add _).symm) fun _ => rfl

theorem read_whole5 {arg5 : Memref sig .tc .vmem S1x32x4096 .f32} (X : arg5.view.ty.Contents (Elt F)) :
    arg5.view.readAt (Elt F) (Rect.unit (s := S1x32x4096) ![0, 0, 0] S1x32x4096.size inb_S1x32x4096_S1x32x4096_0_0_0).toLoadRect X = arg5.view.read (Elt F) X :=
  readAt_unit arg5.view rfl _ rfl (fun i => i) (fun i a => match a with | 0 => (Nat.zero_add _).symm | 1 => (Nat.zero_add _).symm | 2 => (Nat.zero_add _).symm) fun _ => rfl

theorem read_whole6 {arg6 : Memref sig .tc .vmem S1x32x7168 .f32} (X : arg6.view.ty.Contents (Elt F)) :
    arg6.view.readAt (Elt F) (Rect.unit (s := S1x32x7168) ![0, 0, 0] S1x32x7168.size inb_S1x32x7168_S1x32x7168_0_0_0).toLoadRect X = arg6.view.read (Elt F) X :=
  readAt_unit arg6.view rfl _ rfl (fun i => i) (fun i a => match a with | 0 => (Nat.zero_add _).symm | 1 => (Nat.zero_add _).symm | 2 => (Nat.zero_add _).symm) fun _ => rfl

/-- One store over the whole tile of activations. -/
theorem writes_whole7 {arg7 : Memref sig .tc .vmem S1024x512 .bf16} (f : arg7.view.ty.Contents (Elt F)) (w : Vec F S1024x512 .bf16) :
    arg7.view.read (Elt F) (arg7.view.writes (Elt F) f [⟨Rect.unit (s := S1024x512) ![0, 0] S1024x512.size inb_S1024x512_S1024x512_0_0, w⟩]) = w :=
  funext fun y => View.read_writes_cons_unit_of_mem _ _ _ _ _ y y rfl fun a => match a with | 0 => (Nat.zero_add _).symm | 1 => (Nat.zero_add _).symm

/-- One store over the whole block of the first cast. -/
theorem writes_whole8 {arg8 : Memref sig .tc .vmem S32x4096 .bf16} (f : arg8.view.ty.Contents (Elt F)) (w : Vec F S32x4096 .bf16) :
    arg8.view.read (Elt F) (arg8.view.writes (Elt F) f [⟨Rect.unit (s := S32x4096) ![0, 0] S32x4096.size inb_S32x4096_S32x4096_0_0, w⟩]) = w :=
  funext fun y => View.read_writes_cons_unit_of_mem _ _ _ _ _ y y rfl fun a => match a with | 0 => (Nat.zero_add _).symm | 1 => (Nat.zero_add _).symm

/-- One store over the whole block of the second cast. -/
theorem writes_whole9 {arg9 : Memref sig .tc .vmem S32x7168 .bf16} (f : arg9.view.ty.Contents (Elt F)) (w : Vec F S32x7168 .bf16) :
    arg9.view.read (Elt F) (arg9.view.writes (Elt F) f [⟨Rect.unit (s := S32x7168) ![0, 0] S32x7168.size inb_S32x7168_S32x7168_0_0, w⟩]) = w :=
  funext fun y => View.read_writes_cons_unit_of_mem _ _ _ _ _ y y rfl fun a => match a with | 0 => (Nat.zero_add _).symm | 1 => (Nat.zero_add _).symm

/-- The last tile's two stores, each of 256 columns. -/
theorem writes_halves7 {arg7 : Memref sig .tc .vmem S1024x512 .bf16} (f : arg7.view.ty.Contents (Elt F)) (w z : Vec F S1024x256 .bf16) :
    arg7.view.read (Elt F) (arg7.view.writes (Elt F) f
      [⟨Rect.unit (s := S1024x512) ![0, 256] S1024x256.size inb_S1024x512_S1024x256_0_256, z⟩,
       ⟨Rect.unit (s := S1024x512) ![0, 0] S1024x256.size inb_S1024x512_S1024x256_0_0, w⟩])
      = fun y => if h : (y 1).val < 256 then w (ix2 (y 0) ⟨(y 1).val, h⟩)
          else z (ix2 (y 0) ⟨(y 1).val - 256, by have := (y 1).isLt; have h : S1024x512.size 1 = 512 := rfl; omega⟩) := by
  funext y
  by_cases h : (y 1).val < 256
  · rw [dif_pos h]
    refine (View.read_writes_cons_unit_of_not_mem _ _ _ _ _ _ rfl 1 (.inl h)).trans ?_
    exact View.read_writes_cons_unit_of_mem _ _ _ _ _ _ _ rfl fun a => match a with | 0 => (Nat.zero_add _).symm | 1 => (Nat.zero_add _).symm
  · rw [dif_neg h]
    exact View.read_writes_cons_unit_of_mem _ _ _ _ _ _ _ rfl fun a => by
      match a with
      | 0 => exact (Nat.zero_add _).symm
      | 1 => show (y 1).val = 256 + ((y 1).val - 256); omega

end Reads

set_option maxHeartbeats 4000000 in
/-- The body from its eight blocks at any contents, on each path its conditions leave open. -/
theorem body_runs (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x32x4096 .f32) (harg5 : arg5.IsWhole) (arg6 : Memref sig .tc .vmem S1x32x7168 .f32) (harg6 : arg6.IsWhole) (arg7 : Memref sig .tc .vmem S1024x512 .bf16) (harg7 : arg7.IsWhole) (arg8 : Memref sig .tc .vmem S32x4096 .bf16) (harg8 : arg8.IsWhole) (arg9 : Memref sig .tc .vmem S32x7168 .bf16) (harg9 : arg9.IsWhole)
    (c12 : (k0_cond1 i = 1#1 ∧ ¬ k0_cond2 i = 1#1) ∨ (¬ k0_cond1 i = 1#1 ∧ k0_cond2 i = 1#1))
    (c34 : (k0_cond3 i = 1#1 ∧ ¬ k0_cond4 i = 1#1) ∨ (¬ k0_cond3 i = 1#1 ∧ k0_cond4 i = 1#1) ∨ (¬ k0_cond3 i = 1#1 ∧ ¬ k0_cond4 i = 1#1))
    (X2 : arg2.view.ty.Contents (Elt F)) (X3 : arg3.view.ty.Contents (Elt F)) (X4 : arg4.view.ty.Contents (Elt F)) (X5 : arg5.view.ty.Contents (Elt F)) (X6 : arg6.view.ty.Contents (Elt F))
    (f7 : arg7.view.ty.Contents (Elt F)) (f8 : arg8.view.ty.Contents (Elt F)) (f9 : arg9.view.ty.Contents (Elt F)) (Q : PUnit → sProp 𝕄) :
    iprop(held c arg2 X2 ∗ held c arg3 X3 ∗ held c arg4 X4 ∗ held c arg5 X5 ∗ held c arg6 X6 ∗ held c arg7 f7 ∗ held c arg8 f8 ∗ held c arg9 f9
      ∗ (iprop(held c arg2 X2 ∗ held c arg3 X3 ∗ held c arg4 X4 ∗ held c arg5 X5 ∗ held c arg6 X6
          ∗ (∃ f, ⌜arg7.view.read (Elt F) f = actTile i (arg2.view.read (Elt F) X2) (arg3.view.read (Elt F) X3) (arg4.view.read (Elt F) X4)⌝ ∗ held c arg7 f)
          ∗ (∃ f, ⌜arg8.view.read (Elt F) f = castTile i (arg5.view.read (Elt F) X5) (arg8.view.read (Elt F) f8)⌝ ∗ held c arg8 f)
          ∗ (∃ f, ⌜arg9.view.read (Elt F) f = projTile i (arg6.view.read (Elt F) X6) (arg9.view.read (Elt F) f9)⌝ ∗ held c arg9 f)) -∗ Q ⟨⟩))
    ⊢ wp frame (wpE (defs₀ (F := F)) Variants.none (c : Thread nD τ) none) Set.univ
        (cc0_gate_up i arg2 harg2 arg3 harg3 arg4 harg4 arg5 harg5 arg6 harg6 arg7 harg7 arg8 harg8 arg9 harg9) Q := by
  unfold cc0_gate_up
  rcases c12 with ⟨c1, c2⟩ | ⟨c1, c2⟩ <;> rcases c34 with ⟨c3, c4⟩ | ⟨c3, c4⟩ | ⟨c3, c4⟩ <;> by_cases c5 : k0_cond5 i = 1#1
  all_goals
    iintro ⟨H2, H3, H4, H5, H6, H7, H8, H9, Hk⟩
    sl_exec (disch := first | sl_exact c1 | sl_exact c2 | sl_exact c3 | sl_exact c4 | sl_exact c5)
    sl_step
    iapply Hk
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      first
        | rw [actTile, if_pos c1, ← read_whole2, ← read_whole3 X3, ← read_whole3 X4]
          exact writes_whole7 _ _
        | rw [actTile, if_neg c1]; unfold lastTile; rw [← read_whole2, ← read_left3 X3, ← read_left3 X4]
          exact writes_halves7 _ _ _
    isplitl [H8]
    · iexists _; isplitr; swap; · iexact H8
      ipureintro
      first
        | rw [castTile, if_pos c3, ← read_whole5]
          exact writes_whole8 _ _
        | rw [castTile, if_neg c3, if_pos c4]
          exact writes_whole8 _ _
        | rw [castTile, if_neg c3, if_neg c4]
    iexists _; isplitr; swap; · iexact H9
    ipureintro
    first
      | rw [projTile, if_pos c5, ← read_whole6]
        exact writes_whole9 _ _
      | rw [projTile, if_neg c5]

end Cert.Proof.GateTwo

end
-- ==== Proof.GateTwoFrame.lean ====
/-
  The first layer's gate and up projections' call: what each grid point leaves in its tile of activations and in the
  blocks of the two riding casts, and the pipeline's run with it. Past a cast's last block nothing is stored there, and the
  buffer goes on holding that block to the end.
-/
module

public import proofs.«01_k».proof.Proof.GateTwoRun
public import Idealize.ShloMosaic.Lib.Pipeline.TableIdle
public import Idealize.ShloMosaic.Lib.Pipeline.ValueKit.Geometry

@[expose] public section

set_option maxRecDepth 16384

noncomputable section

namespace Cert.Proof.GateTwo

open Cert.Kernel9Ideal Cert.Kernel9Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Exactly one of the two tiles of activations is stored at each point. -/
theorem cond12 : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1) := by decide +kernel

/-- The first cast's rows, or its zeros, or nothing, is stored at each point. -/
theorem cond34 : ∀ t : Fin grid0.N, (k0_cond3 (grid0.coords t) = 1#1 ∧ ¬ k0_cond4 (grid0.coords t) = 1#1)
    ∨ (¬ k0_cond3 (grid0.coords t) = 1#1 ∧ k0_cond4 (grid0.coords t) = 1#1)
    ∨ (¬ k0_cond3 (grid0.coords t) = 1#1 ∧ ¬ k0_cond4 (grid0.coords t) = 1#1) := by decide +kernel

/-- The first cast's rows are stored at the first 344 points. -/
theorem cond3_iff : ∀ t : Fin grid0.N, k0_cond3 (grid0.coords t) = 1#1 ↔ t.val < 344 := by decide +kernel

/-- Its zeros are stored at the next eight. -/
theorem cond4_iff : ∀ t : Fin grid0.N, k0_cond4 (grid0.coords t) = 1#1 ↔ 344 ≤ t.val ∧ t.val < 352 := by decide +kernel

/-- The second cast's rows are stored at the first 128 points. -/
theorem cond5_iff : ∀ t : Fin grid0.N, k0_cond5 (grid0.coords t) = 1#1 ↔ t.val < 128 := by decide +kernel

/-- A whole tile of activations is stored but in the last column of tiles. -/
theorem cond1_iff : ∀ t : Fin grid0.N, k0_cond1 (grid0.coords t) = 1#1 ↔ t.val % 22 < 21 := by decide +kernel

theorem idle5 : ∀ t : Fin grid0.N, idle0 5 (grid0.coords t) = false := by decide +kernel

theorem idle6 : ∀ t : Fin grid0.N, idle0 6 (grid0.coords t) = decide (352 ≤ t.val) := by decide +kernel

theorem idle7 : ∀ t : Fin grid0.N, idle0 7 (grid0.coords t) = decide (128 ≤ t.val) := by decide +kernel

/-- The first cast's block is written back at its first 351 points and at the end. -/
theorem flush6 : ∀ t : Fin grid0.N, win0_6.flush t = (decide (t.val < 351) || decide (t.val = 527)) := by
  intro t; rw [Pipeline.Window.flush_eq_flushF]; revert t; decide +kernel

/-- The second's is written back at its first 127 points and at the end. -/
theorem flush7 : ∀ t : Fin grid0.N, win0_7.flush t = (decide (t.val < 127) || decide (t.val = 527)) := by
  intro t; rw [Pipeline.Window.flush_eq_flushF]; revert t; decide +kernel

/-- The last point up to `t` at which the second cast stores. -/
def castPoint (t : Fin cfg0.N) : Fin cfg0.N := ⟨min t.val 127, Nat.lt_of_le_of_lt (Nat.min_le_left _ _) t.isLt⟩

theorem castPoint_early (t : Fin cfg0.N) (h : t.val < 128) : castPoint t = t := Fin.ext (by change min t.val 127 = t.val; omega)

theorem castPoint_late (t t' : Fin cfg0.N) (h : 127 ≤ t.val) (h' : 127 ≤ t'.val) : castPoint t = castPoint t' :=
  Fin.ext (by change min t.val 127 = min t'.val 127; omega)

/-- A block of zeros of the first cast. -/
def zeroTile : Vec F S32x4096 .bf16 := broadcast S32x4096 (Scalar.ofBits .bf16 0x0000#16)

variable (m : (ℓ : Loc nD τ sig) → Buf (Elt F) ℓ) (ρ : Dev nD → PrngReg)

/-- The proof data: the inputs stay at their blocks, the outputs end at their tiles. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actTile (grid0.coords t) (iblk m c 0 t) (iblk m c 1 t) (iblk m c 2 t)
    | ⟨6, _⟩ => castTile (grid0.coords t) (iblk m c 3 t) zeroTile
    | ⟨7, _⟩ => projRows (iblk m c 4 (castPoint t))
    | ⟨_ + 8, h⟩ => absurd h (Nat.not_lt.2 (Nat.le_add_left _ _))
  Φ _ := Pipeline.ΦA spec0 c
  q _ := fullShare
  owed _ := 0

theorem castTile_late (t : Fin grid0.N) (h : 344 ≤ t.val) (x : Vec F S1x32x4096 .f32) : castTile (grid0.coords t) x zeroTile = zeroTile := by
  rw [castTile, if_neg (by rw [cond3_iff]; omega)]
  exact ite_self _

/-- Past the first cast's last block its buffer holds zeros. -/
theorem before6 (c : Dev nD) (d : Vec F S32x4096 .bf16) : ∀ (n : ℕ) (t : Fin cfg0.N), t.val = 352 + n → (dats m 0 c).before 6 t d = zeroTile
  | 0, t, h => by
    rw [(dats m 0 c).before_of_pos 6 t (by omega) rfl d]
    rw [if_neg (by rw [show (cfg0.win 6).flush _ = _ from flush6 _]; simp only [Bool.or_eq_true, decide_eq_true_eq]; omega)]
    unfold Dat.left
    rw [show cfg0.idle 6 _ = false from (idle6 _).trans (decide_eq_false (by simp only; omega))]
    exact castTile_late _ (by simp only; omega) _
  | n + 1, t, h => by
    have ht : t.val < 528 := t.isLt
    rw [(dats m 0 c).before_of_pos 6 t (by omega) rfl d]
    rw [if_neg (by rw [show (cfg0.win 6).flush _ = _ from flush6 _]; simp only [Bool.or_eq_true, decide_eq_true_eq]; omega)]
    unfold Dat.left
    rw [show cfg0.idle 6 _ = true from (idle6 _).trans (decide_eq_true (by simp only; omega))]
    exact before6 c d n _ (by simp only; omega)

/-- What the body leaves in the first cast's block, from what it finds there. -/
theorem castTile_before (c : Dev nD) (t : Fin cfg0.N) (d : Vec F S32x4096 .bf16) (x : Vec F S1x32x4096 .f32) :
    castTile (grid0.coords t) x ((dats m 0 c).before 6 t d) = castTile (grid0.coords t) x zeroTile := by
  by_cases h : t.val < 352
  · unfold castTile
    by_cases h3 : k0_cond3 (grid0.coords t) = 1#1
    · rw [if_pos h3, if_pos h3]
    · have h5 : k0_cond4 (grid0.coords t) = 1#1 := (cond4_iff t).2 ⟨by rw [cond3_iff] at h3; omega, h⟩
      rw [if_pos h5, if_pos h5]
  · rw [before6 m c d (t.val - 352) t (by omega)]

/-- At an idle point it is what it found. -/
theorem castTile_idle (t : Fin cfg0.N) (h : 352 ≤ t.val) (x : Vec F S1x32x4096 .f32) (z : Vec F S32x4096 .bf16) : castTile (grid0.coords t) x z = z := by
  rw [castTile, if_neg (by rw [cond3_iff]; omega), if_neg (by rw [cond4_iff]; omega)]

/-- The body table's row at a point is the body there. -/
theorem body_row (t : Fin cfg0.N) : defs₀ (F := F) .tc cfg0.body (cfg0.bodyArgs t (cfg0.slots t)) = bodyAt0 t := by
  unfold defs₀; rw [Defs.onTc_tc]

/-- The demand on the first cast's block after the body, met by the contents `castTile` names. -/
theorem leave6 (c : Dev nD) (t : Fin cfg0.N) (d : Vec F S32x4096 .bf16) :
    (owns (c : Thread nD τ) (win0_6.stage (cfg0.slots t 6)) fullShare (castTile (grid0.coords t) (iblk m c 3 t) ((dats m 0 c).before 6 t d)) : sProp 𝕄)
    ⊢ (match cfg0.idle 6 (cfg0.grid.coords t) with
      | true => match (cfg0.win 6).flush t with
        | false => iprop(∃ d, owns c ((cfg0.win 6).stage (cfg0.slots t 6)) fullShare ((dats m 0 c).before 6 t d))
        | true => owns c ((cfg0.win 6).stage (cfg0.slots t 6)) fullShare ((dats m 0 c).after 6 t)
      | false => owns c ((cfg0.win 6).stage (cfg0.slots t 6)) fullShare ((dats m 0 c).after 6 t)) := by
  have e : (dats m 0 c).after 6 t = castTile (grid0.coords t) (iblk m c 3 t) ((dats m 0 c).before 6 t d) := (castTile_before m c t d _).symm
  by_cases h : 352 ≤ t.val
  · rw [show cfg0.idle 6 _ = true from (idle6 _).trans (decide_eq_true h)]
    dsimp only
    cases (cfg0.win 6).flush t
    · dsimp only
      iintro H
      iexists d
      rw [castTile_idle t h]
      iexact H
    · dsimp only
      rw [e]
  · rw [show cfg0.idle 6 _ = false from (idle6 _).trans (decide_eq_false h)]
    dsimp only
    rw [e]

/-- Past the second cast's last block its buffer holds that block. -/
theorem before7 (c : Dev nD) (d : Vec F S32x7168 .bf16) : ∀ (n : ℕ) (t : Fin cfg0.N), t.val = 128 + n → (dats m 0 c).before 7 t d = projRows (iblk m c 4 (castPoint t))
  | 0, t, h => by
    rw [(dats m 0 c).before_of_pos 7 t (by omega) rfl d]
    rw [if_neg (by rw [show (cfg0.win 7).flush _ = _ from flush7 _]; simp only [Bool.or_eq_true, decide_eq_true_eq]; omega)]
    unfold Dat.left
    rw [show cfg0.idle 7 _ = false from (idle7 _).trans (decide_eq_false (by simp only; omega))]
    exact congrArg (fun s => projRows (iblk m c 4 s)) (castPoint_late _ _ (by simp only; omega) (by omega))
  | n + 1, t, h => by
    have ht : t.val < 528 := t.isLt
    rw [(dats m 0 c).before_of_pos 7 t (by omega) rfl d]
    rw [if_neg (by rw [show (cfg0.win 7).flush _ = _ from flush7 _]; simp only [Bool.or_eq_true, decide_eq_true_eq]; omega)]
    unfold Dat.left
    rw [show cfg0.idle 7 _ = true from (idle7 _).trans (decide_eq_true (by simp only; omega))]
    refine (before7 c d n _ (by simp only; omega)).trans ?_
    exact congrArg (fun s => projRows (iblk m c 4 s)) (castPoint_late _ _ (by simp only; omega) (by omega))

/-- What the body leaves in that block, from what it finds there, is what the proof data name. -/
theorem after7 (c : Dev nD) (t : Fin cfg0.N) (d : Vec F S32x7168 .bf16) :
    (dats m 0 c).after 7 t = projTile (grid0.coords t) (iblk m c 4 t) ((dats m 0 c).before 7 t d) := by
  change projRows (iblk m c 4 (castPoint t)) = _
  unfold projTile
  by_cases h : t.val < 128
  · rw [if_pos ((cond5_iff t).2 h), castPoint_early t h]
  · rw [if_neg (fun h' => h ((cond5_iff t).1 h')), before7 m c d (t.val - 128) t (by omega)]

/-- The demand on that block after the body, met by those contents. -/
theorem leave7 (c : Dev nD) (t : Fin cfg0.N) (d : Vec F S32x7168 .bf16) :
    (owns (c : Thread nD τ) (win0_7.stage (cfg0.slots t 7)) fullShare (projTile (grid0.coords t) (iblk m c 4 t) ((dats m 0 c).before 7 t d)) : sProp 𝕄)
    ⊢ (match cfg0.idle 7 (cfg0.grid.coords t) with
      | true => match (cfg0.win 7).flush t with
        | false => iprop(∃ d, owns c ((cfg0.win 7).stage (cfg0.slots t 7)) fullShare ((dats m 0 c).before 7 t d))
        | true => owns c ((cfg0.win 7).stage (cfg0.slots t 7)) fullShare ((dats m 0 c).after 7 t)
      | false => owns c ((cfg0.win 7).stage (cfg0.slots t 7)) fullShare ((dats m 0 c).after 7 t)) := by
  have e := after7 m c t d
  by_cases h : 128 ≤ t.val
  · rw [show cfg0.idle 7 _ = true from (idle7 _).trans (decide_eq_true h)]
    dsimp only
    cases (cfg0.win 7).flush t
    · dsimp only
      iintro H
      iexists d
      rw [projTile, if_neg (fun h' => by have := (cond5_iff t).1 h'; omega)]
      iexact H
    · dsimp only
      rw [e]
  · rw [show cfg0.idle 7 _ = false from (idle7 _).trans (decide_eq_false h)]
    dsimp only
    rw [e]

set_option maxHeartbeats 1600000 in
/-- The pipeline's demand on the body, at every point. -/
theorem body_ok (c : Dev nD) : BodyObligation (dats m 0 c) (defs₀ (F := F)) Variants.none () Set.univ := fun t => by
  rw [bigSep_W0, bigSep_W0, body_row]
  have h0 := before0_0_of m (dats m 0 c) rfl (fun _ => rfl) t
  have h1 := before0_1_of m (dats m 0 c) rfl (fun _ => rfl) t
  have h2 := before0_2_of m (dats m 0 c) rfl (fun _ => rfl) t
  have h3 := before0_3_of m (dats m 0 c) rfl (fun _ => rfl) t
  have h4 := before0_4_of m (dats m 0 c) rfl (fun _ => rfl) t
  rw [show cfg0.idle 5 (cfg0.grid.coords t) = false from idle5 t]
  change iprop(Pipeline.ΦA spec0 c ∗ (dats m 0 c).owesAt () t.castSucc
      ∗ (∃ d, owns c (win0_0.stage (cfg0.slots t 0)) fullShare ((dats m 0 c).before 0 t d))
      ∗ (∃ d, owns c (win0_1.stage (cfg0.slots t 1)) fullShare ((dats m 0 c).before 1 t d))
      ∗ (∃ d, owns c (win0_2.stage (cfg0.slots t 2)) fullShare ((dats m 0 c).before 2 t d))
      ∗ (∃ d, owns c (win0_3.stage (cfg0.slots t 3)) fullShare ((dats m 0 c).before 3 t d))
      ∗ (∃ d, owns c (win0_4.stage (cfg0.slots t 4)) fullShare ((dats m 0 c).before 4 t d))
      ∗ (∃ d, owns c (win0_5.stage (cfg0.slots t 5)) fullShare ((dats m 0 c).before 5 t d))
      ∗ (∃ d, owns c (win0_6.stage (cfg0.slots t 6)) fullShare ((dats m 0 c).before 6 t d))
      ∗ (∃ d, owns c (win0_7.stage (cfg0.slots t 7)) fullShare ((dats m 0 c).before 7 t d)))
    ⊢ wp frame (wpE (defs₀ (F := F)) Variants.none c none) Set.univ (bodyAt0 t) fun _ =>
      iprop(Pipeline.ΦA spec0 c ∗ (dats m 0 c).owesAt () t.castSucc
      ∗ owns c (win0_0.stage (cfg0.slots t 0)) fullShare (iblk m c 0 t)
      ∗ owns c (win0_1.stage (cfg0.slots t 1)) fullShare (iblk m c 1 t)
      ∗ owns c (win0_2.stage (cfg0.slots t 2)) fullShare (iblk m c 2 t)
      ∗ owns c (win0_3.stage (cfg0.slots t 3)) fullShare (iblk m c 3 t)
      ∗ owns c (win0_4.stage (cfg0.slots t 4)) fullShare (iblk m c 4 t)
      ∗ owns c (win0_5.stage (cfg0.slots t 5)) fullShare (actTile (grid0.coords t) (iblk m c 0 t) (iblk m c 1 t) (iblk m c 2 t))
      ∗ _ ∗ _)
  simp only [h0, h1, h2, h3, h4]
  unfold bodyAt0
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  ihave K := leave6 m c t d6
  ihave L := leave7 m c t d7
  unfold owns
  icases H0 with ⟨%g0, %e0, H0⟩
  icases H1 with ⟨%g1, %e1, H1⟩
  icases H2 with ⟨%g2, %e2, H2⟩
  icases H3 with ⟨%g3, %e3, H3⟩
  icases H4 with ⟨%g4, %e4, H4⟩
  icases H5 with ⟨%g5, %e5, H5⟩
  icases H6 with ⟨%g6, %e6, H6⟩
  icases H7 with ⟨%g7, %e7, H7⟩
  iapply body_runs (F := F) c (grid0.coords t) _ _ _ _ _ _ _ _ _ _ _ _ _ _ _ _ (cond12 t) (cond34 t) g0 g1 g2 g3 g4 g5 g6 g7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, ⟨%w5, %u5, H5⟩, ⟨%w6, %u6, H6⟩, ⟨%w7, %u7, H7⟩⟩
  isplitl [HΦ]; · iexact HΦ
  isplitl [HO]; · iexact HO
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists g4; isplitr; · ipureintro; exact e4
    iexact H4
  isplitl [H5]
  · iexists w5; isplitr
    · ipureintro; rw [u5, e0, e1, e2]
    iexact H5
  isplitl [K H6]
  · iapply K
    iexists w6; isplitr
    · ipureintro; rw [u6, e3, e6]
    iexact H6
  iapply L
  iexists w7; isplitr
  · ipureintro; rw [u7, e4, e7]
  iexact H7

set_option backward.isDefEq.respectTransparency false in
/-- The program runs to the end with every array at the contents the proof data name. -/
theorem runs : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => (body_ok m c).loose) (hshare := fun c => (dats m 0 c).share_full fun _ => rfl) (howed := fun _ _ => rfl) (V := V m)
    (hmain := hmain m Variants.none) (hA := fun _ _ => rfl) (hΦ := fun _ _ => rfl)
    (Q' := _) (hQ' := fun _ h => h)

/-- The frame: the arguments unchanged and the machine quiet. -/
theorem frame_runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨Pipeline.FramePost.in_eq h.1 c 0 rfl, Pipeline.FramePost.in_eq h.1 c 1 rfl,
    Pipeline.FramePost.in_eq h.1 c 2 rfl, Pipeline.FramePost.in_eq h.1 c 3 rfl, Pipeline.FramePost.in_eq h.1 c 4 rfl⟩, h.2⟩) (runs m ρ)

end Cert.Proof.GateTwo

end
-- ==== Proof.GateTwoRef.lean ====
/-
  The reference of the first layer's gate and up projections read at one element of each result over the extended reals.
-/
module

public import proofs.«01_k».proof.Proof.Gen.Reference9Ideal.Read
public import proofs.«01_k».proof.Proof.GateRef
public import Idealize.ShloMosaic.Lib.Pointwise
public import Idealize.ShloMosaic.Lib.KernelVsHost

@[expose] public section

namespace Cert.Proof.GateTwo

open Idealize.ShloMosaic Cert.Reference9Ideal Cert.Reference9Ideal.Read
open Cert.Proof.Gate (gated one_bits)
open scoped BigOperators

/-- The reference's activation, at its coordinates: the gated product of two inner products, zero past the live columns. -/
theorem act_at (x0 : Vec Ideal S24576x4096 .bf16) (x1 x2 : Vec Ideal S4096x11264 .bf16) (r : Fin 24576) (l : Fin 11264) :
    val_main_v11 (F := Ideal) x0 x1 x2 (ix2 r l) = if l.val < 11008 then
      gated (∑ k : Fin 4096, x0 (ix2 r k) * x1 (ix2 k l)) (∑ k : Fin 4096, x0 (ix2 r k) * x2 (ix2 k l)) else 0 := by
  unfold val_main_v11
  by_cases h : l.val < 11008
  · rw [if_pos h]
    refine (pad_apply_of_inside _ _ _ _ _ _ _ _ (ix2 r ⟨l.val, h⟩) fun a => by
      match a with
      | ⟨0, _⟩ => show r.val = 0 + r.val * (0 + 1); omega
      | ⟨1, _⟩ => show l.val = 0 + l.val * (0 + 1); omega).trans ?_
    rw [val_main_v10_apply, val_main_v9_apply, val_main_v8_apply, val_main_call0_v5_apply, val_main_call0_v4_apply, val_main_call0_cst_0_apply,
      val_main_call0_v3_apply, val_main_call0_v2_apply, val_main_call0_cst_apply, val_main_call0_v1_apply, val_main_call0_v0_apply,
      val_main_v3_apply, val_main_v7_apply]
    change _ * Ideal.div (Ideal.ofBits .f32 0x3F800000#32) (Ideal.ofBits .f32 0x3F800000#32 + Ideal.exp (-_)) * _ = _
    rw [one_bits]
    refine congrArg₂ gated (Finset.sum_congr rfl fun k _ => ?_) (Finset.sum_congr rfl fun k _ => ?_)
    · rw [val_main_v0_apply, val_main_v2_apply, val_main_v1_apply]
      refine congrArg₂ (· * ·) (congrArg x0 ?_) (congrArg x1 ?_) <;> exact funext fun a => match a with | ⟨0, _⟩ => rfl | ⟨1, _⟩ => rfl
    · rw [val_main_v4_apply, val_main_v6_apply, val_main_v5_apply]
      refine congrArg₂ (· * ·) (congrArg x0 ?_) (congrArg x2 ?_) <;> exact funext fun a => match a with | ⟨0, _⟩ => rfl | ⟨1, _⟩ => rfl
  · rw [if_neg h]
    refine (pad_apply_of_not_inside _ _ _ _ _ _ _ _ 1 (fun H => h ?_)).trans ?_
    · have := H.2.2
      change (l.val - 0) / (0 + 1) < 11008 at this
      omega
    · rw [val_main_call1_v0_apply, val_main_c_apply]
      change (((0#32 : BitVec 32).toInt : ℝ) : EReal) = 0
      simp

/-- The reference's first cast weight, at its coordinates: the first layer's rows, then zeros. -/
theorem cast_at (x3 : Vec Ideal S2x11008x4096 .f32) (r : Fin 11264) (l : Fin 4096) :
    val_main_v15 (F := Ideal) x3 (ix2 r l) = if h : r.val < 11008 then x3 (ix3 0 ⟨r.val, h⟩ l) else (0 : EReal) := by
  unfold val_main_v15
  by_cases h : r.val < 11008
  · rw [dif_pos h]
    refine (pad_apply_of_inside _ _ _ _ _ _ _ _ (ix2 ⟨r.val, h⟩ l) fun a => by
      match a with
      | ⟨0, _⟩ => show r.val = 0 + r.val * (0 + 1); omega
      | ⟨1, _⟩ => show l.val = 0 + l.val * (0 + 1); omega).trans ?_
    rw [val_main_v14_apply, val_main_v13_apply, val_main_v12_apply]
    have hl := l.isLt
    refine congrArg x3 (funext fun a => Fin.ext ?_)
    match a with
    | ⟨0, _⟩ => rfl
    | ⟨1, _⟩ => show (r.val * 4096 + l.val) / 4096 % 11008 = r.val; omega
    | ⟨2, _⟩ => show (r.val * 4096 + l.val) % 4096 = l.val; omega
  · rw [dif_neg h]
    refine (pad_apply_of_not_inside _ _ _ _ _ _ _ _ 0 (fun H => h ?_)).trans ?_
    · have := H.2.2
      change (r.val - 0) / (0 + 1) < 11008 at this
      omega
    · rw [val_main_call2_v0_apply, val_main_c_0_apply]
      change (((0#32 : BitVec 32).toInt : ℝ) : EReal) = 0
      simp

/-- The reference's second cast weight, at its coordinates: the second layer's rows. -/
theorem proj_at (x4 : Vec Ideal S2x4096x7168 .f32) (r : Fin 4096) (l : Fin 7168) :
    val_main_v18 (F := Ideal) x4 (ix2 r l) = x4 (ix3 1 r l) := by
  rw [val_main_v18_apply, val_main_v17_apply, val_main_v16_apply]
  have hr := r.isLt
  have hl := l.isLt
  refine congrArg x4 (funext fun a => Fin.ext ?_)
  match a with
  | ⟨0, _⟩ => rfl
  | ⟨1, _⟩ => show (r.val * 7168 + l.val) / 7168 % 4096 = r.val; omega
  | ⟨2, _⟩ => show (r.val * 7168 + l.val) % 7168 = l.val; omega

end Cert.Proof.GateTwo

end
-- ==== Proof.GateTwoValue.lean ====
/-
  What the first layer's gate and up projections' call leaves in its three result arrays over the extended reals: the
  reference's results on the same arrays.
-/
module

public import proofs.«01_k».proof.Proof.GateTwoFrame
public import proofs.«01_k».proof.Proof.GateTwoRef
public import Idealize.ShloMosaic.Lib.Pointwise

@[expose] public section

namespace Cert.Proof.GateTwo

open Idealize.ShloMosaic Idealize.ShloMosaic.TcCoe Cert.Kernel9Ideal Cert.Kernel9Ideal.Gen
open Idealize.ShloMosaic.Pipeline (Dat)
open Cert.Proof.Gate (gated)
open scoped BigOperators

/-- A whole tile of activations, at its coordinates. -/
theorem fullTile_at (x2 : Vec Ideal S1024x4096 .bf16) (x3 x4 : Vec Ideal S4096x512 .bf16) (a : Fin 1024) (b : Fin 512) :
    fullTile x2 x3 x4 (ix2 a b) = gated (∑ k : Fin 4096, x2 (ix2 a k) * x3 (ix2 k b)) (∑ k : Fin 4096, x2 (ix2 a k) * x4 (ix2 k b)) := by
  pointwise [fullTile, gated]

/-- The live half of the last tile, at its coordinates. -/
theorem halfTile_at (x2 : Vec Ideal S1024x4096 .bf16) (x3 x4 : Vec Ideal S4096x256 .bf16) (a : Fin 1024) (b : Fin 256) :
    halfTile x2 x3 x4 (ix2 a b) = gated (∑ k : Fin 4096, x2 (ix2 a k) * x3 (ix2 k b)) (∑ k : Fin 4096, x2 (ix2 a k) * x4 (ix2 k b)) := by
  pointwise [halfTile, gated]

/-- The first cast's rows, at their coordinates. -/
theorem castRows_at (x5 : Vec Ideal S1x32x4096 .f32) (a : Fin 32) (b : Fin 4096) : castRows x5 (ix2 a b) = x5 (ix3 0 a b) := by
  pointwise [castRows]

/-- The second's. -/
theorem projRows_at (x6 : Vec Ideal S1x32x7168 .f32) (a : Fin 32) (b : Fin 7168) : projRows x6 (ix2 a b) = x6 (ix3 0 a b) := by
  pointwise [projRows]

theorem zero_bf16 : (Scalar.ofBits .bf16 0x0000#16 : Ideal .bf16) = (0 : EReal) := by
  change Ideal.ofBits .bf16 0x0000#16 = _
  simp [Ideal.ofBits, Ideal.ieee]

theorem zeroTile_at (y : S32x4096.Idx) : zeroTile (F := Ideal) y = (0 : EReal) := zero_bf16

variable (m : (ℓ : Loc nD τ sig) → Buf (Elt Ideal) ℓ) (c : Dev nD)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![0, min t.val 343, 0] := (by decide +kernel : ∀ t : Fin grid0.N, _)
theorem idx4 : ∀ t : Fin cfg0.N, win0_4.index t = ![1, min t.val 127, 0] := (by decide +kernel : ∀ t : Fin grid0.N, _)
theorem idx5 : ∀ t : Fin cfg0.N, win0_5.index t = ![(grid0.coords t 0).val, (grid0.coords t 1).val] := (by decide +kernel : ∀ t : Fin grid0.N, _)
theorem idx6 : ∀ t : Fin cfg0.N, win0_6.index t = ![min t.val 351, 0] := (by decide +kernel : ∀ t : Fin grid0.N, _)
theorem idx7 : ∀ t : Fin cfg0.N, win0_7.index t = ![min t.val 127, 0] := (by decide +kernel : ∀ t : Fin grid0.N, _)

/-- A whole tile is stored where the tile's column is before the last. -/
theorem cond1_col : ∀ t : Fin cfg0.N, k0_cond1 (grid0.coords t) = 1#1 ↔ (grid0.coords t 1).val < 21 := (by decide +kernel : ∀ t : Fin grid0.N, _)

/-- A point's rows of activations in, at their coordinates. -/
theorem rows_block (t : Fin cfg0.N) (a : Fin 1024) (b : Fin 4096) (r : Fin 24576) (hr : r.val = 1024 * (grid0.coords t 0).val + a.val) :
    iblk m c 0 t (ix2 a b) = m ((c : Thread nD τ).loc main_arg0) (ix2 r b) := by
  refine congrArg (m ((c : Thread nD τ).loc main_arg0)) (funext fun e => Fin.ext ?_)
  match e with
  | ⟨0, _⟩ =>
    blk_simp [idx0]
    change (grid0.coords t 0).val * 1024 + a.val = r.val
    omega
  | ⟨1, _⟩ =>
    blk_simp [idx0]

/-- A point's columns of gate weights, at their coordinates. -/
theorem gate_block (t : Fin cfg0.N) (a : Fin 4096) (b : Fin 512) (l : Fin 11264) (hl : l.val = 512 * (grid0.coords t 1).val + b.val) :
    iblk m c 1 t (ix2 a b) = m ((c : Thread nD τ).loc main_arg1) (ix2 a l) := by
  refine congrArg (m ((c : Thread nD τ).loc main_arg1)) (funext fun e => Fin.ext ?_)
  match e with
  | ⟨0, _⟩ =>
    blk_simp [idx1]
  | ⟨1, _⟩ =>
    blk_simp [idx1]
    change (grid0.coords t 1).val * 512 + b.val = l.val
    omega

/-- A point's columns of up weights, at their coordinates. -/
theorem up_block (t : Fin cfg0.N) (a : Fin 4096) (b : Fin 512) (l : Fin 11264) (hl : l.val = 512 * (grid0.coords t 1).val + b.val) :
    iblk m c 2 t (ix2 a b) = m ((c : Thread nD τ).loc main_arg2) (ix2 a l) := by
  refine congrArg (m ((c : Thread nD τ).loc main_arg2)) (funext fun e => Fin.ext ?_)
  match e with
  | ⟨0, _⟩ =>
    blk_simp [idx2]
  | ⟨1, _⟩ =>
    blk_simp [idx2]
    change (grid0.coords t 1).val * 512 + b.val = l.val
    omega

/-- A point's rows of the first weight that is cast, at their coordinates. -/
theorem down_block (t : Fin cfg0.N) (a : Fin 32) (b : Fin 4096) (r : Fin 11008) (hr : r.val = 32 * min t.val 343 + a.val) :
    iblk m c 3 t (ix3 0 a b) = m ((c : Thread nD τ).loc main_arg3) (ix3 0 r b) := by
  refine congrArg (m ((c : Thread nD τ).loc main_arg3)) (funext fun e => Fin.ext ?_)
  match e with
  | ⟨0, _⟩ =>
    blk_simp [idx3]
    rfl
  | ⟨1, _⟩ =>
    blk_simp [idx3]
    change min t.val 343 * 32 + a.val = r.val
    omega
  | ⟨2, _⟩ =>
    blk_simp [idx3]

/-- A point's rows of the second, at their coordinates. -/
theorem proj_block (t : Fin cfg0.N) (a : Fin 32) (b : Fin 7168) (r : Fin 4096) (hr : r.val = 32 * min t.val 127 + a.val) :
    iblk m c 4 t (ix3 0 a b) = m ((c : Thread nD τ).loc main_arg4) (ix3 1 r b) := by
  refine congrArg (m ((c : Thread nD τ).loc main_arg4)) (funext fun e => Fin.ext ?_)
  match e with
  | ⟨0, _⟩ =>
    blk_simp [idx4]
    rfl
  | ⟨1, _⟩ =>
    blk_simp [idx4]
    change min t.val 127 * 32 + a.val = r.val
    omega
  | ⟨2, _⟩ =>
    blk_simp [idx4]

/-- A point's tile of activations, at its coordinates: the reference's there. -/
theorem act_tile (t : Fin cfg0.N) (a : Fin 1024) (b : Fin 512) (r : Fin 24576) (l : Fin 11264)
    (hr : r.val = 1024 * (grid0.coords t 0).val + a.val) (hl : l.val = 512 * (grid0.coords t 1).val + b.val) :
    actTile (grid0.coords t) (iblk m c 0 t) (iblk m c 1 t) (iblk m c 2 t) (ix2 a b)
      = Cert.Reference9Ideal.Read.val_main_v11 (F := Ideal) (m ((c : Thread nD τ).loc main_arg0)) (m ((c : Thread nD τ).loc main_arg1))
          (m ((c : Thread nD τ).loc main_arg2)) (ix2 r l) := by
  have h1 : (grid0.coords t 1).val < 22 := (grid0.coords t 1).isLt
  have hb := b.isLt
  refine Eq.trans ?_ (act_at _ _ _ r l).symm
  have e1 := fun k : Fin 4096 =>
    congrArg₂ (fun x y : EReal => x * y) (rows_block m c t a k r hr) (gate_block m c t k b l hl)
  have e2 := fun k : Fin 4096 =>
    congrArg₂ (fun x y : EReal => x * y) (rows_block m c t a k r hr) (up_block m c t k b l hl)
  unfold actTile
  by_cases h : (grid0.coords t 1).val < 21
  · rw [if_pos ((cond1_col t).2 h), if_pos (by omega)]
    refine (fullTile_at _ _ _ a b).trans ?_
    exact congrArg₂ gated (Finset.sum_congr rfl fun k _ => e1 k) (Finset.sum_congr rfl fun k _ => e2 k)
  · rw [if_neg (fun h' => h ((cond1_col t).1 h'))]
    unfold lastTile
    by_cases hb2 : b.val < 256
    · refine (dif_pos hb2).trans ?_
      rw [if_pos (by omega)]
      refine (halfTile_at _ _ _ a ⟨b.val, hb2⟩).trans ?_
      exact congrArg₂ gated (Finset.sum_congr rfl fun k _ => e1 k) (Finset.sum_congr rfl fun k _ => e2 k)
    · refine (dif_neg hb2).trans ?_
      rw [if_neg (by omega)]
      exact zero_bf16

/-- A point's block of the first cast, at its coordinates: the reference's there. -/
theorem cast_tile (t : Fin cfg0.N) (a : Fin 32) (b : Fin 4096) (r : Fin 11264) (hr : r.val = 32 * min t.val 351 + a.val) :
    castTile (grid0.coords t) (iblk m c 3 t) zeroTile (ix2 a b)
      = Cert.Reference9Ideal.Read.val_main_v15 (F := Ideal) (m ((c : Thread nD τ).loc main_arg3)) (ix2 r b) := by
  have ha := a.isLt
  refine Eq.trans ?_ (cast_at _ r b).symm
  by_cases h : t.val < 344
  · rw [castTile, if_pos ((cond3_iff t).2 h), dif_pos (by omega)]
    refine (castRows_at _ a b).trans ?_
    exact down_block m c t a b _ (by simp only; omega)
  · rw [castTile_late t (by omega), dif_neg (by omega)]
    exact zeroTile_at _

/-- The call's array of activations is the reference's. -/
theorem act_array : (dats m 0 c).arrAt 5 cfg0.N = Cert.Reference9Ideal.Read.val_main_v11 (F := Ideal)
      (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have h0 : (grid0.coords t 0).val < 24 := (grid0.coords t 0).isLt
  have h1 : (grid0.coords t 1).val < 22 := (grid0.coords t 1).isLt
  have e : ((win0_5.blk t).view.emb y : S24576x11264.Idx)
      = ix2 ⟨1024 * (grid0.coords t 0).val + (y 0).val, by have h : (y 0).val < 1024 := (y 0).isLt; omega⟩
          ⟨512 * (grid0.coords t 1).val + (y 1).val, by have h : (y 1).val < 512 := (y 1).isLt; omega⟩ := by
    refine funext fun e => Fin.ext ?_
    match e with
    | ⟨0, _⟩ =>
      blk_simp [idx5]
      change (grid0.coords t 0).val * 1024 + (y 0).val = 1024 * (grid0.coords t 0).val + (y 0).val
      omega
    | ⟨1, _⟩ =>
      blk_simp [idx5]
      change (grid0.coords t 1).val * 512 + (y 1).val = 512 * (grid0.coords t 1).val + (y 1).val
      omega
  refine Eq.trans ?_ (congrArg (Cert.Reference9Ideal.Read.val_main_v11 (F := Ideal)
      (m ((c : Thread nD τ).loc main_arg0)) (m ((c : Thread nD τ).loc main_arg1)) (m ((c : Thread nD τ).loc main_arg2))) e.symm)
  refine Eq.trans ?_ (act_tile m c t (y 0) (y 1) _ _ rfl rfl)
  exact congrArg (actTile (grid0.coords t) (iblk m c 0 t) (iblk m c 1 t) (iblk m c 2 t)) (eq_ix2 y)

/-- The call's first cast weight is the reference's. -/
theorem cast_array : (dats m 0 c).arrAt 6 cfg0.N = Cert.Reference9Ideal.Read.val_main_v15 (F := Ideal) (m ((c : Thread nD τ).loc main_arg3)) := by
  refine (dats m 0 c).arrAt_eq_of_covers 6 _ (by decide +kernel) fun t hf y => ?_
  blk_simp
  have e : ((win0_6.blk t).view.emb y : S11264x4096.Idx)
      = ix2 ⟨32 * min t.val 351 + (y 0).val, by have h : (y 0).val < 32 := (y 0).isLt; omega⟩ (y 1) := by
    refine funext fun e => Fin.ext ?_
    match e with
    | ⟨0, _⟩ =>
      blk_simp [idx6]
      change min t.val 351 * 32 + (y 0).val = 32 * min t.val 351 + (y 0).val
      omega
    | ⟨1, _⟩ =>
      blk_simp [idx6]
      rfl
  refine Eq.trans ?_ (congrArg (Cert.Reference9Ideal.Read.val_main_v15 (F := Ideal) (m ((c : Thread nD τ).loc main_arg3))) e.symm)
  refine Eq.trans ?_ (cast_tile m c t (y 0) (y 1) _ rfl)
  exact congrArg (castTile (grid0.coords t) (iblk m c 3 t) zeroTile) (eq_ix2 y)

/-- The call's second cast weight is the reference's. -/
theorem proj_array : (dats m 0 c).arrAt 7 cfg0.N = Cert.Reference9Ideal.Read.val_main_v18 (F := Ideal) (m ((c : Thread nD τ).loc main_arg4)) := by
  refine (dats m 0 c).arrAt_eq_of_covers 7 _ (by decide +kernel) fun t hf y => ?_
  blk_simp
  have e : ((win0_7.blk t).view.emb y : S4096x7168.Idx)
      = ix2 ⟨32 * min t.val 127 + (y 0).val, by have h : (y 0).val < 32 := (y 0).isLt; omega⟩ (y 1) := by
    refine funext fun e => Fin.ext ?_
    match e with
    | ⟨0, _⟩ =>
      blk_simp [idx7]
      change min t.val 127 * 32 + (y 0).val = 32 * min t.val 127 + (y 0).val
      omega
    | ⟨1, _⟩ =>
      blk_simp [idx7]
      rfl
  refine Eq.trans ?_ (congrArg (Cert.Reference9Ideal.Read.val_main_v18 (F := Ideal) (m ((c : Thread nD τ).loc main_arg4))) e.symm)
  refine Eq.trans (congrArg (projRows (iblk m c 4 (castPoint t))) (eq_ix2 y)) ?_
  refine (projRows_at _ (y 0) (y 1)).trans (Eq.trans ?_ (proj_at _ _ _).symm)
  exact proj_block m c (castPoint t) (y 0) (y 1) _ (by change 32 * min t.val 127 + (y 0).val = 32 * min (min t.val 127) 127 + (y 0).val; omega)

end Cert.Proof.GateTwo

end
-- ==== Proof.GateTwoClaims.lean ====
/-
  The claims about the first layer's gate and up projections' call, each as the statement of the certificate has it.
-/
module

public import proofs.«01_k».proof.Defs
public import proofs.«01_k».proof.Proof.GateTwoFrameBits
public import proofs.«01_k».proof.Proof.GateTwoValue
public import proofs.«01_k».proof.Proof.Gen.Reference9.Run
public import proofs.«01_k».proof.Proof.Gen.Reference9Ideal.Run

@[expose] public section

namespace Cert.Proof.GateTwoClaims

open Idealize.ShloMosaic Idealize.ShloMosaic.TcCoe Idealize.SL.Sem

/-- The call over bit patterns leaves its arguments and every counter as it found them. -/
theorem frame_kernel : Cert.quiescent_Kernel9 := fun m ρ _ => GateTwoBits.frame_runs (F := Bits) m ρ

/-- The call over the extended reals does too. -/
theorem frame_kernelIdeal : Cert.quiescent_Kernel9Ideal := fun m ρ _ => GateTwo.frame_runs (F := Ideal) m ρ

/-- The reference over bit patterns: its arguments as they were; it declares no semaphore. -/
theorem frame_reference : Cert.quiescent_Reference9 := fun m ρ _ =>
  (θ_run Cert.Reference9.defs _ _).mono (fun r h => ⟨fun c => (h c).2.2.2, sem_eq_zero_of_no_sems (by decide) r.2⟩)
    (Cert.Reference9.Value.run (F := Bits) m ρ)

/-- The reference over the extended reals likewise. -/
theorem frame_referenceIdeal : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- Over the extended reals the call and the reference end with the same three arrays, on arguments that agree. -/
theorem algebraic : Cert.algebraic_Kernel9Ideal_Reference9Ideal := by
  intro m ρ m' ρ' _ hagree
  refine ⟨fun c => Cert.Reference9Ideal.Read.val_main_v11 (F := Ideal) (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)),
    fun c => Cert.Reference9Ideal.Read.val_main_v15 (F := Ideal) (m ((c.tc : Thread Cert.Kernel9Ideal.nD Cert.Kernel9Ideal.τ).loc Cert.Kernel9Ideal.main_arg3)),
    fun c => Cert.Reference9Ideal.Read.val_main_v18 (F := Ideal) (m ((c.tc : Thread Cert.Kernel9Ideal.nD Cert.Kernel9Ideal.τ).loc Cert.Kernel9Ideal.main_arg4)), ?_, ?_⟩
  · exact (θ_run Cert.Kernel9Ideal.defs _ _).mono (fun _ h c => ⟨(Pipeline.FramePost.out_eq h.1 c 5).trans (GateTwo.act_array m c),
      (Pipeline.FramePost.out_eq h.1 c 6).trans (GateTwo.cast_array m c),
      (Pipeline.FramePost.out_eq h.1 c 7).trans (GateTwo.proj_array m c), Pipeline.FramePost.in_eq h.1 c 0 rfl, Pipeline.FramePost.in_eq h.1 c 1 rfl,
      Pipeline.FramePost.in_eq h.1 c 2 rfl, Pipeline.FramePost.in_eq h.1 c 3 rfl, Pipeline.FramePost.in_eq h.1 c 4 rfl⟩) (GateTwo.runs (F := Ideal) m ρ)
  · refine (θ_run Cert.Reference9Ideal.defs _ _).mono (fun _ h c => ⟨(h c).1.trans ?_, (h c).2.1.trans ?_, (h c).2.2.1.trans ?_, (h c).2.2.2⟩) (Cert.Reference9Ideal.Value.run (F := Ideal) m' ρ')
    · rw [Cert.Reference9Ideal.Read.val_main_v11_eq, (hagree c).1, (hagree c).2.1, (hagree c).2.2.1]
    · rw [Cert.Reference9Ideal.Read.val_main_v15_eq, (hagree c).2.2.2.1]
    · rw [Cert.Reference9Ideal.Read.val_main_v18_eq, (hagree c).2.2.2.2]

end Cert.Proof.GateTwoClaims

end
-- ==== Proof.FirstValue.lean ====
/-
  What the first layer's residual call leaves in its two result arrays over the extended reals: the reference's sum, and its
  normalisation. The stream's rows come from two arrays, the prompt's for the first 64 points and the sample's for the rest.
-/
module

public import proofs.«01_k».proof.Proof.Rms
public import proofs.«01_k».proof.Proof.Gen.Kernel10Ideal.Frame
public import proofs.«01_k».proof.Proof.Gen.Reference10Ideal.Read
public import Idealize.ShloMosaic.Lib.Pointwise
public import Idealize.ShloMosaic.Lib.Pipeline.Value
public import Idealize.ShloMosaic.Lib.Pipeline.ValueKit.Geometry

@[expose] public section

set_option maxRecDepth 16384

namespace Cert.Proof.First

open Idealize.ShloMosaic Idealize.ShloMosaic.TcCoe Cert.Kernel10Ideal Cert.Kernel10Ideal.Gen Cert.Proof.Rms
open Idealize.ShloMosaic.Pipeline (Dat)
open scoped BigOperators

theorem origin : (![0, 0] : Fin 2 → ℕ) = fun _ => 0 := by decide

/-- Where the sample's rows begin the body takes the second array's block, before that the first's. -/
theorem first_rows : ∀ t : Fin grid0.N, t.val < 64 → Scalar.cmpi .sge (Scalar.addi 0#32 (BitVec.ofNat 32 ((grid0.coords t) 0).val)) 64#32 = 0#1 := by
  decide +kernel

theorem second_rows : ∀ t : Fin grid0.N, ¬t.val < 64 → Scalar.cmpi .sge (Scalar.addi 0#32 (BitVec.ofNat 32 ((grid0.coords t) 0).val)) 64#32 = 1#1 := by
  decide +kernel

/-- A prompt point's block of sums, at its coordinates. -/
theorem sum_first (t : Fin grid0.N) (h : t.val < 64) (x0 : Vec Ideal S256x4096 .bf16) (x1 x2 : Vec Ideal S256x4096 .f32) (x3 x4 : Vec Ideal S1x4096 .f32)
    (a : Fin 256) (b : Fin 4096) :
    out0_5 (grid0.coords t) x0 x1 x2 x3 x4 (ix2 a b)
      = resRow (fun k => x0 (ix2 a k)) (fun k => x1 (ix2 a k)) (fun k => x3 (ix2 0 k)) b := by
  unfold out0_5
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = z := fun y z => by
    rw [first_rows t h]
    rfl
  unfold k0_pay1
  simp only [e]
  pointwise [resRow, rms]

/-- A sample point's. -/
theorem sum_second (t : Fin grid0.N) (h : ¬t.val < 64) (x0 : Vec Ideal S256x4096 .bf16) (x1 x2 : Vec Ideal S256x4096 .f32) (x3 x4 : Vec Ideal S1x4096 .f32)
    (a : Fin 256) (b : Fin 4096) :
    out0_5 (grid0.coords t) x0 x1 x2 x3 x4 (ix2 a b)
      = resRow (fun k => x0 (ix2 a k)) (fun k => x2 (ix2 a k)) (fun k => x3 (ix2 0 k)) b := by
  unfold out0_5
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = y := fun y z => by
    rw [second_rows t h]
    rfl
  unfold k0_pay1
  simp only [e]
  pointwise [resRow, rms]

/-- A prompt point's block of their normalisations, at its coordinates. -/
theorem next_first (t : Fin grid0.N) (h : t.val < 64) (x0 : Vec Ideal S256x4096 .bf16) (x1 x2 : Vec Ideal S256x4096 .f32) (x3 x4 : Vec Ideal S1x4096 .f32)
    (a : Fin 256) (b : Fin 4096) :
    out0_6 (grid0.coords t) x0 x1 x2 x3 x4 (ix2 a b)
      = rms (resRow (fun k => x0 (ix2 a k)) (fun k => x1 (ix2 a k)) (fun k => x3 (ix2 0 k))) b * x4 (ix2 0 b) := by
  unfold out0_6
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = z := fun y z => by
    rw [first_rows t h]
    rfl
  unfold k0_pay2 k0_pay1
  simp only [e]
  pointwise [resRow, rms]

/-- A sample point's. -/
theorem next_second (t : Fin grid0.N) (h : ¬t.val < 64) (x0 : Vec Ideal S256x4096 .bf16) (x1 x2 : Vec Ideal S256x4096 .f32) (x3 x4 : Vec Ideal S1x4096 .f32)
    (a : Fin 256) (b : Fin 4096) :
    out0_6 (grid0.coords t) x0 x1 x2 x3 x4 (ix2 a b)
      = rms (resRow (fun k => x0 (ix2 a k)) (fun k => x2 (ix2 a k)) (fun k => x3 (ix2 0 k))) b * x4 (ix2 0 b) := by
  unfold out0_6
  rw [View.canon_unit_zero origin]
  simp only [View.ld_unit_zero (S := S256x4096) origin, View.ld_unit_zero (S := S1x4096) origin]
  have e : ∀ y z : Vec Ideal S256x4096 .f32,
      Scalar.select (Scalar.cmpi .sge (Scalar.addi 0#32 (BitVec.ofNat 32 ((grid0.coords t) 0).val)) 64#32) y z = y := fun y z => by
    rw [second_rows t h]
    rfl
  unfold k0_pay2 k0_pay1
  simp only [e]
  pointwise [resRow, rms]

section Reference

open Cert.Reference10Ideal.Read

variable (x0 : Vec Ideal S24576x4096 .bf16) (x1 : Vec Ideal S16384x4096 .f32) (x2 : Vec Ideal S8192x4096 .f32) (x3 x4 : Vec Ideal S4096 .f32)

/-- The two arrays under one another: the first's rows. -/
theorem rows_first (r : Fin 24576) (k : Fin 4096) (h : r.val < 16384) : val_main_v0 (F := Ideal) x1 x2 (ix2 r k) = x1 (ix2 ⟨r.val, h⟩ k) := by
  unfold val_main_v0
  exact concatenate_pair_apply_left (t := Cert.Reference10Ideal.S24576x4096) (s₁ := Cert.Reference10Ideal.S16384x4096) (s₂ := Cert.Reference10Ideal.S8192x4096) 0 x1 x2 _ _ rfl _ fun b => match b with | ⟨0, _⟩ => rfl | ⟨1, _⟩ => rfl

/-- And the second's. -/
theorem rows_second (r : Fin 24576) (k : Fin 4096) (h : ¬r.val < 16384) :
    val_main_v0 (F := Ideal) x1 x2 (ix2 r k) = x2 (ix2 ⟨r.val - 16384, by omega⟩ k) := by
  unfold val_main_v0
  refine concatenate_pair_apply_right (t := Cert.Reference10Ideal.S24576x4096) (s₁ := Cert.Reference10Ideal.S16384x4096) (s₂ := Cert.Reference10Ideal.S8192x4096) 0 x1 x2 _ _ rfl rfl _ (fun b hb => ?_) ?_
  · match b with
    | ⟨0, _⟩ => exact absurd rfl hb
    | ⟨1, _⟩ => rfl
  · change r.val - 16384 + 16384 = r.val
    omega

/-- The reference's normalisation of its first argument, at its coordinates. -/
theorem ref_rms (r : Fin 24576) (b : Fin 4096) : val_main_v11 (F := Ideal) x0 (ix2 r b) = rms (fun k => x0 (ix2 r k)) b := by
  rw [val_main_v11_apply, val_main_v10_apply, val_main_v9_apply, val_main_v8_apply, val_main_v7_apply, val_main_v6_apply, val_main_v5_apply,
    val_main_v4_apply, val_main_v3_apply]
  have e : ∀ k : Fin 4096, val_main_v2 (F := Ideal) x0 (idx_main_v3 (idx_main_v4 (idx_main_v10 (ix2 r b))) k) = x0 (ix2 r k) * x0 (ix2 r k) := fun k => by
    rw [val_main_v2_apply, val_main_v1_apply, show idx_main_v3 (idx_main_v4 (idx_main_v10 (ix2 r b))) k = ix2 r k from
      funext fun a => match a with | ⟨0, _⟩ => rfl | ⟨1, _⟩ => rfl]
    rfl
  rw [Finset.sum_congr rfl fun k _ => e k]
  change x0 (ix2 r b) * Ideal.rsqrt (Ideal.div (Ideal.ofBits .f32 0#32 + _) (Ideal.ofBits .f32 0x45800000#32) + Ideal.ofBits .f32 0x358637BD#32) = _
  rw [Ideal.ofBits_zero_f32, zero_add]
  rfl

/-- The reference's sum, at its coordinates. -/
theorem ref_sum (r : Fin 24576) (b : Fin 4096) :
    val_main_v15 (F := Ideal) x0 x1 x2 x3 (ix2 r b) = resRow (fun k => x0 (ix2 r k)) (fun k => val_main_v0 (F := Ideal) x1 x2 (ix2 r k)) (fun k => x3 (ix1 k)) b := by
  rw [val_main_v15_apply, val_main_v14_apply, ref_rms, val_main_v13_apply, val_main_v12_apply]
  refine congrArg (fun y : EReal => val_main_v0 (F := Ideal) x1 x2 (ix2 r b) + rms (fun k => x0 (ix2 r k)) b * y) (congrArg x3 ?_)
  exact funext fun a => match a with | ⟨0, _⟩ => rfl

/-- The normalisation of that sum, at its coordinates. -/
theorem ref_next (r : Fin 24576) (b : Fin 4096) :
    val_main_v29 (F := Ideal) x0 x1 x2 x3 x4 (ix2 r b)
      = rms (resRow (fun k => x0 (ix2 r k)) (fun k => val_main_v0 (F := Ideal) x1 x2 (ix2 r k)) (fun k => x3 (ix1 k))) b * x4 (ix1 b) := by
  rw [val_main_v29_apply, val_main_v28_apply, val_main_v25_apply, val_main_v24_apply, val_main_v23_apply, val_main_v22_apply, val_main_v21_apply,
    val_main_v20_apply, val_main_v19_apply, val_main_v18_apply, val_main_v17_apply, val_main_v27_apply, val_main_v26_apply]
  have e : ∀ k : Fin 4096, val_main_v16 (F := Ideal) x0 x1 x2 x3 (idx_main_v17 (idx_main_v18 (idx_main_v24 (ix2 r b))) k)
      = resRow (fun k => x0 (ix2 r k)) (fun k => val_main_v0 (F := Ideal) x1 x2 (ix2 r k)) (fun k => x3 (ix1 k)) k * resRow (fun k => x0 (ix2 r k)) (fun k => val_main_v0 (F := Ideal) x1 x2 (ix2 r k)) (fun k => x3 (ix1 k)) k := fun k => by
    rw [val_main_v16_apply, show idx_main_v17 (idx_main_v18 (idx_main_v24 (ix2 r b))) k = ix2 r k from
      funext fun a => match a with | ⟨0, _⟩ => rfl | ⟨1, _⟩ => rfl, ref_sum]
    rfl
  rw [Finset.sum_congr rfl fun k _ => e k, ref_sum]
  change resRow _ _ _ b * Ideal.rsqrt (Ideal.div (Ideal.ofBits .f32 0#32 + _) (Ideal.ofBits .f32 0x45800000#32) + Ideal.ofBits .f32 0x358637BD#32) * x4 _ = _
  rw [Ideal.ofBits_zero_f32, zero_add]
  refine congrArg (fun y : EReal => rms (resRow (fun k => x0 (ix2 r k)) (fun k => val_main_v0 (F := Ideal) x1 x2 (ix2 r k)) (fun k => x3 (ix1 k))) b * y) (congrArg x4 ?_)
  exact funext fun a => match a with | ⟨0, _⟩ => rfl

end Reference

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![min t.val 63, 0] := (by decide +kernel : ∀ t : Fin grid0.N, _)
theorem idx2 : ∀ t : Fin cfg0.N, win0_2.index t = ![t.val - 64, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- A point's rows of the branch, at their coordinates. -/
theorem branch_block (t : Fin cfg0.N) (a : Fin 256) (k : Fin 4096) (r : Fin 24576) (hr : r.val = 256 * t.val + a.val) :
    iblk m c 0 t (ix2 a k) = m ((c : Thread nD τ).loc main_arg0) (ix2 r k) := by
  refine Eq.trans ?_ (congrFun (V_main_arg0 m c) (ix2 r k))
  refine congrArg (V m c main_arg0) (funext fun e => Fin.ext ?_)
  match e with
  | ⟨0, _⟩ =>
    blk_simp [idx0]
    change t.val * 256 + a.val = r.val
    omega
  | ⟨1, _⟩ =>
    blk_simp [idx0]

/-- A prompt point's rows, at their coordinates. -/
theorem prompt_block (t : Fin cfg0.N) (h : t.val < 64) (a : Fin 256) (k : Fin 4096) (r : Fin 16384) (hr : r.val = 256 * t.val + a.val) :
    iblk m c 1 t (ix2 a k) = m ((c : Thread nD τ).loc main_arg1) (ix2 r k) := by
  refine Eq.trans ?_ (congrFun (V_main_arg1 m c) (ix2 r k))
  refine congrArg (V m c main_arg1) (funext fun e => Fin.ext ?_)
  match e with
  | ⟨0, _⟩ =>
    blk_simp [idx1]
    change min t.val 63 * 256 + a.val = r.val
    omega
  | ⟨1, _⟩ =>
    blk_simp [idx1]

/-- A sample point's rows, at their coordinates. -/
theorem sample_block (t : Fin cfg0.N) (h : ¬t.val < 64) (a : Fin 256) (k : Fin 4096) (r : Fin 8192) (hr : r.val + 16384 = 256 * t.val + a.val) :
    iblk m c 2 t (ix2 a k) = m ((c : Thread nD τ).loc main_arg2) (ix2 r k) := by
  refine Eq.trans ?_ (congrFun (V_main_arg2 m c) (ix2 r k))
  refine congrArg (V m c main_arg2) (funext fun e => Fin.ext ?_)
  match e with
  | ⟨0, _⟩ =>
    blk_simp [idx2]
    change (t.val - 64) * 256 + a.val = r.val
    omega
  | ⟨1, _⟩ =>
    blk_simp [idx2]

/-- A list of numbers laid out as one row, at its coordinates. -/
theorem row_at (g : Vec Ideal S4096 .f32) (k : Fin 4096) : shapeCast S1x4096 g shapeCasts_S4096_S1x4096 (ix2 0 k) = g (ix1 k) := by
  pointwise

/-- The first gain's row. -/
theorem V_row3 : V m c main_v0 = shapeCast S1x4096 (m ((c : Thread nD τ).loc main_arg3)) shapeCasts_S4096_S1x4096 := by
  unfold_abbrev_sides
  after_results
  rfl

/-- The second gain's row. -/
theorem V_row4 : V m c main_v1 = shapeCast S1x4096 (m ((c : Thread nD τ).loc main_arg4)) shapeCasts_S4096_S1x4096 := by
  unfold_abbrev_sides
  after_results
  rfl

/-- Every point's block of the first gain. -/
theorem post_block (t : Fin cfg0.N) (k : Fin 4096) : iblk m c 3 t (ix2 0 k) = m ((c : Thread nD τ).loc main_arg3) (ix1 k) := by
  refine Eq.trans ?_ ((congrFun (V_row3 m c) (ix2 0 k)).trans (row_at _ k))
  refine congrArg (V m c main_v0) (funext fun e => Fin.ext ?_)
  match e with
  | ⟨0, _⟩ =>
    blk_simp [idx3]
  | ⟨1, _⟩ =>
    blk_simp [idx3]

/-- Every point's block of the second. -/
theorem next_block (t : Fin cfg0.N) (k : Fin 4096) : iblk m c 4 t (ix2 0 k) = m ((c : Thread nD τ).loc main_arg4) (ix1 k) := by
  refine Eq.trans ?_ ((congrFun (V_row4 m c) (ix2 0 k)).trans (row_at _ k))
  refine congrArg (V m c main_v1) (funext fun e => Fin.ext ?_)
  match e with
  | ⟨0, _⟩ =>
    blk_simp [idx4]
  | ⟨1, _⟩ =>
    blk_simp [idx4]

/-- A point leaves the reference's sums in its block. -/
theorem sum_tile (t : Fin cfg0.N) (a : Fin 256) (b : Fin 4096) (r : Fin 24576) (hr : r.val = 256 * t.val + a.val) :
    (dats m 0 c).after 5 t (ix2 a b) = Cert.Reference10Ideal.Read.val_main_v15 (F := Ideal) (m ((c : Thread nD τ).loc main_arg0)) (m ((c : Thread nD τ).loc main_arg1)) (m ((c : Thread nD τ).loc main_arg2)) (m ((c : Thread nD τ).loc main_arg3)) (ix2 r b) := by
  rw [after0_5]
  refine Eq.trans ?_ (ref_sum _ _ _ _ r b).symm
  by_cases h : t.val < 64
  · refine (sum_first t h _ _ _ _ _ a b).trans ?_
    rw [show (fun k : Fin 4096 => iblk m c 0 t (ix2 a k)) = _ from funext fun k => branch_block m c t a k r hr,
      show (fun k : Fin 4096 => iblk m c 1 t (ix2 a k)) = _ from
        funext fun k => prompt_block m c t h a k ⟨r.val, by omega⟩ hr,
      show (fun k : Fin 4096 => iblk m c 3 t (ix2 0 k)) = _ from funext fun k => post_block m c t k,
      show (fun k : Fin 4096 => Cert.Reference10Ideal.Read.val_main_v0 (F := Ideal) (m ((c : Thread nD τ).loc main_arg1)) (m ((c : Thread nD τ).loc main_arg2))
        (ix2 r k)) = _ from funext fun k => rows_first _ _ r k (by omega)]
  · refine (sum_second t h _ _ _ _ _ a b).trans ?_
    rw [show (fun k : Fin 4096 => iblk m c 0 t (ix2 a k)) = _ from funext fun k => branch_block m c t a k r hr,
      show (fun k : Fin 4096 => iblk m c 2 t (ix2 a k)) = _ from
        funext fun k => sample_block m c t h a k ⟨r.val - 16384, by omega⟩ (by change r.val - 16384 + 16384 = _; omega),
      show (fun k : Fin 4096 => iblk m c 3 t (ix2 0 k)) = _ from funext fun k => post_block m c t k,
      show (fun k : Fin 4096 => Cert.Reference10Ideal.Read.val_main_v0 (F := Ideal) (m ((c : Thread nD τ).loc main_arg1)) (m ((c : Thread nD τ).loc main_arg2))
        (ix2 r k)) = _ from funext fun k => rows_second _ _ r k (by omega)]

/-- And their normalisations. -/
theorem next_tile (t : Fin cfg0.N) (a : Fin 256) (b : Fin 4096) (r : Fin 24576) (hr : r.val = 256 * t.val + a.val) :
    (dats m 0 c).after 6 t (ix2 a b) = Cert.Reference10Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
  rw [after0_6]
  refine Eq.trans ?_ (ref_next _ _ _ _ _ r b).symm
  by_cases h : t.val < 64
  · refine (next_first t h _ _ _ _ _ a b).trans ?_
    rw [show (fun k : Fin 4096 => iblk m c 0 t (ix2 a k)) = _ from funext fun k => branch_block m c t a k r hr,
      show (fun k : Fin 4096 => iblk m c 1 t (ix2 a k)) = _ from
        funext fun k => prompt_block m c t h a k ⟨r.val, by omega⟩ hr,
      show (fun k : Fin 4096 => iblk m c 3 t (ix2 0 k)) = _ from funext fun k => post_block m c t k,
      show (fun k : Fin 4096 => Cert.Reference10Ideal.Read.val_main_v0 (F := Ideal) (m ((c : Thread nD τ).loc main_arg1)) (m ((c : Thread nD τ).loc main_arg2))
        (ix2 r k)) = _ from funext fun k => rows_first _ _ r k (by omega)]
    exact congrArg _ (next_block m c t b)
  · refine (next_second t h _ _ _ _ _ a b).trans ?_
    rw [show (fun k : Fin 4096 => iblk m c 0 t (ix2 a k)) = _ from funext fun k => branch_block m c t a k r hr,
      show (fun k : Fin 4096 => iblk m c 2 t (ix2 a k)) = _ from
        funext fun k => sample_block m c t h a k ⟨r.val - 16384, by omega⟩ (by change r.val - 16384 + 16384 = _; omega),
      show (fun k : Fin 4096 => iblk m c 3 t (ix2 0 k)) = _ from funext fun k => post_block m c t k,
      show (fun k : Fin 4096 => Cert.Reference10Ideal.Read.val_main_v0 (F := Ideal) (m ((c : Thread nD τ).loc main_arg1)) (m ((c : Thread nD τ).loc main_arg2))
        (ix2 r k)) = _ from funext fun k => rows_second _ _ r k (by omega)]
    exact congrArg _ (next_block m c t b)

/-- The call's array of sums is the reference's. -/
theorem sum_array : (dats m 0 c).arrAt 5 cfg0.N = Cert.Reference10Ideal.Read.val_main_v15 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 96 := t.isLt
  blk_simp
  have e : ((win0_5.blk t).view.emb y : S24576x4096.Idx)
      = ix2 ⟨256 * t.val + (y 0).val, by have h : (y 0).val < 256 := (y 0).isLt; omega⟩ (y 1) := by
    refine funext fun e => Fin.ext ?_
    match e with
    | ⟨0, _⟩ =>
      blk_simp [idx5]
      change t.val * 256 + (y 0).val = 256 * t.val + (y 0).val
      omega
    | ⟨1, _⟩ =>
      blk_simp [idx5]
      rfl
  refine Eq.trans ?_ (congrArg (Cert.Reference10Ideal.Read.val_main_v15 (F := Ideal) (m ((c : Thread nD τ).loc main_arg0))
      (m ((c : Thread nD τ).loc main_arg1)) (m ((c : Thread nD τ).loc main_arg2)) (m ((c : Thread nD τ).loc main_arg3))) e.symm)
  refine Eq.trans ?_ (sum_tile m c t (y 0) (y 1) _ rfl)
  exact congrArg ((dats m 0 c).after 5 t) (eq_ix2 y)

/-- The call's array of normalisations is the reference's. -/
theorem next_array : (dats m 0 c).arrAt 6 cfg0.N = Cert.Reference10Ideal.Read.val_main_v29 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 96 := t.isLt
  blk_simp
  have e : ((win0_6.blk t).view.emb y : S24576x4096.Idx)
      = ix2 ⟨256 * t.val + (y 0).val, by have h : (y 0).val < 256 := (y 0).isLt; omega⟩ (y 1) := by
    refine funext fun e => Fin.ext ?_
    match e with
    | ⟨0, _⟩ =>
      blk_simp [idx6]
      change t.val * 256 + (y 0).val = 256 * t.val + (y 0).val
      omega
    | ⟨1, _⟩ =>
      blk_simp [idx6]
      rfl
  refine Eq.trans ?_ (congrArg (Cert.Reference10Ideal.Read.val_main_v29 (F := Ideal) (m ((c : Thread nD τ).loc main_arg0))
      (m ((c : Thread nD τ).loc main_arg1)) (m ((c : Thread nD τ).loc main_arg2)) (m ((c : Thread nD τ).loc main_arg3)) (m ((c : Thread nD τ).loc main_arg4))) e.symm)
  refine Eq.trans ?_ (next_tile m c t (y 0) (y 1) _ rfl)
  exact congrArg ((dats m 0 c).after 6 t) (eq_ix2 y)

end Cert.Proof.First

end
-- ==== Proof.FirstClaims.lean ====
/-
  The claims about the first layer's residual call, each as the statement of the certificate has it.
-/
module

public import proofs.«01_k».proof.Defs
public import proofs.«01_k».proof.Proof.FirstValue
public import proofs.«01_k».proof.Proof.Gen.Kernel10.Frame
public import proofs.«01_k».proof.Proof.Gen.Reference10.Run
public import proofs.«01_k».proof.Proof.Gen.Reference10Ideal.Run

@[expose] public section

namespace Cert.Proof.FirstClaims

open Idealize.ShloMosaic Idealize.ShloMosaic.TcCoe Idealize.SL.Sem

/-- The call over bit patterns leaves its arguments and every counter as it found them. -/
theorem frame_kernel : Cert.quiescent_Kernel10 := fun m ρ _ => Cert.Kernel10.Gen.frame (F := Bits) m ρ

/-- The call over the extended reals does too. -/
theorem frame_kernelIdeal : Cert.quiescent_Kernel10Ideal := fun m ρ _ => Cert.Kernel10Ideal.Gen.frame (F := Ideal) m ρ

/-- The reference over bit patterns: its arguments as they were; it declares no semaphore. -/
theorem frame_reference : Cert.quiescent_Reference10 := fun m ρ _ =>
  (θ_run Cert.Reference10.defs _ _).mono (fun r h => ⟨fun c => (h c).2.2, sem_eq_zero_of_no_sems (by decide) r.2⟩)
    (Cert.Reference10.Value.run (F := Bits) m ρ)

/-- The reference over the extended reals likewise. -/
theorem frame_referenceIdeal : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- Over the extended reals the call and the reference end with the same arrays, on arguments that agree. -/
theorem algebraic : Cert.algebraic_Kernel10Ideal_Reference10Ideal := by
  intro m ρ m' ρ' _ hagree
  refine ⟨fun c => Cert.Reference10Ideal.Read.val_main_v15 (F := Ideal) (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3)), fun c => Cert.Reference10Ideal.Read.val_main_v29 (F := Ideal) (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3))
    (m ((c.tc : Thread Cert.Kernel10Ideal.nD Cert.Kernel10Ideal.τ).loc Cert.Kernel10Ideal.main_arg4)), ?_, ?_⟩
  · exact (θ_run Cert.Kernel10Ideal.defs _ _).mono (fun _ h c => ⟨(Pipeline.FramePost.out_eq h c 5).trans (First.sum_array m c), (Pipeline.FramePost.out_eq h c 6).trans (First.next_array m c),
      (Pipeline.FramePost.in_eq h c 0 rfl).trans (Cert.Kernel10Ideal.Gen.V_main_arg0 m c),
      (Pipeline.FramePost.in_eq h c 1 rfl).trans (Cert.Kernel10Ideal.Gen.V_main_arg1 m c),
      (Pipeline.FramePost.in_eq h c 2 rfl).trans (Cert.Kernel10Ideal.Gen.V_main_arg2 m c),
      ((h c).2 Cert.Kernel10Ideal.main_arg3 (Pipeline.mem_restRefs_of Cert.Kernel10Ideal.main_arg3 (by decide) (by decide))).trans (Cert.Kernel10Ideal.Gen.V_main_arg3 m c),
      ((h c).2 Cert.Kernel10Ideal.main_arg4 (Pipeline.mem_restRefs_of Cert.Kernel10Ideal.main_arg4 (by decide) (by decide))).trans (Cert.Kernel10Ideal.Gen.V_main_arg4 m c)⟩) (Cert.Kernel10Ideal.Gen.run_main (F := Ideal) m ρ)
  · refine (θ_run Cert.Reference10Ideal.defs _ _).mono (fun _ h c => ⟨(h c).1.trans ?_, (h c).2.1.trans ?_, (h c).2.2⟩) (Cert.Reference10Ideal.Value.run (F := Ideal) m' ρ')
    · rw [Cert.Reference10Ideal.Read.val_main_v15_eq, (hagree c).1, (hagree c).2.1, (hagree c).2.2.1, (hagree c).2.2.2.1]
    · rw [Cert.Reference10Ideal.Read.val_main_v29_eq, (hagree c).1, (hagree c).2.1, (hagree c).2.2.1, (hagree c).2.2.2.1, (hagree c).2.2.2.2]

end Cert.Proof.FirstClaims

end
-- ==== Proof.CastValue.lean ====
/-
  What the cast's call leaves in its result array over the extended reals: the reference's array. The body's comparisons
  with the array's sizes hold at every point.
-/
module

public import proofs.«01_k».proof.Proof.Gen.Kernel11Ideal.Frame
public import proofs.«01_k».proof.Proof.Gen.Reference11Ideal.Read
public import Idealize.ShloMosaic.Lib.Pointwise
public import Idealize.ShloMosaic.Lib.Pipeline.Value
public import Idealize.ShloMosaic.Lib.Pipeline.ValueKit.Geometry

@[expose] public section

set_option maxRecDepth 16384

namespace Cert.Proof.Cast

open Idealize.ShloMosaic Idealize.ShloMosaic.TcCoe Cert.Kernel11Ideal Cert.Kernel11Ideal.Gen
open Idealize.ShloMosaic.Pipeline (Dat)

theorem origin : (![0, 0] : Fin 2 → ℕ) = fun _ => 0 := by decide

theorem origin3 : (![0, 0, 0] : Fin 3 → ℕ) = fun _ => 0 := by decide

/-- Every row of every block is a row of the array. -/
theorem row_live : ∀ (i : Fin 8) (a : Fin 512),
    IntOp.cmpi .slt (IntOp.addi (Scalar.muli (BitVec.ofNat 32 i.val) 512#32) (BitVec.ofNat 32 a.val)) 4096#32 = 1#1 := by decide +kernel

/-- Every column of every block is a column of the array. -/
theorem col_live : ∀ (j : Fin 7) (b : Fin 1024),
    IntOp.cmpi .slt (IntOp.addi (Scalar.muli (BitVec.ofNat 32 j.val) 1024#32) (BitVec.ofNat 32 b.val)) 7168#32 = 1#1 := by decide +kernel

/-- A point's block, at its coordinates. -/
theorem out_at (t : Fin grid0.N) (x : Vec Ideal S1x512x1024 .f32) (a : Fin 512) (b : Fin 1024) :
    out0_1 (grid0.coords t) x (ix2 a b) = x (ix3 0 a b) := by
  unfold out0_1
  rw [View.canon_unit_zero origin]
  simp only [View.ld_unit_zero (S := S1x512x1024) origin3]
  pointwise [k0_pay1]
  rw [row_live (grid0.coords t 0) a, col_live (grid0.coords t 1) b]
  rfl

variable (m : (ℓ : Loc nD τ sig) → Buf (Elt Ideal) ℓ) (c : Dev nD)

theorem idx0 : ∀ t : Fin cfg0.N, win0_0.index t = ![0, (grid0.coords t 0).val, (grid0.coords t 1).val] := (by decide +kernel : ∀ t : Fin grid0.N, _)
theorem idx1 : ∀ t : Fin cfg0.N, win0_1.index t = ![(grid0.coords t 0).val, (grid0.coords t 1).val] := (by decide +kernel : ∀ t : Fin grid0.N, _)

/-- A point's block of the weight, at its coordinates. -/
theorem weight_block (t : Fin cfg0.N) (a : Fin 512) (b : Fin 1024) (r : Fin 4096) (l : Fin 7168)
    (hr : r.val = 512 * (grid0.coords t 0).val + a.val) (hl : l.val = 1024 * (grid0.coords t 1).val + b.val) :
    iblk m c 0 t (ix3 0 a b) = m ((c : Thread nD τ).loc main_arg0) (ix3 0 r l) := by
  refine congrArg (m ((c : Thread nD τ).loc main_arg0)) (funext fun e => Fin.ext ?_)
  match e with
  | ⟨0, _⟩ =>
    blk_simp [idx0]
    rfl
  | ⟨1, _⟩ =>
    blk_simp [idx0]
    change (grid0.coords t 0).val * 512 + a.val = r.val
    omega
  | ⟨2, _⟩ =>
    blk_simp [idx0]
    change (grid0.coords t 1).val * 1024 + b.val = l.val
    omega

/-- The reference's array, at its coordinates: the first layer's weight. -/
theorem ref_at (x0 : Vec Ideal S2x4096x7168 .f32) (r : Fin 4096) (l : Fin 7168) :
    Cert.Reference11Ideal.Read.val_main_v2 (F := Ideal) x0 (ix2 r l) = x0 (ix3 0 r l) := by
  rw [Cert.Reference11Ideal.Read.val_main_v2_apply, Cert.Reference11Ideal.Read.val_main_v1_apply, Cert.Reference11Ideal.Read.val_main_v0_apply]
  have hr := r.isLt
  have hl := l.isLt
  refine congrArg x0 (funext fun a => Fin.ext ?_)
  match a with
  | ⟨0, _⟩ => rfl
  | ⟨1, _⟩ => show (r.val * 7168 + l.val) / 7168 % 4096 = r.val; omega
  | ⟨2, _⟩ => show (r.val * 7168 + l.val) % 7168 = l.val; omega

/-- The call's array is the reference's. -/
theorem out_array : (dats m 0 c).arrAt 1 cfg0.N
    = Cert.Reference11Ideal.Read.val_main_v2 (F := Ideal) (m ((c : Thread nD τ).loc main_arg0)) := by
  refine (dats m 0 c).arrAt_eq_of_covers 1 _ (by decide +kernel) fun t hf y => ?_
  have h0 : (grid0.coords t 0).val < 8 := (grid0.coords t 0).isLt
  have h1 : (grid0.coords t 1).val < 7 := (grid0.coords t 1).isLt
  blk_simp
  have e : ((win0_1.blk t).view.emb y : S4096x7168.Idx)
      = ix2 ⟨512 * (grid0.coords t 0).val + (y 0).val, by have h : (y 0).val < 512 := (y 0).isLt; omega⟩
          ⟨1024 * (grid0.coords t 1).val + (y 1).val, by have h : (y 1).val < 1024 := (y 1).isLt; omega⟩ := by
    refine funext fun e => Fin.ext ?_
    match e with
    | ⟨0, _⟩ =>
      blk_simp [idx1]
      change (grid0.coords t 0).val * 512 + (y 0).val = 512 * (grid0.coords t 0).val + (y 0).val
      omega
    | ⟨1, _⟩ =>
      blk_simp [idx1]
      change (grid0.coords t 1).val * 1024 + (y 1).val = 1024 * (grid0.coords t 1).val + (y 1).val
      omega
  refine Eq.trans ?_ (congrArg (Cert.Reference11Ideal.Read.val_main_v2 (F := Ideal) (m ((c : Thread nD τ).loc main_arg0))) e.symm)
  refine Eq.trans ?_ (ref_at _ _ _).symm
  refine Eq.trans (congrArg ((dats m 0 c).after 1 t) (eq_ix2 y)) ?_
  rw [after0_1]
  exact (out_at t _ (y 0) (y 1)).trans (weight_block m c t (y 0) (y 1) _ _ rfl rfl)

end Cert.Proof.Cast

end
-- ==== Proof.CastClaims.lean ====
/-
  The claims about the cast's call, each as the statement of the certificate has it.
-/
module

public import proofs.«01_k».proof.Defs
public import proofs.«01_k».proof.Proof.CastValue
public import proofs.«01_k».proof.Proof.Gen.Kernel11.Frame
public import proofs.«01_k».proof.Proof.Gen.Reference11.Run
public import proofs.«01_k».proof.Proof.Gen.Reference11Ideal.Run

@[expose] public section

namespace Cert.Proof.CastClaims

open Idealize.ShloMosaic Idealize.ShloMosaic.TcCoe Idealize.SL.Sem

/-- The call over bit patterns leaves its arguments and every counter as it found them. -/
theorem frame_kernel : Cert.quiescent_Kernel11 := fun m ρ _ => Cert.Kernel11.Gen.frame (F := Bits) m ρ

/-- The call over the extended reals does too. -/
theorem frame_kernelIdeal : Cert.quiescent_Kernel11Ideal := fun m ρ _ => Cert.Kernel11Ideal.Gen.frame (F := Ideal) m ρ

/-- The reference over bit patterns: its arguments as they were; it declares no semaphore. -/
theorem frame_reference : Cert.quiescent_Reference11 := fun m ρ _ =>
  (θ_run Cert.Reference11.defs _ _).mono (fun r h => ⟨fun c => (h c).2, sem_eq_zero_of_no_sems (by decide) r.2⟩)
    (Cert.Reference11.Value.run (F := Bits) m ρ)

/-- The reference over the extended reals likewise. -/
theorem frame_referenceIdeal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Over the extended reals the call and the reference end with the same array, on arguments that agree. -/
theorem algebraic : Cert.algebraic_Kernel11Ideal_Reference11Ideal := by
  intro m ρ m' ρ' _ hagree
  refine ⟨fun c => Cert.Reference11Ideal.Read.val_main_v2 (F := Ideal) (m ((c.tc : Thread Cert.Kernel11Ideal.nD Cert.Kernel11Ideal.τ).loc Cert.Kernel11Ideal.main_arg0)), ?_, ?_⟩
  · exact (θ_run Cert.Kernel11Ideal.defs _ _).mono (fun _ h c => ⟨(Pipeline.FramePost.out_eq h c 1).trans (Cast.out_array m c),
      (Pipeline.FramePost.in_eq h c 0 rfl).trans (Cert.Kernel11Ideal.Gen.V_main_arg0 m c)⟩) (Cert.Kernel11Ideal.Gen.run_main (F := Ideal) m ρ)
  · refine (θ_run Cert.Reference11Ideal.defs _ _).mono (fun _ h c => ⟨(h c).1.trans ?_, (h c).2⟩) (Cert.Reference11Ideal.Value.run (F := Ideal) m' ρ')
    rw [Cert.Reference11Ideal.Read.val_main_v2_eq, hagree c]

end Cert.Proof.CastClaims

end
-- ==== Proof.QkvMath.lean ====
/-
  One head's normalisation and rotary turn over the extended reals. A normalised row is never infinite: where the row is, the
  root is of infinity and its reciprocal nothing. So the part a row of scaled normalised entries loses to its own rounding is
  nothing, whatever the row.
-/
module

public import Idealize.ShloMosaic.PureOps.Ideal
public import Idealize.ShloMosaic.PureOps.Ideal.Laws

@[expose] public section

namespace Cert.Proof.Qkv

open Idealize.ShloMosaic
open scoped BigOperators

/-- A row's entry over the root of the mean of the row's squares. -/
noncomputable def hrms (f : Fin 128 → EReal) (b : Fin 128) : EReal :=
  f b * Ideal.rsqrt (Ideal.div (∑ k, f k * f k) (Ideal.ofBits .f32 0x43000000#32) + Ideal.ofBits .f32 0x358637BD#32)

theorem width : Ideal.ofBits .f32 0x43000000#32 = ((128 : ℝ) : EReal) := by
  have e : BitVec.extractLsb' 31 1 1124073472#32 = 0#1 := by decide
  norm_num [Ideal.ofBits, Ideal.ieee, Nat.shiftRight_eq_div_pow, e]

theorem small : ∃ e : ℝ, 0 < e ∧ Ideal.ofBits .f32 0x358637BD#32 = (e : EReal) := by
  refine ⟨(1 + 407485 / 8388608) * 2 ^ (-20 : ℤ), by positivity, ?_⟩
  have e : BitVec.extractLsb' 31 1 897988541#32 = 0#1 := by decide
  norm_num [Ideal.ofBits, Ideal.ieee, Nat.shiftRight_eq_div_pow, e]

theorem square_nonneg (x : EReal) : 0 ≤ x * x := by
  induction x with
  | bot => simp
  | top => simp
  | coe r => exact_mod_cast mul_self_nonneg r

/-- The reciprocal root of the mean of squares is a real number. -/
theorem root_real (s : EReal) (hs : 0 ≤ s) :
    ∃ r : ℝ, Ideal.rsqrt (Ideal.div s (Ideal.ofBits .f32 0x43000000#32) + Ideal.ofBits .f32 0x358637BD#32) = (r : EReal) := by
  obtain ⟨e, he, hE⟩ := small
  rw [hE, width, Ideal.div_coe (by norm_num)]
  induction s with
  | bot => exact absurd hs (by simp)
  | top =>
    refine ⟨0, ?_⟩
    rw [EReal.top_mul_coe_of_pos (by norm_num), EReal.top_add_coe]
    rfl
  | coe x =>
    have hx : 0 ≤ x := by exact_mod_cast hs
    refine ⟨(Real.sqrt (x * (1 / 128) + e))⁻¹, ?_⟩
    rw [← EReal.coe_mul, ← EReal.coe_add, Ideal.rsqrt_coe, if_neg (by have : 0 ≤ x * (1 / 128) := by positivity
                                                                      linarith),
      if_neg (by have : 0 ≤ x * (1 / 128) := by positivity
                 linarith)]

/-- A normalised entry is a real number. -/
theorem hrms_real (f : Fin 128 → EReal) (b : Fin 128) : ∃ r : ℝ, hrms f b = (r : EReal) := by
  have hle : f b * f b ≤ ∑ k, f k * f k := Finset.single_le_sum (f := fun k => f k * f k) (fun k _ => square_nonneg (f k)) (Finset.mem_univ b)
  unfold hrms
  by_cases h : ∃ x : ℝ, f b = (x : EReal)
  · obtain ⟨x, hx⟩ := h
    obtain ⟨r, hr⟩ := root_real (∑ k, f k * f k) ((square_nonneg (f b)).trans hle)
    exact ⟨x * r, by rw [hr, hx, EReal.coe_mul]⟩
  · have ht : f b * f b = ⊤ := by
      induction hfb : f b with
      | bot => rfl
      | top => rfl
      | coe x => exact absurd ⟨x, hfb⟩ h
    rw [ht, top_le_iff] at hle
    rw [hle]
    obtain ⟨e, he, hE⟩ := small
    refine ⟨0, ?_⟩
    rw [hE, width, Ideal.div_coe (by norm_num), EReal.top_mul_coe_of_pos (by norm_num), EReal.top_add_coe, Ideal.rsqrt_top, mul_zero]
    rfl

/-- A real number less itself. -/
theorem sub_self_real (y : EReal) (h : ∃ r : ℝ, y = (r : EReal)) : y - y = 0 := by
  obtain ⟨r, rfl⟩ := h
  rw [← EReal.coe_sub, sub_self]
  rfl

/-- The products with the matrix that carries each column to its partner: of a row, and of what its rounding loses. -/
theorem partner_sum (y : Fin 256 → EReal) (p : Fin 256 → EReal) (b' : Fin 256) (hy : ∀ k, ∃ r : ℝ, y k = (r : EReal))
    (hp : ∀ k, p k = if k = b' then 1 else 0) : (∑ k, y k * p k) + (∑ k, (y k - y k) * p k) = y b' := by
  rw [Finset.sum_eq_single b' (fun k _ hk => by rw [hp, if_neg hk, mul_zero]) (fun h => absurd (Finset.mem_univ _) h), hp, if_pos rfl, mul_one,
    Finset.sum_eq_zero (fun k _ => by rw [sub_self_real _ (hy k), zero_mul]), add_zero]

/-- A head's entry turned: with its partner 32 places on or back, by the first half's angles or the second's. -/
noncomputable def turn (y : Fin 128 → EReal) (ar ac : Fin 32 → EReal) (b : Fin 128) : EReal :=
  if h : b.val < 64 then
    if h' : b.val < 32 then y b * Ideal.cos (ar ⟨b.val, h'⟩) - y ⟨b.val + 32, by omega⟩ * Ideal.sin (ar ⟨b.val, h'⟩)
    else y b * Ideal.cos (ar ⟨b.val - 32, by omega⟩) + y ⟨b.val - 32, by omega⟩ * Ideal.sin (ar ⟨b.val - 32, by omega⟩)
  else
    if h' : b.val < 96 then y b * Ideal.cos (ac ⟨b.val - 64, by omega⟩) - y ⟨b.val + 32, by omega⟩ * Ideal.sin (ac ⟨b.val - 64, by omega⟩)
    else y b * Ideal.cos (ac ⟨b.val - 96, by omega⟩) + y ⟨b.val - 32, by omega⟩ * Ideal.sin (ac ⟨b.val - 96, by omega⟩)

/-- The table of cosines' entry. -/
noncomputable def cosAt (ar ac : Fin 32 → EReal) (b : Fin 128) : EReal :=
  if h : b.val < 64 then Ideal.cos (ar ⟨b.val % 32, by omega⟩) else Ideal.cos (ac ⟨b.val % 32, by omega⟩)

/-- The table of sines' entry, negated where the partner is 32 places on. -/
noncomputable def sinAt (ar ac : Fin 32 → EReal) (b : Fin 128) : EReal :=
  if h : b.val < 64 then (if b.val % 64 < 32 then -Ideal.sin (ar ⟨b.val % 32, by omega⟩) else Ideal.sin (ar ⟨b.val % 32, by omega⟩))
  else (if b.val % 64 < 32 then -Ideal.sin (ac ⟨b.val % 32, by omega⟩) else Ideal.sin (ac ⟨b.val % 32, by omega⟩))

theorem xor_small : ∀ b : Fin 128, b.val ^^^ 32 = if b.val % 64 < 32 then b.val + 32 else b.val - 32 := by decide +kernel

theorem xor_pair : ∀ b : Fin 256, b.val ^^^ 32 = 128 * (b.val / 128) + ((b.val % 128) ^^^ 32) ∧ (b.val % 128) ^^^ 32 < 128 := by decide +kernel

/-- A head's entry and its partner's, by the two tables. -/
theorem turn_tables (y : Fin 128 → EReal) (ar ac : Fin 32 → EReal) (b b' : Fin 128) (hb : b'.val = b.val ^^^ 32) :
    y b * cosAt ar ac b + y b' * sinAt ar ac b = turn y ar ac b := by
  rw [xor_small b] at hb
  unfold turn cosAt sinAt
  by_cases h : b.val < 64
  · rw [dif_pos h, dif_pos h, dif_pos h]
    by_cases h' : b.val < 32
    · rw [dif_pos h', if_pos (by omega), mul_neg, ← sub_eq_add_neg]
      have e : (⟨b.val % 32, by omega⟩ : Fin 32) = ⟨b.val, h'⟩ := Fin.ext (by dsimp only; omega)
      rw [e, show b' = ⟨b.val + 32, by omega⟩ from Fin.ext (by rw [hb, if_pos (by omega)])]
    · rw [dif_neg h', if_neg (by omega)]
      have e : (⟨b.val % 32, by omega⟩ : Fin 32) = ⟨b.val - 32, by omega⟩ := Fin.ext (by dsimp only; omega)
      rw [e, show b' = ⟨b.val - 32, by omega⟩ from Fin.ext (by rw [hb, if_neg (by omega)])]
  · rw [dif_neg h, dif_neg h, dif_neg h]
    by_cases h' : b.val < 96
    · rw [dif_pos h', if_pos (by omega), mul_neg, ← sub_eq_add_neg]
      have e : (⟨b.val % 32, by omega⟩ : Fin 32) = ⟨b.val - 64, by omega⟩ := Fin.ext (by dsimp only; omega)
      rw [e, show b' = ⟨b.val + 32, by omega⟩ from Fin.ext (by rw [hb, if_pos (by omega)])]
    · rw [dif_neg h', if_neg (by omega)]
      have e : (⟨b.val % 32, by omega⟩ : Fin 32) = ⟨b.val - 96, by omega⟩ := Fin.ext (by dsimp only; omega)
      rw [e, show b' = ⟨b.val - 32, by omega⟩ from Fin.ext (by rw [hb, if_neg (by omega)])]

end Cert.Proof.Qkv

end
-- ==== Proof.QkvLit.lean ====
/-
  The matrix that carries each column of a pair of heads to its rotary partner's, as the program holds it: ones where the row's
  number is the column's with its bit of weight 32 flipped, zeros elsewhere. The program lists the words in tables of 128, two for
  each row.
-/
module

public import proofs.«01_k».proof.Kernel12Ideal

@[expose] public section

set_option maxRecDepth 16384

namespace Cert.Proof.Qkv

open Idealize.ShloMosaic Cert.Kernel12Ideal

/-- Entry `x` of a list of words, zero past its end. -/
def pick (l : List (BitVec 16)) (x : ℕ) : BitVec 16 := l[x]?.getD 0#16

/-- The words that table `j` lists: half of row `j / 2`. -/
def words (j : ℕ) : List (BitVec 16) :=
  (List.range 128).map fun x => if j / 2 = (128 * (j % 2) + x) ^^^ 32 then 0x3F80#16 else 0#16

/-- A table reads its list. -/
theorem pick_table (x : ℕ) (h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : BitVec 16) :
    (match x with
    | 0 => h0
    | 1 => h1
    | 2 => h2
    | 3 => h3
    | 4 => h4
    | 5 => h5
    | 6 => h6
    | 7 => h7
    | 8 => h8
    | 9 => h9
    | 10 => h10
    | 11 => h11
    | 12 => h12
    | 13 => h13
    | 14 => h14
    | 15 => h15
    | 16 => h16
    | 17 => h17
    | 18 => h18
    | 19 => h19
    | 20 => h20
    | 21 => h21
    | 22 => h22
    | 23 => h23
    | 24 => h24
    | 25 => h25
    | 26 => h26
    | 27 => h27
    | 28 => h28
    | 29 => h29
    | 30 => h30
    | 31 => h31
    | 32 => h32
    | 33 => h33
    | 34 => h34
    | 35 => h35
    | 36 => h36
    | 37 => h37
    | 38 => h38
    | 39 => h39
    | 40 => h40
    | 41 => h41
    | 42 => h42
    | 43 => h43
    | 44 => h44
    | 45 => h45
    | 46 => h46
    | 47 => h47
    | 48 => h48
    | 49 => h49
    | 50 => h50
    | 51 => h51
    | 52 => h52
    | 53 => h53
    | 54 => h54
    | 55 => h55
    | 56 => h56
    | 57 => h57
    | 58 => h58
    | 59 => h59
    | 60 => h60
    | 61 => h61
    | 62 => h62
    | 63 => h63
    | 64 => h64
    | 65 => h65
    | 66 => h66
    | 67 => h67
    | 68 => h68
    | 69 => h69
    | 70 => h70
    | 71 => h71
    | 72 => h72
    | 73 => h73
    | 74 => h74
    | 75 => h75
    | 76 => h76
    | 77 => h77
    | 78 => h78
    | 79 => h79
    | 80 => h80
    | 81 => h81
    | 82 => h82
    | 83 => h83
    | 84 => h84
    | 85 => h85
    | 86 => h86
    | 87 => h87
    | 88 => h88
    | 89 => h89
    | 90 => h90
    | 91 => h91
    | 92 => h92
    | 93 => h93
    | 94 => h94
    | 95 => h95
    | 96 => h96
    | 97 => h97
    | 98 => h98
    | 99 => h99
    | 100 => h100
    | 101 => h101
    | 102 => h102
    | 103 => h103
    | 104 => h104
    | 105 => h105
    | 106 => h106
    | 107 => h107
    | 108 => h108
    | 109 => h109
    | 110 => h110
    | 111 => h111
    | 112 => h112
    | 113 => h113
    | 114 => h114
    | 115 => h115
    | 116 => h116
    | 117 => h117
    | 118 => h118
    | 119 => h119
    | 120 => h120
    | 121 => h121
    | 122 => h122
    | 123 => h123
    | 124 => h124
    | 125 => h125
    | 126 => h126
    | 127 => h127
    | _ => 0#16) = pick [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127] x := by
  iterate 128 (rcases x with _ | x; · rfl)
  rfl

theorem table0 (i : ℕ) : lit0t0_0 i = pick (words 0) (i % 128) := (pick_table (i % 128) ..).trans rfl
theorem table1 (i : ℕ) : lit0t0_1 i = pick (words 1) (i % 128) := (pick_table (i % 128) ..).trans rfl
theorem table2 (i : ℕ) : lit0t0_2 i = pick (words 2) (i % 128) := (pick_table (i % 128) ..).trans rfl
theorem table3 (i : ℕ) : lit0t0_3 i = pick (words 3) (i % 128) := (pick_table (i % 128) ..).trans rfl
theorem table4 (i : ℕ) : lit0t0_4 i = pick (words 4) (i % 128) := (pick_table (i % 128) ..).trans rfl
theorem table5 (i : ℕ) : lit0t0_5 i = pick (words 5) (i % 128) := (pick_table (i % 128) ..).trans rfl
theorem table6 (i : ℕ) : lit0t0_6 i = pick (words 6) (i % 128) := (pick_table (i % 128) ..).trans rfl
theorem table7 (i : ℕ) : lit0t0_7 i = pick (words 7) (i % 128) := (pick_table (i % 128) ..).trans rfl
theorem table8 (i : ℕ) : lit0t0_8 i = pick (words 8) (i % 128) := (pick_table (i % 128) ..).trans rfl
theorem table9 (i : ℕ) : lit0t0_9 i = pick (words 9) (i % 128) := (pick_table (i % 128) ..).trans rfl
theorem table10 (i : ℕ) : lit0t0_10 i = pick (words 10) (i % 128) := (pick_table (i % 128) ..).trans rfl
theorem table11 (i : ℕ) : lit0t0_11 i = pick (words 11) (i % 128) := (pick_table (i % 128) ..).trans rfl
theorem table12 (i : ℕ) : lit0t0_12 i = pick (words 12) (i % 128) := (pick_table (i % 128) ..).trans rfl
theorem table13 (i : ℕ) : lit0t0_13 i = pick (words 13) (i % 128) := (pick_table (i % 128) ..).trans rfl
theorem table14 (i : ℕ) : lit0t0_14 i = pick (words 14) (i % 128) := (pick_table (i % 128) ..).trans rfl
theorem table15 (i : ℕ) : lit0t0_15 i = pick (words 15) (i % 128) := (pick_table (i % 128) ..).trans rfl
theorem table16 (i : ℕ) : lit0t0_16 i = pick (words 16) (i % 128) := (pick_table (i % 128) ..).trans rfl
theorem table17 (i : ℕ) : lit0t0_17 i = pick (words 17) (i % 128) := (pick_table (i % 128) ..).trans rfl
theorem table18 (i : ℕ) : lit0t0_18 i = pick (words 18) (i % 128) := (pick_table (i % 128) ..).trans rfl
theorem table19 (i : ℕ) : lit0t0_19 i = pick (words 19) (i % 128) := (pick_table (i % 128) ..).trans rfl
theorem table20 (i : ℕ) : lit0t0_20 i = pick (words 20) (i % 128) := (pick_table (i % 128) ..).trans rfl
theorem table21 (i : ℕ) : lit0t0_21 i = pick (words 21) (i % 128) := (pick_table (i % 128) ..).trans rfl
theorem table22 (i : ℕ) : lit0t0_22 i = pick (words 22) (i % 128) := (pick_table (i % 128) ..).trans rfl
theorem table23 (i : ℕ) : lit0t0_23 i = pick (words 23) (i % 128) := (pick_table (i % 128) ..).trans rfl
theorem table24 (i : ℕ) : lit0t0_24 i = pick (words 24) (i % 128) := (pick_table (i % 128) ..).trans rfl
theorem table25 (i : ℕ) : lit0t0_25 i = pick (words 25) (i % 128) := (pick_table (i % 128) ..).trans rfl
theorem table26 (i : ℕ) : lit0t0_26 i = pick (words 26) (i % 128) := (pick_table (i % 128) ..).trans rfl
theorem table27 (i : ℕ) : lit0t0_27 i = pick (words 27) (i % 128) := (pick_table (i % 128) ..).trans rfl
theorem table28 (i : ℕ) : lit0t0_28 i = pick (words 28) (i % 128) := (pick_table (i % 128) ..).trans rfl
theorem table29 (i : ℕ) : lit0t0_29 i = pick (words 29) (i % 128) := (pick_table (i % 128) ..).trans rfl
theorem table30 (i : ℕ) : lit0t0_30 i = pick (words 30) (i % 128) := (pick_table (i % 128) ..).trans rfl
theorem table31 (i : ℕ) : lit0t0_31 i = pick (words 31) (i % 128) := (pick_table (i % 128) ..).trans rfl
theorem table32 (i : ℕ) : lit0t0_32 i = pick (words 32) (i % 128) := (pick_table (i % 128) ..).trans rfl
theorem table33 (i : ℕ) : lit0t0_33 i = pick (words 33) (i % 128) := (pick_table (i % 128) ..).trans rfl
theorem table34 (i : ℕ) : lit0t0_34 i = pick (words 34) (i % 128) := (pick_table (i % 128) ..).trans rfl
theorem table35 (i : ℕ) : lit0t0_35 i = pick (words 35) (i % 128) := (pick_table (i % 128) ..).trans rfl
theorem table36 (i : ℕ) : lit0t0_36 i = pick (words 36) (i % 128) := (pick_table (i % 128) ..).trans rfl
theorem table37 (i : ℕ) : lit0t0_37 i = pick (words 37) (i % 128) := (pick_table (i % 128) ..).trans rfl
theorem table38 (i : ℕ) : lit0t0_38 i = pick (words 38) (i % 128) := (pick_table (i % 128) ..).trans rfl
theorem table39 (i : ℕ) : lit0t0_39 i = pick (words 39) (i % 128) := (pick_table (i % 128) ..).trans rfl
theorem table40 (i : ℕ) : lit0t0_40 i = pick (words 40) (i % 128) := (pick_table (i % 128) ..).trans rfl
theorem table41 (i : ℕ) : lit0t0_41 i = pick (words 41) (i % 128) := (pick_table (i % 128) ..).trans rfl
theorem table42 (i : ℕ) : lit0t0_42 i = pick (words 42) (i % 128) := (pick_table (i % 128) ..).trans rfl
theorem table43 (i : ℕ) : lit0t0_43 i = pick (words 43) (i % 128) := (pick_table (i % 128) ..).trans rfl
theorem table44 (i : ℕ) : lit0t0_44 i = pick (words 44) (i % 128) := (pick_table (i % 128) ..).trans rfl
theorem table45 (i : ℕ) : lit0t0_45 i = pick (words 45) (i % 128) := (pick_table (i % 128) ..).trans rfl
theorem table46 (i : ℕ) : lit0t0_46 i = pick (words 46) (i % 128) := (pick_table (i % 128) ..).trans rfl
theorem table47 (i : ℕ) : lit0t0_47 i = pick (words 47) (i % 128) := (pick_table (i % 128) ..).trans rfl
theorem table48 (i : ℕ) : lit0t0_48 i = pick (words 48) (i % 128) := (pick_table (i % 128) ..).trans rfl
theorem table49 (i : ℕ) : lit0t0_49 i = pick (words 49) (i % 128) := (pick_table (i % 128) ..).trans rfl
theorem table50 (i : ℕ) : lit0t0_50 i = pick (words 50) (i % 128) := (pick_table (i % 128) ..).trans rfl
theorem table51 (i : ℕ) : lit0t0_51 i = pick (words 51) (i % 128) := (pick_table (i % 128) ..).trans rfl
theorem table52 (i : ℕ) : lit0t0_52 i = pick (words 52) (i % 128) := (pick_table (i % 128) ..).trans rfl
theorem table53 (i : ℕ) : lit0t0_53 i = pick (words 53) (i % 128) := (pick_table (i % 128) ..).trans rfl
theorem table54 (i : ℕ) : lit0t0_54 i = pick (words 54) (i % 128) := (pick_table (i % 128) ..).trans rfl
theorem table55 (i : ℕ) : lit0t0_55 i = pick (words 55) (i % 128) := (pick_table (i % 128) ..).trans rfl
theorem table56 (i : ℕ) : lit0t0_56 i = pick (words 56) (i % 128) := (pick_table (i % 128) ..).trans rfl
theorem table57 (i : ℕ) : lit0t0_57 i = pick (words 57) (i % 128) := (pick_table (i % 128) ..).trans rfl
theorem table58 (i : ℕ) : lit0t0_58 i = pick (words 58) (i % 128) := (pick_table (i % 128) ..).trans rfl
theorem table59 (i : ℕ) : lit0t0_59 i = pick (words 59) (i % 128) := (pick_table (i % 128) ..).trans rfl
theorem table60 (i : ℕ) : lit0t0_60 i = pick (words 60) (i % 128) := (pick_table (i % 128) ..).trans rfl
theorem table61 (i : ℕ) : lit0t0_61 i = pick (words 61) (i % 128) := (pick_table (i % 128) ..).trans rfl
theorem table62 (i : ℕ) : lit0t0_62 i = pick (words 62) (i % 128) := (pick_table (i % 128) ..).trans rfl
theorem table63 (i : ℕ) : lit0t0_63 i = pick (words 63) (i % 128) := (pick_table (i % 128) ..).trans rfl
theorem table64 (i : ℕ) : lit0t0_64 i = pick (words 64) (i % 128) := (pick_table (i % 128) ..).trans rfl
theorem table65 (i : ℕ) : lit0t0_65 i = pick (words 65) (i % 128) := (pick_table (i % 128) ..).trans rfl
theorem table66 (i : ℕ) : lit0t0_66 i = pick (words 66) (i % 128) := (pick_table (i % 128) ..).trans rfl
theorem table67 (i : ℕ) : lit0t0_67 i = pick (words 67) (i % 128) := (pick_table (i % 128) ..).trans rfl
theorem table68 (i : ℕ) : lit0t0_68 i = pick (words 68) (i % 128) := (pick_table (i % 128) ..).trans rfl
theorem table69 (i : ℕ) : lit0t0_69 i = pick (words 69) (i % 128) := (pick_table (i % 128) ..).trans rfl
theorem table70 (i : ℕ) : lit0t0_70 i = pick (words 70) (i % 128) := (pick_table (i % 128) ..).trans rfl
theorem table71 (i : ℕ) : lit0t0_71 i = pick (words 71) (i % 128) := (pick_table (i % 128) ..).trans rfl
theorem table72 (i : ℕ) : lit0t0_72 i = pick (words 72) (i % 128) := (pick_table (i % 128) ..).trans rfl
theorem table73 (i : ℕ) : lit0t0_73 i = pick (words 73) (i % 128) := (pick_table (i % 128) ..).trans rfl
theorem table74 (i : ℕ) : lit0t0_74 i = pick (words 74) (i % 128) := (pick_table (i % 128) ..).trans rfl
theorem table75 (i : ℕ) : lit0t0_75 i = pick (words 75) (i % 128) := (pick_table (i % 128) ..).trans rfl
theorem table76 (i : ℕ) : lit0t0_76 i = pick (words 76) (i % 128) := (pick_table (i % 128) ..).trans rfl
theorem table77 (i : ℕ) : lit0t0_77 i = pick (words 77) (i % 128) := (pick_table (i % 128) ..).trans rfl
theorem table78 (i : ℕ) : lit0t0_78 i = pick (words 78) (i % 128) := (pick_table (i % 128) ..).trans rfl
theorem table79 (i : ℕ) : lit0t0_79 i = pick (words 79) (i % 128) := (pick_table (i % 128) ..).trans rfl
theorem table80 (i : ℕ) : lit0t0_80 i = pick (words 80) (i % 128) := (pick_table (i % 128) ..).trans rfl
theorem table81 (i : ℕ) : lit0t0_81 i = pick (words 81) (i % 128) := (pick_table (i % 128) ..).trans rfl
theorem table82 (i : ℕ) : lit0t0_82 i = pick (words 82) (i % 128) := (pick_table (i % 128) ..).trans rfl
theorem table83 (i : ℕ) : lit0t0_83 i = pick (words 83) (i % 128) := (pick_table (i % 128) ..).trans rfl
theorem table84 (i : ℕ) : lit0t0_84 i = pick (words 84) (i % 128) := (pick_table (i % 128) ..).trans rfl
theorem table85 (i : ℕ) : lit0t0_85 i = pick (words 85) (i % 128) := (pick_table (i % 128) ..).trans rfl
theorem table86 (i : ℕ) : lit0t0_86 i = pick (words 86) (i % 128) := (pick_table (i % 128) ..).trans rfl
theorem table87 (i : ℕ) : lit0t0_87 i = pick (words 87) (i % 128) := (pick_table (i % 128) ..).trans rfl
theorem table88 (i : ℕ) : lit0t0_88 i = pick (words 88) (i % 128) := (pick_table (i % 128) ..).trans rfl
theorem table89 (i : ℕ) : lit0t0_89 i = pick (words 89) (i % 128) := (pick_table (i % 128) ..).trans rfl
theorem table90 (i : ℕ) : lit0t0_90 i = pick (words 90) (i % 128) := (pick_table (i % 128) ..).trans rfl
theorem table91 (i : ℕ) : lit0t0_91 i = pick (words 91) (i % 128) := (pick_table (i % 128) ..).trans rfl
theorem table92 (i : ℕ) : lit0t0_92 i = pick (words 92) (i % 128) := (pick_table (i % 128) ..).trans rfl
theorem table93 (i : ℕ) : lit0t0_93 i = pick (words 93) (i % 128) := (pick_table (i % 128) ..).trans rfl
theorem table94 (i : ℕ) : lit0t0_94 i = pick (words 94) (i % 128) := (pick_table (i % 128) ..).trans rfl
theorem table95 (i : ℕ) : lit0t0_95 i = pick (words 95) (i % 128) := (pick_table (i % 128) ..).trans rfl
theorem table96 (i : ℕ) : lit0t0_96 i = pick (words 96) (i % 128) := (pick_table (i % 128) ..).trans rfl
theorem table97 (i : ℕ) : lit0t0_97 i = pick (words 97) (i % 128) := (pick_table (i % 128) ..).trans rfl
theorem table98 (i : ℕ) : lit0t0_98 i = pick (words 98) (i % 128) := (pick_table (i % 128) ..).trans rfl
theorem table99 (i : ℕ) : lit0t0_99 i = pick (words 99) (i % 128) := (pick_table (i % 128) ..).trans rfl
theorem table100 (i : ℕ) : lit0t0_100 i = pick (words 100) (i % 128) := (pick_table (i % 128) ..).trans rfl
theorem table101 (i : ℕ) : lit0t0_101 i = pick (words 101) (i % 128) := (pick_table (i % 128) ..).trans rfl
theorem table102 (i : ℕ) : lit0t0_102 i = pick (words 102) (i % 128) := (pick_table (i % 128) ..).trans rfl
theorem table103 (i : ℕ) : lit0t0_103 i = pick (words 103) (i % 128) := (pick_table (i % 128) ..).trans rfl
theorem table104 (i : ℕ) : lit0t0_104 i = pick (words 104) (i % 128) := (pick_table (i % 128) ..).trans rfl
theorem table105 (i : ℕ) : lit0t0_105 i = pick (words 105) (i % 128) := (pick_table (i % 128) ..).trans rfl
theorem table106 (i : ℕ) : lit0t0_106 i = pick (words 106) (i % 128) := (pick_table (i % 128) ..).trans rfl
theorem table107 (i : ℕ) : lit0t0_107 i = pick (words 107) (i % 128) := (pick_table (i % 128) ..).trans rfl
theorem table108 (i : ℕ) : lit0t0_108 i = pick (words 108) (i % 128) := (pick_table (i % 128) ..).trans rfl
theorem table109 (i : ℕ) : lit0t0_109 i = pick (words 109) (i % 128) := (pick_table (i % 128) ..).trans rfl
theorem table110 (i : ℕ) : lit0t0_110 i = pick (words 110) (i % 128) := (pick_table (i % 128) ..).trans rfl
theorem table111 (i : ℕ) : lit0t0_111 i = pick (words 111) (i % 128) := (pick_table (i % 128) ..).trans rfl
theorem table112 (i : ℕ) : lit0t0_112 i = pick (words 112) (i % 128) := (pick_table (i % 128) ..).trans rfl
theorem table113 (i : ℕ) : lit0t0_113 i = pick (words 113) (i % 128) := (pick_table (i % 128) ..).trans rfl
theorem table114 (i : ℕ) : lit0t0_114 i = pick (words 114) (i % 128) := (pick_table (i % 128) ..).trans rfl
theorem table115 (i : ℕ) : lit0t0_115 i = pick (words 115) (i % 128) := (pick_table (i % 128) ..).trans rfl
theorem table116 (i : ℕ) : lit0t0_116 i = pick (words 116) (i % 128) := (pick_table (i % 128) ..).trans rfl
theorem table117 (i : ℕ) : lit0t0_117 i = pick (words 117) (i % 128) := (pick_table (i % 128) ..).trans rfl
theorem table118 (i : ℕ) : lit0t0_118 i = pick (words 118) (i % 128) := (pick_table (i % 128) ..).trans rfl
theorem table119 (i : ℕ) : lit0t0_119 i = pick (words 119) (i % 128) := (pick_table (i % 128) ..).trans rfl
theorem table120 (i : ℕ) : lit0t0_120 i = pick (words 120) (i % 128) := (pick_table (i % 128) ..).trans rfl
theorem table121 (i : ℕ) : lit0t0_121 i = pick (words 121) (i % 128) := (pick_table (i % 128) ..).trans rfl
theorem table122 (i : ℕ) : lit0t0_122 i = pick (words 122) (i % 128) := (pick_table (i % 128) ..).trans rfl
theorem table123 (i : ℕ) : lit0t0_123 i = pick (words 123) (i % 128) := (pick_table (i % 128) ..).trans rfl
theorem table124 (i : ℕ) : lit0t0_124 i = pick (words 124) (i % 128) := (pick_table (i % 128) ..).trans rfl
theorem table125 (i : ℕ) : lit0t0_125 i = pick (words 125) (i % 128) := (pick_table (i % 128) ..).trans rfl
theorem table126 (i : ℕ) : lit0t0_126 i = pick (words 126) (i % 128) := (pick_table (i % 128) ..).trans rfl
theorem table127 (i : ℕ) : lit0t0_127 i = pick (words 127) (i % 128) := (pick_table (i % 128) ..).trans rfl
theorem table128 (i : ℕ) : lit0t0_128 i = pick (words 128) (i % 128) := (pick_table (i % 128) ..).trans rfl
theorem table129 (i : ℕ) : lit0t0_129 i = pick (words 129) (i % 128) := (pick_table (i % 128) ..).trans rfl
theorem table130 (i : ℕ) : lit0t0_130 i = pick (words 130) (i % 128) := (pick_table (i % 128) ..).trans rfl
theorem table131 (i : ℕ) : lit0t0_131 i = pick (words 131) (i % 128) := (pick_table (i % 128) ..).trans rfl
theorem table132 (i : ℕ) : lit0t0_132 i = pick (words 132) (i % 128) := (pick_table (i % 128) ..).trans rfl
theorem table133 (i : ℕ) : lit0t0_133 i = pick (words 133) (i % 128) := (pick_table (i % 128) ..).trans rfl
theorem table134 (i : ℕ) : lit0t0_134 i = pick (words 134) (i % 128) := (pick_table (i % 128) ..).trans rfl
theorem table135 (i : ℕ) : lit0t0_135 i = pick (words 135) (i % 128) := (pick_table (i % 128) ..).trans rfl
theorem table136 (i : ℕ) : lit0t0_136 i = pick (words 136) (i % 128) := (pick_table (i % 128) ..).trans rfl
theorem table137 (i : ℕ) : lit0t0_137 i = pick (words 137) (i % 128) := (pick_table (i % 128) ..).trans rfl
theorem table138 (i : ℕ) : lit0t0_138 i = pick (words 138) (i % 128) := (pick_table (i % 128) ..).trans rfl
theorem table139 (i : ℕ) : lit0t0_139 i = pick (words 139) (i % 128) := (pick_table (i % 128) ..).trans rfl
theorem table140 (i : ℕ) : lit0t0_140 i = pick (words 140) (i % 128) := (pick_table (i % 128) ..).trans rfl
theorem table141 (i : ℕ) : lit0t0_141 i = pick (words 141) (i % 128) := (pick_table (i % 128) ..).trans rfl
theorem table142 (i : ℕ) : lit0t0_142 i = pick (words 142) (i % 128) := (pick_table (i % 128) ..).trans rfl
theorem table143 (i : ℕ) : lit0t0_143 i = pick (words 143) (i % 128) := (pick_table (i % 128) ..).trans rfl
theorem table144 (i : ℕ) : lit0t0_144 i = pick (words 144) (i % 128) := (pick_table (i % 128) ..).trans rfl
theorem table145 (i : ℕ) : lit0t0_145 i = pick (words 145) (i % 128) := (pick_table (i % 128) ..).trans rfl
theorem table146 (i : ℕ) : lit0t0_146 i = pick (words 146) (i % 128) := (pick_table (i % 128) ..).trans rfl
theorem table147 (i : ℕ) : lit0t0_147 i = pick (words 147) (i % 128) := (pick_table (i % 128) ..).trans rfl
theorem table148 (i : ℕ) : lit0t0_148 i = pick (words 148) (i % 128) := (pick_table (i % 128) ..).trans rfl
theorem table149 (i : ℕ) : lit0t0_149 i = pick (words 149) (i % 128) := (pick_table (i % 128) ..).trans rfl
theorem table150 (i : ℕ) : lit0t0_150 i = pick (words 150) (i % 128) := (pick_table (i % 128) ..).trans rfl
theorem table151 (i : ℕ) : lit0t0_151 i = pick (words 151) (i % 128) := (pick_table (i % 128) ..).trans rfl
theorem table152 (i : ℕ) : lit0t0_152 i = pick (words 152) (i % 128) := (pick_table (i % 128) ..).trans rfl
theorem table153 (i : ℕ) : lit0t0_153 i = pick (words 153) (i % 128) := (pick_table (i % 128) ..).trans rfl
theorem table154 (i : ℕ) : lit0t0_154 i = pick (words 154) (i % 128) := (pick_table (i % 128) ..).trans rfl
theorem table155 (i : ℕ) : lit0t0_155 i = pick (words 155) (i % 128) := (pick_table (i % 128) ..).trans rfl
theorem table156 (i : ℕ) : lit0t0_156 i = pick (words 156) (i % 128) := (pick_table (i % 128) ..).trans rfl
theorem table157 (i : ℕ) : lit0t0_157 i = pick (words 157) (i % 128) := (pick_table (i % 128) ..).trans rfl
theorem table158 (i : ℕ) : lit0t0_158 i = pick (words 158) (i % 128) := (pick_table (i % 128) ..).trans rfl
theorem table159 (i : ℕ) : lit0t0_159 i = pick (words 159) (i % 128) := (pick_table (i % 128) ..).trans rfl
theorem table160 (i : ℕ) : lit0t0_160 i = pick (words 160) (i % 128) := (pick_table (i % 128) ..).trans rfl
theorem table161 (i : ℕ) : lit0t0_161 i = pick (words 161) (i % 128) := (pick_table (i % 128) ..).trans rfl
theorem table162 (i : ℕ) : lit0t0_162 i = pick (words 162) (i % 128) := (pick_table (i % 128) ..).trans rfl
theorem table163 (i : ℕ) : lit0t0_163 i = pick (words 163) (i % 128) := (pick_table (i % 128) ..).trans rfl
theorem table164 (i : ℕ) : lit0t0_164 i = pick (words 164) (i % 128) := (pick_table (i % 128) ..).trans rfl
theorem table165 (i : ℕ) : lit0t0_165 i = pick (words 165) (i % 128) := (pick_table (i % 128) ..).trans rfl
theorem table166 (i : ℕ) : lit0t0_166 i = pick (words 166) (i % 128) := (pick_table (i % 128) ..).trans rfl
theorem table167 (i : ℕ) : lit0t0_167 i = pick (words 167) (i % 128) := (pick_table (i % 128) ..).trans rfl
theorem table168 (i : ℕ) : lit0t0_168 i = pick (words 168) (i % 128) := (pick_table (i % 128) ..).trans rfl
theorem table169 (i : ℕ) : lit0t0_169 i = pick (words 169) (i % 128) := (pick_table (i % 128) ..).trans rfl
theorem table170 (i : ℕ) : lit0t0_170 i = pick (words 170) (i % 128) := (pick_table (i % 128) ..).trans rfl
theorem table171 (i : ℕ) : lit0t0_171 i = pick (words 171) (i % 128) := (pick_table (i % 128) ..).trans rfl
theorem table172 (i : ℕ) : lit0t0_172 i = pick (words 172) (i % 128) := (pick_table (i % 128) ..).trans rfl
theorem table173 (i : ℕ) : lit0t0_173 i = pick (words 173) (i % 128) := (pick_table (i % 128) ..).trans rfl
theorem table174 (i : ℕ) : lit0t0_174 i = pick (words 174) (i % 128) := (pick_table (i % 128) ..).trans rfl
theorem table175 (i : ℕ) : lit0t0_175 i = pick (words 175) (i % 128) := (pick_table (i % 128) ..).trans rfl
theorem table176 (i : ℕ) : lit0t0_176 i = pick (words 176) (i % 128) := (pick_table (i % 128) ..).trans rfl
theorem table177 (i : ℕ) : lit0t0_177 i = pick (words 177) (i % 128) := (pick_table (i % 128) ..).trans rfl
theorem table178 (i : ℕ) : lit0t0_178 i = pick (words 178) (i % 128) := (pick_table (i % 128) ..).trans rfl
theorem table179 (i : ℕ) : lit0t0_179 i = pick (words 179) (i % 128) := (pick_table (i % 128) ..).trans rfl
theorem table180 (i : ℕ) : lit0t0_180 i = pick (words 180) (i % 128) := (pick_table (i % 128) ..).trans rfl
theorem table181 (i : ℕ) : lit0t0_181 i = pick (words 181) (i % 128) := (pick_table (i % 128) ..).trans rfl
theorem table182 (i : ℕ) : lit0t0_182 i = pick (words 182) (i % 128) := (pick_table (i % 128) ..).trans rfl
theorem table183 (i : ℕ) : lit0t0_183 i = pick (words 183) (i % 128) := (pick_table (i % 128) ..).trans rfl
theorem table184 (i : ℕ) : lit0t0_184 i = pick (words 184) (i % 128) := (pick_table (i % 128) ..).trans rfl
theorem table185 (i : ℕ) : lit0t0_185 i = pick (words 185) (i % 128) := (pick_table (i % 128) ..).trans rfl
theorem table186 (i : ℕ) : lit0t0_186 i = pick (words 186) (i % 128) := (pick_table (i % 128) ..).trans rfl
theorem table187 (i : ℕ) : lit0t0_187 i = pick (words 187) (i % 128) := (pick_table (i % 128) ..).trans rfl
theorem table188 (i : ℕ) : lit0t0_188 i = pick (words 188) (i % 128) := (pick_table (i % 128) ..).trans rfl
theorem table189 (i : ℕ) : lit0t0_189 i = pick (words 189) (i % 128) := (pick_table (i % 128) ..).trans rfl
theorem table190 (i : ℕ) : lit0t0_190 i = pick (words 190) (i % 128) := (pick_table (i % 128) ..).trans rfl
theorem table191 (i : ℕ) : lit0t0_191 i = pick (words 191) (i % 128) := (pick_table (i % 128) ..).trans rfl
theorem table192 (i : ℕ) : lit0t0_192 i = pick (words 192) (i % 128) := (pick_table (i % 128) ..).trans rfl
theorem table193 (i : ℕ) : lit0t0_193 i = pick (words 193) (i % 128) := (pick_table (i % 128) ..).trans rfl
theorem table194 (i : ℕ) : lit0t0_194 i = pick (words 194) (i % 128) := (pick_table (i % 128) ..).trans rfl
theorem table195 (i : ℕ) : lit0t0_195 i = pick (words 195) (i % 128) := (pick_table (i % 128) ..).trans rfl
theorem table196 (i : ℕ) : lit0t0_196 i = pick (words 196) (i % 128) := (pick_table (i % 128) ..).trans rfl
theorem table197 (i : ℕ) : lit0t0_197 i = pick (words 197) (i % 128) := (pick_table (i % 128) ..).trans rfl
theorem table198 (i : ℕ) : lit0t0_198 i = pick (words 198) (i % 128) := (pick_table (i % 128) ..).trans rfl
theorem table199 (i : ℕ) : lit0t0_199 i = pick (words 199) (i % 128) := (pick_table (i % 128) ..).trans rfl
theorem table200 (i : ℕ) : lit0t0_200 i = pick (words 200) (i % 128) := (pick_table (i % 128) ..).trans rfl
theorem table201 (i : ℕ) : lit0t0_201 i = pick (words 201) (i % 128) := (pick_table (i % 128) ..).trans rfl
theorem table202 (i : ℕ) : lit0t0_202 i = pick (words 202) (i % 128) := (pick_table (i % 128) ..).trans rfl
theorem table203 (i : ℕ) : lit0t0_203 i = pick (words 203) (i % 128) := (pick_table (i % 128) ..).trans rfl
theorem table204 (i : ℕ) : lit0t0_204 i = pick (words 204) (i % 128) := (pick_table (i % 128) ..).trans rfl
theorem table205 (i : ℕ) : lit0t0_205 i = pick (words 205) (i % 128) := (pick_table (i % 128) ..).trans rfl
theorem table206 (i : ℕ) : lit0t0_206 i = pick (words 206) (i % 128) := (pick_table (i % 128) ..).trans rfl
theorem table207 (i : ℕ) : lit0t0_207 i = pick (words 207) (i % 128) := (pick_table (i % 128) ..).trans rfl
theorem table208 (i : ℕ) : lit0t0_208 i = pick (words 208) (i % 128) := (pick_table (i % 128) ..).trans rfl
theorem table209 (i : ℕ) : lit0t0_209 i = pick (words 209) (i % 128) := (pick_table (i % 128) ..).trans rfl
theorem table210 (i : ℕ) : lit0t0_210 i = pick (words 210) (i % 128) := (pick_table (i % 128) ..).trans rfl
theorem table211 (i : ℕ) : lit0t0_211 i = pick (words 211) (i % 128) := (pick_table (i % 128) ..).trans rfl
theorem table212 (i : ℕ) : lit0t0_212 i = pick (words 212) (i % 128) := (pick_table (i % 128) ..).trans rfl
theorem table213 (i : ℕ) : lit0t0_213 i = pick (words 213) (i % 128) := (pick_table (i % 128) ..).trans rfl
theorem table214 (i : ℕ) : lit0t0_214 i = pick (words 214) (i % 128) := (pick_table (i % 128) ..).trans rfl
theorem table215 (i : ℕ) : lit0t0_215 i = pick (words 215) (i % 128) := (pick_table (i % 128) ..).trans rfl
theorem table216 (i : ℕ) : lit0t0_216 i = pick (words 216) (i % 128) := (pick_table (i % 128) ..).trans rfl
theorem table217 (i : ℕ) : lit0t0_217 i = pick (words 217) (i % 128) := (pick_table (i % 128) ..).trans rfl
theorem table218 (i : ℕ) : lit0t0_218 i = pick (words 218) (i % 128) := (pick_table (i % 128) ..).trans rfl
theorem table219 (i : ℕ) : lit0t0_219 i = pick (words 219) (i % 128) := (pick_table (i % 128) ..).trans rfl
theorem table220 (i : ℕ) : lit0t0_220 i = pick (words 220) (i % 128) := (pick_table (i % 128) ..).trans rfl
theorem table221 (i : ℕ) : lit0t0_221 i = pick (words 221) (i % 128) := (pick_table (i % 128) ..).trans rfl
theorem table222 (i : ℕ) : lit0t0_222 i = pick (words 222) (i % 128) := (pick_table (i % 128) ..).trans rfl
theorem table223 (i : ℕ) : lit0t0_223 i = pick (words 223) (i % 128) := (pick_table (i % 128) ..).trans rfl
theorem table224 (i : ℕ) : lit0t0_224 i = pick (words 224) (i % 128) := (pick_table (i % 128) ..).trans rfl
theorem table225 (i : ℕ) : lit0t0_225 i = pick (words 225) (i % 128) := (pick_table (i % 128) ..).trans rfl
theorem table226 (i : ℕ) : lit0t0_226 i = pick (words 226) (i % 128) := (pick_table (i % 128) ..).trans rfl
theorem table227 (i : ℕ) : lit0t0_227 i = pick (words 227) (i % 128) := (pick_table (i % 128) ..).trans rfl
theorem table228 (i : ℕ) : lit0t0_228 i = pick (words 228) (i % 128) := (pick_table (i % 128) ..).trans rfl
theorem table229 (i : ℕ) : lit0t0_229 i = pick (words 229) (i % 128) := (pick_table (i % 128) ..).trans rfl
theorem table230 (i : ℕ) : lit0t0_230 i = pick (words 230) (i % 128) := (pick_table (i % 128) ..).trans rfl
theorem table231 (i : ℕ) : lit0t0_231 i = pick (words 231) (i % 128) := (pick_table (i % 128) ..).trans rfl
theorem table232 (i : ℕ) : lit0t0_232 i = pick (words 232) (i % 128) := (pick_table (i % 128) ..).trans rfl
theorem table233 (i : ℕ) : lit0t0_233 i = pick (words 233) (i % 128) := (pick_table (i % 128) ..).trans rfl
theorem table234 (i : ℕ) : lit0t0_234 i = pick (words 234) (i % 128) := (pick_table (i % 128) ..).trans rfl
theorem table235 (i : ℕ) : lit0t0_235 i = pick (words 235) (i % 128) := (pick_table (i % 128) ..).trans rfl
theorem table236 (i : ℕ) : lit0t0_236 i = pick (words 236) (i % 128) := (pick_table (i % 128) ..).trans rfl
theorem table237 (i : ℕ) : lit0t0_237 i = pick (words 237) (i % 128) := (pick_table (i % 128) ..).trans rfl
theorem table238 (i : ℕ) : lit0t0_238 i = pick (words 238) (i % 128) := (pick_table (i % 128) ..).trans rfl
theorem table239 (i : ℕ) : lit0t0_239 i = pick (words 239) (i % 128) := (pick_table (i % 128) ..).trans rfl
theorem table240 (i : ℕ) : lit0t0_240 i = pick (words 240) (i % 128) := (pick_table (i % 128) ..).trans rfl
theorem table241 (i : ℕ) : lit0t0_241 i = pick (words 241) (i % 128) := (pick_table (i % 128) ..).trans rfl
theorem table242 (i : ℕ) : lit0t0_242 i = pick (words 242) (i % 128) := (pick_table (i % 128) ..).trans rfl
theorem table243 (i : ℕ) : lit0t0_243 i = pick (words 243) (i % 128) := (pick_table (i % 128) ..).trans rfl
theorem table244 (i : ℕ) : lit0t0_244 i = pick (words 244) (i % 128) := (pick_table (i % 128) ..).trans rfl
theorem table245 (i : ℕ) : lit0t0_245 i = pick (words 245) (i % 128) := (pick_table (i % 128) ..).trans rfl
theorem table246 (i : ℕ) : lit0t0_246 i = pick (words 246) (i % 128) := (pick_table (i % 128) ..).trans rfl
theorem table247 (i : ℕ) : lit0t0_247 i = pick (words 247) (i % 128) := (pick_table (i % 128) ..).trans rfl
theorem table248 (i : ℕ) : lit0t0_248 i = pick (words 248) (i % 128) := (pick_table (i % 128) ..).trans rfl
theorem table249 (i : ℕ) : lit0t0_249 i = pick (words 249) (i % 128) := (pick_table (i % 128) ..).trans rfl
theorem table250 (i : ℕ) : lit0t0_250 i = pick (words 250) (i % 128) := (pick_table (i % 128) ..).trans rfl
theorem table251 (i : ℕ) : lit0t0_251 i = pick (words 251) (i % 128) := (pick_table (i % 128) ..).trans rfl
theorem table252 (i : ℕ) : lit0t0_252 i = pick (words 252) (i % 128) := (pick_table (i % 128) ..).trans rfl
theorem table253 (i : ℕ) : lit0t0_253 i = pick (words 253) (i % 128) := (pick_table (i % 128) ..).trans rfl
theorem table254 (i : ℕ) : lit0t0_254 i = pick (words 254) (i % 128) := (pick_table (i % 128) ..).trans rfl
theorem table255 (i : ℕ) : lit0t0_255 i = pick (words 255) (i % 128) := (pick_table (i % 128) ..).trans rfl
theorem table256 (i : ℕ) : lit0t0_256 i = pick (words 256) (i % 128) := (pick_table (i % 128) ..).trans rfl
theorem table257 (i : ℕ) : lit0t0_257 i = pick (words 257) (i % 128) := (pick_table (i % 128) ..).trans rfl
theorem table258 (i : ℕ) : lit0t0_258 i = pick (words 258) (i % 128) := (pick_table (i % 128) ..).trans rfl
theorem table259 (i : ℕ) : lit0t0_259 i = pick (words 259) (i % 128) := (pick_table (i % 128) ..).trans rfl
theorem table260 (i : ℕ) : lit0t0_260 i = pick (words 260) (i % 128) := (pick_table (i % 128) ..).trans rfl
theorem table261 (i : ℕ) : lit0t0_261 i = pick (words 261) (i % 128) := (pick_table (i % 128) ..).trans rfl
theorem table262 (i : ℕ) : lit0t0_262 i = pick (words 262) (i % 128) := (pick_table (i % 128) ..).trans rfl
theorem table263 (i : ℕ) : lit0t0_263 i = pick (words 263) (i % 128) := (pick_table (i % 128) ..).trans rfl
theorem table264 (i : ℕ) : lit0t0_264 i = pick (words 264) (i % 128) := (pick_table (i % 128) ..).trans rfl
theorem table265 (i : ℕ) : lit0t0_265 i = pick (words 265) (i % 128) := (pick_table (i % 128) ..).trans rfl
theorem table266 (i : ℕ) : lit0t0_266 i = pick (words 266) (i % 128) := (pick_table (i % 128) ..).trans rfl
theorem table267 (i : ℕ) : lit0t0_267 i = pick (words 267) (i % 128) := (pick_table (i % 128) ..).trans rfl
theorem table268 (i : ℕ) : lit0t0_268 i = pick (words 268) (i % 128) := (pick_table (i % 128) ..).trans rfl
theorem table269 (i : ℕ) : lit0t0_269 i = pick (words 269) (i % 128) := (pick_table (i % 128) ..).trans rfl
theorem table270 (i : ℕ) : lit0t0_270 i = pick (words 270) (i % 128) := (pick_table (i % 128) ..).trans rfl
theorem table271 (i : ℕ) : lit0t0_271 i = pick (words 271) (i % 128) := (pick_table (i % 128) ..).trans rfl
theorem table272 (i : ℕ) : lit0t0_272 i = pick (words 272) (i % 128) := (pick_table (i % 128) ..).trans rfl
theorem table273 (i : ℕ) : lit0t0_273 i = pick (words 273) (i % 128) := (pick_table (i % 128) ..).trans rfl
theorem table274 (i : ℕ) : lit0t0_274 i = pick (words 274) (i % 128) := (pick_table (i % 128) ..).trans rfl
theorem table275 (i : ℕ) : lit0t0_275 i = pick (words 275) (i % 128) := (pick_table (i % 128) ..).trans rfl
theorem table276 (i : ℕ) : lit0t0_276 i = pick (words 276) (i % 128) := (pick_table (i % 128) ..).trans rfl
theorem table277 (i : ℕ) : lit0t0_277 i = pick (words 277) (i % 128) := (pick_table (i % 128) ..).trans rfl
theorem table278 (i : ℕ) : lit0t0_278 i = pick (words 278) (i % 128) := (pick_table (i % 128) ..).trans rfl
theorem table279 (i : ℕ) : lit0t0_279 i = pick (words 279) (i % 128) := (pick_table (i % 128) ..).trans rfl
theorem table280 (i : ℕ) : lit0t0_280 i = pick (words 280) (i % 128) := (pick_table (i % 128) ..).trans rfl
theorem table281 (i : ℕ) : lit0t0_281 i = pick (words 281) (i % 128) := (pick_table (i % 128) ..).trans rfl
theorem table282 (i : ℕ) : lit0t0_282 i = pick (words 282) (i % 128) := (pick_table (i % 128) ..).trans rfl
theorem table283 (i : ℕ) : lit0t0_283 i = pick (words 283) (i % 128) := (pick_table (i % 128) ..).trans rfl
theorem table284 (i : ℕ) : lit0t0_284 i = pick (words 284) (i % 128) := (pick_table (i % 128) ..).trans rfl
theorem table285 (i : ℕ) : lit0t0_285 i = pick (words 285) (i % 128) := (pick_table (i % 128) ..).trans rfl
theorem table286 (i : ℕ) : lit0t0_286 i = pick (words 286) (i % 128) := (pick_table (i % 128) ..).trans rfl
theorem table287 (i : ℕ) : lit0t0_287 i = pick (words 287) (i % 128) := (pick_table (i % 128) ..).trans rfl
theorem table288 (i : ℕ) : lit0t0_288 i = pick (words 288) (i % 128) := (pick_table (i % 128) ..).trans rfl
theorem table289 (i : ℕ) : lit0t0_289 i = pick (words 289) (i % 128) := (pick_table (i % 128) ..).trans rfl
theorem table290 (i : ℕ) : lit0t0_290 i = pick (words 290) (i % 128) := (pick_table (i % 128) ..).trans rfl
theorem table291 (i : ℕ) : lit0t0_291 i = pick (words 291) (i % 128) := (pick_table (i % 128) ..).trans rfl
theorem table292 (i : ℕ) : lit0t0_292 i = pick (words 292) (i % 128) := (pick_table (i % 128) ..).trans rfl
theorem table293 (i : ℕ) : lit0t0_293 i = pick (words 293) (i % 128) := (pick_table (i % 128) ..).trans rfl
theorem table294 (i : ℕ) : lit0t0_294 i = pick (words 294) (i % 128) := (pick_table (i % 128) ..).trans rfl
theorem table295 (i : ℕ) : lit0t0_295 i = pick (words 295) (i % 128) := (pick_table (i % 128) ..).trans rfl
theorem table296 (i : ℕ) : lit0t0_296 i = pick (words 296) (i % 128) := (pick_table (i % 128) ..).trans rfl
theorem table297 (i : ℕ) : lit0t0_297 i = pick (words 297) (i % 128) := (pick_table (i % 128) ..).trans rfl
theorem table298 (i : ℕ) : lit0t0_298 i = pick (words 298) (i % 128) := (pick_table (i % 128) ..).trans rfl
theorem table299 (i : ℕ) : lit0t0_299 i = pick (words 299) (i % 128) := (pick_table (i % 128) ..).trans rfl
theorem table300 (i : ℕ) : lit0t0_300 i = pick (words 300) (i % 128) := (pick_table (i % 128) ..).trans rfl
theorem table301 (i : ℕ) : lit0t0_301 i = pick (words 301) (i % 128) := (pick_table (i % 128) ..).trans rfl
theorem table302 (i : ℕ) : lit0t0_302 i = pick (words 302) (i % 128) := (pick_table (i % 128) ..).trans rfl
theorem table303 (i : ℕ) : lit0t0_303 i = pick (words 303) (i % 128) := (pick_table (i % 128) ..).trans rfl
theorem table304 (i : ℕ) : lit0t0_304 i = pick (words 304) (i % 128) := (pick_table (i % 128) ..).trans rfl
theorem table305 (i : ℕ) : lit0t0_305 i = pick (words 305) (i % 128) := (pick_table (i % 128) ..).trans rfl
theorem table306 (i : ℕ) : lit0t0_306 i = pick (words 306) (i % 128) := (pick_table (i % 128) ..).trans rfl
theorem table307 (i : ℕ) : lit0t0_307 i = pick (words 307) (i % 128) := (pick_table (i % 128) ..).trans rfl
theorem table308 (i : ℕ) : lit0t0_308 i = pick (words 308) (i % 128) := (pick_table (i % 128) ..).trans rfl
theorem table309 (i : ℕ) : lit0t0_309 i = pick (words 309) (i % 128) := (pick_table (i % 128) ..).trans rfl
theorem table310 (i : ℕ) : lit0t0_310 i = pick (words 310) (i % 128) := (pick_table (i % 128) ..).trans rfl
theorem table311 (i : ℕ) : lit0t0_311 i = pick (words 311) (i % 128) := (pick_table (i % 128) ..).trans rfl
theorem table312 (i : ℕ) : lit0t0_312 i = pick (words 312) (i % 128) := (pick_table (i % 128) ..).trans rfl
theorem table313 (i : ℕ) : lit0t0_313 i = pick (words 313) (i % 128) := (pick_table (i % 128) ..).trans rfl
theorem table314 (i : ℕ) : lit0t0_314 i = pick (words 314) (i % 128) := (pick_table (i % 128) ..).trans rfl
theorem table315 (i : ℕ) : lit0t0_315 i = pick (words 315) (i % 128) := (pick_table (i % 128) ..).trans rfl
theorem table316 (i : ℕ) : lit0t0_316 i = pick (words 316) (i % 128) := (pick_table (i % 128) ..).trans rfl
theorem table317 (i : ℕ) : lit0t0_317 i = pick (words 317) (i % 128) := (pick_table (i % 128) ..).trans rfl
theorem table318 (i : ℕ) : lit0t0_318 i = pick (words 318) (i % 128) := (pick_table (i % 128) ..).trans rfl
theorem table319 (i : ℕ) : lit0t0_319 i = pick (words 319) (i % 128) := (pick_table (i % 128) ..).trans rfl
theorem table320 (i : ℕ) : lit0t0_320 i = pick (words 320) (i % 128) := (pick_table (i % 128) ..).trans rfl
theorem table321 (i : ℕ) : lit0t0_321 i = pick (words 321) (i % 128) := (pick_table (i % 128) ..).trans rfl
theorem table322 (i : ℕ) : lit0t0_322 i = pick (words 322) (i % 128) := (pick_table (i % 128) ..).trans rfl
theorem table323 (i : ℕ) : lit0t0_323 i = pick (words 323) (i % 128) := (pick_table (i % 128) ..).trans rfl
theorem table324 (i : ℕ) : lit0t0_324 i = pick (words 324) (i % 128) := (pick_table (i % 128) ..).trans rfl
theorem table325 (i : ℕ) : lit0t0_325 i = pick (words 325) (i % 128) := (pick_table (i % 128) ..).trans rfl
theorem table326 (i : ℕ) : lit0t0_326 i = pick (words 326) (i % 128) := (pick_table (i % 128) ..).trans rfl
theorem table327 (i : ℕ) : lit0t0_327 i = pick (words 327) (i % 128) := (pick_table (i % 128) ..).trans rfl
theorem table328 (i : ℕ) : lit0t0_328 i = pick (words 328) (i % 128) := (pick_table (i % 128) ..).trans rfl
theorem table329 (i : ℕ) : lit0t0_329 i = pick (words 329) (i % 128) := (pick_table (i % 128) ..).trans rfl
theorem table330 (i : ℕ) : lit0t0_330 i = pick (words 330) (i % 128) := (pick_table (i % 128) ..).trans rfl
theorem table331 (i : ℕ) : lit0t0_331 i = pick (words 331) (i % 128) := (pick_table (i % 128) ..).trans rfl
theorem table332 (i : ℕ) : lit0t0_332 i = pick (words 332) (i % 128) := (pick_table (i % 128) ..).trans rfl
theorem table333 (i : ℕ) : lit0t0_333 i = pick (words 333) (i % 128) := (pick_table (i % 128) ..).trans rfl
theorem table334 (i : ℕ) : lit0t0_334 i = pick (words 334) (i % 128) := (pick_table (i % 128) ..).trans rfl
theorem table335 (i : ℕ) : lit0t0_335 i = pick (words 335) (i % 128) := (pick_table (i % 128) ..).trans rfl
theorem table336 (i : ℕ) : lit0t0_336 i = pick (words 336) (i % 128) := (pick_table (i % 128) ..).trans rfl
theorem table337 (i : ℕ) : lit0t0_337 i = pick (words 337) (i % 128) := (pick_table (i % 128) ..).trans rfl
theorem table338 (i : ℕ) : lit0t0_338 i = pick (words 338) (i % 128) := (pick_table (i % 128) ..).trans rfl
theorem table339 (i : ℕ) : lit0t0_339 i = pick (words 339) (i % 128) := (pick_table (i % 128) ..).trans rfl
theorem table340 (i : ℕ) : lit0t0_340 i = pick (words 340) (i % 128) := (pick_table (i % 128) ..).trans rfl
theorem table341 (i : ℕ) : lit0t0_341 i = pick (words 341) (i % 128) := (pick_table (i % 128) ..).trans rfl
theorem table342 (i : ℕ) : lit0t0_342 i = pick (words 342) (i % 128) := (pick_table (i % 128) ..).trans rfl
theorem table343 (i : ℕ) : lit0t0_343 i = pick (words 343) (i % 128) := (pick_table (i % 128) ..).trans rfl
theorem table344 (i : ℕ) : lit0t0_344 i = pick (words 344) (i % 128) := (pick_table (i % 128) ..).trans rfl
theorem table345 (i : ℕ) : lit0t0_345 i = pick (words 345) (i % 128) := (pick_table (i % 128) ..).trans rfl
theorem table346 (i : ℕ) : lit0t0_346 i = pick (words 346) (i % 128) := (pick_table (i % 128) ..).trans rfl
theorem table347 (i : ℕ) : lit0t0_347 i = pick (words 347) (i % 128) := (pick_table (i % 128) ..).trans rfl
theorem table348 (i : ℕ) : lit0t0_348 i = pick (words 348) (i % 128) := (pick_table (i % 128) ..).trans rfl
theorem table349 (i : ℕ) : lit0t0_349 i = pick (words 349) (i % 128) := (pick_table (i % 128) ..).trans rfl
theorem table350 (i : ℕ) : lit0t0_350 i = pick (words 350) (i % 128) := (pick_table (i % 128) ..).trans rfl
theorem table351 (i : ℕ) : lit0t0_351 i = pick (words 351) (i % 128) := (pick_table (i % 128) ..).trans rfl
theorem table352 (i : ℕ) : lit0t0_352 i = pick (words 352) (i % 128) := (pick_table (i % 128) ..).trans rfl
theorem table353 (i : ℕ) : lit0t0_353 i = pick (words 353) (i % 128) := (pick_table (i % 128) ..).trans rfl
theorem table354 (i : ℕ) : lit0t0_354 i = pick (words 354) (i % 128) := (pick_table (i % 128) ..).trans rfl
theorem table355 (i : ℕ) : lit0t0_355 i = pick (words 355) (i % 128) := (pick_table (i % 128) ..).trans rfl
theorem table356 (i : ℕ) : lit0t0_356 i = pick (words 356) (i % 128) := (pick_table (i % 128) ..).trans rfl
theorem table357 (i : ℕ) : lit0t0_357 i = pick (words 357) (i % 128) := (pick_table (i % 128) ..).trans rfl
theorem table358 (i : ℕ) : lit0t0_358 i = pick (words 358) (i % 128) := (pick_table (i % 128) ..).trans rfl
theorem table359 (i : ℕ) : lit0t0_359 i = pick (words 359) (i % 128) := (pick_table (i % 128) ..).trans rfl
theorem table360 (i : ℕ) : lit0t0_360 i = pick (words 360) (i % 128) := (pick_table (i % 128) ..).trans rfl
theorem table361 (i : ℕ) : lit0t0_361 i = pick (words 361) (i % 128) := (pick_table (i % 128) ..).trans rfl
theorem table362 (i : ℕ) : lit0t0_362 i = pick (words 362) (i % 128) := (pick_table (i % 128) ..).trans rfl
theorem table363 (i : ℕ) : lit0t0_363 i = pick (words 363) (i % 128) := (pick_table (i % 128) ..).trans rfl
theorem table364 (i : ℕ) : lit0t0_364 i = pick (words 364) (i % 128) := (pick_table (i % 128) ..).trans rfl
theorem table365 (i : ℕ) : lit0t0_365 i = pick (words 365) (i % 128) := (pick_table (i % 128) ..).trans rfl
theorem table366 (i : ℕ) : lit0t0_366 i = pick (words 366) (i % 128) := (pick_table (i % 128) ..).trans rfl
theorem table367 (i : ℕ) : lit0t0_367 i = pick (words 367) (i % 128) := (pick_table (i % 128) ..).trans rfl
theorem table368 (i : ℕ) : lit0t0_368 i = pick (words 368) (i % 128) := (pick_table (i % 128) ..).trans rfl
theorem table369 (i : ℕ) : lit0t0_369 i = pick (words 369) (i % 128) := (pick_table (i % 128) ..).trans rfl
theorem table370 (i : ℕ) : lit0t0_370 i = pick (words 370) (i % 128) := (pick_table (i % 128) ..).trans rfl
theorem table371 (i : ℕ) : lit0t0_371 i = pick (words 371) (i % 128) := (pick_table (i % 128) ..).trans rfl
theorem table372 (i : ℕ) : lit0t0_372 i = pick (words 372) (i % 128) := (pick_table (i % 128) ..).trans rfl
theorem table373 (i : ℕ) : lit0t0_373 i = pick (words 373) (i % 128) := (pick_table (i % 128) ..).trans rfl
theorem table374 (i : ℕ) : lit0t0_374 i = pick (words 374) (i % 128) := (pick_table (i % 128) ..).trans rfl
theorem table375 (i : ℕ) : lit0t0_375 i = pick (words 375) (i % 128) := (pick_table (i % 128) ..).trans rfl
theorem table376 (i : ℕ) : lit0t0_376 i = pick (words 376) (i % 128) := (pick_table (i % 128) ..).trans rfl
theorem table377 (i : ℕ) : lit0t0_377 i = pick (words 377) (i % 128) := (pick_table (i % 128) ..).trans rfl
theorem table378 (i : ℕ) : lit0t0_378 i = pick (words 378) (i % 128) := (pick_table (i % 128) ..).trans rfl
theorem table379 (i : ℕ) : lit0t0_379 i = pick (words 379) (i % 128) := (pick_table (i % 128) ..).trans rfl
theorem table380 (i : ℕ) : lit0t0_380 i = pick (words 380) (i % 128) := (pick_table (i % 128) ..).trans rfl
theorem table381 (i : ℕ) : lit0t0_381 i = pick (words 381) (i % 128) := (pick_table (i % 128) ..).trans rfl
theorem table382 (i : ℕ) : lit0t0_382 i = pick (words 382) (i % 128) := (pick_table (i % 128) ..).trans rfl
theorem table383 (i : ℕ) : lit0t0_383 i = pick (words 383) (i % 128) := (pick_table (i % 128) ..).trans rfl
theorem table384 (i : ℕ) : lit0t0_384 i = pick (words 384) (i % 128) := (pick_table (i % 128) ..).trans rfl
theorem table385 (i : ℕ) : lit0t0_385 i = pick (words 385) (i % 128) := (pick_table (i % 128) ..).trans rfl
theorem table386 (i : ℕ) : lit0t0_386 i = pick (words 386) (i % 128) := (pick_table (i % 128) ..).trans rfl
theorem table387 (i : ℕ) : lit0t0_387 i = pick (words 387) (i % 128) := (pick_table (i % 128) ..).trans rfl
theorem table388 (i : ℕ) : lit0t0_388 i = pick (words 388) (i % 128) := (pick_table (i % 128) ..).trans rfl
theorem table389 (i : ℕ) : lit0t0_389 i = pick (words 389) (i % 128) := (pick_table (i % 128) ..).trans rfl
theorem table390 (i : ℕ) : lit0t0_390 i = pick (words 390) (i % 128) := (pick_table (i % 128) ..).trans rfl
theorem table391 (i : ℕ) : lit0t0_391 i = pick (words 391) (i % 128) := (pick_table (i % 128) ..).trans rfl
theorem table392 (i : ℕ) : lit0t0_392 i = pick (words 392) (i % 128) := (pick_table (i % 128) ..).trans rfl
theorem table393 (i : ℕ) : lit0t0_393 i = pick (words 393) (i % 128) := (pick_table (i % 128) ..).trans rfl
theorem table394 (i : ℕ) : lit0t0_394 i = pick (words 394) (i % 128) := (pick_table (i % 128) ..).trans rfl
theorem table395 (i : ℕ) : lit0t0_395 i = pick (words 395) (i % 128) := (pick_table (i % 128) ..).trans rfl
theorem table396 (i : ℕ) : lit0t0_396 i = pick (words 396) (i % 128) := (pick_table (i % 128) ..).trans rfl
theorem table397 (i : ℕ) : lit0t0_397 i = pick (words 397) (i % 128) := (pick_table (i % 128) ..).trans rfl
theorem table398 (i : ℕ) : lit0t0_398 i = pick (words 398) (i % 128) := (pick_table (i % 128) ..).trans rfl
theorem table399 (i : ℕ) : lit0t0_399 i = pick (words 399) (i % 128) := (pick_table (i % 128) ..).trans rfl
theorem table400 (i : ℕ) : lit0t0_400 i = pick (words 400) (i % 128) := (pick_table (i % 128) ..).trans rfl
theorem table401 (i : ℕ) : lit0t0_401 i = pick (words 401) (i % 128) := (pick_table (i % 128) ..).trans rfl
theorem table402 (i : ℕ) : lit0t0_402 i = pick (words 402) (i % 128) := (pick_table (i % 128) ..).trans rfl
theorem table403 (i : ℕ) : lit0t0_403 i = pick (words 403) (i % 128) := (pick_table (i % 128) ..).trans rfl
theorem table404 (i : ℕ) : lit0t0_404 i = pick (words 404) (i % 128) := (pick_table (i % 128) ..).trans rfl
theorem table405 (i : ℕ) : lit0t0_405 i = pick (words 405) (i % 128) := (pick_table (i % 128) ..).trans rfl
theorem table406 (i : ℕ) : lit0t0_406 i = pick (words 406) (i % 128) := (pick_table (i % 128) ..).trans rfl
theorem table407 (i : ℕ) : lit0t0_407 i = pick (words 407) (i % 128) := (pick_table (i % 128) ..).trans rfl
theorem table408 (i : ℕ) : lit0t0_408 i = pick (words 408) (i % 128) := (pick_table (i % 128) ..).trans rfl
theorem table409 (i : ℕ) : lit0t0_409 i = pick (words 409) (i % 128) := (pick_table (i % 128) ..).trans rfl
theorem table410 (i : ℕ) : lit0t0_410 i = pick (words 410) (i % 128) := (pick_table (i % 128) ..).trans rfl
theorem table411 (i : ℕ) : lit0t0_411 i = pick (words 411) (i % 128) := (pick_table (i % 128) ..).trans rfl
theorem table412 (i : ℕ) : lit0t0_412 i = pick (words 412) (i % 128) := (pick_table (i % 128) ..).trans rfl
theorem table413 (i : ℕ) : lit0t0_413 i = pick (words 413) (i % 128) := (pick_table (i % 128) ..).trans rfl
theorem table414 (i : ℕ) : lit0t0_414 i = pick (words 414) (i % 128) := (pick_table (i % 128) ..).trans rfl
theorem table415 (i : ℕ) : lit0t0_415 i = pick (words 415) (i % 128) := (pick_table (i % 128) ..).trans rfl
theorem table416 (i : ℕ) : lit0t0_416 i = pick (words 416) (i % 128) := (pick_table (i % 128) ..).trans rfl
theorem table417 (i : ℕ) : lit0t0_417 i = pick (words 417) (i % 128) := (pick_table (i % 128) ..).trans rfl
theorem table418 (i : ℕ) : lit0t0_418 i = pick (words 418) (i % 128) := (pick_table (i % 128) ..).trans rfl
theorem table419 (i : ℕ) : lit0t0_419 i = pick (words 419) (i % 128) := (pick_table (i % 128) ..).trans rfl
theorem table420 (i : ℕ) : lit0t0_420 i = pick (words 420) (i % 128) := (pick_table (i % 128) ..).trans rfl
theorem table421 (i : ℕ) : lit0t0_421 i = pick (words 421) (i % 128) := (pick_table (i % 128) ..).trans rfl
theorem table422 (i : ℕ) : lit0t0_422 i = pick (words 422) (i % 128) := (pick_table (i % 128) ..).trans rfl
theorem table423 (i : ℕ) : lit0t0_423 i = pick (words 423) (i % 128) := (pick_table (i % 128) ..).trans rfl
theorem table424 (i : ℕ) : lit0t0_424 i = pick (words 424) (i % 128) := (pick_table (i % 128) ..).trans rfl
theorem table425 (i : ℕ) : lit0t0_425 i = pick (words 425) (i % 128) := (pick_table (i % 128) ..).trans rfl
theorem table426 (i : ℕ) : lit0t0_426 i = pick (words 426) (i % 128) := (pick_table (i % 128) ..).trans rfl
theorem table427 (i : ℕ) : lit0t0_427 i = pick (words 427) (i % 128) := (pick_table (i % 128) ..).trans rfl
theorem table428 (i : ℕ) : lit0t0_428 i = pick (words 428) (i % 128) := (pick_table (i % 128) ..).trans rfl
theorem table429 (i : ℕ) : lit0t0_429 i = pick (words 429) (i % 128) := (pick_table (i % 128) ..).trans rfl
theorem table430 (i : ℕ) : lit0t0_430 i = pick (words 430) (i % 128) := (pick_table (i % 128) ..).trans rfl
theorem table431 (i : ℕ) : lit0t0_431 i = pick (words 431) (i % 128) := (pick_table (i % 128) ..).trans rfl
theorem table432 (i : ℕ) : lit0t0_432 i = pick (words 432) (i % 128) := (pick_table (i % 128) ..).trans rfl
theorem table433 (i : ℕ) : lit0t0_433 i = pick (words 433) (i % 128) := (pick_table (i % 128) ..).trans rfl
theorem table434 (i : ℕ) : lit0t0_434 i = pick (words 434) (i % 128) := (pick_table (i % 128) ..).trans rfl
theorem table435 (i : ℕ) : lit0t0_435 i = pick (words 435) (i % 128) := (pick_table (i % 128) ..).trans rfl
theorem table436 (i : ℕ) : lit0t0_436 i = pick (words 436) (i % 128) := (pick_table (i % 128) ..).trans rfl
theorem table437 (i : ℕ) : lit0t0_437 i = pick (words 437) (i % 128) := (pick_table (i % 128) ..).trans rfl
theorem table438 (i : ℕ) : lit0t0_438 i = pick (words 438) (i % 128) := (pick_table (i % 128) ..).trans rfl
theorem table439 (i : ℕ) : lit0t0_439 i = pick (words 439) (i % 128) := (pick_table (i % 128) ..).trans rfl
theorem table440 (i : ℕ) : lit0t0_440 i = pick (words 440) (i % 128) := (pick_table (i % 128) ..).trans rfl
theorem table441 (i : ℕ) : lit0t0_441 i = pick (words 441) (i % 128) := (pick_table (i % 128) ..).trans rfl
theorem table442 (i : ℕ) : lit0t0_442 i = pick (words 442) (i % 128) := (pick_table (i % 128) ..).trans rfl
theorem table443 (i : ℕ) : lit0t0_443 i = pick (words 443) (i % 128) := (pick_table (i % 128) ..).trans rfl
theorem table444 (i : ℕ) : lit0t0_444 i = pick (words 444) (i % 128) := (pick_table (i % 128) ..).trans rfl
theorem table445 (i : ℕ) : lit0t0_445 i = pick (words 445) (i % 128) := (pick_table (i % 128) ..).trans rfl
theorem table446 (i : ℕ) : lit0t0_446 i = pick (words 446) (i % 128) := (pick_table (i % 128) ..).trans rfl
theorem table447 (i : ℕ) : lit0t0_447 i = pick (words 447) (i % 128) := (pick_table (i % 128) ..).trans rfl
theorem table448 (i : ℕ) : lit0t0_448 i = pick (words 448) (i % 128) := (pick_table (i % 128) ..).trans rfl
theorem table449 (i : ℕ) : lit0t0_449 i = pick (words 449) (i % 128) := (pick_table (i % 128) ..).trans rfl
theorem table450 (i : ℕ) : lit0t0_450 i = pick (words 450) (i % 128) := (pick_table (i % 128) ..).trans rfl
theorem table451 (i : ℕ) : lit0t0_451 i = pick (words 451) (i % 128) := (pick_table (i % 128) ..).trans rfl
theorem table452 (i : ℕ) : lit0t0_452 i = pick (words 452) (i % 128) := (pick_table (i % 128) ..).trans rfl
theorem table453 (i : ℕ) : lit0t0_453 i = pick (words 453) (i % 128) := (pick_table (i % 128) ..).trans rfl
theorem table454 (i : ℕ) : lit0t0_454 i = pick (words 454) (i % 128) := (pick_table (i % 128) ..).trans rfl
theorem table455 (i : ℕ) : lit0t0_455 i = pick (words 455) (i % 128) := (pick_table (i % 128) ..).trans rfl
theorem table456 (i : ℕ) : lit0t0_456 i = pick (words 456) (i % 128) := (pick_table (i % 128) ..).trans rfl
theorem table457 (i : ℕ) : lit0t0_457 i = pick (words 457) (i % 128) := (pick_table (i % 128) ..).trans rfl
theorem table458 (i : ℕ) : lit0t0_458 i = pick (words 458) (i % 128) := (pick_table (i % 128) ..).trans rfl
theorem table459 (i : ℕ) : lit0t0_459 i = pick (words 459) (i % 128) := (pick_table (i % 128) ..).trans rfl
theorem table460 (i : ℕ) : lit0t0_460 i = pick (words 460) (i % 128) := (pick_table (i % 128) ..).trans rfl
theorem table461 (i : ℕ) : lit0t0_461 i = pick (words 461) (i % 128) := (pick_table (i % 128) ..).trans rfl
theorem table462 (i : ℕ) : lit0t0_462 i = pick (words 462) (i % 128) := (pick_table (i % 128) ..).trans rfl
theorem table463 (i : ℕ) : lit0t0_463 i = pick (words 463) (i % 128) := (pick_table (i % 128) ..).trans rfl
theorem table464 (i : ℕ) : lit0t0_464 i = pick (words 464) (i % 128) := (pick_table (i % 128) ..).trans rfl
theorem table465 (i : ℕ) : lit0t0_465 i = pick (words 465) (i % 128) := (pick_table (i % 128) ..).trans rfl
theorem table466 (i : ℕ) : lit0t0_466 i = pick (words 466) (i % 128) := (pick_table (i % 128) ..).trans rfl
theorem table467 (i : ℕ) : lit0t0_467 i = pick (words 467) (i % 128) := (pick_table (i % 128) ..).trans rfl
theorem table468 (i : ℕ) : lit0t0_468 i = pick (words 468) (i % 128) := (pick_table (i % 128) ..).trans rfl
theorem table469 (i : ℕ) : lit0t0_469 i = pick (words 469) (i % 128) := (pick_table (i % 128) ..).trans rfl
theorem table470 (i : ℕ) : lit0t0_470 i = pick (words 470) (i % 128) := (pick_table (i % 128) ..).trans rfl
theorem table471 (i : ℕ) : lit0t0_471 i = pick (words 471) (i % 128) := (pick_table (i % 128) ..).trans rfl
theorem table472 (i : ℕ) : lit0t0_472 i = pick (words 472) (i % 128) := (pick_table (i % 128) ..).trans rfl
theorem table473 (i : ℕ) : lit0t0_473 i = pick (words 473) (i % 128) := (pick_table (i % 128) ..).trans rfl
theorem table474 (i : ℕ) : lit0t0_474 i = pick (words 474) (i % 128) := (pick_table (i % 128) ..).trans rfl
theorem table475 (i : ℕ) : lit0t0_475 i = pick (words 475) (i % 128) := (pick_table (i % 128) ..).trans rfl
theorem table476 (i : ℕ) : lit0t0_476 i = pick (words 476) (i % 128) := (pick_table (i % 128) ..).trans rfl
theorem table477 (i : ℕ) : lit0t0_477 i = pick (words 477) (i % 128) := (pick_table (i % 128) ..).trans rfl
theorem table478 (i : ℕ) : lit0t0_478 i = pick (words 478) (i % 128) := (pick_table (i % 128) ..).trans rfl
theorem table479 (i : ℕ) : lit0t0_479 i = pick (words 479) (i % 128) := (pick_table (i % 128) ..).trans rfl
theorem table480 (i : ℕ) : lit0t0_480 i = pick (words 480) (i % 128) := (pick_table (i % 128) ..).trans rfl
theorem table481 (i : ℕ) : lit0t0_481 i = pick (words 481) (i % 128) := (pick_table (i % 128) ..).trans rfl
theorem table482 (i : ℕ) : lit0t0_482 i = pick (words 482) (i % 128) := (pick_table (i % 128) ..).trans rfl
theorem table483 (i : ℕ) : lit0t0_483 i = pick (words 483) (i % 128) := (pick_table (i % 128) ..).trans rfl
theorem table484 (i : ℕ) : lit0t0_484 i = pick (words 484) (i % 128) := (pick_table (i % 128) ..).trans rfl
theorem table485 (i : ℕ) : lit0t0_485 i = pick (words 485) (i % 128) := (pick_table (i % 128) ..).trans rfl
theorem table486 (i : ℕ) : lit0t0_486 i = pick (words 486) (i % 128) := (pick_table (i % 128) ..).trans rfl
theorem table487 (i : ℕ) : lit0t0_487 i = pick (words 487) (i % 128) := (pick_table (i % 128) ..).trans rfl
theorem table488 (i : ℕ) : lit0t0_488 i = pick (words 488) (i % 128) := (pick_table (i % 128) ..).trans rfl
theorem table489 (i : ℕ) : lit0t0_489 i = pick (words 489) (i % 128) := (pick_table (i % 128) ..).trans rfl
theorem table490 (i : ℕ) : lit0t0_490 i = pick (words 490) (i % 128) := (pick_table (i % 128) ..).trans rfl
theorem table491 (i : ℕ) : lit0t0_491 i = pick (words 491) (i % 128) := (pick_table (i % 128) ..).trans rfl
theorem table492 (i : ℕ) : lit0t0_492 i = pick (words 492) (i % 128) := (pick_table (i % 128) ..).trans rfl
theorem table493 (i : ℕ) : lit0t0_493 i = pick (words 493) (i % 128) := (pick_table (i % 128) ..).trans rfl
theorem table494 (i : ℕ) : lit0t0_494 i = pick (words 494) (i % 128) := (pick_table (i % 128) ..).trans rfl
theorem table495 (i : ℕ) : lit0t0_495 i = pick (words 495) (i % 128) := (pick_table (i % 128) ..).trans rfl
theorem table496 (i : ℕ) : lit0t0_496 i = pick (words 496) (i % 128) := (pick_table (i % 128) ..).trans rfl
theorem table497 (i : ℕ) : lit0t0_497 i = pick (words 497) (i % 128) := (pick_table (i % 128) ..).trans rfl
theorem table498 (i : ℕ) : lit0t0_498 i = pick (words 498) (i % 128) := (pick_table (i % 128) ..).trans rfl
theorem table499 (i : ℕ) : lit0t0_499 i = pick (words 499) (i % 128) := (pick_table (i % 128) ..).trans rfl
theorem table500 (i : ℕ) : lit0t0_500 i = pick (words 500) (i % 128) := (pick_table (i % 128) ..).trans rfl
theorem table501 (i : ℕ) : lit0t0_501 i = pick (words 501) (i % 128) := (pick_table (i % 128) ..).trans rfl
theorem table502 (i : ℕ) : lit0t0_502 i = pick (words 502) (i % 128) := (pick_table (i % 128) ..).trans rfl
theorem table503 (i : ℕ) : lit0t0_503 i = pick (words 503) (i % 128) := (pick_table (i % 128) ..).trans rfl
theorem table504 (i : ℕ) : lit0t0_504 i = pick (words 504) (i % 128) := (pick_table (i % 128) ..).trans rfl
theorem table505 (i : ℕ) : lit0t0_505 i = pick (words 505) (i % 128) := (pick_table (i % 128) ..).trans rfl
theorem table506 (i : ℕ) : lit0t0_506 i = pick (words 506) (i % 128) := (pick_table (i % 128) ..).trans rfl
theorem table507 (i : ℕ) : lit0t0_507 i = pick (words 507) (i % 128) := (pick_table (i % 128) ..).trans rfl
theorem table508 (i : ℕ) : lit0t0_508 i = pick (words 508) (i % 128) := (pick_table (i % 128) ..).trans rfl
theorem table509 (i : ℕ) : lit0t0_509 i = pick (words 509) (i % 128) := (pick_table (i % 128) ..).trans rfl
theorem table510 (i : ℕ) : lit0t0_510 i = pick (words 510) (i % 128) := (pick_table (i % 128) ..).trans rfl
theorem table511 (i : ℕ) : lit0t0_511 i = pick (words 511) (i % 128) := (pick_table (i % 128) ..).trans rfl

theorem group0 (i : ℕ) : lit0t1_0 i = pick (words (0 + i / 128 % 128)) (i % 128) := by
  unfold lit0t1_0
  have hq : i / 128 % 128 < 128 := Nat.mod_lt _ (by decide)
  generalize i / 128 % 128 = q at hq
  match q, hq with
  | 0, _ => exact table0 i
  | 1, _ => exact table1 i
  | 2, _ => exact table2 i
  | 3, _ => exact table3 i
  | 4, _ => exact table4 i
  | 5, _ => exact table5 i
  | 6, _ => exact table6 i
  | 7, _ => exact table7 i
  | 8, _ => exact table8 i
  | 9, _ => exact table9 i
  | 10, _ => exact table10 i
  | 11, _ => exact table11 i
  | 12, _ => exact table12 i
  | 13, _ => exact table13 i
  | 14, _ => exact table14 i
  | 15, _ => exact table15 i
  | 16, _ => exact table16 i
  | 17, _ => exact table17 i
  | 18, _ => exact table18 i
  | 19, _ => exact table19 i
  | 20, _ => exact table20 i
  | 21, _ => exact table21 i
  | 22, _ => exact table22 i
  | 23, _ => exact table23 i
  | 24, _ => exact table24 i
  | 25, _ => exact table25 i
  | 26, _ => exact table26 i
  | 27, _ => exact table27 i
  | 28, _ => exact table28 i
  | 29, _ => exact table29 i
  | 30, _ => exact table30 i
  | 31, _ => exact table31 i
  | 32, _ => exact table32 i
  | 33, _ => exact table33 i
  | 34, _ => exact table34 i
  | 35, _ => exact table35 i
  | 36, _ => exact table36 i
  | 37, _ => exact table37 i
  | 38, _ => exact table38 i
  | 39, _ => exact table39 i
  | 40, _ => exact table40 i
  | 41, _ => exact table41 i
  | 42, _ => exact table42 i
  | 43, _ => exact table43 i
  | 44, _ => exact table44 i
  | 45, _ => exact table45 i
  | 46, _ => exact table46 i
  | 47, _ => exact table47 i
  | 48, _ => exact table48 i
  | 49, _ => exact table49 i
  | 50, _ => exact table50 i
  | 51, _ => exact table51 i
  | 52, _ => exact table52 i
  | 53, _ => exact table53 i
  | 54, _ => exact table54 i
  | 55, _ => exact table55 i
  | 56, _ => exact table56 i
  | 57, _ => exact table57 i
  | 58, _ => exact table58 i
  | 59, _ => exact table59 i
  | 60, _ => exact table60 i
  | 61, _ => exact table61 i
  | 62, _ => exact table62 i
  | 63, _ => exact table63 i
  | 64, _ => exact table64 i
  | 65, _ => exact table65 i
  | 66, _ => exact table66 i
  | 67, _ => exact table67 i
  | 68, _ => exact table68 i
  | 69, _ => exact table69 i
  | 70, _ => exact table70 i
  | 71, _ => exact table71 i
  | 72, _ => exact table72 i
  | 73, _ => exact table73 i
  | 74, _ => exact table74 i
  | 75, _ => exact table75 i
  | 76, _ => exact table76 i
  | 77, _ => exact table77 i
  | 78, _ => exact table78 i
  | 79, _ => exact table79 i
  | 80, _ => exact table80 i
  | 81, _ => exact table81 i
  | 82, _ => exact table82 i
  | 83, _ => exact table83 i
  | 84, _ => exact table84 i
  | 85, _ => exact table85 i
  | 86, _ => exact table86 i
  | 87, _ => exact table87 i
  | 88, _ => exact table88 i
  | 89, _ => exact table89 i
  | 90, _ => exact table90 i
  | 91, _ => exact table91 i
  | 92, _ => exact table92 i
  | 93, _ => exact table93 i
  | 94, _ => exact table94 i
  | 95, _ => exact table95 i
  | 96, _ => exact table96 i
  | 97, _ => exact table97 i
  | 98, _ => exact table98 i
  | 99, _ => exact table99 i
  | 100, _ => exact table100 i
  | 101, _ => exact table101 i
  | 102, _ => exact table102 i
  | 103, _ => exact table103 i
  | 104, _ => exact table104 i
  | 105, _ => exact table105 i
  | 106, _ => exact table106 i
  | 107, _ => exact table107 i
  | 108, _ => exact table108 i
  | 109, _ => exact table109 i
  | 110, _ => exact table110 i
  | 111, _ => exact table111 i
  | 112, _ => exact table112 i
  | 113, _ => exact table113 i
  | 114, _ => exact table114 i
  | 115, _ => exact table115 i
  | 116, _ => exact table116 i
  | 117, _ => exact table117 i
  | 118, _ => exact table118 i
  | 119, _ => exact table119 i
  | 120, _ => exact table120 i
  | 121, _ => exact table121 i
  | 122, _ => exact table122 i
  | 123, _ => exact table123 i
  | 124, _ => exact table124 i
  | 125, _ => exact table125 i
  | 126, _ => exact table126 i
  | 127, _ => exact table127 i
  | n + 128, hq => exact absurd hq (by omega)

theorem group1 (i : ℕ) : lit0t1_1 i = pick (words (128 + i / 128 % 128)) (i % 128) := by
  unfold lit0t1_1
  have hq : i / 128 % 128 < 128 := Nat.mod_lt _ (by decide)
  generalize i / 128 % 128 = q at hq
  match q, hq with
  | 0, _ => exact table128 i
  | 1, _ => exact table129 i
  | 2, _ => exact table130 i
  | 3, _ => exact table131 i
  | 4, _ => exact table132 i
  | 5, _ => exact table133 i
  | 6, _ => exact table134 i
  | 7, _ => exact table135 i
  | 8, _ => exact table136 i
  | 9, _ => exact table137 i
  | 10, _ => exact table138 i
  | 11, _ => exact table139 i
  | 12, _ => exact table140 i
  | 13, _ => exact table141 i
  | 14, _ => exact table142 i
  | 15, _ => exact table143 i
  | 16, _ => exact table144 i
  | 17, _ => exact table145 i
  | 18, _ => exact table146 i
  | 19, _ => exact table147 i
  | 20, _ => exact table148 i
  | 21, _ => exact table149 i
  | 22, _ => exact table150 i
  | 23, _ => exact table151 i
  | 24, _ => exact table152 i
  | 25, _ => exact table153 i
  | 26, _ => exact table154 i
  | 27, _ => exact table155 i
  | 28, _ => exact table156 i
  | 29, _ => exact table157 i
  | 30, _ => exact table158 i
  | 31, _ => exact table159 i
  | 32, _ => exact table160 i
  | 33, _ => exact table161 i
  | 34, _ => exact table162 i
  | 35, _ => exact table163 i
  | 36, _ => exact table164 i
  | 37, _ => exact table165 i
  | 38, _ => exact table166 i
  | 39, _ => exact table167 i
  | 40, _ => exact table168 i
  | 41, _ => exact table169 i
  | 42, _ => exact table170 i
  | 43, _ => exact table171 i
  | 44, _ => exact table172 i
  | 45, _ => exact table173 i
  | 46, _ => exact table174 i
  | 47, _ => exact table175 i
  | 48, _ => exact table176 i
  | 49, _ => exact table177 i
  | 50, _ => exact table178 i
  | 51, _ => exact table179 i
  | 52, _ => exact table180 i
  | 53, _ => exact table181 i
  | 54, _ => exact table182 i
  | 55, _ => exact table183 i
  | 56, _ => exact table184 i
  | 57, _ => exact table185 i
  | 58, _ => exact table186 i
  | 59, _ => exact table187 i
  | 60, _ => exact table188 i
  | 61, _ => exact table189 i
  | 62, _ => exact table190 i
  | 63, _ => exact table191 i
  | 64, _ => exact table192 i
  | 65, _ => exact table193 i
  | 66, _ => exact table194 i
  | 67, _ => exact table195 i
  | 68, _ => exact table196 i
  | 69, _ => exact table197 i
  | 70, _ => exact table198 i
  | 71, _ => exact table199 i
  | 72, _ => exact table200 i
  | 73, _ => exact table201 i
  | 74, _ => exact table202 i
  | 75, _ => exact table203 i
  | 76, _ => exact table204 i
  | 77, _ => exact table205 i
  | 78, _ => exact table206 i
  | 79, _ => exact table207 i
  | 80, _ => exact table208 i
  | 81, _ => exact table209 i
  | 82, _ => exact table210 i
  | 83, _ => exact table211 i
  | 84, _ => exact table212 i
  | 85, _ => exact table213 i
  | 86, _ => exact table214 i
  | 87, _ => exact table215 i
  | 88, _ => exact table216 i
  | 89, _ => exact table217 i
  | 90, _ => exact table218 i
  | 91, _ => exact table219 i
  | 92, _ => exact table220 i
  | 93, _ => exact table221 i
  | 94, _ => exact table222 i
  | 95, _ => exact table223 i
  | 96, _ => exact table224 i
  | 97, _ => exact table225 i
  | 98, _ => exact table226 i
  | 99, _ => exact table227 i
  | 100, _ => exact table228 i
  | 101, _ => exact table229 i
  | 102, _ => exact table230 i
  | 103, _ => exact table231 i
  | 104, _ => exact table232 i
  | 105, _ => exact table233 i
  | 106, _ => exact table234 i
  | 107, _ => exact table235 i
  | 108, _ => exact table236 i
  | 109, _ => exact table237 i
  | 110, _ => exact table238 i
  | 111, _ => exact table239 i
  | 112, _ => exact table240 i
  | 113, _ => exact table241 i
  | 114, _ => exact table242 i
  | 115, _ => exact table243 i
  | 116, _ => exact table244 i
  | 117, _ => exact table245 i
  | 118, _ => exact table246 i
  | 119, _ => exact table247 i
  | 120, _ => exact table248 i
  | 121, _ => exact table249 i
  | 122, _ => exact table250 i
  | 123, _ => exact table251 i
  | 124, _ => exact table252 i
  | 125, _ => exact table253 i
  | 126, _ => exact table254 i
  | 127, _ => exact table255 i
  | n + 128, hq => exact absurd hq (by omega)

theorem group2 (i : ℕ) : lit0t1_2 i = pick (words (256 + i / 128 % 128)) (i % 128) := by
  unfold lit0t1_2
  have hq : i / 128 % 128 < 128 := Nat.mod_lt _ (by decide)
  generalize i / 128 % 128 = q at hq
  match q, hq with
  | 0, _ => exact table256 i
  | 1, _ => exact table257 i
  | 2, _ => exact table258 i
  | 3, _ => exact table259 i
  | 4, _ => exact table260 i
  | 5, _ => exact table261 i
  | 6, _ => exact table262 i
  | 7, _ => exact table263 i
  | 8, _ => exact table264 i
  | 9, _ => exact table265 i
  | 10, _ => exact table266 i
  | 11, _ => exact table267 i
  | 12, _ => exact table268 i
  | 13, _ => exact table269 i
  | 14, _ => exact table270 i
  | 15, _ => exact table271 i
  | 16, _ => exact table272 i
  | 17, _ => exact table273 i
  | 18, _ => exact table274 i
  | 19, _ => exact table275 i
  | 20, _ => exact table276 i
  | 21, _ => exact table277 i
  | 22, _ => exact table278 i
  | 23, _ => exact table279 i
  | 24, _ => exact table280 i
  | 25, _ => exact table281 i
  | 26, _ => exact table282 i
  | 27, _ => exact table283 i
  | 28, _ => exact table284 i
  | 29, _ => exact table285 i
  | 30, _ => exact table286 i
  | 31, _ => exact table287 i
  | 32, _ => exact table288 i
  | 33, _ => exact table289 i
  | 34, _ => exact table290 i
  | 35, _ => exact table291 i
  | 36, _ => exact table292 i
  | 37, _ => exact table293 i
  | 38, _ => exact table294 i
  | 39, _ => exact table295 i
  | 40, _ => exact table296 i
  | 41, _ => exact table297 i
  | 42, _ => exact table298 i
  | 43, _ => exact table299 i
  | 44, _ => exact table300 i
  | 45, _ => exact table301 i
  | 46, _ => exact table302 i
  | 47, _ => exact table303 i
  | 48, _ => exact table304 i
  | 49, _ => exact table305 i
  | 50, _ => exact table306 i
  | 51, _ => exact table307 i
  | 52, _ => exact table308 i
  | 53, _ => exact table309 i
  | 54, _ => exact table310 i
  | 55, _ => exact table311 i
  | 56, _ => exact table312 i
  | 57, _ => exact table313 i
  | 58, _ => exact table314 i
  | 59, _ => exact table315 i
  | 60, _ => exact table316 i
  | 61, _ => exact table317 i
  | 62, _ => exact table318 i
  | 63, _ => exact table319 i
  | 64, _ => exact table320 i
  | 65, _ => exact table321 i
  | 66, _ => exact table322 i
  | 67, _ => exact table323 i
  | 68, _ => exact table324 i
  | 69, _ => exact table325 i
  | 70, _ => exact table326 i
  | 71, _ => exact table327 i
  | 72, _ => exact table328 i
  | 73, _ => exact table329 i
  | 74, _ => exact table330 i
  | 75, _ => exact table331 i
  | 76, _ => exact table332 i
  | 77, _ => exact table333 i
  | 78, _ => exact table334 i
  | 79, _ => exact table335 i
  | 80, _ => exact table336 i
  | 81, _ => exact table337 i
  | 82, _ => exact table338 i
  | 83, _ => exact table339 i
  | 84, _ => exact table340 i
  | 85, _ => exact table341 i
  | 86, _ => exact table342 i
  | 87, _ => exact table343 i
  | 88, _ => exact table344 i
  | 89, _ => exact table345 i
  | 90, _ => exact table346 i
  | 91, _ => exact table347 i
  | 92, _ => exact table348 i
  | 93, _ => exact table349 i
  | 94, _ => exact table350 i
  | 95, _ => exact table351 i
  | 96, _ => exact table352 i
  | 97, _ => exact table353 i
  | 98, _ => exact table354 i
  | 99, _ => exact table355 i
  | 100, _ => exact table356 i
  | 101, _ => exact table357 i
  | 102, _ => exact table358 i
  | 103, _ => exact table359 i
  | 104, _ => exact table360 i
  | 105, _ => exact table361 i
  | 106, _ => exact table362 i
  | 107, _ => exact table363 i
  | 108, _ => exact table364 i
  | 109, _ => exact table365 i
  | 110, _ => exact table366 i
  | 111, _ => exact table367 i
  | 112, _ => exact table368 i
  | 113, _ => exact table369 i
  | 114, _ => exact table370 i
  | 115, _ => exact table371 i
  | 116, _ => exact table372 i
  | 117, _ => exact table373 i
  | 118, _ => exact table374 i
  | 119, _ => exact table375 i
  | 120, _ => exact table376 i
  | 121, _ => exact table377 i
  | 122, _ => exact table378 i
  | 123, _ => exact table379 i
  | 124, _ => exact table380 i
  | 125, _ => exact table381 i
  | 126, _ => exact table382 i
  | 127, _ => exact table383 i
  | n + 128, hq => exact absurd hq (by omega)

theorem group3 (i : ℕ) : lit0t1_3 i = pick (words (384 + i / 128 % 128)) (i % 128) := by
  unfold lit0t1_3
  have hq : i / 128 % 128 < 128 := Nat.mod_lt _ (by decide)
  generalize i / 128 % 128 = q at hq
  match q, hq with
  | 0, _ => exact table384 i
  | 1, _ => exact table385 i
  | 2, _ => exact table386 i
  | 3, _ => exact table387 i
  | 4, _ => exact table388 i
  | 5, _ => exact table389 i
  | 6, _ => exact table390 i
  | 7, _ => exact table391 i
  | 8, _ => exact table392 i
  | 9, _ => exact table393 i
  | 10, _ => exact table394 i
  | 11, _ => exact table395 i
  | 12, _ => exact table396 i
  | 13, _ => exact table397 i
  | 14, _ => exact table398 i
  | 15, _ => exact table399 i
  | 16, _ => exact table400 i
  | 17, _ => exact table401 i
  | 18, _ => exact table402 i
  | 19, _ => exact table403 i
  | 20, _ => exact table404 i
  | 21, _ => exact table405 i
  | 22, _ => exact table406 i
  | 23, _ => exact table407 i
  | 24, _ => exact table408 i
  | 25, _ => exact table409 i
  | 26, _ => exact table410 i
  | 27, _ => exact table411 i
  | 28, _ => exact table412 i
  | 29, _ => exact table413 i
  | 30, _ => exact table414 i
  | 31, _ => exact table415 i
  | 32, _ => exact table416 i
  | 33, _ => exact table417 i
  | 34, _ => exact table418 i
  | 35, _ => exact table419 i
  | 36, _ => exact table420 i
  | 37, _ => exact table421 i
  | 38, _ => exact table422 i
  | 39, _ => exact table423 i
  | 40, _ => exact table424 i
  | 41, _ => exact table425 i
  | 42, _ => exact table426 i
  | 43, _ => exact table427 i
  | 44, _ => exact table428 i
  | 45, _ => exact table429 i
  | 46, _ => exact table430 i
  | 47, _ => exact table431 i
  | 48, _ => exact table432 i
  | 49, _ => exact table433 i
  | 50, _ => exact table434 i
  | 51, _ => exact table435 i
  | 52, _ => exact table436 i
  | 53, _ => exact table437 i
  | 54, _ => exact table438 i
  | 55, _ => exact table439 i
  | 56, _ => exact table440 i
  | 57, _ => exact table441 i
  | 58, _ => exact table442 i
  | 59, _ => exact table443 i
  | 60, _ => exact table444 i
  | 61, _ => exact table445 i
  | 62, _ => exact table446 i
  | 63, _ => exact table447 i
  | 64, _ => exact table448 i
  | 65, _ => exact table449 i
  | 66, _ => exact table450 i
  | 67, _ => exact table451 i
  | 68, _ => exact table452 i
  | 69, _ => exact table453 i
  | 70, _ => exact table454 i
  | 71, _ => exact table455 i
  | 72, _ => exact table456 i
  | 73, _ => exact table457 i
  | 74, _ => exact table458 i
  | 75, _ => exact table459 i
  | 76, _ => exact table460 i
  | 77, _ => exact table461 i
  | 78, _ => exact table462 i
  | 79, _ => exact table463 i
  | 80, _ => exact table464 i
  | 81, _ => exact table465 i
  | 82, _ => exact table466 i
  | 83, _ => exact table467 i
  | 84, _ => exact table468 i
  | 85, _ => exact table469 i
  | 86, _ => exact table470 i
  | 87, _ => exact table471 i
  | 88, _ => exact table472 i
  | 89, _ => exact table473 i
  | 90, _ => exact table474 i
  | 91, _ => exact table475 i
  | 92, _ => exact table476 i
  | 93, _ => exact table477 i
  | 94, _ => exact table478 i
  | 95, _ => exact table479 i
  | 96, _ => exact table480 i
  | 97, _ => exact table481 i
  | 98, _ => exact table482 i
  | 99, _ => exact table483 i
  | 100, _ => exact table484 i
  | 101, _ => exact table485 i
  | 102, _ => exact table486 i
  | 103, _ => exact table487 i
  | 104, _ => exact table488 i
  | 105, _ => exact table489 i
  | 106, _ => exact table490 i
  | 107, _ => exact table491 i
  | 108, _ => exact table492 i
  | 109, _ => exact table493 i
  | 110, _ => exact table494 i
  | 111, _ => exact table495 i
  | 112, _ => exact table496 i
  | 113, _ => exact table497 i
  | 114, _ => exact table498 i
  | 115, _ => exact table499 i
  | 116, _ => exact table500 i
  | 117, _ => exact table501 i
  | 118, _ => exact table502 i
  | 119, _ => exact table503 i
  | 120, _ => exact table504 i
  | 121, _ => exact table505 i
  | 122, _ => exact table506 i
  | 123, _ => exact table507 i
  | 124, _ => exact table508 i
  | 125, _ => exact table509 i
  | 126, _ => exact table510 i
  | 127, _ => exact table511 i
  | n + 128, hq => exact absurd hq (by omega)

/-- The words of one row's column. -/
theorem pick_words (k b : ℕ) (hb : b < 256) : pick (words (2 * k + b / 128)) (b % 128) = if k = b ^^^ 32 then 0x3F80#16 else 0#16 := by
  have e1 : (2 * k + b / 128) / 2 = k := by omega
  have e2 : 128 * ((2 * k + b / 128) % 2) + b % 128 = b := by omega
  unfold pick words
  rw [List.getElem?_map, List.getElem?_range (Nat.mod_lt _ (by decide))]
  simp only [Option.map_some, Option.getD_some, e1, e2]

/-- The matrix's words. -/
theorem lit_at (k b : ℕ) (hk : k < 256) (hb : b < 256) : lit0t (256 * k + b) = if k = b ^^^ 32 then 0x3F80#16 else 0#16 := by
  have e1 : (256 * k + b) % 128 = b % 128 := by omega
  have e2 : 128 * ((256 * k + b) / 16384) + (256 * k + b) / 128 % 128 = 2 * k + b / 128 := by omega
  rw [← pick_words k b hb, ← e1, ← e2]
  unfold lit0t
  have hq : (256 * k + b) / 16384 < 4 := by omega
  generalize 256 * k + b = i at hq
  generalize i / 16384 = q at hq
  match q, hq with
  | 0, _ => exact group0 i
  | 1, _ => exact group1 i
  | 2, _ => exact group2 i
  | 3, _ => exact group3 i
  | n + 4, hq => exact absurd hq (by omega)

end Cert.Proof.Qkv

end
-- ==== Proof.QkvBlocks.lean ====
/-
  What the rotary call's region reads: the joint array's rows, the two tables of cosines and sines, the gains and the table of partners.
-/
module

public import proofs.«01_k».proof.Proof.QkvMath
public import proofs.«01_k».proof.Proof.QkvLit
public import proofs.«01_k».proof.Proof.Gen.Kernel12Ideal.Frame
public import Idealize.ShloMosaic.Lib.Pointwise
public import Idealize.ShloMosaic.Lib.Pipeline.Value
public import Idealize.ShloMosaic.Lib.Pipeline.ValueKit.Geometry

@[expose] public section

set_option maxRecDepth 16384

namespace Cert.Proof.Qkv

open Idealize.ShloMosaic Idealize.ShloMosaic.TcCoe Cert.Kernel12Ideal Cert.Kernel12Ideal.Gen
open Idealize.ShloMosaic.Pipeline (Dat)
open scoped BigOperators

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 4] := (by decide +kernel : ∀ t : Fin grid0.N, _)
theorem idx2 : ∀ t : Fin cfg0.N, win0_2.index t = ![t.val, 5] := (by decide +kernel : ∀ t : Fin grid0.N, _)
theorem idx3 : ∀ t : Fin cfg0.N, win0_3.index t = ![if t.val < 32 then t.val else t.val % 8, 0] := (by decide +kernel : ∀ t : Fin grid0.N, _)
theorem idx4 : ∀ t : Fin cfg0.N, win0_4.index t = ![if t.val < 32 then t.val else t.val % 8, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, t.val / 2, 0, t.val % 2] := (by decide +kernel : ∀ t : Fin grid0.N, _)

/-- A point's rows of the queries. -/
theorem query_block (t : Fin cfg0.N) (a : Fin 512) (k : Fin 2048) (r : Fin 24576) (hr : r.val = 512 * t.val + a.val) :
    X0_0 m c t (ix2 a k) = m ((c : Thread nD τ).loc main_arg0) (ix2 r ⟨k.val, by omega⟩) := by
  unfold X0_0 Pipeline.Window.fill
  rw [dif_pos (moved0_0 t _)]
  refine Eq.trans ?_ (congrFun (V_main_arg0 m c) (ix2 r ⟨k.val, by omega⟩))
  refine congrArg (V m c main_arg0) (funext fun e => Fin.ext ?_)
  match e with
  | ⟨0, _⟩ =>
    blk_simp [idx0]
    change t.val * 512 + a.val = r.val
    omega
  | ⟨1, _⟩ =>
    blk_simp [idx0]
    try rfl

/-- A point's rows of the keys. -/
theorem key_block (t : Fin cfg0.N) (a : Fin 512) (k : Fin 512) (r : Fin 24576) (hr : r.val = 512 * t.val + a.val) :
    iblk m c 1 t (ix2 a k) = m ((c : Thread nD τ).loc main_arg0) (ix2 r ⟨2048 + k.val, by omega⟩) := by
  refine Eq.trans ?_ (congrFun (V_main_arg0 m c) (ix2 r ⟨2048 + k.val, by omega⟩))
  refine congrArg (V m c main_arg0) (funext fun e => Fin.ext ?_)
  match e with
  | ⟨0, _⟩ =>
    blk_simp [idx1]
    change t.val * 512 + a.val = r.val
    omega
  | ⟨1, _⟩ =>
    blk_simp [idx1]
    try rfl

/-- A point's rows of the values. -/
theorem value_block (t : Fin cfg0.N) (a : Fin 512) (k : Fin 512) (r : Fin 24576) (hr : r.val = 512 * t.val + a.val) :
    iblk m c 2 t (ix2 a k) = m ((c : Thread nD τ).loc main_arg0) (ix2 r ⟨2560 + k.val, by omega⟩) := by
  refine Eq.trans ?_ (congrFun (V_main_arg0 m c) (ix2 r ⟨2560 + k.val, by omega⟩))
  refine congrArg (V m c main_arg0) (funext fun e => Fin.ext ?_)
  match e with
  | ⟨0, _⟩ =>
    blk_simp [idx2]
    change t.val * 512 + a.val = r.val
    omega
  | ⟨1, _⟩ =>
    blk_simp [idx2]
    try rfl

/-- The gains' rows. -/
theorem gain_at (g : Vec Ideal S128 .f32) (k : Fin 128) : shapeCast S1x128 g shapeCasts_S128_S1x128 (ix2 0 k) = g (ix1 k) := by
  pointwise

theorem V_gain3 : V m c main_v12 = shapeCast S1x128 (m ((c : Thread nD τ).loc main_arg3)) shapeCasts_S128_S1x128 := by
  unfold_abbrev_sides
  after_results
  rfl

theorem V_gain4 : V m c main_v13 = shapeCast S1x128 (m ((c : Thread nD τ).loc main_arg4)) shapeCasts_S128_S1x128 := by
  unfold_abbrev_sides
  after_results
  rfl

theorem gain3_block (t : Fin cfg0.N) (k : Fin 128) : iblk m c 5 t (ix2 0 k) = m ((c : Thread nD τ).loc main_arg3) (ix1 k) := by
  refine Eq.trans ?_ ((congrFun (V_gain3 m c) (ix2 0 k)).trans (gain_at _ k))
  refine congrArg (V m c main_v12) (funext fun e => Fin.ext ?_)
  match e with
  | ⟨0, _⟩ =>
    blk_simp [idx5]
  | ⟨1, _⟩ =>
    blk_simp [idx5]

theorem gain4_block (t : Fin cfg0.N) (k : Fin 128) : iblk m c 6 t (ix2 0 k) = m ((c : Thread nD τ).loc main_arg4) (ix1 k) := by
  refine Eq.trans ?_ ((congrFun (V_gain4 m c) (ix2 0 k)).trans (gain_at _ k))
  refine congrArg (V m c main_v13) (funext fun e => Fin.ext ?_)
  match e with
  | ⟨0, _⟩ =>
    blk_simp [idx6]
  | ⟨1, _⟩ =>
    blk_simp [idx6]

/-- The table of partners. -/
theorem V_lit : V m c main_cst = (fun i => FloatOps.ofBits (F := Ideal) .bf16 (lit0 (S256x256.rowMajor i))) := by
  unfold_abbrev_sides
  after_results
  rfl

theorem row_major (k b : Fin 256) : (S256x256.rowMajor (ix2 k b)).val = 256 * k.val + b.val := by
  have e : (S256x256.rowMajor (ix2 k b)).val = k.val * 256 + b.val := Shape.rowMajor_val_two (d := ![256, 256]) _
  omega

theorem one_word : Ideal.ofBits .bf16 0x3F80#16 = 1 := by
  have e : BitVec.extractLsb' 15 1 16256#16 = 0#1 := by decide
  norm_num [Ideal.ofBits, Ideal.ieee, Nat.shiftRight_eq_div_pow, e]

theorem zero_word : Ideal.ofBits .bf16 0#16 = 0 := by
  norm_num [Ideal.ofBits, Ideal.ieee]

theorem lit_block (t : Fin cfg0.N) (k b : Fin 256) : (iblk m c 7 t (ix2 k b) : EReal) = if k.val = b.val ^^^ 32 then (1 : EReal) else 0 := by
  have h : (V m c main_cst (ix2 k b) : EReal) = if k.val = b.val ^^^ 32 then (1 : EReal) else 0 := by
    rw [V_lit]
    change Ideal.ofBits .bf16 (lit0t (S256x256.rowMajor (ix2 k b)).val) = _
    rw [row_major, lit_at k.val b.val k.isLt b.isLt]
    split
    · exact one_word
    · exact zero_word
  refine Eq.trans ?_ h
  refine congrArg (V m c main_cst) (funext fun e => Fin.ext ?_)
  match e with
  | ⟨0, _⟩ =>
    blk_simp [idx7]
  | ⟨1, _⟩ =>
    blk_simp [idx7]

/-- Four tables side by side. -/
noncomputable def four (u0 u1 u2 u3 : Vec Ideal S16384x32 .f32) : Vec Ideal S16384x128 .f32 :=
  concatenate S16384x128 1 [⟨S16384x32, u0⟩, ⟨S16384x32, u1⟩, ⟨S16384x32, u2⟩, ⟨S16384x32, u3⟩]
    concatenates_S16384x32_S16384x32_S16384x32_S16384x32_S16384x128_d1

/-- Four tables side by side, at their coordinates. -/
theorem four_at (u0 u1 u2 u3 : Vec Ideal S16384x32 .f32) (p : Fin 16384) (b : Fin 128) :
    four u0 u1 u2 u3 (ix2 p b)
      = if b.val < 64 then (if b.val % 64 < 32 then u0 (ix2 p ⟨b.val % 32, by omega⟩) else u1 (ix2 p ⟨b.val % 32, by omega⟩))
        else (if b.val % 64 < 32 then u2 (ix2 p ⟨b.val % 32, by omega⟩) else u3 (ix2 p ⟨b.val % 32, by omega⟩)) := by
  unfold four
  pointwise
  simp only [Nat.sub_sub]
  by_cases h : b.val < 64
  · by_cases h' : b.val % 64 < 32
    · have e : b.val % 32 = b.val := by omega
      have i : b.val < 32 := by omega
      simp only [h, h', i, e, ↓reduceDIte, ↓reduceIte]
    · have e : b.val % 32 = b.val - 32 := by omega
      have i : ¬b.val < 32 := by omega
      have j : b.val - 32 < 32 := by omega
      simp only [h, h', i, j, e, ↓reduceDIte, ↓reduceIte]
  · by_cases h' : b.val % 64 < 32
    · have e : b.val % 32 = b.val - (32 + 32) := by omega
      have i : ¬b.val < 32 := by omega
      have j : ¬b.val - 32 < 32 := by omega
      have k : b.val - (32 + 32) < 32 := by omega
      simp only [h, h', i, j, k, e, ↓reduceDIte, ↓reduceIte]
    · have e : b.val % 32 = b.val - (32 + 32 + 32) := by omega
      have i : ¬b.val < 32 := by omega
      have j : ¬b.val - 32 < 32 := by omega
      have k : ¬b.val - (32 + 32) < 32 := by omega
      simp only [h, h', i, j, k, e, ↓reduceDIte, ↓reduceIte]

/-- The cosines and sines of an argument's angles. -/
noncomputable def cosOf (x : Vec Ideal S16384x32 .f32) : Vec Ideal S16384x32 .f32 := fun i => Ideal.cos (x i)
noncomputable def sinOf (x : Vec Ideal S16384x32 .f32) : Vec Ideal S16384x32 .f32 := fun i => Ideal.sin (x i)
noncomputable def negOf (x : Vec Ideal S16384x32 .f32) : Vec Ideal S16384x32 .f32 := fun i => -(x i : EReal)

/-- The table of cosines. -/
theorem V_cos : V m c main_v4 = four (cosOf (m ((c : Thread nD τ).loc main_arg1))) (cosOf (m ((c : Thread nD τ).loc main_arg1)))
    (cosOf (m ((c : Thread nD τ).loc main_arg2))) (cosOf (m ((c : Thread nD τ).loc main_arg2))) := by
  unfold_abbrev_sides
  after_results
  rfl

/-- The table of sines. -/
theorem V_sin : V m c main_v11 = four (negOf (sinOf (m ((c : Thread nD τ).loc main_arg1)))) (sinOf (m ((c : Thread nD τ).loc main_arg1)))
    (negOf (sinOf (m ((c : Thread nD τ).loc main_arg2)))) (sinOf (m ((c : Thread nD τ).loc main_arg2))) := by
  unfold_abbrev_sides
  after_results
  rfl

/-- A point's rows of the table of cosines. -/
theorem cos_block (t : Fin cfg0.N) (a : Fin 512) (b : Fin 128) (p : Fin 16384) (hp : p.val = 512 * (if t.val < 32 then t.val else t.val % 8) + a.val) :
    iblk m c 3 t (ix2 a b) = cosAt (fun j => m ((c : Thread nD τ).loc main_arg1) (ix2 p j)) (fun j => m ((c : Thread nD τ).loc main_arg2) (ix2 p j)) b := by
  have h : V m c main_v4 (ix2 p b) = cosAt (fun j => m ((c : Thread nD τ).loc main_arg1) (ix2 p j)) (fun j => m ((c : Thread nD τ).loc main_arg2) (ix2 p j)) b := by
    rw [V_cos]
    refine (four_at _ _ _ _ p b).trans ?_
    unfold cosAt cosOf
    by_cases h : b.val < 64
    · rw [if_pos h, dif_pos h, ite_self]
    · rw [if_neg h, dif_neg h, ite_self]
  refine Eq.trans ?_ h
  refine congrArg (V m c main_v4) (funext fun e => Fin.ext ?_)
  match e with
  | ⟨0, _⟩ =>
    blk_simp [idx3]
    change (if t.val < 32 then t.val else t.val % 8) * 512 + a.val = p.val
    omega
  | ⟨1, _⟩ =>
    blk_simp [idx3]

/-- A point's rows of the table of sines. -/
theorem sin_block (t : Fin cfg0.N) (a : Fin 512) (b : Fin 128) (p : Fin 16384) (hp : p.val = 512 * (if t.val < 32 then t.val else t.val % 8) + a.val) :
    iblk m c 4 t (ix2 a b) = sinAt (fun j => m ((c : Thread nD τ).loc main_arg1) (ix2 p j)) (fun j => m ((c : Thread nD τ).loc main_arg2) (ix2 p j)) b := by
  have h : V m c main_v11 (ix2 p b) = sinAt (fun j => m ((c : Thread nD τ).loc main_arg1) (ix2 p j)) (fun j => m ((c : Thread nD τ).loc main_arg2) (ix2 p j)) b := by
    rw [V_sin]
    refine (four_at _ _ _ _ p b).trans ?_
    unfold sinAt negOf sinOf
    by_cases h : b.val < 64
    · rw [if_pos h, dif_pos h]
    · rw [if_neg h, dif_neg h]
  refine Eq.trans ?_ h
  refine congrArg (V m c main_v11) (funext fun e => Fin.ext ?_)
  match e with
  | ⟨0, _⟩ =>
    blk_simp [idx4]
    change (if t.val < 32 then t.val else t.val % 8) * 512 + a.val = p.val
    omega
  | ⟨1, _⟩ =>
    blk_simp [idx4]

end Cert.Proof.Qkv

end
-- ==== Proof.QkvTile.lean ====
/-
  What one point of the rotary call computes: each pair of heads normalised, scaled and turned, the partners' entries taken by two
  products with the table of partners; and the values' heads on their side over ones.
-/
module

public import proofs.«01_k».proof.Proof.QkvMath
public import proofs.«01_k».proof.Proof.Gen.Kernel12Ideal.Frame
public import Idealize.ShloMosaic.Lib.Pointwise
public import Idealize.ShloMosaic.Lib.Pipeline.Value
public import Idealize.ShloMosaic.Lib.Pipeline.ValueKit.Geometry
public import Idealize.ShloMosaic.Lib.Pipeline.ValueKit.Tiles

@[expose] public section

set_option maxRecDepth 16384

namespace Cert.Proof.Qkv

open Idealize.ShloMosaic Idealize.ShloMosaic.TcCoe Cert.Kernel12Ideal Cert.Kernel12Ideal.Gen
open scoped BigOperators

/-- A table's row, twice. -/
theorem twice_cos (x : Vec Ideal S512x128 .f32) (a : Fin 512) (b : Fin 256) : k0_pay2 x (ix2 a b) = x (ix2 a ⟨b.val % 128, by omega⟩) := by
  unfold k0_pay2
  pointwise
  by_cases h : b.val < 128
  · have e : b.val % 128 = b.val := by omega
    simp only [h, ↓reduceDIte, e]
  · have e : b.val - 128 = b.val % 128 := by omega
    simp only [h, ↓reduceDIte, e]

theorem twice_sin (x : Vec Ideal S512x128 .f32) (a : Fin 512) (b : Fin 256) : k0_pay3 x (ix2 a b) = x (ix2 a ⟨b.val % 128, by omega⟩) :=
  twice_cos x a b

/-- The gain's row, twice. -/
theorem twice_gain (x : Vec Ideal S1x128 .f32) (b : Fin 256) : k0_pay4 x (ix2 0 b) = x (ix2 0 ⟨b.val % 128, by omega⟩) := by
  unfold k0_pay4
  pointwise
  by_cases h : b.val < 128
  · have e : b.val % 128 = b.val := by omega
    simp only [h, ↓reduceDIte, e]
  · have e : b.val - 128 = b.val % 128 := by omega
    simp only [h, ↓reduceDIte, e]

/-- A head of a row, normalised and scaled. -/
noncomputable def head (f : ℕ → EReal) (g : Fin 128 → EReal) (h : ℕ) (k : Fin 128) : EReal := hrms (fun k => f (128 * h + k.val)) k * g k

theorem head_real (f : ℕ → EReal) (g : Fin 128 → EReal) (hg : ∀ k, ∃ r : ℝ, g k = (r : EReal)) (h : ℕ) (k : Fin 128) :
    ∃ r : ℝ, head f g h k = (r : EReal) := by
  obtain ⟨p, hp⟩ := hrms_real (fun k : Fin 128 => f (128 * h + k.val)) k
  obtain ⟨q, hq⟩ := hg k
  exact ⟨p * q, by unfold head; rw [hp, hq]; exact (EReal.coe_mul p q).symm⟩

/-- A pair of heads, normalised and scaled, at its coordinates. -/
theorem pair_norm (x5 : Vec Ideal S1x128 .f32) (v : Vec Ideal S512x256 .bf16) (a : Fin 512) (b : Fin 256) (f : ℕ → EReal) (g : Fin 128 → EReal)
    (hf : ∀ k : Fin 256, v (ix2 a k) = f k.val) (hg : ∀ k, x5 (ix2 0 k) = g k) :
    k0_pay9 (k0_pay4 x5) v (ix2 a b) = head f g (b.val / 128) ⟨b.val % 128, by omega⟩ := by
  have e : k0_pay4 x5 (ix2 0 b) = g ⟨b.val % 128, by omega⟩ := (twice_gain x5 b).trans (hg _)
  revert e
  generalize k0_pay4 x5 = v9
  intro e
  unfold k0_pay9
  dsimp only
  pointwise
  rw [e]
  unfold head hrms
  simp only [hf]
  by_cases h : b.val < 128
  · have e0 : b.val / 128 = 0 := by omega
    have e1 : b.val % 128 = b.val := by omega
    simp only [h, ↓reduceDIte, e0, e1, Nat.mul_zero, Nat.zero_add]
  · have e0 : b.val / 128 = 1 := by omega
    have e1 : 128 + b.val % 128 = b.val := by omega
    have e2 : 128 + (b.val - 128) = b.val := by omega
    simp only [h, ↓reduceDIte, e0, e1, e2, Nat.mul_one]

/-- A pair of heads turned, at its coordinates. -/
theorem pair_turn (v2 v5 : Vec Ideal S512x256 .f32) (v6 : Vec Ideal S256x256 .bf16) (y : Vec Ideal S512x256 .f32) (a : Fin 512) (b : Fin 256) :
    (addf (mulf y v2) (mulf (addf (matmul (φ₂ := .bf16) dot_S512x256_S256x256_S512x256_1_0_0_1_n_n none (truncf .bf16 y bitsLt_bf16_f32) v6 (constant S512x256 .f32 0x00000000#32)) (matmul (φ₂ := .bf16) dot_S512x256_S256x256_S512x256_1_0_0_1_n_n none (truncf .bf16 (subf y (extf .f32 (truncf .bf16 y bitsLt_bf16_f32) bitsLt_bf16_f32)) bitsLt_bf16_f32) v6 (constant S512x256 .f32 0x00000000#32))) v5) : FVec Ideal S512x256 .f32) (ix2 a b)
      = y (ix2 a b) * v2 (ix2 a b) + ((∑ k : Fin 256, y (ix2 a k) * v6 (ix2 k b)) + (∑ k : Fin 256, (y (ix2 a k) - y (ix2 a k)) * v6 (ix2 k b))) * v5 (ix2 a b) := by
  pointwise

/-- The whole of what a pair's pieces hold before any scale. -/
noncomputable def turned (x3 x4 : Vec Ideal S512x128 .f32) (x5 : Vec Ideal S1x128 .f32) (x7 : Vec Ideal S256x256 .bf16) (v : Vec Ideal S512x256 .bf16) : FVec Ideal S512x256 .f32 :=
  addf (mulf (k0_pay9 (k0_pay4 x5) v) (k0_pay2 x3)) (mulf (addf (matmul (φ₂ := .bf16) dot_S512x256_S256x256_S512x256_1_0_0_1_n_n none (truncf .bf16 (k0_pay9 (k0_pay4 x5) v) bitsLt_bf16_f32) x7 (constant S512x256 .f32 0x00000000#32)) (matmul (φ₂ := .bf16) dot_S512x256_S256x256_S512x256_1_0_0_1_n_n none (truncf .bf16 (subf (k0_pay9 (k0_pay4 x5) v) (extf .f32 (truncf .bf16 (k0_pay9 (k0_pay4 x5) v) bitsLt_bf16_f32) bitsLt_bf16_f32)) bitsLt_bf16_f32) x7 (constant S512x256 .f32 0x00000000#32))) (k0_pay3 x4))

theorem turned_at (x3 x4 : Vec Ideal S512x128 .f32) (x5 : Vec Ideal S1x128 .f32) (x7 : Vec Ideal S256x256 .bf16) (v : Vec Ideal S512x256 .bf16)
    (a : Fin 512) (b : Fin 256) (f : ℕ → EReal) (g : Fin 128 → EReal) (ar ac : Fin 32 → EReal)
    (hf : ∀ k : Fin 256, v (ix2 a k) = f k.val) (hg : ∀ k, x5 (ix2 0 k) = g k) (hr : ∀ k, ∃ r : ℝ, g k = (r : EReal))
    (h3 : ∀ k, x3 (ix2 a k) = cosAt ar ac k) (h4 : ∀ k, x4 (ix2 a k) = sinAt ar ac k)
    (h7 : ∀ k b : Fin 256, x7 (ix2 k b) = if k.val = b.val ^^^ 32 then 1 else 0) :
    turned x3 x4 x5 x7 v (ix2 a b) = turn (head f g (b.val / 128)) ar ac ⟨b.val % 128, by omega⟩ := by
  unfold turned
  refine (pair_turn _ _ _ _ a b).trans ?_
  have hy : ∀ k : Fin 256, k0_pay9 (k0_pay4 x5) v (ix2 a k) = head f g (k.val / 128) ⟨k.val % 128, by omega⟩ := fun k =>
    pair_norm x5 v a k f g hf hg
  obtain ⟨hx, hl⟩ := xor_pair b
  have hb : b.val ^^^ 32 < 256 := by rw [hx]; omega
  have hs := partner_sum (fun k : Fin 256 => k0_pay9 (k0_pay4 x5) v (ix2 a k)) (fun k => x7 (ix2 k b)) ⟨b.val ^^^ 32, hb⟩
    (fun k => by rw [hy]; exact head_real f g hr _ _)
    (fun k => by
      rw [h7 k b]
      by_cases hk : k.val = b.val ^^^ 32
      · rw [if_pos hk, if_pos (Fin.ext hk)]
      · rw [if_neg hk, if_neg fun e => hk (congrArg Fin.val e)])
  rw [hs, twice_cos, twice_sin, h3, h4]
  beta_reduce
  rw [hy, hy]
  have e1 : (b.val ^^^ 32) / 128 = b.val / 128 := by omega
  have e2 : (b.val ^^^ 32) % 128 = (b.val % 128) ^^^ 32 := by omega
  simp only [e1]
  exact turn_tables (head f g (b.val / 128)) ar ac ⟨b.val % 128, by omega⟩ ⟨(b.val ^^^ 32) % 128, by omega⟩ e2

/-- The queries' pieces. -/
theorem query_piece (x3 x4 : Vec Ideal S512x128 .f32) (x5 : Vec Ideal S1x128 .f32) (x7 : Vec Ideal S256x256 .bf16) (v : Vec Ideal S512x256 .bf16) :
    k0_pay18 (k0_pay2 x3) (k0_pay3 x4) x7 (k0_pay4 x5) v
      = truncf .bf16 (mulf (turned x3 x4 x5 x7 v) (broadcast S512x256 (Scalar.ofBits .f32 0x3E0293EE#32))) bitsLt_bf16_f32 := rfl

/-- The keys' pieces. -/
theorem key_piece (x3 x4 : Vec Ideal S512x128 .f32) (x6 : Vec Ideal S1x128 .f32) (x7 : Vec Ideal S256x256 .bf16) (v : Vec Ideal S512x256 .bf16) :
    k0_pay33 (k0_pay2 x3) (k0_pay3 x4) x7 (k0_pay5 x6) (k0_pay30 v) (k0_pay31 v) (k0_pay32 v)
      = truncf .bf16 (turned x3 x4 x6 x7 v) bitsLt_bf16_f32 := rfl

end Cert.Proof.Qkv

end
-- ==== Proof.QkvOut.lean ====
/-
  What one point of the rotary call leaves in its three result blocks.
-/
module

public import proofs.«01_k».proof.Proof.QkvTile

@[expose] public section

set_option maxRecDepth 16384

namespace Cert.Proof.Qkv

open Idealize.ShloMosaic Idealize.ShloMosaic.TcCoe Cert.Kernel12Ideal Cert.Kernel12Ideal.Gen
open scoped BigOperators

theorem origin : (![0, 0] : Fin 2 → ℕ) = fun _ => 0 := by decide

/-- A piece of queries has the block's value at each of its places. -/
theorem query_tile (x0 : Vec Ideal S512x2048 .bf16) (x3 x4 : Vec Ideal S512x128 .f32) (x5 : Vec Ideal S1x128 .f32) (x7 : Vec Ideal S256x256 .bf16)
    (a : Fin 512) (b : Fin 2048) (f : ℕ → EReal) (g : Fin 128 → EReal) (ar ac : Fin 32 → EReal)
    (hf : ∀ k : Fin 2048, x0 (ix2 a k) = f k.val) (hg : ∀ k, x5 (ix2 0 k) = g k) (hr : ∀ k, ∃ r : ℝ, g k = (r : EReal))
    (h3 : ∀ k, x3 (ix2 a k) = cosAt ar ac k) (h4 : ∀ k, x4 (ix2 a k) = sinAt ar ac k)
    (h7 : ∀ k b : Fin 256, x7 (ix2 k b) = if k.val = b.val ^^^ 32 then 1 else 0)
    (j : ℕ) (hj : j < 8) (inb : ∀ e, (![0, 256 * j] : Fin 2 → ℕ) e + (![512, 256] : Fin 2 → ℕ) e ≤ S512x2048.size e) :
    View.TileAt (Val := Elt Ideal) (S := S512x2048) (e := .bf16) (ix2 a b) ![0, 256 * j] ![512, 256]
      (k0_pay18 (k0_pay2 x3) (k0_pay3 x4) x7 (k0_pay4 x5) (View.ld x0 (Rect.unit (s := S512x2048) ![0, 256 * j] ![512, 256] inb)))
      (turn (head f g (b.val / 128)) ar ac ⟨b.val % 128, by omega⟩ * Ideal.ofBits .f32 0x3E0293EE#32 : EReal) := by
  intro x hx
  have ha : a.val = 0 + (x 0).val := hx 0
  have hb : b.val = 256 * j + (x 1).val := hx 1
  have hx1 : (x 1).val < 256 := (x 1).isLt
  have e : x = ix2 a ⟨(x 1).val, hx1⟩ := funext fun e => match e with
    | ⟨0, _⟩ => Fin.ext (by change (x 0).val = a.val; omega)
    | ⟨1, _⟩ => rfl
  rw [query_piece]
  refine (congrArg _ e).trans ?_
  refine congrArg (fun w : EReal => w * Ideal.ofBits .f32 0x3E0293EE#32) ?_
  refine (turned_at x3 x4 x5 x7 _ a ⟨(x 1).val, hx1⟩ (fun n => f (256 * j + n)) g ar ac ?_ hg hr h3 h4 h7).trans ?_
  · intro k
    refine (View.ld_unit_apply_of x0 _ _ inb _ (ix2 a ⟨256 * j + k.val, by omega⟩) fun e => ?_).trans (hf _)
    match e with
    | ⟨0, _⟩ => exact (Nat.zero_add _).symm
    | ⟨1, _⟩ => rfl
  · have e1 : (⟨(x 1).val % 128, by omega⟩ : Fin 128) = ⟨b.val % 128, by omega⟩ := Fin.ext (by change (x 1).val % 128 = b.val % 128; omega)
    have e2 : head (fun n => f (256 * j + n)) g ((x 1).val / 128) = head f g (b.val / 128) := by
      funext k
      unfold head
      have e3 : ∀ k : ℕ, 256 * j + (128 * ((x 1).val / 128) + k) = 128 * (b.val / 128) + k := fun k => by omega
      simp only [e3]
    change turn (head (fun n => f (256 * j + n)) g ((x 1).val / 128)) ar ac ⟨(x 1).val % 128, _⟩ = _
    rw [e1, e2]

/-- A piece of keys. -/
theorem key_tile (x1 : Vec Ideal S512x512 .bf16) (x3 x4 : Vec Ideal S512x128 .f32) (x6 : Vec Ideal S1x128 .f32) (x7 : Vec Ideal S256x256 .bf16)
    (a : Fin 512) (b : Fin 512) (f : ℕ → EReal) (g : Fin 128 → EReal) (ar ac : Fin 32 → EReal)
    (hf : ∀ k : Fin 512, x1 (ix2 a k) = f k.val) (hg : ∀ k, x6 (ix2 0 k) = g k) (hr : ∀ k, ∃ r : ℝ, g k = (r : EReal))
    (h3 : ∀ k, x3 (ix2 a k) = cosAt ar ac k) (h4 : ∀ k, x4 (ix2 a k) = sinAt ar ac k)
    (h7 : ∀ k b : Fin 256, x7 (ix2 k b) = if k.val = b.val ^^^ 32 then 1 else 0)
    (j : ℕ) (hj : j < 2) (inb : ∀ e, (![0, 256 * j] : Fin 2 → ℕ) e + (![512, 256] : Fin 2 → ℕ) e ≤ S512x512.size e) :
    View.TileAt (Val := Elt Ideal) (S := S512x512) (e := .bf16) (ix2 a b) ![0, 256 * j] ![512, 256]
      (truncf .bf16 (turned x3 x4 x6 x7 (View.ld x1 (Rect.unit (s := S512x512) ![0, 256 * j] ![512, 256] inb))) bitsLt_bf16_f32)
      (turn (head f g (b.val / 128)) ar ac ⟨b.val % 128, by omega⟩ : EReal) := by
  intro x hx
  have ha : a.val = 0 + (x 0).val := hx 0
  have hb : b.val = 256 * j + (x 1).val := hx 1
  have hx1 : (x 1).val < 256 := (x 1).isLt
  have e : x = ix2 a ⟨(x 1).val, hx1⟩ := funext fun e => match e with
    | ⟨0, _⟩ => Fin.ext (by change (x 0).val = a.val; omega)
    | ⟨1, _⟩ => rfl
  refine (congrArg _ e).trans ?_
  refine (turned_at x3 x4 x6 x7 _ a ⟨(x 1).val, hx1⟩ (fun n => f (256 * j + n)) g ar ac ?_ hg hr h3 h4 h7).trans ?_
  · intro k
    refine (View.ld_unit_apply_of x1 _ _ inb _ (ix2 a ⟨256 * j + k.val, by omega⟩) fun e => ?_).trans (hf _)
    match e with
    | ⟨0, _⟩ => exact (Nat.zero_add _).symm
    | ⟨1, _⟩ => rfl
  · have e1 : (⟨(x 1).val % 128, by omega⟩ : Fin 128) = ⟨b.val % 128, by omega⟩ := Fin.ext (by change (x 1).val % 128 = b.val % 128; omega)
    have e2 : head (fun n => f (256 * j + n)) g ((x 1).val / 128) = head f g (b.val / 128) := by
      funext k
      unfold head
      have e3 : ∀ k : ℕ, 256 * j + (128 * ((x 1).val / 128) + k) = 128 * (b.val / 128) + k := fun k => by omega
      simp only [e3]
    change turn (head (fun n => f (256 * j + n)) g ((x 1).val / 128)) ar ac ⟨(x 1).val % 128, _⟩ = _
    rw [e1, e2]

set_option maxHeartbeats 1000000 in
/-- A point's block of queries, at its coordinates. -/
theorem query_out (c : Dev nD) (t : Fin grid0.N) (x0 : Vec Ideal S512x2048 .bf16) (x1 x2 : Vec Ideal S512x512 .bf16) (x3 x4 : Vec Ideal S512x128 .f32) (x5 x6 : Vec Ideal S1x128 .f32) (x7 : Vec Ideal S256x256 .bf16)
    (a : Fin 512) (b : Fin 2048) (f : ℕ → EReal) (g : Fin 128 → EReal) (ar ac : Fin 32 → EReal)
    (hf : ∀ k : Fin 2048, x0 (ix2 a k) = f k.val) (hg : ∀ k, x5 (ix2 0 k) = g k) (hr : ∀ k, ∃ r : ℝ, g k = (r : EReal))
    (h3 : ∀ k, x3 (ix2 a k) = cosAt ar ac k) (h4 : ∀ k, x4 (ix2 a k) = sinAt ar ac k)
    (h7 : ∀ k b : Fin 256, x7 (ix2 k b) = if k.val = b.val ^^^ 32 then 1 else 0) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix2 a b)
      = turn (head f g (b.val / 128)) ar ac ⟨b.val % 128, by omega⟩ * Ideal.ofBits .f32 0x3E0293EE#32 := by
  have cov := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix2 a b)
  unfold out0_A_8
  rw [View.read_writes_junk_eq_canon]
  refine View.canon_eq_of_allAt _ _ _ cov ?_
  clear cov
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, View.readAt_eq_ld, Memref.IsWhole.read_unread,
    View.ld_unit_zero (S := S512x128) origin, View.ld_unit_zero (S := S1x128) origin, View.ld_unit_zero (S := S256x256) origin]
  refine View.allAt_cons_unit _ _ _ _ _ (query_tile x0 x3 x4 x5 x7 a b f g ar ac hf hg hr h3 h4 h7 7 (by decide) _) ?_
  refine View.allAt_cons_unit _ _ _ _ _ (query_tile x0 x3 x4 x5 x7 a b f g ar ac hf hg hr h3 h4 h7 6 (by decide) _) ?_
  refine View.allAt_cons_unit _ _ _ _ _ (query_tile x0 x3 x4 x5 x7 a b f g ar ac hf hg hr h3 h4 h7 5 (by decide) _) ?_
  refine View.allAt_cons_unit _ _ _ _ _ (query_tile x0 x3 x4 x5 x7 a b f g ar ac hf hg hr h3 h4 h7 4 (by decide) _) ?_
  refine View.allAt_cons_unit _ _ _ _ _ (query_tile x0 x3 x4 x5 x7 a b f g ar ac hf hg hr h3 h4 h7 3 (by decide) _) ?_
  refine View.allAt_cons_unit _ _ _ _ _ (query_tile x0 x3 x4 x5 x7 a b f g ar ac hf hg hr h3 h4 h7 2 (by decide) _) ?_
  refine View.allAt_cons_unit _ _ _ _ _ (query_tile x0 x3 x4 x5 x7 a b f g ar ac hf hg hr h3 h4 h7 1 (by decide) _) ?_
  refine View.allAt_cons_unit _ _ _ _ _ (query_tile x0 x3 x4 x5 x7 a b f g ar ac hf hg hr h3 h4 h7 0 (by decide) _) ?_
  exact View.allAt_nil _ _

set_option maxHeartbeats 1000000 in
/-- A point's block of keys. -/
theorem key_out (c : Dev nD) (t : Fin grid0.N) (x0 : Vec Ideal S512x2048 .bf16) (x1 x2 : Vec Ideal S512x512 .bf16) (x3 x4 : Vec Ideal S512x128 .f32) (x5 x6 : Vec Ideal S1x128 .f32) (x7 : Vec Ideal S256x256 .bf16)
    (a : Fin 512) (b : Fin 512) (f : ℕ → EReal) (g : Fin 128 → EReal) (ar ac : Fin 32 → EReal)
    (hf : ∀ k : Fin 512, x1 (ix2 a k) = f k.val) (hg : ∀ k, x6 (ix2 0 k) = g k) (hr : ∀ k, ∃ r : ℝ, g k = (r : EReal))
    (h3 : ∀ k, x3 (ix2 a k) = cosAt ar ac k) (h4 : ∀ k, x4 (ix2 a k) = sinAt ar ac k)
    (h7 : ∀ k b : Fin 256, x7 (ix2 k b) = if k.val = b.val ^^^ 32 then 1 else 0) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix2 a b)
      = turn (head f g (b.val / 128)) ar ac ⟨b.val % 128, by omega⟩ := by
  have cov := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix2 a b)
  unfold out0_A_9
  rw [View.read_writes_junk_eq_canon]
  refine View.canon_eq_of_allAt _ _ _ cov ?_
  clear cov
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, Memref.IsWhole.read_unread,
    View.ld_unit_zero (S := S512x128) origin, View.ld_unit_zero (S := S1x128) origin, View.ld_unit_zero (S := S256x256) origin]
  refine View.allAt_cons_unit _ _ _ _ _ (key_tile x1 x3 x4 x6 x7 a b f g ar ac hf hg hr h3 h4 h7 1 (by decide) _) ?_
  refine View.allAt_cons_unit _ _ _ _ _ (key_tile x1 x3 x4 x6 x7 a b f g ar ac hf hg hr h3 h4 h7 0 (by decide) _) ?_
  exact View.allAt_nil _ _

/-- A head of values on its side. -/
theorem side_at (w : Vec Ideal S512x128 .bf16) (i j : Fin 1) (k : Fin 128) (l : Fin 512) : k0_pay39 w (ix4 i j k l) = w (ix2 l k) := by
  unfold k0_pay39
  pointwise

/-- A row of ones. -/
theorem ones_at (y : S1x1x16x512.Idx) : k0_pay40 (F := Ideal) y = Ideal.ofBits .bf16 0x3F80#16 := rfl

/-- What a block of values holds. -/
noncomputable def sided (f : ℕ → EReal) (h k : ℕ) : EReal := if k < 128 then f (128 * h + k) else Ideal.ofBits .bf16 0x3F80#16

theorem value_tile (x2 : Vec Ideal S512x512 .bf16) (a : Fin 4) (i : Fin 1) (k : Fin 144) (l : Fin 512) (f : ℕ → EReal)
    (hf : ∀ k : Fin 512, x2 (ix2 l k) = f k.val) (j : ℕ) (hj : j < 4)
    (inb : ∀ e, (![0, 128 * j] : Fin 2 → ℕ) e + (![512, 128] : Fin 2 → ℕ) e ≤ S512x512.size e) :
    View.TileAt (Val := Elt Ideal) (S := S4x1x144x512) (e := .bf16) (ix4 a i k l) ![j, 0, 0, 0] ![1, 1, 128, 512]
      (k0_pay39 (View.ld x2 (Rect.unit (s := S512x512) ![0, 128 * j] ![512, 128] inb))) (sided f a.val k.val) := by
  intro x hx
  have h0 : a.val = j + (x 0).val := hx 0
  have h2 : k.val = 0 + (x 2).val := hx 2
  have h3 : l.val = 0 + (x 3).val := hx 3
  have hx0 : (x 0).val < 1 := (x 0).isLt
  have hx2 : (x 2).val < 128 := (x 2).isLt
  have e : x = ix4 (x 0) (x 1) (x 2) (x 3) := eq_ix4 x
  rw [e]
  refine (side_at _ (x 0) (x 1) (x 2) (x 3)).trans ?_
  refine (View.ld_unit_apply_of x2 _ _ inb _ (ix2 l ⟨128 * j + (x 2).val, by omega⟩) fun e => ?_).trans ?_
  · match e with
    | ⟨0, _⟩ => exact h3
    | ⟨1, _⟩ => rfl
  · rw [hf]
    have e1 : (x 2).val = k.val := by omega
    have e2 : j = a.val := by omega
    have e3 : k.val < 128 := by omega
    change f (128 * j + (x 2).val) = _
    unfold sided
    rw [if_pos e3, e1, e2]

theorem ones_tile (a : Fin 4) (i : Fin 1) (k : Fin 144) (l : Fin 512) (f : ℕ → EReal) (j : ℕ) :
    View.TileAt (Val := Elt Ideal) (S := S4x1x144x512) (e := .bf16) (ix4 a i k l) ![j, 0, 128, 0] ![1, 1, 16, 512]
      (k0_pay40 (F := Ideal)) (sided f a.val k.val) := by
  intro x hx
  have h2 : k.val = 128 + (x 2).val := hx 2
  have e3 : ¬k.val < 128 := by omega
  refine (ones_at x).trans ?_
  unfold sided
  rw [if_neg e3]

set_option maxHeartbeats 1000000 in
/-- A point's block of values, at its coordinates. -/
theorem value_out (c : Dev nD) (t : Fin grid0.N) (x0 : Vec Ideal S512x2048 .bf16) (x1 x2 : Vec Ideal S512x512 .bf16) (x3 x4 : Vec Ideal S512x128 .f32) (x5 x6 : Vec Ideal S1x128 .f32) (x7 : Vec Ideal S256x256 .bf16)
    (a : Fin 4) (i : Fin 1) (k : Fin 144) (l : Fin 512) (f : ℕ → EReal) (hf : ∀ k : Fin 512, x2 (ix2 l k) = f k.val) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix4 a i k l) = sided f a.val k.val := by
  have cov := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 (ix4 a i k l)
  unfold out0_A_10
  rw [View.read_writes_junk_eq_canon]
  refine View.canon_eq_of_allAt _ _ _ cov ?_
  clear cov
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, Memref.IsWhole.read_unread]
  refine View.allAt_cons_unit _ _ _ _ _ (ones_tile a i k l f 3) ?_
  refine View.allAt_cons_unit _ _ _ _ _ (value_tile x2 a i k l f hf 3 (by decide) _) ?_
  refine View.allAt_cons_unit _ _ _ _ _ (ones_tile a i k l f 2) ?_
  refine View.allAt_cons_unit _ _ _ _ _ (value_tile x2 a i k l f hf 2 (by decide) _) ?_
  refine View.allAt_cons_unit _ _ _ _ _ (ones_tile a i k l f 1) ?_
  refine View.allAt_cons_unit _ _ _ _ _ (value_tile x2 a i k l f hf 1 (by decide) _) ?_
  refine View.allAt_cons_unit _ _ _ _ _ (ones_tile a i k l f 0) ?_
  refine View.allAt_cons_unit _ _ _ _ _ (value_tile x2 a i k l f hf 0 (by decide) _) ?_
  exact View.allAt_nil _ _

end Cert.Proof.Qkv

end
-- ==== Proof.QkvRef.lean ====
/-
  What the reference of the rotary call holds at each coordinate: each head's row normalised, scaled by its gain and turned by its
  position's angles; and the values' heads turned on their side, over rows of ones.
-/
module

public import proofs.«01_k».proof.Proof.QkvMath
public import proofs.«01_k».proof.Proof.Gen.Reference12Ideal.Read
public import Idealize.ShloMosaic.Lib.Pointwise

@[expose] public section

set_option maxRecDepth 16384

namespace Cert.Proof.Qkv

open Idealize.ShloMosaic Idealize.ShloMosaic.TcCoe Cert.Reference12Ideal Cert.Reference12Ideal.Read
open scoped BigOperators

variable (x0 : Vec Ideal S24576x7168 .bf16) (x1 x2 : Vec Ideal S16384x32 .f32) (x3 x4 : Vec Ideal S128 .f32)

/-- A row's place in its sequence: the prompt's rows, then the two samples'. -/
def place (r : Fin 24576) : Fin 16384 := ⟨if r.val < 16384 then r.val else r.val % 4096, by split <;> omega⟩

/-- One head's row of queries, or of keys, scaled. -/
noncomputable def scaled (x0 : Vec Ideal S24576x7168 .bf16) (g : Vec Ideal S128 .f32) (r : Fin 24576) (h : ℕ) (hh : h < 20) (k : Fin 128) : EReal :=
  hrms (fun k => x0 (ix2 r ⟨128 * h + k.val, by omega⟩)) k * g (ix1 k)

/-- The angles of the three sequences under one another, at their coordinates. -/
theorem ref_angles (x : Vec Ideal S16384x32 .f32) (a a' : Vec Ideal S4096x32 .f32)
    (ha : ∀ (i : Fin 4096) (j : Fin 32), a (ix2 i j) = x (ix2 ⟨i.val, by omega⟩ j))
    (ha' : ∀ (i : Fin 4096) (j : Fin 32), a' (ix2 i j) = x (ix2 ⟨i.val, by omega⟩ j))
    (hc : Shape.Concatenates [S16384x32, S4096x32, S4096x32] S24576x32 0) (r : Fin 24576) (j : Fin 32) :
    concatenate S24576x32 0 [⟨S16384x32, x⟩, ⟨S4096x32, a⟩, ⟨S4096x32, a'⟩] hc (ix2 r j) = x (ix2 (place r) j) := by
  pointwise
  unfold place
  by_cases h : r.val < 16384
  · simp only [h, ↓reduceDIte, ↓reduceIte]
  · by_cases h' : r.val - 16384 < 4096
    · have e : r.val - 16384 = r.val % 4096 := by omega
      have h'' : r.val % 4096 < 4096 := by omega
      simp only [h, h', ↓reduceDIte, ↓reduceIte, ha, e, h'']
    · have e : r.val - 16384 - 4096 = r.val % 4096 := by omega
      simp only [h, h', ↓reduceDIte, ↓reduceIte, ha', e]

/-- The first argument's. -/
theorem ref_rows (r : Fin 24576) (j : Fin 32) : val_main_v34 (F := Ideal) x1 (ix2 r j) = x1 (ix2 (place r) j) := by
  refine ref_angles x1 _ _ (fun i j => ?_) (fun i j => ?_) _ r j
  · rw [val_main_v32_apply]
    exact congrArg x1 (funext fun a => match a with | ⟨0, _⟩ => rfl | ⟨1, _⟩ => rfl)
  · rw [val_main_v33_apply]
    exact congrArg x1 (funext fun a => match a with | ⟨0, _⟩ => rfl | ⟨1, _⟩ => rfl)

/-- The second's. -/
theorem ref_cols (r : Fin 24576) (j : Fin 32) : val_main_v37 (F := Ideal) x2 (ix2 r j) = x2 (ix2 (place r) j) := by
  refine ref_angles x2 _ _ (fun i j => ?_) (fun i j => ?_) _ r j
  · rw [val_main_v35_apply]
    exact congrArg x2 (funext fun a => match a with | ⟨0, _⟩ => rfl | ⟨1, _⟩ => rfl)
  · rw [val_main_v36_apply]
    exact congrArg x2 (funext fun a => match a with | ⟨0, _⟩ => rfl | ⟨1, _⟩ => rfl)

/-- The reference's normalised and scaled queries. -/
theorem ref_query_norm (r : Fin 24576) (h : Fin 16) (k : Fin 128) :
    val_main_v15 (F := Ideal) x0 x3 (ix3 r h k) = scaled x0 x3 r h.val (by omega) k := by
  simp only [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  pointwise [scaled, hrms]
  simp only [Nat.mul_comm 128]

/-- And keys. -/
theorem ref_key_norm (r : Fin 24576) (h : Fin 4) (k : Fin 128) :
    val_main_v30 (F := Ideal) x0 x4 (ix3 r h k) = scaled x0 x4 r (16 + h.val) (by omega) k := by
  simp only [val_main_v30, val_main_v29, val_main_v28, val_main_v27, val_main_v26, val_main_v25, val_main_v24, val_main_v23, val_main_v22,
    val_main_v21, val_main_v20, val_main_v19, val_main_v18, val_main_v17, val_main_v16, val_main_v0, val_main_cst_2, val_main_cst_3, val_main_cst_4]
  pointwise [scaled, hrms]
  have e : ∀ k : ℕ, 2048 + (h.val * 128 + k) = 128 * (16 + h.val) + k := fun k => by omega
  simp only [e]

/-- The reference's values, over rows of ones. -/
theorem ref_values (a : Fin 4) (h : Fin 24) (k : Fin 144) (l : Fin 1024) :
    val_main_v121 (F := Ideal) x0 (ix4 a h k l)
      = if hk : k.val < 128 then x0 (ix2 ⟨1024 * h.val + l.val, by omega⟩ ⟨2560 + 128 * a.val + k.val, by omega⟩) else 1 := by
  simp only [val_main_v121, val_main_v117, val_main_v118, val_main_v116, val_main_v31, val_main_cst_6]
  pointwise
  by_cases hk : k.val < 128
  · rw [dif_pos hk, dif_pos hk]
    have e1 : h.val * 1024 + l.val = 1024 * h.val + l.val := by omega
    have e2 : 2560 + (a.val * 128 + k.val) = 2560 + 128 * a.val + k.val := by omega
    simp only [e1, e2]
  · rw [dif_neg hk, dif_neg hk]

/-- The reference's queries, of the stages before them. -/
theorem ref_query_turn (y : Vec Ideal S24576x16x128 .f32) (ar ac : Vec Ideal S24576x32 .f32) (h : val_main_v15 (F := Ideal) x0 x3 = y)
    (h1 : val_main_v34 (F := Ideal) x1 = ar) (h2 : val_main_v37 (F := Ideal) x2 = ac) (r : Fin 24576) (b : Fin 2048) :
    val_main_v119 (F := Ideal) x0 x1 x2 x3 (ix2 r b)
      = turn (fun k => y (ix3 r ⟨b.val / 128, by omega⟩ k)) (fun j => ar (ix2 r j)) (fun j => ac (ix2 r j)) ⟨b.val % 128, by omega⟩
        * Ideal.ofBits .f32 0x3E0293EE#32 := by
  simp only [val_main_v119, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_cst_5]
  rw [h, h1, h2]
  pointwise
  unfold turn
  by_cases h : b.val % 128 < 64
  · by_cases h' : b.val % 128 < 32
    · simp only [h, h', ↓reduceDIte, Nat.add_comm 32]
    · have e : 32 + (b.val % 128 - 32) = b.val % 128 := by omega
      simp only [h, h', ↓reduceDIte, e]
  · by_cases h' : b.val % 128 < 96
    · have h'' : b.val % 128 - 64 < 32 := by omega
      have e : 64 + (b.val % 128 - 64) = b.val % 128 := by omega
      have e' : 64 + (32 + (b.val % 128 - 64)) = b.val % 128 + 32 := by omega
      simp only [h, h', h'', ↓reduceDIte, e, e']
    · have h'' : ¬b.val % 128 - 64 < 32 := by omega
      have e : 64 + (32 + (b.val % 128 - 96)) = b.val % 128 := by omega
      have e' : 64 + (b.val % 128 - 96) = b.val % 128 - 32 := by omega
      have e'' : b.val % 128 - 64 - 32 = b.val % 128 - 96 := by omega
      simp only [h, h', h'', ↓reduceDIte, e, e', e'']

/-- The reference's queries, at their coordinates. -/
theorem ref_query (r : Fin 24576) (b : Fin 2048) :
    val_main_v119 (F := Ideal) x0 x1 x2 x3 (ix2 r b)
      = turn (scaled x0 x3 r (b.val / 128) (by omega)) (fun j => x1 (ix2 (place r) j)) (fun j => x2 (ix2 (place r) j)) ⟨b.val % 128, by omega⟩
        * Ideal.ofBits .f32 0x3E0293EE#32 := by
  rw [ref_query_turn x0 x1 x2 x3 _ _ _ rfl rfl rfl r b]
  rw [show (fun k => val_main_v15 (F := Ideal) x0 x3 (ix3 r ⟨b.val / 128, by omega⟩ k)) = scaled x0 x3 r (b.val / 128) (by omega) from
      funext fun k => ref_query_norm x0 x3 r _ k,
    show (fun j => val_main_v34 (F := Ideal) x1 (ix2 r j)) = _ from funext fun j => ref_rows x1 r j,
    show (fun j => val_main_v37 (F := Ideal) x2 (ix2 r j)) = _ from funext fun j => ref_cols x2 r j]

/-- The reference's keys, of the stages before them. -/
theorem ref_key_turn (y : Vec Ideal S24576x4x128 .f32) (ar ac : Vec Ideal S24576x32 .f32) (h : val_main_v30 (F := Ideal) x0 x4 = y)
    (h1 : val_main_v34 (F := Ideal) x1 = ar) (h2 : val_main_v37 (F := Ideal) x2 = ac) (r : Fin 24576) (b : Fin 512) :
    val_main_v120 (F := Ideal) x0 x1 x2 x4 (ix2 r b)
      = turn (fun k => y (ix3 r ⟨b.val / 128, by omega⟩ k)) (fun j => ar (ix2 r j)) (fun j => ac (ix2 r j)) ⟨b.val % 128, by omega⟩ := by
  simp only [val_main_v120, val_main_v115, val_main_v114, val_main_v113, val_main_v112, val_main_v111, val_main_v110, val_main_v109,
    val_main_v108, val_main_v107, val_main_v106, val_main_v105, val_main_v104, val_main_v103, val_main_v102, val_main_v101, val_main_v100,
    val_main_v99, val_main_v98, val_main_v97, val_main_v96, val_main_v95, val_main_v94, val_main_v93, val_main_v92, val_main_v91,
    val_main_v90, val_main_v89, val_main_v88, val_main_v87, val_main_v86, val_main_v85, val_main_v84, val_main_v83, val_main_v82,
    val_main_v81, val_main_v80, val_main_v79, val_main_v78]
  rw [h, h1, h2]
  pointwise
  unfold turn
  by_cases h : b.val % 128 < 64
  · by_cases h' : b.val % 128 < 32
    · simp only [h, h', ↓reduceDIte, Nat.add_comm 32]
    · have e : 32 + (b.val % 128 - 32) = b.val % 128 := by omega
      simp only [h, h', ↓reduceDIte, e]
  · by_cases h' : b.val % 128 < 96
    · have h'' : b.val % 128 - 64 < 32 := by omega
      have e : 64 + (b.val % 128 - 64) = b.val % 128 := by omega
      have e' : 64 + (32 + (b.val % 128 - 64)) = b.val % 128 + 32 := by omega
      simp only [h, h', h'', ↓reduceDIte, e, e']
    · have h'' : ¬b.val % 128 - 64 < 32 := by omega
      have e : 64 + (32 + (b.val % 128 - 96)) = b.val % 128 := by omega
      have e' : 64 + (b.val % 128 - 96) = b.val % 128 - 32 := by omega
      have e'' : b.val % 128 - 64 - 32 = b.val % 128 - 96 := by omega
      simp only [h, h', h'', ↓reduceDIte, e, e', e'']

/-- The reference's keys, at their coordinates. -/
theorem ref_key (r : Fin 24576) (b : Fin 512) :
    val_main_v120 (F := Ideal) x0 x1 x2 x4 (ix2 r b)
      = turn (scaled x0 x4 r (16 + b.val / 128) (by omega)) (fun j => x1 (ix2 (place r) j)) (fun j => x2 (ix2 (place r) j)) ⟨b.val % 128, by omega⟩ := by
  rw [ref_key_turn x0 x1 x2 x4 _ _ _ rfl rfl rfl r b]
  rw [show (fun k => val_main_v30 (F := Ideal) x0 x4 (ix3 r ⟨b.val / 128, by omega⟩ k)) = scaled x0 x4 r (16 + b.val / 128) (by omega) from
      funext fun k => ref_key_norm x0 x4 r _ k,
    show (fun j => val_main_v34 (F := Ideal) x1 (ix2 r j)) = _ from funext fun j => ref_rows x1 r j,
    show (fun j => val_main_v37 (F := Ideal) x2 (ix2 r j)) = _ from funext fun j => ref_cols x2 r j]

end Cert.Proof.Qkv

end
-- ==== Proof.QkvValue.lean ====
/-
  What the rotary call leaves in its three result arrays over the extended reals: the reference's queries, keys and values. The gains
  must be finite: a scaled entry is then finite, and what its rounding leaves over, the entry minus itself, is zero.
-/
module

public import proofs.«01_k».proof.Proof.QkvBlocks
public import proofs.«01_k».proof.Proof.QkvOut
public import proofs.«01_k».proof.Proof.QkvRef

@[expose] public section

set_option maxRecDepth 16384

namespace Cert.Proof.Qkv

open Idealize.ShloMosaic Idealize.ShloMosaic.TcCoe Cert.Kernel12Ideal Cert.Kernel12Ideal.Gen
open Idealize.ShloMosaic.Pipeline (Dat)
open scoped BigOperators

variable (m : (ℓ : Loc nD τ sig) → Buf (Elt Ideal) ℓ) (c : Dev nD)

/-- A row of the joint array, from a column on. -/
noncomputable def rowFrom (x0 : Vec Ideal S24576x7168 .bf16) (r : Fin 24576) (o : ℕ) (n : ℕ) : EReal :=
  if h : o + n < 7168 then x0 (ix2 r ⟨o + n, h⟩) else 0

theorem rowFrom_eq (x0 : Vec Ideal S24576x7168 .bf16) (r : Fin 24576) (o n : ℕ) (j : Fin 7168) (hj : j.val = o + n) : rowFrom x0 r o n = x0 (ix2 r j) := by
  unfold rowFrom
  rw [dif_pos (by omega)]
  exact congrArg (fun j => x0 (ix2 r j)) (Fin.ext hj.symm)

/-- A head of the row is the reference's. -/
theorem head_scaled (x0 : Vec Ideal S24576x7168 .bf16) (g : Vec Ideal S128 .f32) (r : Fin 24576) (o h h' : ℕ) (hh : h' < 20) (ho : 128 * h' = o + 128 * h) :
    head (rowFrom x0 r o) (fun k => g (ix1 k)) h = scaled x0 g r h' hh := by
  funext k
  unfold head scaled
  rw [show (fun k : Fin 128 => rowFrom x0 r o (128 * h + k.val)) = fun k => x0 (ix2 r ⟨128 * h' + k.val, by omega⟩) from
    funext fun k => rowFrom_eq x0 r o _ _ (by change 128 * h' + k.val = _; omega)]

/-- A point's rows' places in their sequences. -/
theorem place_at (t a : ℕ) (ht : t < 48) (ha : a < 512) (r : Fin 24576) (hr : r.val = 512 * t + a) :
    (place r).val = 512 * (if t < 32 then t else t % 8) + a := by
  change (if r.val < 16384 then r.val else r.val % 4096) = _
  by_cases h : t < 32
  · rw [if_pos h, if_pos (by omega)]
    omega
  · rw [if_neg h, if_neg (by omega)]
    omega

/-- A point leaves the reference's queries in its block. -/
theorem query_after (hg : ∀ k : Fin 128, ∃ x : ℝ, m ((c : Thread nD τ).loc main_arg3) (ix1 k) = (x : EReal)) (t : Fin cfg0.N) (a : Fin 512) (b : Fin 2048) (r : Fin 24576) (hr : r.val = 512 * t.val + a.val) :
    (dats m 0 c).after 8 t (ix2 a b) = Cert.Reference12Ideal.Read.val_main_v119 (F := Ideal) (m ((c : Thread nD τ).loc main_arg0)) (m ((c : Thread nD τ).loc main_arg1)) (m ((c : Thread nD τ).loc main_arg2)) (m ((c : Thread nD τ).loc main_arg3)) (ix2 r b) := by
  have ht : t.val < 48 := t.isLt
  rw [after0_8]
  unfold outsAt0
  dsimp only
  refine Eq.trans ?_ (ref_query _ _ _ _ r b).symm
  have h0 : ∀ k : Fin 2048, X0_0 m c t (ix2 a k) = rowFrom (m ((c : Thread nD τ).loc main_arg0)) r 0 k.val := fun k =>
    (query_block m c t a k r hr).trans (rowFrom_eq _ r 0 k.val _ (Nat.zero_add _).symm).symm
  have h3 : ∀ k : Fin 128, iblk m c 3 t (ix2 a k) = cosAt (fun j => m ((c : Thread nD τ).loc main_arg1) (ix2 (place r) j)) (fun j => m ((c : Thread nD τ).loc main_arg2) (ix2 (place r) j)) k := fun k =>
    cos_block m c t a k (place r) (place_at t.val a.val ht a.isLt r hr)
  have h4 : ∀ k : Fin 128, iblk m c 4 t (ix2 a k) = sinAt (fun j => m ((c : Thread nD τ).loc main_arg1) (ix2 (place r) j)) (fun j => m ((c : Thread nD τ).loc main_arg2) (ix2 (place r) j)) k := fun k =>
    sin_block m c t a k (place r) (place_at t.val a.val ht a.isLt r hr)
  have h5 := gain3_block m c t
  have h7 := lit_block m c t
  have h8 := head_scaled (m ((c : Thread nD τ).loc main_arg0)) (m ((c : Thread nD τ).loc main_arg3)) r 0 (b.val / 128) (b.val / 128) (by omega) (by omega)
  rw [← h8]
  generalize X0_0 m c t = y0 at *
  generalize iblk m c 1 t = y1 at *
  generalize iblk m c 2 t = y2 at *
  generalize iblk m c 3 t = y3 at *
  generalize iblk m c 4 t = y4 at *
  generalize iblk m c 5 t = y5 at *
  generalize iblk m c 6 t = y6 at *
  generalize iblk m c 7 t = y7 at *
  exact query_out c t y0 y1 y2 y3 y4 y5 y6 y7 a b _ _ _ _ h0 h5 hg h3 h4 h7

/-- And the reference's keys. -/
theorem key_after (hg : ∀ k : Fin 128, ∃ x : ℝ, m ((c : Thread nD τ).loc main_arg4) (ix1 k) = (x : EReal)) (t : Fin cfg0.N) (a : Fin 512) (b : Fin 512) (r : Fin 24576) (hr : r.val = 512 * t.val + a.val) :
    (dats m 0 c).after 9 t (ix2 a b) = Cert.Reference12Ideal.Read.val_main_v120 (F := Ideal) (m ((c : Thread nD τ).loc main_arg0)) (m ((c : Thread nD τ).loc main_arg1)) (m ((c : Thread nD τ).loc main_arg2)) (m ((c : Thread nD τ).loc main_arg4)) (ix2 r b) := by
  have ht : t.val < 48 := t.isLt
  rw [after0_9]
  unfold outsAt0
  dsimp only
  refine Eq.trans ?_ (ref_key _ _ _ _ r b).symm
  have h0 : ∀ k : Fin 512, iblk m c 1 t (ix2 a k) = rowFrom (m ((c : Thread nD τ).loc main_arg0)) r 2048 k.val := fun k =>
    (key_block m c t a k r hr).trans (rowFrom_eq _ r 2048 k.val _ rfl).symm
  have h3 : ∀ k : Fin 128, iblk m c 3 t (ix2 a k) = cosAt (fun j => m ((c : Thread nD τ).loc main_arg1) (ix2 (place r) j)) (fun j => m ((c : Thread nD τ).loc main_arg2) (ix2 (place r) j)) k := fun k =>
    cos_block m c t a k (place r) (place_at t.val a.val ht a.isLt r hr)
  have h4 : ∀ k : Fin 128, iblk m c 4 t (ix2 a k) = sinAt (fun j => m ((c : Thread nD τ).loc main_arg1) (ix2 (place r) j)) (fun j => m ((c : Thread nD τ).loc main_arg2) (ix2 (place r) j)) k := fun k =>
    sin_block m c t a k (place r) (place_at t.val a.val ht a.isLt r hr)
  have h5 := gain4_block m c t
  have h7 := lit_block m c t
  have h8 := head_scaled (m ((c : Thread nD τ).loc main_arg0)) (m ((c : Thread nD τ).loc main_arg4)) r 2048 (b.val / 128) (16 + b.val / 128) (by omega) (by omega)
  rw [← h8]
  generalize X0_0 m c t = y0 at *
  generalize iblk m c 1 t = y1 at *
  generalize iblk m c 2 t = y2 at *
  generalize iblk m c 3 t = y3 at *
  generalize iblk m c 4 t = y4 at *
  generalize iblk m c 5 t = y5 at *
  generalize iblk m c 6 t = y6 at *
  generalize iblk m c 7 t = y7 at *
  exact key_out c t y0 y1 y2 y3 y4 y5 y6 y7 a b _ _ _ _ h0 h5 hg h3 h4 h7

/-- And its values. -/
theorem value_after (t : Fin cfg0.N) (a : Fin 4) (i : Fin 1) (k : Fin 144) (l : Fin 512) (h : Fin 24) (n : Fin 1024) (hh : h.val = t.val / 2) (hn : n.val = 512 * (t.val % 2) + l.val) :
    (dats m 0 c).after 10 t (ix4 a i k l) = Cert.Reference12Ideal.Read.val_main_v121 (F := Ideal) (m ((c : Thread nD τ).loc main_arg0)) (ix4 a h k n) := by
  have ht : t.val < 48 := t.isLt
  rw [after0_10]
  refine Eq.trans ?_ (ref_values _ a h k n).symm
  refine (value_out c t (X0_0 m c t) (iblk m c 1 t) (iblk m c 2 t) (iblk m c 3 t) (iblk m c 4 t) (iblk m c 5 t) (iblk m c 6 t) (iblk m c 7 t) a i k l (rowFrom (m ((c : Thread nD τ).loc main_arg0)) ⟨1024 * h.val + n.val, by omega⟩ 2560)
    (fun j => (value_block m c t l j ⟨1024 * h.val + n.val, by omega⟩ (by change 1024 * h.val + n.val = _; omega)).trans (rowFrom_eq _ _ 2560 j.val _ rfl).symm)).trans ?_
  unfold sided
  by_cases hk : k.val < 128
  · rw [if_pos hk, dif_pos hk]
    exact rowFrom_eq _ _ 2560 _ _ (by change 2560 + 128 * a.val + k.val = _; omega)
  · rw [if_neg hk, dif_neg hk]
    exact one_word

/-- The call's array of queries is the reference's. -/
theorem query_array (hg : ∀ k : Fin 128, ∃ x : ℝ, m ((c : Thread nD τ).loc main_arg3) (ix1 k) = (x : EReal)) :
    (dats m 0 c).arrAt 8 cfg0.N = Cert.Reference12Ideal.Read.val_main_v119 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val < 48 := t.isLt
  blk_simp
  have e : ((win0_8.blk t).view.emb y : S24576x2048.Idx)
      = ix2 ⟨512 * t.val + (y 0).val, by have h : (y 0).val < 512 := (y 0).isLt; omega⟩ (y 1) := by
    refine funext fun e => Fin.ext ?_
    match e with
    | ⟨0, _⟩ =>
      blk_simp [idx8]
      change t.val * 512 + (y 0).val = 512 * t.val + (y 0).val
      omega
    | ⟨1, _⟩ =>
      blk_simp [idx8]
      rfl
  refine Eq.trans ?_ (congrArg (Cert.Reference12Ideal.Read.val_main_v119 (F := Ideal) (m ((c : Thread nD τ).loc main_arg0)) (m ((c : Thread nD τ).loc main_arg1)) (m ((c : Thread nD τ).loc main_arg2)) (m ((c : Thread nD τ).loc main_arg3))) e.symm)
  refine Eq.trans ?_ (query_after m c hg t (y 0) (y 1) _ rfl)
  exact congrArg ((dats m 0 c).after 8 t) (eq_ix2 y)

/-- The call's array of keys is the reference's. -/
theorem key_array (hg : ∀ k : Fin 128, ∃ x : ℝ, m ((c : Thread nD τ).loc main_arg4) (ix1 k) = (x : EReal)) :
    (dats m 0 c).arrAt 9 cfg0.N = Cert.Reference12Ideal.Read.val_main_v120 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  have ht : t.val < 48 := t.isLt
  blk_simp
  have e : ((win0_9.blk t).view.emb y : S24576x512.Idx)
      = ix2 ⟨512 * t.val + (y 0).val, by have h : (y 0).val < 512 := (y 0).isLt; omega⟩ (y 1) := by
    refine funext fun e => Fin.ext ?_
    match e with
    | ⟨0, _⟩ =>
      blk_simp [idx9]
      change t.val * 512 + (y 0).val = 512 * t.val + (y 0).val
      omega
    | ⟨1, _⟩ =>
      blk_simp [idx9]
      rfl
  refine Eq.trans ?_ (congrArg (Cert.Reference12Ideal.Read.val_main_v120 (F := Ideal) (m ((c : Thread nD τ).loc main_arg0)) (m ((c : Thread nD τ).loc main_arg1)) (m ((c : Thread nD τ).loc main_arg2)) (m ((c : Thread nD τ).loc main_arg4))) e.symm)
  refine Eq.trans ?_ (key_after m c hg t (y 0) (y 1) _ rfl)
  exact congrArg ((dats m 0 c).after 9 t) (eq_ix2 y)

/-- The call's array of values is the reference's. -/
theorem value_array : (dats m 0 c).arrAt 10 cfg0.N = Cert.Reference12Ideal.Read.val_main_v121 (F := Ideal) (m ((c : Thread nD τ).loc main_arg0)) := by
  refine (dats m 0 c).arrAt_eq_of_covers 10 _ (by decide +kernel) fun t hf y => ?_
  have ht : t.val < 48 := t.isLt
  blk_simp
  have e : ((win0_10.blk t).view.emb y : S4x24x144x1024.Idx)
      = ix4 (y 0) ⟨t.val / 2, by omega⟩ (y 2) ⟨512 * (t.val % 2) + (y 3).val, by have h : (y 3).val < 512 := (y 3).isLt; omega⟩ := by
    refine funext fun e => Fin.ext ?_
    match e with
    | ⟨0, _⟩ =>
      blk_simp [idx10]
      rfl
    | ⟨1, _⟩ =>
      blk_simp [idx10]
    | ⟨2, _⟩ =>
      blk_simp [idx10]
      rfl
    | ⟨3, _⟩ =>
      blk_simp [idx10]
      change t.val % 2 * 512 + (y 3).val = 512 * (t.val % 2) + (y 3).val
      omega
  refine Eq.trans ?_ (congrArg (Cert.Reference12Ideal.Read.val_main_v121 (F := Ideal) (m ((c : Thread nD τ).loc main_arg0))) e.symm)
  refine Eq.trans ?_ (value_after m c t (y 0) (y 1) (y 2) (y 3) _ _ rfl rfl)
  exact congrArg ((dats m 0 c).after 10 t) (eq_ix4 y)

end Cert.Proof.Qkv

end
-- ==== Proof.QkvClaims.lean ====
/-
  The claims about the call that prepares queries, keys and values, each as the statement of the certificate has it.
-/
module

public import proofs.«01_k».proof.Defs
public import proofs.«01_k».proof.Proof.QkvValue
public import proofs.«01_k».proof.Proof.Precond
public import proofs.«01_k».proof.Proof.Gen.Pre_finite_gains
public import proofs.«01_k».proof.Proof.Gen.Kernel12.Frame
public import proofs.«01_k».proof.Proof.Gen.Reference12.Run
public import proofs.«01_k».proof.Proof.Gen.Reference12Ideal.Run
public import Idealize.ShloMosaic.Lib.ReduceAll

@[expose] public section

namespace Cert.Proof.QkvClaims

open Idealize.ShloMosaic Idealize.ShloMosaic.TcCoe Idealize.SL.Sem

section Precondition

open Cert.Pre_finite_gains Cert.Proof.AttnRef

/-- The precondition's content: both gains' entries are real numbers. -/
theorem gains_of (x0 : Vec Ideal S24576x7168 .bf16) (x1 x2 : Vec Ideal S16384x32 .f32) (x3 x4 : Vec Ideal S128 .f32)
    (h : Cert.Pre_finite_gains.fn (F := Ideal) x0 x1 x2 x3 x4 = fun _ => 1#1) :
    (∀ k : Fin 128, ∃ r : ℝ, x3 (ix1 k) = (r : EReal)) ∧ ∀ k : Fin 128, ∃ r : ℝ, x4 (ix1 k) = (r : EReal) := by
  unfold Cert.Pre_finite_gains.fn at h
  dsimp only at h
  have e : ∀ a b : IVec S_ 1, andi a b = (fun _ => 1#1) → a = (fun _ => 1#1) ∧ b = fun _ => 1#1 := fun a b h => by
    have e : ∀ x y : BitVec 1, IntOp.andi x y = 1#1 → x = 1#1 ∧ y = 1#1 := by decide
    exact ⟨funext fun j => (e _ _ (congrFun h j)).1, funext fun j => (e _ _ (congrFun h j)).2⟩
  obtain ⟨h1, h2⟩ := e _ _ h
  haveI : Subsingleton S_.Idx := ⟨fun a b => funext fun k => k.elim0⟩
  have g1 := fun i => of_bit_lt _ (Host.reduce_andi_all _ _ _ _ (Shape.Idx.first Cert.Pre_finite_gains.Gen.facts.h_S_) (congrFun h1 _) i)
  have g2 := fun i => of_bit_lt _ (Host.reduce_andi_all _ _ _ _ (Shape.Idx.first Cert.Pre_finite_gains.Gen.facts.h_S_) (congrFun h2 _) i)
  exact ⟨fun k => ⟨_, g1 (ix1 k)⟩, fun k => ⟨_, g2 (ix1 k)⟩⟩

end Precondition

/-- The call over bit patterns leaves its arguments and every counter as it found them. -/
theorem frame_kernel : Cert.quiescent_Kernel12 := fun m ρ _ => Cert.Kernel12.Gen.frame (F := Bits) m ρ

/-- The call over the extended reals does too. -/
theorem frame_kernelIdeal : Cert.quiescent_Kernel12Ideal := fun m ρ _ => Cert.Kernel12Ideal.Gen.frame (F := Ideal) m ρ

/-- The reference over bit patterns: its arguments as they were; it declares no semaphore. -/
theorem frame_reference : Cert.quiescent_Reference12 := fun m ρ _ =>
  (θ_run Cert.Reference12.defs _ _).mono (fun r h => ⟨fun c => (h c).2.2.2, sem_eq_zero_of_no_sems (by decide) r.2⟩)
    (Cert.Reference12.Value.run (F := Bits) m ρ)

/-- The reference over the extended reals likewise. -/
theorem frame_referenceIdeal : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- Over the extended reals the call and the reference end with the same three arrays, on arguments that agree and whose gains are
    finite. -/
theorem algebraic : Cert.algebraic_Kernel12Ideal_Reference12Ideal_pre_finite_gains := by
  intro m ρ m' ρ' hpre hagree
  refine ⟨fun c => Cert.Reference12Ideal.Read.val_main_v119 (F := Ideal) (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg3)), fun c => Cert.Reference12Ideal.Read.val_main_v120 (F := Ideal) (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg4)), fun c => Cert.Reference12Ideal.Read.val_main_v121 (F := Ideal) (m ((c.tc : Thread Cert.Kernel12Ideal.nD Cert.Kernel12Ideal.τ).loc Cert.Kernel12Ideal.main_arg0)), ?_, ?_⟩
  · exact (θ_run Cert.Kernel12Ideal.defs _ _).mono (fun _ h c => ⟨(Pipeline.FramePost.out_eq h c 8).trans (Qkv.query_array m c (gains_of _ _ _ _ _ (hpre c)).1),
      (Pipeline.FramePost.out_eq h c 9).trans (Qkv.key_array m c (gains_of _ _ _ _ _ (hpre c)).2),
      (Pipeline.FramePost.out_eq h c 10).trans (Qkv.value_array m c),
      (Pipeline.FramePost.in_eq h c 0 rfl).trans (Cert.Kernel12Ideal.Gen.V_main_arg0 m c),
      ((h c).2 Cert.Kernel12Ideal.main_arg1 (Pipeline.mem_restRefs_of Cert.Kernel12Ideal.main_arg1 (by decide) (by decide))).trans (Cert.Kernel12Ideal.Gen.V_main_arg1 m c),
      ((h c).2 Cert.Kernel12Ideal.main_arg2 (Pipeline.mem_restRefs_of Cert.Kernel12Ideal.main_arg2 (by decide) (by decide))).trans (Cert.Kernel12Ideal.Gen.V_main_arg2 m c),
      ((h c).2 Cert.Kernel12Ideal.main_arg3 (Pipeline.mem_restRefs_of Cert.Kernel12Ideal.main_arg3 (by decide) (by decide))).trans (Cert.Kernel12Ideal.Gen.V_main_arg3 m c),
      ((h c).2 Cert.Kernel12Ideal.main_arg4 (Pipeline.mem_restRefs_of Cert.Kernel12Ideal.main_arg4 (by decide) (by decide))).trans (Cert.Kernel12Ideal.Gen.V_main_arg4 m c)⟩) (Cert.Kernel12Ideal.Gen.run_main (F := Ideal) m ρ)
  · refine (θ_run Cert.Reference12Ideal.defs _ _).mono (fun _ h c => ⟨(h c).1.trans ?_, (h c).2.1.trans ?_, (h c).2.2.1.trans ?_, (h c).2.2.2⟩) (Cert.Reference12Ideal.Value.run (F := Ideal) m' ρ')
    · rw [Cert.Reference12Ideal.Read.val_main_v119_eq, (hagree c).1, (hagree c).2.1, (hagree c).2.2.1, (hagree c).2.2.2.1]
    · rw [Cert.Reference12Ideal.Read.val_main_v120_eq, (hagree c).1, (hagree c).2.1, (hagree c).2.2.1, (hagree c).2.2.2.2]
    · rw [Cert.Reference12Ideal.Read.val_main_v121_eq, (hagree c).1]

end Cert.Proof.QkvClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite_ones
public import proofs.«01_k».proof.Proof.Gen.ReferenceIdeal.Run
public import proofs.«01_k».proof.Proof.Gen.Reference.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2
public import proofs.«01_k».proof.Proof.Gen.Reference2Ideal
public import proofs.«01_k».proof.Proof.Gen.Reference2.Run
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3
public import proofs.«01_k».proof.Proof.Gen.Reference3Ideal
public import proofs.«01_k».proof.Proof.Gen.Reference3.Run
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4
public import proofs.«01_k».proof.Proof.Gen.Reference4Ideal
public import proofs.«01_k».proof.Proof.Gen.Reference4.Run
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5
public import proofs.«01_k».proof.Proof.Gen.Reference5Ideal
public import proofs.«01_k».proof.Proof.Gen.Reference5.Run
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6
public import proofs.«01_k».proof.Proof.Gen.Reference6Ideal
public import proofs.«01_k».proof.Proof.Gen.Reference6.Run
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7
public import proofs.«01_k».proof.Proof.Gen.Reference7Ideal
public import proofs.«01_k».proof.Proof.Gen.Reference7.Run
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8
public import proofs.«01_k».proof.Proof.Gen.Reference8Ideal
public import proofs.«01_k».proof.Proof.Gen.Reference8.Run
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9
public import proofs.«01_k».proof.Proof.Gen.Reference9Ideal
public import proofs.«01_k».proof.Proof.Gen.Reference9.Run
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10
public import proofs.«01_k».proof.Proof.Gen.Reference10Ideal
public import proofs.«01_k».proof.Proof.Gen.Reference10.Run
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11
public import proofs.«01_k».proof.Proof.Gen.Reference11Ideal
public import proofs.«01_k».proof.Proof.Gen.Reference11.Run
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12
public import proofs.«01_k».proof.Proof.Gen.Reference12Ideal
public import proofs.«01_k».proof.Proof.Gen.Reference12.Run
public import proofs.«01_k».proof.Proof.Gen.Reference12Ideal.Run
public import proofs.«01_k».proof.Proof.Gen.Reference12Ideal.Read
public import proofs.«01_k».proof.Proof.Gen.Pre_finite_gains
public import proofs.«01_k».proof.Proof.AttnClaims
public import proofs.«01_k».proof.Proof.GateClaims
public import proofs.«01_k».proof.Proof.DownClaims
public import proofs.«01_k».proof.Proof.ProjClaims
public import proofs.«01_k».proof.Proof.MixClaims
public import proofs.«01_k».proof.Proof.NormClaims
public import proofs.«01_k».proof.Proof.ResClaims
public import proofs.«01_k».proof.Proof.LastClaims
public import proofs.«01_k».proof.Proof.GateTwoClaims
public import proofs.«01_k».proof.Proof.FirstClaims
public import proofs.«01_k».proof.Proof.CastClaims
public import proofs.«01_k».proof.Proof.QkvClaims
public import Idealize.ShloMosaic.Adequacy
public import Idealize.ShloMosaic.Init

@[expose] public section

noncomputable section

namespace Cert.Proof

open Idealize.ShloMosaic Idealize.SL.Sem Cert.Kernel

/-- The certificate: the frames of every program, what each idealized program is of its source, and the equations of call
    and reference over the extended reals. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts,
  Cert.Kernel6.Gen.facts, Cert.Kernel6Ideal.Gen.facts, Cert.Reference6Ideal.Gen.facts, Cert.Reference6.Gen.facts,
  Cert.Kernel7.Gen.facts, Cert.Kernel7Ideal.Gen.facts, Cert.Reference7Ideal.Gen.facts, Cert.Reference7.Gen.facts,
  Cert.Kernel8.Gen.facts, Cert.Kernel8Ideal.Gen.facts, Cert.Reference8Ideal.Gen.facts, Cert.Reference8.Gen.facts,
  Cert.Kernel9.Gen.facts, Cert.Kernel9Ideal.Gen.facts, Cert.Reference9Ideal.Gen.facts, Cert.Reference9.Gen.facts,
  Cert.Kernel10.Gen.facts, Cert.Kernel10Ideal.Gen.facts, Cert.Reference10Ideal.Gen.facts, Cert.Reference10.Gen.facts,
  Cert.Kernel11.Gen.facts, Cert.Kernel11Ideal.Gen.facts, Cert.Reference11Ideal.Gen.facts, Cert.Reference11.Gen.facts,
  Cert.Kernel12.Gen.facts, Cert.Kernel12Ideal.Gen.facts, Cert.Reference12Ideal.Gen.facts, Cert.Reference12.Gen.facts,
  Cert.Pre_finite_ones.Gen.facts, Cert.Pre_finite_gains.Gen.facts,
  AttnClaims.frame_kernel, AttnClaims.frame_kernelIdeal, fun m ρ _ => AttnClaims.frame_kernelIdeal m ρ trivial,
  AttnClaims.frame_referenceIdeal, fun m ρ _ => AttnClaims.frame_referenceIdeal m ρ trivial, AttnClaims.frame_reference,
  GateClaims.frame_kernel, GateClaims.frame_kernelIdeal, GateClaims.frame_referenceIdeal, GateClaims.frame_reference,
  DownClaims.frame_kernel, DownClaims.frame_kernelIdeal, DownClaims.frame_referenceIdeal, DownClaims.frame_reference,
  ProjClaims.frame_kernel, ProjClaims.frame_kernelIdeal, ProjClaims.frame_referenceIdeal, ProjClaims.frame_reference,
  MixClaims.frame_kernel, MixClaims.frame_kernelIdeal, MixClaims.frame_referenceIdeal, MixClaims.frame_reference,
  NormClaims.frame_kernel, NormClaims.frame_kernelIdeal, NormClaims.frame_referenceIdeal, NormClaims.frame_reference,
  ResClaims.frame_kernel, ResClaims.frame_kernelIdeal, ResClaims.frame_referenceIdeal, ResClaims.frame_reference,
  LastClaims.frame_kernel, LastClaims.frame_kernelIdeal, LastClaims.frame_referenceIdeal, LastClaims.frame_reference,
  GateTwoClaims.frame_kernel, GateTwoClaims.frame_kernelIdeal, GateTwoClaims.frame_referenceIdeal, GateTwoClaims.frame_reference,
  FirstClaims.frame_kernel, FirstClaims.frame_kernelIdeal, FirstClaims.frame_referenceIdeal, FirstClaims.frame_reference,
  CastClaims.frame_kernel, CastClaims.frame_kernelIdeal, CastClaims.frame_referenceIdeal, CastClaims.frame_reference,
  QkvClaims.frame_kernel, QkvClaims.frame_kernelIdeal, fun m ρ _ => QkvClaims.frame_kernelIdeal m ρ trivial,
  QkvClaims.frame_referenceIdeal, fun m ρ _ => QkvClaims.frame_referenceIdeal m ρ trivial, QkvClaims.frame_reference,
  trivial, trivial, AttnClaims.algebraic, trivial, trivial, GateClaims.algebraic, trivial, trivial, DownClaims.algebraic,
  trivial, trivial, ProjClaims.algebraic, trivial, trivial, MixClaims.algebraic, trivial, trivial, NormClaims.algebraic,
  trivial, trivial, ResClaims.algebraic, trivial, trivial, LastClaims.algebraic,
  trivial, trivial, GateTwoClaims.algebraic, trivial, trivial, FirstClaims.algebraic, trivial, trivial, CastClaims.algebraic,
  trivial, trivial, QkvClaims.algebraic⟩

end Cert.Proof

end
